-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v41)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v121) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v9) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v95_1)) (v1 : (c : Dev Cert.Kernel5Ideal.nD) → Buf (Elt Ideal) ((c.tc : Thread Cert.Kernel5Ideal.nD Cert.Kernel5Ideal.τ).loc Cert.Kernel5Ideal.main_v95_2)) (v2 : (c : Dev Cert.Kernel5Ideal.nD) → Buf (Elt Ideal) ((c.tc : Thread Cert.Kernel5Ideal.nD Cert.Kernel5Ideal.τ).loc Cert.Kernel5Ideal.main_v95_5)) (v3 : (c : Dev Cert.Kernel5Ideal.nD) → Buf (Elt Ideal) ((c.tc : Thread Cert.Kernel5Ideal.nD Cert.Kernel5Ideal.τ).loc Cert.Kernel5Ideal.main_v95_6)) (v4 : (c : Dev Cert.Kernel5Ideal.nD) → Buf (Elt Ideal) ((c.tc : Thread Cert.Kernel5Ideal.nD Cert.Kernel5Ideal.τ).loc Cert.Kernel5Ideal.main_v95_9)) (v5 : (c : Dev Cert.Kernel5Ideal.nD) → Buf (Elt Ideal) ((c.tc : Thread Cert.Kernel5Ideal.nD Cert.Kernel5Ideal.τ).loc Cert.Kernel5Ideal.main_v95_10)) (v6 : (c : Dev Cert.Kernel5Ideal.nD) → Buf (Elt Ideal) ((c.tc : Thread Cert.Kernel5Ideal.nD Cert.Kernel5Ideal.τ).loc Cert.Kernel5Ideal.main_v95_11)) (v7 : (c : Dev Cert.Kernel5Ideal.nD) → Buf (Elt Ideal) ((c.tc : Thread Cert.Kernel5Ideal.nD Cert.Kernel5Ideal.τ).loc Cert.Kernel5Ideal.main_v95_12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v95_1) = v0 c
          ∧ r.2.mem ((c.tc : Thread Cert.Kernel5Ideal.nD Cert.Kernel5Ideal.τ).loc Cert.Kernel5Ideal.main_v95_2) = v1 c
          ∧ r.2.mem ((c.tc : Thread Cert.Kernel5Ideal.nD Cert.Kernel5Ideal.τ).loc Cert.Kernel5Ideal.main_v95_5) = v2 c
          ∧ r.2.mem ((c.tc : Thread Cert.Kernel5Ideal.nD Cert.Kernel5Ideal.τ).loc Cert.Kernel5Ideal.main_v95_6) = v3 c
          ∧ r.2.mem ((c.tc : Thread Cert.Kernel5Ideal.nD Cert.Kernel5Ideal.τ).loc Cert.Kernel5Ideal.main_v95_9) = v4 c
          ∧ r.2.mem ((c.tc : Thread Cert.Kernel5Ideal.nD Cert.Kernel5Ideal.τ).loc Cert.Kernel5Ideal.main_v95_10) = v5 c
          ∧ r.2.mem ((c.tc : Thread Cert.Kernel5Ideal.nD Cert.Kernel5Ideal.τ).loc Cert.Kernel5Ideal.main_v95_11) = v6 c
          ∧ r.2.mem ((c.tc : Thread Cert.Kernel5Ideal.nD Cert.Kernel5Ideal.τ).loc Cert.Kernel5Ideal.main_v95_12) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v54) = v4 c
          ∧ r.2.mem ((c.tc : Thread Cert.Reference5Ideal.nD Cert.Reference5Ideal.τ).loc Cert.Reference5Ideal.main_v56) = v5 c
          ∧ r.2.mem ((c.tc : Thread Cert.Reference5Ideal.nD Cert.Reference5Ideal.τ).loc Cert.Reference5Ideal.main_v58) = v6 c
          ∧ r.2.mem ((c.tc : Thread Cert.Reference5Ideal.nD Cert.Reference5Ideal.τ).loc Cert.Reference5Ideal.main_v60) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4x4096x96 : Shape := ⟨4, ![8, 4, 4096, 96]⟩
abbrev S8x4x4096x64 : Shape := ⟨4, ![8, 4, 4096, 64]⟩
abbrev S8x4x256x96 : Shape := ⟨4, ![8, 4, 256, 96]⟩
abbrev S8x4x256x64 : Shape := ⟨4, ![8, 4, 256, 64]⟩
abbrev S_ : Shape := ⟨0, ![]⟩

class Facts : Prop where
  bcast_S_S8x4x4096x96 : S_.BroadcastsInDim S8x4x4096x96 (![] : Fin 0 → Fin S8x4x4096x96.rank)
  reducesTo_S8x4x4096x96_S_d0_1_2_3 : S8x4x4096x96.ReducesTo [0, 1, 2, 3] S_
  h_S_ : 0 < S_.numel
  bcast_S_S8x4x256x96 : S_.BroadcastsInDim S8x4x256x96 (![] : Fin 0 → Fin S8x4x256x96.rank)
  reducesTo_S8x4x256x96_S_d0_1_2_3 : S8x4x256x96.ReducesTo [0, 1, 2, 3] S_

variable [Facts]

def fn {F : FTy → Type} [FloatOps F] (main_arg0 : FVec F S8x4x4096x96 .f32) (main_arg1 : FVec F S8x4x4096x96 .f32) (main_arg2 : FVec F S8x4x4096x64 .f32) (main_arg3 : FVec F S8x4x256x96 .f32) (main_arg4 : FVec F S8x4x256x64 .f32) : IVec S_ 1 :=
  let main_v0 : FVec F S8x4x4096x96 .f32 := Host.absf main_arg0
  let main_cst : FVec F S_ .f32 := constant S_ .f32 0x7F800000#32
  let main_v1 : FVec F S8x4x4096x96 .f32 := broadcastInDim S8x4x4096x96 ![] bcast_S_S8x4x4096x96 main_cst
  let main_v2 : IVec S8x4x4096x96 1 := cmpf .olt main_v0 main_v1
  let main_c : IVec S_ 1 := constantI S_ 1 1#1
  let main_v3 : IVec S_ 1 := (fun x v => Host.reduce IntOp.andi x v reducesTo_S8x4x4096x96_S_d0_1_2_3 h_S_) main_v2 main_c
  let main_v4 : FVec F S8x4x4096x96 .f32 := Host.absf main_arg1
  let main_cst_0 : FVec F S_ .f32 := constant S_ .f32 0x7F800000#32
  let main_v5 : FVec F S8x4x4096x96 .f32 := broadcastInDim S8x4x4096x96 ![] bcast_S_S8x4x4096x96 main_cst_0
  let main_v6 : IVec S8x4x4096x96 1 := cmpf .olt main_v4 main_v5
  let main_c_1 : IVec S_ 1 := constantI S_ 1 1#1
  let main_v7 : IVec S_ 1 := (fun x v => Host.reduce IntOp.andi x v reducesTo_S8x4x4096x96_S_d0_1_2_3 h_S_) main_v6 main_c_1
  let main_v8 : IVec S_ 1 := andi main_v3 main_v7
  let main_v9 : FVec F S8x4x256x96 .f32 := Host.absf main_arg3
  let main_cst_2 : FVec F S_ .f32 := constant S_ .f32 0x7F800000#32
  let main_v10 : FVec F S8x4x256x96 .f32 := broadcastInDim S8x4x256x96 ![] bcast_S_S8x4x256x96 main_cst_2
  let main_v11 : IVec S8x4x256x96 1 := cmpf .olt main_v9 main_v10
  let main_c_3 : IVec S_ 1 := constantI S_ 1 1#1
  let main_v12 : IVec S_ 1 := (fun x v => Host.reduce IntOp.andi x v reducesTo_S8x4x256x96_S_d0_1_2_3 h_S_) main_v11 main_c_3
  let main_v13 : IVec S_ 1 := andi main_v8 main_v12
  main_v13
-- ==== Pre_finite2.lean ====
abbrev S8x4x4096x64 : Shape := ⟨4, ![8, 4, 4096, 64]⟩
abbrev S8x2x4096x64 : Shape := ⟨4, ![8, 2, 4096, 64]⟩
abbrev S8x2x256x64 : Shape := ⟨4, ![8, 2, 256, 64]⟩
abbrev S_ : Shape := ⟨0, ![]⟩

class Facts : Prop where
  bcast_S_S8x4x4096x64 : S_.BroadcastsInDim S8x4x4096x64 (![] : Fin 0 → Fin S8x4x4096x64.rank)
  reducesTo_S8x4x4096x64_S_d0_1_2_3 : S8x4x4096x64.ReducesTo [0, 1, 2, 3] S_
  h_S_ : 0 < S_.numel
  bcast_S_S8x2x4096x64 : S_.BroadcastsInDim S8x2x4096x64 (![] : Fin 0 → Fin S8x2x4096x64.rank)
  reducesTo_S8x2x4096x64_S_d0_1_2_3 : S8x2x4096x64.ReducesTo [0, 1, 2, 3] S_
  bcast_S_S8x2x256x64 : S_.BroadcastsInDim S8x2x256x64 (![] : Fin 0 → Fin S8x2x256x64.rank)
  reducesTo_S8x2x256x64_S_d0_1_2_3 : S8x2x256x64.ReducesTo [0, 1, 2, 3] S_

variable [Facts]

def fn {F : FTy → Type} [FloatOps F] (main_arg0 : FVec F S8x4x4096x64 .f32) (main_arg1 : FVec F S8x2x4096x64 .f32) (main_arg2 : FVec F S8x2x4096x64 .f32) (main_arg3 : FVec F S8x2x256x64 .f32) (main_arg4 : FVec F S8x2x256x64 .f32) : IVec S_ 1 :=
  let main_v0 : FVec F S8x4x4096x64 .f32 := Host.absf main_arg0
  let main_cst : FVec F S_ .f32 := constant S_ .f32 0x7F800000#32
  let main_v1 : FVec F S8x4x4096x64 .f32 := broadcastInDim S8x4x4096x64 ![] bcast_S_S8x4x4096x64 main_cst
  let main_v2 : IVec S8x4x4096x64 1 := cmpf .olt main_v0 main_v1
  let main_c : IVec S_ 1 := constantI S_ 1 1#1
  let main_v3 : IVec S_ 1 := (fun x v => Host.reduce IntOp.andi x v reducesTo_S8x4x4096x64_S_d0_1_2_3 h_S_) main_v2 main_c
  let main_v4 : FVec F S8x2x4096x64 .f32 := Host.absf main_arg1
  let main_cst_0 : FVec F S_ .f32 := constant S_ .f32 0x7F800000#32
  let main_v5 : FVec F S8x2x4096x64 .f32 := broadcastInDim S8x2x4096x64 ![] bcast_S_S8x2x4096x64 main_cst_0
  let main_v6 : IVec S8x2x4096x64 1 := cmpf .olt main_v4 main_v5
  let main_c_1 : IVec S_ 1 := constantI S_ 1 1#1
  let main_v7 : IVec S_ 1 := (fun x v => Host.reduce IntOp.andi x v reducesTo_S8x2x4096x64_S_d0_1_2_3 h_S_) main_v6 main_c_1
  let main_v8 : IVec S_ 1 := andi main_v3 main_v7
  let main_v9 : FVec F S8x2x256x64 .f32 := Host.absf main_arg3
  let main_cst_2 : FVec F S_ .f32 := constant S_ .f32 0x7F800000#32
  let main_v10 : FVec F S8x2x256x64 .f32 := broadcastInDim S8x2x256x64 ![] bcast_S_S8x2x256x64 main_cst_2
  let main_v11 : IVec S8x2x256x64 1 := cmpf .olt main_v9 main_v10
  let main_c_3 : IVec S_ 1 := constantI S_ 1 1#1
  let main_v12 : IVec S_ 1 := (fun x v => Host.reduce IntOp.andi x v reducesTo_S8x2x256x64_S_d0_1_2_3 h_S_) main_v11 main_c_3
  let main_v13 : IVec S_ 1 := andi main_v8 main_v12
  main_v13
-- ==== Kernel.lean ====
abbrev S8x4x4096x96 : Shape := ⟨4, ![8, 4, 4096, 96]⟩
abbrev S8x4x4096x64 : Shape := ⟨4, ![8, 4, 4096, 64]⟩
abbrev S8x4x256x96 : Shape := ⟨4, ![8, 4, 256, 96]⟩
abbrev S8x4x256x64 : Shape := ⟨4, ![8, 4, 256, 64]⟩
abbrev S_ : Shape := ⟨0, ![]⟩
abbrev S8x4x4096x128 : Shape := ⟨4, ![8, 4, 4096, 128]⟩
abbrev S8x4096x4x128 : Shape := ⟨4, ![8, 4096, 4, 128]⟩
abbrev S8x4096x512 : Shape := ⟨3, ![8, 4096, 512]⟩
abbrev S8x4x256x128 : Shape := ⟨4, ![8, 4, 256, 128]⟩
abbrev S8x256x4x128 : Shape := ⟨4, ![8, 256, 4, 128]⟩
abbrev S8x256x512 : Shape := ⟨3, ![8, 256, 512]⟩
abbrev S8x4x64x4096 : Shape := ⟨4, ![8, 4, 64, 4096]⟩
abbrev S8x256x4096 : Shape := ⟨3, ![8, 256, 4096]⟩
abbrev S8x4x64x256 : Shape := ⟨4, ![8, 4, 64, 256]⟩
abbrev S8x256x256 : Shape := ⟨3, ![8, 256, 256]⟩
abbrev S8x4096x256 : Shape := ⟨3, ![8, 4096, 256]⟩
abbrev S1x2048x256 : Shape := ⟨3, ![1, 2048, 256]⟩
abbrev S1x4096x256 : Shape := ⟨3, ![1, 4096, 256]⟩
abbrev S1x128x4096 : Shape := ⟨3, ![1, 128, 4096]⟩
abbrev S1x256x256 : Shape := ⟨3, ![1, 256, 256]⟩
abbrev S1x128x256 : Shape := ⟨3, ![1, 128, 256]⟩
abbrev S1x2048x128 : Shape := ⟨3, ![1, 2048, 128]⟩
abbrev S2048x128 : Shape := ⟨2, ![2048, 128]⟩
abbrev S1x2048 : Shape := ⟨2, ![1, 2048]⟩
abbrev S128x2048 : Shape := ⟨2, ![128, 2048]⟩
abbrev S1x512x128 : Shape := ⟨3, ![1, 512, 128]⟩
abbrev S512x128 : Shape := ⟨2, ![512, 128]⟩
abbrev S512x2048 : Shape := ⟨2, ![512, 2048]⟩
abbrev S1x128x512 : Shape := ⟨3, ![1, 128, 512]⟩
abbrev S128x512 : Shape := ⟨2, ![128, 512]⟩
abbrev S2048 : Shape := ⟨1, ![2048]⟩
abbrev S1x256x128 : Shape := ⟨3, ![1, 256, 128]⟩
abbrev S256x128 : Shape := ⟨2, ![256, 128]⟩
abbrev S256x2048 : Shape := ⟨2, ![256, 2048]⟩
abbrev S128x256 : Shape := ⟨2, ![128, 256]⟩

abbrev nBuf : Space → Nat
  | .hbm => 39
  | .vmem => 12
  | .smem => 0
  | _ => 0

abbrev bufTy : (tb : Table) → Fin (tcTables nBuf tb) → BufTy
  | .hbm, ⟨0, _⟩ => ⟨S8x4x4096x96, .f32⟩
  | .hbm, ⟨1, _⟩ => ⟨S8x4x4096x96, .f32⟩
  | .hbm, ⟨2, _⟩ => ⟨S8x4x4096x64, .f32⟩
  | .hbm, ⟨3, _⟩ => ⟨S8x4x256x96, .f32⟩
  | .hbm, ⟨4, _⟩ => ⟨S8x4x256x64, .f32⟩
  | .hbm, ⟨5, _⟩ => ⟨S_, .f32⟩
  | .hbm, ⟨6, _⟩ => ⟨S8x4x4096x96, .f32⟩
  | .hbm, ⟨7, _⟩ => ⟨S8x4x4096x96, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4x4096x96, .f32⟩
  | .hbm, ⟨13, _⟩ => ⟨S8x4x4096x96, .f32⟩
  | .hbm, ⟨14, _⟩ => ⟨S_, .i32⟩
  | .hbm, ⟨15, _⟩ => ⟨S_, .f32⟩
  | .hbm, ⟨16, _⟩ => ⟨S8x4x4096x128, .f32⟩
  | .hbm, ⟨17, _⟩ => ⟨S8x4096x4x128, .f32⟩
  | .hbm, ⟨18, _⟩ => ⟨S8x4096x512, .f32⟩
  | .hbm, ⟨19, _⟩ => ⟨S8x4096x512, .bf16⟩
  | .hbm, ⟨20, _⟩ => ⟨S_, .i32⟩
  | .hbm, ⟨21, _⟩ => ⟨S_, .f32⟩
  | .hbm, ⟨22, _⟩ => ⟨S8x4x4096x128, .f32⟩
  | .hbm, ⟨23, _⟩ => ⟨S8x4096x4x128, .f32⟩
  | .hbm, ⟨24, _⟩ => ⟨S8x4096x512, .f32⟩
  | .hbm, ⟨25, _⟩ => ⟨S8x4096x512, .bf16⟩
  | .hbm, ⟨26, _⟩ => ⟨S_, .i32⟩
  | .hbm, ⟨27, _⟩ => ⟨S_, .f32⟩
  | .hbm, ⟨28, _⟩ => ⟨S8x4x256x128, .f32⟩
  | .hbm, ⟨29, _⟩ => ⟨S8x256x4x128, .f32⟩
  | .hbm, ⟨30, _⟩ => ⟨S8x256x512, .f32⟩
  | .hbm, ⟨31, _⟩ => ⟨S8x256x512, .bf16⟩
  | .hbm, ⟨32, _⟩ => ⟨S8x4x64x4096, .f32⟩
  | .hbm, ⟨33, _⟩ => ⟨S8x256x4096, .f32⟩
  | .hbm, ⟨34, _⟩ => ⟨S8x256x4096, .bf16⟩
  | .hbm, ⟨35, _⟩ => ⟨S8x4x64x256, .f32⟩
  | .hbm, ⟨36, _⟩ => ⟨S8x256x256, .f32⟩
  | .hbm, ⟨37, _⟩ => ⟨S8x256x256, .bf16⟩
  | .hbm, ⟨38, _⟩ => ⟨S8x4096x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x256x256, .bf16⟩
  | .local _ .vmem, ⟨7, _⟩ => ⟨S1x256x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x2048x128, .bf16⟩
  | .local _ .vmem, ⟨11, _⟩ => ⟨S1x2048x128, .bf16⟩
  | _, _ => ⟨S8x4x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4x4096x96 : Shape := ⟨4, ![8, 4, 4096, 96]⟩
abbrev S8x4x4096x64 : Shape := ⟨4, ![8, 4, 4096, 64]⟩
abbrev S8x4x256x96 : Shape := ⟨4, ![8, 4, 256, 96]⟩
abbrev S8x4x256x64 : Shape := ⟨4, ![8, 4, 256, 64]⟩
abbrev S8x4x4352x96 : Shape := ⟨4, ![8, 4, 4352, 96]⟩
abbrev S8x4x4352x64 : Shape := ⟨4, ![8, 4, 4352, 64]⟩
abbrev S8x4x4096x4352 : Shape := ⟨4, ![8, 4, 4096, 4352]⟩
abbrev S_ : Shape := ⟨0, ![]⟩
abbrev S8x4x4096 : Shape := ⟨3, ![8, 4, 4096]⟩
abbrev S8x4x4096x1 : Shape := ⟨4, ![8, 4, 4096, 1]⟩
abbrev S8x4096x4x64 : Shape := ⟨4, ![8, 4096, 4, 64]⟩
abbrev S8x4096x256 : Shape := ⟨3, ![8, 4096, 256]⟩

abbrev nBuf : Space → Nat
  | .hbm => 29
  | .vmem => 0
  | .smem => 0
  | _ => 0

abbrev bufTy : (tb : Table) → Fin (tcTables nBuf tb) → BufTy
  | .hbm, ⟨0, _⟩ => ⟨S8x4x4096x96, .f32⟩
  | .hbm, ⟨1, _⟩ => ⟨S8x4x4096x96, .f32⟩
  | .hbm, ⟨2, _⟩ => ⟨S8x4x4096x64, .f32⟩
  | .hbm, ⟨3, _⟩ => ⟨S8x4x256x96, .f32⟩
  | .hbm, ⟨4, _⟩ => ⟨S8x4x256x64, .f32⟩
  | .hbm, ⟨5, _⟩ => ⟨S8x4x4352x96, .f32⟩
  | .hbm, ⟨6, _⟩ => ⟨S8x4x4352x64, .f32⟩
  | .hbm, ⟨7, _⟩ => ⟨S8x4x4096x4352, .f32⟩
  | .hbm, ⟨8, _⟩ => ⟨S_, .f32⟩
  | .hbm, ⟨9, _⟩ => ⟨S8x4x4096x4352, .f32⟩
  | .hbm, ⟨10, _⟩ => ⟨S8x4x4096x4352, .f32⟩
  | .hbm, ⟨11, _⟩ => ⟨S_, .f32⟩
  | .hbm, ⟨12, _⟩ => ⟨S8x4x4096, .f32⟩
  | .hbm, ⟨13, _⟩ => ⟨S_, .f32⟩
  | .hbm, ⟨14, _⟩ => ⟨S8x4x4096, .f32⟩
  | .hbm, ⟨15, _⟩ => ⟨S8x4x4096, .f32⟩
  | .hbm, ⟨16, _⟩ => ⟨S8x4x4096x1, .f32⟩
  | .hbm, ⟨17, _⟩ => ⟨S8x4x4096x4352, .f32⟩
  | .hbm, ⟨18, _⟩ => ⟨S8x4x4096x4352, .f32⟩
  | .hbm, ⟨19, _⟩ => ⟨S8x4x4096x4352, .f32⟩
  | .hbm, ⟨20, _⟩ => ⟨S_, .f32⟩
  | .hbm, ⟨21, _⟩ => ⟨S8x4x4096, .f32⟩
  | .hbm, ⟨22, _⟩ => ⟨S8x4x4096x1, .f32⟩
  | .hbm, ⟨23, _⟩ => ⟨S8x4x4096x4352, .f32⟩
  | .hbm, ⟨24, _⟩ => ⟨S8x4x4096x4352, .f32⟩
  | .hbm, ⟨25, _⟩ => ⟨S8x4x4096x64, .f32⟩
  | .hbm, ⟨26, _⟩ => ⟨S8x4096x4x64, .f32⟩
  | .hbm, ⟨27, _⟩ => ⟨S8x4096x256, .f32⟩
  | .hbm, ⟨28, _⟩ => ⟨S8x4096x256, .bf16⟩
  | _, _ => ⟨S8x4x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S8x4x4096x64 : Shape := ⟨4, ![8, 4, 4096, 64]⟩
abbrev S8x2x4096x64 : Shape := ⟨4, ![8, 2, 4096, 64]⟩
abbrev S8x2x256x64 : Shape := ⟨4, ![8, 2, 256, 64]⟩
abbrev S_ : Shape := ⟨0, ![]⟩
abbrev S8x2x2x4096x64 : Shape := ⟨5, ![8, 2, 2, 4096, 64]⟩
abbrev S8x4096x4x64 : Shape := ⟨4, ![8, 4096, 4, 64]⟩
abbrev S8x4096x256 : Shape := ⟨3, ![8, 4096, 256]⟩
abbrev S8x4096x2x64 : Shape := ⟨4, ![8, 4096, 2, 64]⟩
abbrev S8x4096x128 : Shape := ⟨3, ![8, 4096, 128]⟩
abbrev S8x256x2x64 : Shape := ⟨4, ![8, 256, 2, 64]⟩
abbrev S8x256x128 : Shape := ⟨3, ![8, 256, 128]⟩
abbrev S8x2x64x4096 : Shape := ⟨4, ![8, 2, 64, 4096]⟩
abbrev S8x128x4096 : Shape := ⟨3, ![8, 128, 4096]⟩
abbrev S8x2x64x256 : Shape := ⟨4, ![8, 2, 64, 256]⟩
abbrev S8x128x256 : Shape := ⟨3, ![8, 128, 256]⟩
abbrev S1x2048x128 : Shape := ⟨3, ![1, 2048, 128]⟩
abbrev S1x4096x128 : Shape := ⟨3, ![1, 4096, 128]⟩
abbrev S1x128x4096 : Shape := ⟨3, ![1, 128, 4096]⟩
abbrev S1x256x128 : Shape := ⟨3, ![1, 256, 128]⟩
abbrev S1x128x256 : Shape := ⟨3, ![1, 128, 256]⟩
abbrev S2048x128 : Shape := ⟨2, ![2048, 128]⟩
abbrev S1x2048 : Shape := ⟨2, ![1, 2048]⟩
abbrev S128x2048 : Shape := ⟨2, ![128, 2048]⟩
abbrev S1x512x128 : Shape := ⟨3, ![1, 512, 128]⟩
abbrev S512x128 : Shape := ⟨2, ![512, 128]⟩
abbrev S512x2048 : Shape := ⟨2, ![512, 2048]⟩
abbrev S1x128x512 : Shape := ⟨3, ![1, 128, 512]⟩
abbrev S128x512 : Shape := ⟨2, ![128, 512]⟩
abbrev S2048 : Shape := ⟨1, ![2048]⟩
abbrev S256x128 : Shape := ⟨2, ![256, 128]⟩
abbrev S256x2048 : Shape := ⟨2, ![256, 2048]⟩
abbrev S128x256 : Shape := ⟨2, ![128, 256]⟩
abbrev S8x4096x2x2x64 : Shape := ⟨5, ![8, 4096, 2, 2, 64]⟩

abbrev nBuf : Space → Nat
  | .hbm => 36
  | .vmem => 12
  | .smem => 0
  | _ => 0

abbrev bufTy : (tb : Table) → Fin (tcTables nBuf tb) → BufTy
  | .hbm, ⟨0, _⟩ => ⟨S8x4x4096x64, .f32⟩
  | .hbm, ⟨1, _⟩ => ⟨S8x2x4096x64, .f32⟩
  | .hbm, ⟨2, _⟩ => ⟨S8x2x4096x64, .f32⟩
  | .hbm, ⟨3, _⟩ => ⟨S8x2x256x64, .f32⟩
  | .hbm, ⟨4, _⟩ => ⟨S8x2x256x64, .f32⟩
  | .hbm, ⟨5, _⟩ => ⟨S_, .f32⟩
  | .hbm, ⟨6, _⟩ => ⟨S8x4x4096x64, .f32⟩
  | .hbm, ⟨7, _⟩ => ⟨S8x4x4096x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4x4096x64, .f32⟩
  | .hbm, ⟨13, _⟩ => ⟨S8x4x4096x64, .f32⟩
  | .hbm, ⟨14, _⟩ => ⟨S8x2x2x4096x64, .f32⟩
  | .hbm, ⟨15, _⟩ => ⟨S8x2x2x4096x64, .f32⟩
  | .hbm, ⟨16, _⟩ => ⟨S8x4x4096x64, .f32⟩
  | .hbm, ⟨17, _⟩ => ⟨S8x4096x4x64, .f32⟩
  | .hbm, ⟨18, _⟩ => ⟨S8x4096x256, .f32⟩
  | .hbm, ⟨19, _⟩ => ⟨S8x4096x256, .bf16⟩
  | .hbm, ⟨20, _⟩ => ⟨S8x4096x2x64, .f32⟩
  | .hbm, ⟨21, _⟩ => ⟨S8x4096x128, .f32⟩
  | .hbm, ⟨22, _⟩ => ⟨S8x4096x128, .bf16⟩
  | .hbm, ⟨23, _⟩ => ⟨S8x256x2x64, .f32⟩
  | .hbm, ⟨24, _⟩ => ⟨S8x256x128, .f32⟩
  | .hbm, ⟨25, _⟩ => ⟨S8x256x128, .bf16⟩
  | .hbm, ⟨26, _⟩ => ⟨S8x2x64x4096, .f32⟩
  | .hbm, ⟨27, _⟩ => ⟨S8x128x4096, .f32⟩
  | .hbm, ⟨28, _⟩ => ⟨S8x128x4096, .bf16⟩
  | .hbm, ⟨29, _⟩ => ⟨S8x2x64x256, .f32⟩
  | .hbm, ⟨30, _⟩ => ⟨S8x128x256, .f32⟩
  | .hbm, ⟨31, _⟩ => ⟨S8x128x256, .bf16⟩
  | .hbm, ⟨32, _⟩ => ⟨S8x4096x256, .bf16⟩
  | .hbm, ⟨33, _⟩ => ⟨S8x4096x2x2x64, .bf16⟩
  | .hbm, ⟨34, _⟩ => ⟨S8x4096x2x2x64, .bf16⟩
  | .hbm, ⟨35, _⟩ => ⟨S8x4096x256, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x256x128, .bf16⟩
  | .local _ .vmem, ⟨7, _⟩ => ⟨S1x256x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x2048x128, .bf16⟩
  | .local _ .vmem, ⟨11, _⟩ => ⟨S1x2048x128, .bf16⟩
  | _, _ => ⟨S8x4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S8x4x4096x64 : Shape := ⟨4, ![8, 4, 4096, 64]⟩
abbrev S8x2x4096x64 : Shape := ⟨4, ![8, 2, 4096, 64]⟩
abbrev S8x2x256x64 : Shape := ⟨4, ![8, 2, 256, 64]⟩
abbrev S8x2x4352x64 : Shape := ⟨4, ![8, 2, 4352, 64]⟩
abbrev S8x2x2x4096x64 : Shape := ⟨5, ![8, 2, 2, 4096, 64]⟩
abbrev S8x2x2x4096x4352 : Shape := ⟨5, ![8, 2, 2, 4096, 4352]⟩
abbrev S_ : Shape := ⟨0, ![]⟩
abbrev S8x2x2x4096 : Shape := ⟨4, ![8, 2, 2, 4096]⟩
abbrev S8x2x2x4096x1 : Shape := ⟨5, ![8, 2, 2, 4096, 1]⟩
abbrev S8x4096x4x64 : Shape := ⟨4, ![8, 4096, 4, 64]⟩
abbrev S8x4096x256 : Shape := ⟨3, ![8, 4096, 256]⟩

abbrev nBuf : Space → Nat
  | .hbm => 31
  | .vmem => 0
  | .smem => 0
  | _ => 0

abbrev bufTy : (tb : Table) → Fin (tcTables nBuf tb) → BufTy
  | .hbm, ⟨0, _⟩ => ⟨S8x4x4096x64, .f32⟩
  | .hbm, ⟨1, _⟩ => ⟨S8x2x4096x64, .f32⟩
  | .hbm, ⟨2, _⟩ => ⟨S8x2x4096x64, .f32⟩
  | .hbm, ⟨3, _⟩ => ⟨S8x2x256x64, .f32⟩
  | .hbm, ⟨4, _⟩ => ⟨S8x2x256x64, .f32⟩
  | .hbm, ⟨5, _⟩ => ⟨S8x2x4352x64, .f32⟩
  | .hbm, ⟨6, _⟩ => ⟨S8x2x4352x64, .f32⟩
  | .hbm, ⟨7, _⟩ => ⟨S8x2x2x4096x64, .f32⟩
  | .hbm, ⟨8, _⟩ => ⟨S8x2x2x4096x4352, .f32⟩
  | .hbm, ⟨9, _⟩ => ⟨S_, .f32⟩
  | .hbm, ⟨10, _⟩ => ⟨S8x2x2x4096x4352, .f32⟩
  | .hbm, ⟨11, _⟩ => ⟨S8x2x2x4096x4352, .f32⟩
  | .hbm, ⟨12, _⟩ => ⟨S_, .f32⟩
  | .hbm, ⟨13, _⟩ => ⟨S8x2x2x4096, .f32⟩
  | .hbm, ⟨14, _⟩ => ⟨S_, .f32⟩
  | .hbm, ⟨15, _⟩ => ⟨S8x2x2x4096, .f32⟩
  | .hbm, ⟨16, _⟩ => ⟨S8x2x2x4096, .f32⟩
  | .hbm, ⟨17, _⟩ => ⟨S8x2x2x4096x1, .f32⟩
  | .hbm, ⟨18, _⟩ => ⟨S8x2x2x4096x4352, .f32⟩
  | .hbm, ⟨19, _⟩ => ⟨S8x2x2x4096x4352, .f32⟩
  | .hbm, ⟨20, _⟩ => ⟨S8x2x2x4096x4352, .f32⟩
  | .hbm, ⟨21, _⟩ => ⟨S_, .f32⟩
  | .hbm, ⟨22, _⟩ => ⟨S8x2x2x4096, .f32⟩
  | .hbm, ⟨23, _⟩ => ⟨S8x2x2x4096x1, .f32⟩
  | .hbm, ⟨24, _⟩ => ⟨S8x2x2x4096x4352, .f32⟩
  | .hbm, ⟨25, _⟩ => ⟨S8x2x2x4096x4352, .f32⟩
  | .hbm, ⟨26, _⟩ => ⟨S8x2x2x4096x64, .f32⟩
  | .hbm, ⟨27, _⟩ => ⟨S8x4x4096x64, .f32⟩
  | .hbm, ⟨28, _⟩ => ⟨S8x4096x4x64, .f32⟩
  | .hbm, ⟨29, _⟩ => ⟨S8x4096x256, .f32⟩
  | .hbm, ⟨30, _⟩ => ⟨S8x4096x256, .bf16⟩
  | _, _ => ⟨S8x4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x3072 : Shape := ⟨2, ![8, 3072]⟩
abbrev S8x4096x256 : Shape := ⟨3, ![8, 4096, 256]⟩
abbrev S1024x7072 : Shape := ⟨2, ![1024, 7072]⟩
abbrev S4x256x1024 : Shape := ⟨3, ![4, 256, 1024]⟩
abbrev S1024x1024 : Shape := ⟨2, ![1024, 1024]⟩
abbrev S1024 : Shape := ⟨1, ![1024]⟩
abbrev S4 : Shape := ⟨1, ![4]⟩
abbrev S1024x256 : Shape := ⟨2, ![1024, 256]⟩
abbrev S1024x4x64 : Shape := ⟨3, ![1024, 4, 64]⟩
abbrev S_ : Shape := ⟨0, ![]⟩
abbrev S4x1 : Shape := ⟨2, ![4, 1]⟩
abbrev S1024x768 : Shape := ⟨2, ![1024, 768]⟩
abbrev S1024x4096 : Shape := ⟨2, ![1024, 4096]⟩
abbrev S1x256x1024 : Shape := ⟨3, ![1, 256, 1024]⟩
abbrev S256x1024 : Shape := ⟨2, ![256, 1024]⟩
abbrev S4x64x1024 : Shape := ⟨3, ![4, 64, 1024]⟩
abbrev S3x256x1024 : Shape := ⟨3, ![3, 256, 1024]⟩
abbrev S8x4096x2x2x64 : Shape := ⟨5, ![8, 4096, 2, 2, 64]⟩
abbrev S8x3x1024 : Shape := ⟨3, ![8, 3, 1024]⟩
abbrev S1x1024 : Shape := ⟨2, ![1, 1024]⟩
abbrev S1x1024x1024 : Shape := ⟨3, ![1, 1024, 1024]⟩
abbrev S1x3x1024 : Shape := ⟨3, ![1, 3, 1024]⟩
abbrev S1x1024x256 : Shape := ⟨3, ![1, 1024, 256]⟩
abbrev S1x1x1024 : Shape := ⟨3, ![1, 1, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 58
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S1024x7072, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S4, .i32⟩
  | .hbm, ⟨12, _⟩ => ⟨S1024x7072, .bf16⟩
  | .hbm, ⟨13, _⟩ => ⟨S1024x1024, .bf16⟩
  | .hbm, ⟨14, _⟩ => ⟨S1024x256, .bf16⟩
  | .hbm, ⟨15, _⟩ => ⟨S1024x4x64, .bf16⟩
  | .hbm, ⟨16, _⟩ => ⟨S_, .i32⟩
  | .hbm, ⟨17, _⟩ => ⟨S4, .i32⟩
  | .hbm, ⟨18, _⟩ => ⟨S4, .i1⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S1024x4x64, .bf16⟩
  | .hbm, ⟨25, _⟩ => ⟨S1024x256, .bf16⟩
  | .hbm, ⟨26, _⟩ => ⟨S1024x768, .bf16⟩
  | .hbm, ⟨27, _⟩ => ⟨S1024x1024, .bf16⟩
  | .hbm, ⟨28, _⟩ => ⟨S1024x4096, .bf16⟩
  | .hbm, ⟨29, _⟩ => ⟨S1x256x1024, .f32⟩
  | .hbm, ⟨30, _⟩ => ⟨S256x1024, .f32⟩
  | .hbm, ⟨31, _⟩ => ⟨S4x64x1024, .f32⟩
  | .hbm, ⟨32, _⟩ => ⟨S_, .i32⟩
  | .hbm, ⟨33, _⟩ => ⟨S4, .i32⟩
  | .hbm, ⟨34, _⟩ => ⟨S4, .i1⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S4, .i32⟩
  | .hbm, ⟨39, _⟩ => ⟨S4x1, .i32⟩
  | .hbm, ⟨40, _⟩ => ⟨S4x64x1024, .f32⟩
  | .hbm, ⟨41, _⟩ => ⟨S256x1024, .f32⟩
  | .hbm, ⟨42, _⟩ => ⟨S3x256x1024, .f32⟩
  | .hbm, ⟨43, _⟩ => ⟨S1x256x1024, .f32⟩
  | .hbm, ⟨44, _⟩ => ⟨S4x256x1024, .f32⟩
  | .hbm, ⟨45, _⟩ => ⟨S4x256x1024, .bf16⟩
  | .hbm, ⟨46, _⟩ => ⟨S8x4096x2x2x64, .f32⟩
  | .hbm, ⟨47, _⟩ => ⟨S8x4096x2x2x64, .f32⟩
  | .hbm, ⟨48, _⟩ => ⟨S8x4096x256, .f32⟩
  | .hbm, ⟨49, _⟩ => ⟨S8x4096x256, .bf16⟩
  | .hbm, ⟨50, _⟩ => ⟨S8x4096x256, .bf16⟩
  | .hbm, ⟨51, _⟩ => ⟨S8x4096x256, .bf16⟩
  | .hbm, ⟨52, _⟩ => ⟨S8x4096x256, .bf16⟩
  | .hbm, ⟨53, _⟩ => ⟨S8x3x1024, .f32⟩
  | .hbm, ⟨54, _⟩ => ⟨S1024x1024, .bf16⟩
  | .hbm, ⟨55, _⟩ => ⟨S1x1024, .f32⟩
  | .hbm, ⟨56, _⟩ => ⟨S1x1024, .f32⟩
  | .hbm, ⟨57, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1024x1024, .bf16⟩
  | .local _ .vmem, ⟨13, _⟩ => ⟨S1024x4096, .bf16⟩
  | .local _ .vmem, ⟨14, _⟩ => ⟨S4x256x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S8x3072 : Shape := ⟨2, ![8, 3072]⟩
abbrev S8x4096x256 : Shape := ⟨3, ![8, 4096, 256]⟩
abbrev S1024x7072 : Shape := ⟨2, ![1024, 7072]⟩
abbrev S4x256x1024 : Shape := ⟨3, ![4, 256, 1024]⟩
abbrev S1024x1024 : Shape := ⟨2, ![1024, 1024]⟩
abbrev S1024 : Shape := ⟨1, ![1024]⟩
abbrev S8x1x3072 : Shape := ⟨3, ![8, 1, 3072]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x7072 : Shape := ⟨3, ![8, 4096, 7072]⟩
abbrev S8x4096x4096 : Shape := ⟨3, ![8, 4096, 4096]⟩
abbrev S1x256x1024 : Shape := ⟨3, ![1, 256, 1024]⟩
abbrev S256x1024 : Shape := ⟨2, ![256, 1024]⟩
abbrev S1x1x1024 : Shape := ⟨3, ![1, 1, 1024]⟩

abbrev nBuf : Space → Nat
  | .hbm => 186
  | .vmem => 0
  | .smem => 0
  | _ => 0

abbrev hbmTy0_0 (i : Nat) : BufTy := match i % 128 with
  | 0 => ⟨S8x4096x1024, .f32⟩
  | 1 => ⟨S8x3072, .f32⟩
  | 2 => ⟨S8x4096x256, .f32⟩
  | 3 => ⟨S8x4096x256, .f32⟩
  | 4 => ⟨S8x4096x256, .f32⟩
  | 5 => ⟨S8x4096x256, .f32⟩
  | 6 => ⟨S1024x7072, .f32⟩
  | 7 => ⟨S4x256x1024, .f32⟩
  | 8 => ⟨S1024x1024, .f32⟩
  | 9 => ⟨S1024, .f32⟩
  | 10 => ⟨S1024, .f32⟩
  | 11 => ⟨S8x1x3072, .f32⟩
  | 12 => ⟨S8x1x1024, .f32⟩
  | 13 => ⟨S8x1x1024, .f32⟩
  | 14 => ⟨S8x1x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S8x4096x1024, .f32⟩
  | 22 => ⟨S8x4096x1024, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S8x4096x1024, .f32⟩
  | 31 => ⟨S8x4096x1024, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S_, .f32⟩
  | 39 => ⟨S8x1x1024, .f32⟩
  | 40 => ⟨S8x1x1024, .f32⟩
  | 41 => ⟨S8x4096x1024, .f32⟩
  | 42 => ⟨S8x4096x1024, .f32⟩
  | 43 => ⟨S8x4096x1024, .f32⟩
  | 44 => ⟨S8x4096x1024, .f32⟩
  | 45 => ⟨S8x4096x7072, .f32⟩
  | 46 => ⟨S8x4096x1024, .f32⟩
  | 47 => ⟨S8x4096x4096, .f32⟩
  | 48 => ⟨S8x4096x256, .f32⟩
  | 49 => ⟨S8x4096x256, .f32⟩
  | 50 => ⟨S8x4096x256, .f32⟩
  | 51 => ⟨S8x4096x256, .f32⟩
  | 52 => ⟨S8x4096x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S_, .f32⟩
  | 62 => ⟨S8x4096x1024, .f32⟩
  | 63 => ⟨S8x4096x1024, .f32⟩
  | 64 => ⟨S8x4096x256, .f32⟩
  | 65 => ⟨S8x4096x256, .f32⟩
  | 66 => ⟨S_, .f32⟩
  | 67 => ⟨S8x4096x256, .f32⟩
  | 68 => ⟨S8x4096x256, .f32⟩
  | 69 => ⟨S_, .f32⟩
  | 70 => ⟨S8x4096x256, .f32⟩
  | 71 => ⟨S8x4096x256, .f32⟩
  | 72 => ⟨S8x4096x256, .f32⟩
  | 73 => ⟨S8x4096x256, .f32⟩
  | 74 => ⟨S1x256x1024, .f32⟩
  | 75 => ⟨S256x1024, .f32⟩
  | 76 => ⟨S8x4096x1024, .f32⟩
  | 77 => ⟨S8x4096x1024, .f32⟩
  | 78 => ⟨S_, .f32⟩
  | 79 => ⟨S8x4096x1024, .f32⟩
  | 80 => ⟨S8x4096x1024, .f32⟩
  | 81 => ⟨S8x4096x1024, .f32⟩
  | 82 => ⟨S8x4096x1024, .f32⟩
  | 83 => ⟨S_, .f32⟩
  | 84 => ⟨S8x4096x1024, .f32⟩
  | 85 => ⟨S8x4096x1024, .f32⟩
  | 86 => ⟨S_, .f32⟩
  | 87 => ⟨S8x4096x1024, .f32⟩
  | 88 => ⟨S8x4096x1024, .f32⟩
  | 89 => ⟨S8x4096x256, .f32⟩
  | 90 => ⟨S8x4096x256, .f32⟩
  | 91 => ⟨S_, .f32⟩
  | 92 => ⟨S8x4096x256, .f32⟩
  | 93 => ⟨S8x4096x256, .f32⟩
  | 94 => ⟨S_, .f32⟩
  | 95 => ⟨S8x4096x256, .f32⟩
  | 96 => ⟨S8x4096x256, .f32⟩
  | 97 => ⟨S8x4096x256, .f32⟩
  | 98 => ⟨S8x4096x256, .f32⟩
  | 99 => ⟨S1x256x1024, .f32⟩
  | 100 => ⟨S256x1024, .f32⟩
  | 101 => ⟨S8x4096x1024, .f32⟩
  | 102 => ⟨S8x4096x1024, .f32⟩
  | 103 => ⟨S8x4096x1024, .f32⟩
  | 104 => ⟨S8x4096x1024, .f32⟩
  | 105 => ⟨S8x4096x1024, .f32⟩
  | 106 => ⟨S_, .f32⟩
  | 107 => ⟨S8x4096x1024, .f32⟩
  | 108 => ⟨S8x4096x1024, .f32⟩
  | 109 => ⟨S_, .f32⟩
  | 110 => ⟨S8x4096x1024, .f32⟩
  | 111 => ⟨S8x4096x1024, .f32⟩
  | 112 => ⟨S8x4096x256, .f32⟩
  | 113 => ⟨S8x4096x256, .f32⟩
  | 114 => ⟨S_, .f32⟩
  | 115 => ⟨S8x4096x256, .f32⟩
  | 116 => ⟨S8x4096x256, .f32⟩
  | 117 => ⟨S_, .f32⟩
  | 118 => ⟨S8x4096x256, .f32⟩
  | 119 => ⟨S8x4096x256, .f32⟩
  | 120 => ⟨S8x4096x256, .f32⟩
  | 121 => ⟨S8x4096x256, .f32⟩
  | 122 => ⟨S1x256x1024, .f32⟩
  | 123 => ⟨S256x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S_, .f32⟩
  | 2 => ⟨S8x4096x1024, .f32⟩
  | 3 => ⟨S8x4096x1024, .f32⟩
  | 4 => ⟨S_, .f32⟩
  | 5 => ⟨S8x4096x1024, .f32⟩
  | 6 => ⟨S8x4096x1024, .f32⟩
  | 7 => ⟨S8x4096x256, .f32⟩
  | 8 => ⟨S8x4096x256, .f32⟩
  | 9 => ⟨S_, .f32⟩
  | 10 => ⟨S8x4096x256, .f32⟩
  | 11 => ⟨S8x4096x256, .f32⟩
  | 12 => ⟨S_, .f32⟩
  | 13 => ⟨S8x4096x256, .f32⟩
  | 14 => ⟨S8x4096x256, .f32⟩
  | 15 => ⟨S8x4096x256, .f32⟩
  | 16 => ⟨S8x4096x256, .f32⟩
  | 17 => ⟨S1x256x1024, .f32⟩
  | 18 => ⟨S256x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S_, .f32⟩
  | 24 => ⟨S8x4096x1024, .f32⟩
  | 25 => ⟨S8x4096x1024, .f32⟩
  | 26 => ⟨S8x4096x1024, .f32⟩
  | 27 => ⟨S8x4096x1024, .f32⟩
  | 28 => ⟨S8x4096x1024, .f32⟩
  | 29 => ⟨S_, .f32⟩
  | 30 => ⟨S8x4096, .f32⟩
  | 31 => ⟨S8x4096x1, .f32⟩
  | 32 => ⟨S_, .f32⟩
  | 33 => ⟨S8x4096x1, .f32⟩
  | 34 => ⟨S8x4096x1, .f32⟩
  | 35 => ⟨S8x4096x1024, .f32⟩
  | 36 => ⟨S8x4096x1024, .f32⟩
  | 37 => ⟨S8x4096x1024, .f32⟩
  | 38 => ⟨S_, .f32⟩
  | 39 => ⟨S8x4096, .f32⟩
  | 40 => ⟨S8x4096x1, .f32⟩
  | 41 => ⟨S_, .f32⟩
  | 42 => ⟨S8x4096x1, .f32⟩
  | 43 => ⟨S8x4096x1, .f32⟩
  | 44 => ⟨S8x4096x1024, .f32⟩
  | 45 => ⟨S8x4096x1024, .f32⟩
  | 46 => ⟨S_, .f32⟩
  | 47 => ⟨S8x4096x1, .f32⟩
  | 48 => ⟨S8x4096x1, .f32⟩
  | 49 => ⟨S8x4096x1, .f32⟩
  | 50 => ⟨S8x4096x1024, .f32⟩
  | 51 => ⟨S8x4096x1024, .f32⟩
  | 52 => ⟨S1x1x1024, .f32⟩
  | 53 => ⟨S8x4096x1024, .f32⟩
  | 54 => ⟨S8x4096x1024, .f32⟩
  | 55 => ⟨S1x1x1024, .f32⟩
  | 56 => ⟨S8x4096x1024, .f32⟩
  | 57 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_10 : Ref sig .tc := ⟨.hbm, 106, rfl⟩
abbrev main_v68 : Ref sig .tc := ⟨.hbm, 107, rfl⟩
abbrev main_v69 : Ref sig .tc := ⟨.hbm, 108, rfl⟩
abbrev main_cst_11 : Ref sig .tc := ⟨.hbm, 109, rfl⟩
abbrev main_v70 : Ref sig .tc := ⟨.hbm, 110, rfl⟩
abbrev main_v71 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_12 : Ref sig .tc := ⟨.hbm, 129, rfl⟩
abbrev main_v81 : Ref sig .tc := ⟨.hbm, 130, rfl⟩
abbrev main_v82 : Ref sig .tc := ⟨.hbm, 131, rfl⟩
abbrev main_cst_13 : Ref sig .tc := ⟨.hbm, 132, rfl⟩
abbrev main_v83 : Ref sig .tc := ⟨.hbm, 133, rfl⟩
abbrev main_v84 : Ref sig .tc := ⟨.hbm, 134, rfl⟩
abbrev main_call3_v0 : Ref sig .tc := ⟨.hbm, 135, rfl⟩
abbrev main_call3_v1 : Ref sig .tc := ⟨.hbm, 136, rfl⟩
abbrev main_call3_cst : Ref sig .tc := ⟨.hbm, 137, rfl⟩
abbrev main_call3_v2 : Ref sig .tc := ⟨.hbm, 138, rfl⟩
abbrev main_call3_v3 : Ref sig .tc := ⟨.hbm, 139, rfl⟩
abbrev main_call3_cst_0 : Ref sig .tc := ⟨.hbm, 140, rfl⟩
abbrev main_call3_v4 : Ref sig .tc := ⟨.hbm, 141, rfl⟩
abbrev main_call3_v5 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_14 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_15 : Ref sig .tc := ⟨.hbm, 157, rfl⟩
abbrev main_v98 : Ref sig .tc := ⟨.hbm, 158, rfl⟩
abbrev main_v99 : Ref sig .tc := ⟨.hbm, 159, rfl⟩
abbrev main_cst_16 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_17 : Ref sig .tc := ⟨.hbm, 166, rfl⟩
abbrev main_v105 : Ref sig .tc := ⟨.hbm, 167, rfl⟩
abbrev main_v106 : Ref sig .tc := ⟨.hbm, 168, rfl⟩
abbrev main_cst_18 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_cst_19 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S16x1024 : Shape := ⟨2, ![16, 1024]⟩
abbrev S1 : Shape := ⟨1, ![1]⟩
abbrev S2x1x3072 : Shape := ⟨3, ![2, 1, 3072]⟩
abbrev S2x16x3072 : Shape := ⟨3, ![2, 16, 3072]⟩
abbrev S1x1024x512 : Shape := ⟨3, ![1, 1024, 512]⟩
abbrev S1x1x512 : Shape := ⟨3, ![1, 1, 512]⟩
abbrev S1x16x512 : Shape := ⟨3, ![1, 16, 512]⟩
abbrev S1024x512 : Shape := ⟨2, ![1024, 512]⟩
abbrev S16x512 : Shape := ⟨2, ![16, 512]⟩
abbrev S1x512 : Shape := ⟨2, ![1, 512]⟩
abbrev S2x8x3072 : Shape := ⟨3, ![2, 8, 3072]⟩

abbrev nBuf : Space → Nat
  | .hbm => 17
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S2x1x3072, .f32⟩
  | .hbm, ⟨13, _⟩ => ⟨S2x16x3072, .f32⟩
  | .hbm, ⟨14, _⟩ => ⟨S2x8x3072, .f32⟩
  | .hbm, ⟨15, _⟩ => ⟨S2x1x3072, .f32⟩
  | .hbm, ⟨16, _⟩ => ⟨S2x3072, .f32⟩
  | .local _ .vmem, ⟨0, _⟩ => ⟨S16x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S2x3072x8 : Shape := ⟨3, ![2, 3072, 8]⟩
abbrev S2x8x3072 : Shape := ⟨3, ![2, 8, 3072]⟩
abbrev S2x1x3072 : Shape := ⟨3, ![2, 1, 3072]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S2x3072x8, .f32⟩
  | .hbm, ⟨14, _⟩ => ⟨S2x8x3072, .f32⟩
  | .hbm, ⟨15, _⟩ => ⟨S2x1x3072, .f32⟩
  | .hbm, ⟨16, _⟩ => ⟨S2x8x3072, .f32⟩
  | .hbm, ⟨17, _⟩ => ⟨S2x8x3072, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S2x3072, .f32⟩
  | .hbm, ⟨28, _⟩ => ⟨S2x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x3072 : Shape := ⟨2, ![8, 3072]⟩
abbrev S1024x7072 : Shape := ⟨2, ![1024, 7072]⟩
abbrev S256 : Shape := ⟨1, ![256]⟩
abbrev S256x384 : Shape := ⟨2, ![256, 384]⟩
abbrev S128 : Shape := ⟨1, ![128]⟩
abbrev S128x512 : Shape := ⟨2, ![128, 512]⟩
abbrev S64 : Shape := ⟨1, ![64]⟩
abbrev S4 : Shape := ⟨1, ![4]⟩
abbrev S256x256 : Shape := ⟨2, ![256, 256]⟩
abbrev S1x128 : Shape := ⟨2, ![1, 128]⟩
abbrev S1024x1952 : Shape := ⟨2, ![1024, 1952]⟩
abbrev S1024x256 : Shape := ⟨2, ![1024, 256]⟩
abbrev S1024x128 : Shape := ⟨2, ![1024, 128]⟩
abbrev S1024x32 : Shape := ⟨2, ![1024, 32]⟩
abbrev S1024x4x64 : Shape := ⟨3, ![1024, 4, 64]⟩
abbrev S_ : Shape := ⟨0, ![]⟩
abbrev S4x1 : Shape := ⟨2, ![4, 1]⟩
abbrev S1024x96 : Shape := ⟨2, ![1024, 96]⟩
abbrev S1024x2048 : Shape := ⟨2, ![1024, 2048]⟩
abbrev S256x4x96 : Shape := ⟨3, ![256, 4, 96]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S1x256 : Shape := ⟨2, ![1, 256]⟩
abbrev S1x64 : Shape := ⟨2, ![1, 64]⟩
abbrev S4x64 : Shape := ⟨2, ![4, 64]⟩
abbrev S2x64 : Shape := ⟨2, ![2, 64]⟩
abbrev S8x3x1024 : Shape := ⟨3, ![8, 3, 1024]⟩
abbrev S4096 : Shape := ⟨1, ![4096]⟩
abbrev S4096x1 : Shape := ⟨2, ![4096, 1]⟩
abbrev S4096x128 : Shape := ⟨2, ![4096, 128]⟩
abbrev S8x4096x256 : Shape := ⟨3, ![8, 4096, 256]⟩
abbrev S8x4096x512 : Shape := ⟨3, ![8, 4096, 512]⟩
abbrev S8x4096x128 : Shape := ⟨3, ![8, 4096, 128]⟩
abbrev S8x256x4096 : Shape := ⟨3, ![8, 256, 4096]⟩
abbrev S8x128x4096 : Shape := ⟨3, ![8, 128, 4096]⟩
abbrev S1x1024x1024 : Shape := ⟨3, ![1, 1024, 1024]⟩
abbrev S1x3x1024 : Shape := ⟨3, ![1, 3, 1024]⟩
abbrev S1x1024x256 : Shape := ⟨3, ![1, 1024, 256]⟩
abbrev S1x1024x512 : Shape := ⟨3, ![1, 1024, 512]⟩
abbrev S1x1024x128 : Shape := ⟨3, ![1, 1024, 128]⟩
abbrev S1x256x1024 : Shape := ⟨3, ![1, 256, 1024]⟩
abbrev S1x128x1024 : Shape := ⟨3, ![1, 128, 1024]⟩
abbrev S1x1x1024 : Shape := ⟨3, ![1, 1, 1024]⟩
abbrev S1x1024 : Shape := ⟨2, ![1, 1024]⟩
abbrev S512x128 : Shape := ⟨2, ![512, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩
abbrev S1x512x256 : Shape := ⟨3, ![1, 512, 256]⟩
abbrev S1x256x512 : Shape := ⟨3, ![1, 256, 512]⟩
abbrev S512x512 : Shape := ⟨2, ![512, 512]⟩
abbrev S1x512x128 : Shape := ⟨3, ![1, 512, 128]⟩
abbrev S1x512x512 : Shape := ⟨3, ![1, 512, 512]⟩
abbrev S128x128 : Shape := ⟨2, ![128, 128]⟩
abbrev S1x128x512 : Shape := ⟨3, ![1, 128, 512]⟩

abbrev nBuf : Space → Nat
  | .hbm => 174
  | .vmem => 52
  | .smem => 0
  | _ => 0

abbrev hbmTy0_0 (i : Nat) : BufTy := match i % 128 with
  | 0 => ⟨S8x4096x1024, .f32⟩
  | 1 => ⟨S8x3072, .f32⟩
  | 2 => ⟨S1024x7072, .f32⟩
  | 3 => ⟨S256, .f32⟩
  | 4 => ⟨S256x384, .f32⟩
  | 5 => ⟨S128, .f32⟩
  | 6 => ⟨S128x512, .f32⟩
  | 7 => ⟨S64, .f32⟩
  | 8 => ⟨S64, .f32⟩
  | 9 => ⟨S4, .i32⟩
  | 10 => ⟨S128x512, .bf16⟩
  | 11 => ⟨S256x256, .bf16⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S1024x7072, .bf16⟩
  | 31 => ⟨S1024x1952, .bf16⟩
  | 32 => ⟨S1024x256, .bf16⟩
  | 33 => ⟨S1024x256, .bf16⟩
  | 34 => ⟨S1024x256, .bf16⟩
  | 35 => ⟨S1024x256, .bf16⟩
  | 36 => ⟨S1024x128, .bf16⟩
  | 37 => ⟨S1024x32, .bf16⟩
  | 38 => ⟨S1024x256, .bf16⟩
  | 39 => ⟨S1024x256, .bf16⟩
  | 40 => ⟨S1024x128, .bf16⟩
  | 41 => ⟨S1024x128, .bf16⟩
  | 42 => ⟨S1024x4x64, .bf16⟩
  | 43 => ⟨S_, .i32⟩
  | 44 => ⟨S4, .i32⟩
  | 45 => ⟨S4, .i1⟩
  | 46 => ⟨S_, .i32⟩
  | 47 => ⟨S4, .i32⟩
  | 48 => ⟨S4, .i32⟩
  | 49 => ⟨S4, .i32⟩
  | 50 => ⟨S4x1, .i32⟩
  | 51 => ⟨S1024x4x64, .bf16⟩
  | 52 => ⟨S1024x256, .bf16⟩
  | 53 => ⟨S_, .bf16⟩
  | 54 => ⟨S1024x96, .bf16⟩
  | 55 => ⟨S1024x2048, .bf16⟩
  | 56 => ⟨S256x4x96, .f32⟩
  | 57 => ⟨S_, .i32⟩
  | 58 => ⟨S_, .f32⟩
  | 59 => ⟨S256x4x128, .f32⟩
  | 60 => ⟨S256x512, .f32⟩
  | 61 => ⟨S256x512, .bf16⟩
  | 62 => ⟨S128x4x128, .f32⟩
  | 63 => ⟨S128x4x64, .f32⟩
  | 64 => ⟨S_, .i32⟩
  | 65 => ⟨S_, .f32⟩
  | 66 => ⟨S128x4x128, .f32⟩
  | 67 => ⟨S128x512, .f32⟩
  | 68 => ⟨S128x512, .bf16⟩
  | 69 => ⟨S128x4x64, .f32⟩
  | 70 => ⟨S128x256, .f32⟩
  | 71 => ⟨S128x256, .bf16⟩
  | 72 => ⟨S1x256, .f32⟩
  | 73 => ⟨S1x128, .f32⟩
  | 74 => ⟨S1x64, .f32⟩
  | 75 => ⟨S4x64, .f32⟩
  | 76 => ⟨S256, .f32⟩
  | 77 => ⟨S1x256, .f32⟩
  | 78 => ⟨S1x64, .f32⟩
  | 79 => ⟨S2x64, .f32⟩
  | 80 => ⟨S128, .f32⟩
  | 81 => ⟨S1x128, .f32⟩
  | 82 => ⟨S8x3x1024, .f32⟩
  | 83 => ⟨S4096, .i32⟩
  | 84 => ⟨S_, .i32⟩
  | 85 => ⟨S_, .i32⟩
  | 86 => ⟨S4096, .i32⟩
  | 87 => ⟨S4096, .i32⟩
  | 88 => ⟨S4096, .i32⟩
  | 89 => ⟨S_, .i32⟩
  | 90 => ⟨S4096, .i32⟩
  | 91 => ⟨S4096, .i1⟩
  | 92 => ⟨S4096, .i32⟩
  | 93 => ⟨S4096, .i32⟩
  | 94 => ⟨S_, .i32⟩
  | 95 => ⟨S4096, .i32⟩
  | 96 => ⟨S4096, .i1⟩
  | 97 => ⟨S4096, .i1⟩
  | 98 => ⟨S_, .i32⟩
  | 99 => ⟨S4096, .i32⟩
  | 100 => ⟨S4096, .i32⟩
  | 101 => ⟨S4096, .i32⟩
  | 102 => ⟨S4096, .f32⟩
  | 103 => ⟨S4096x1, .f32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i1⟩
  | 115 => ⟨S_, .i32⟩
  | 116 => ⟨S4096, .i32⟩
  | 117 => ⟨S4096, .i1⟩
  | 118 => ⟨S_, .i32⟩
  | 119 => ⟨S_, .i1⟩
  | 120 => ⟨S4096, .i1⟩
  | 121 => ⟨S4096, .i1⟩
  | 122 => ⟨S4096, .i1⟩
  | 123 => ⟨S4096, .i32⟩
  | 124 => ⟨S4096, .i32⟩
  | 125 => ⟨S4096, .i32⟩
  | 126 => ⟨S4096, .f32⟩
  | 127 => ⟨S4096x1, .f32⟩
  | _ => ⟨S8x4096x1024, .f32⟩

abbrev hbmTy0_1 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S4096x128, .f32⟩
  | 5 => ⟨S4096x128, .f32⟩
  | 6 => ⟨S4096x128, .f32⟩
  | 7 => ⟨S4096x128, .f32⟩
  | 8 => ⟨S4096x128, .f32⟩
  | 9 => ⟨S4096x128, .f32⟩
  | 10 => ⟨S4096x128, .f32⟩
  | 11 => ⟨S4096x128, .f32⟩
  | 12 => ⟨S4096x128, .f32⟩
  | 13 => ⟨S4096x128, .f32⟩
  | 14 => ⟨S4096x128, .f32⟩
  | 15 => ⟨S4096x128, .f32⟩
  | 16 => ⟨S4096x128, .f32⟩
  | 17 => ⟨S4096x128, .f32⟩
  | 18 => ⟨S4096x128, .f32⟩
  | 19 => ⟨S4096x128, .f32⟩
  | 20 => ⟨S4096x128, .f32⟩
  | 21 => ⟨S4096x128, .f32⟩
  | 22 => ⟨S4096x128, .f32⟩
  | 23 => ⟨S4096x128, .f32⟩
  | 24 => ⟨S4096x128, .f32⟩
  | 25 => ⟨S4096x128, .f32⟩
  | 26 => ⟨S4096x128, .f32⟩
  | 27 => ⟨S4096x128, .f32⟩
  | 28 => ⟨S4096x128, .f32⟩
  | 29 => ⟨S4096x128, .f32⟩
  | 30 => ⟨S4096x128, .f32⟩
  | 31 => ⟨S4096x128, .f32⟩
  | 32 => ⟨S4096x128, .f32⟩
  | 33 => ⟨S8x4096x256, .bf16⟩
  | 34 => ⟨S8x4096x256, .bf16⟩
  | 35 => ⟨S8x4096x256, .bf16⟩
  | 36 => ⟨S8x4096x512, .bf16⟩
  | 37 => ⟨S8x4096x512, .bf16⟩
  | 38 => ⟨S8x4096x256, .bf16⟩
  | 39 => ⟨S8x4096x256, .f32⟩
  | 40 => ⟨S8x4096x256, .bf16⟩
  | 41 => ⟨S8x4096x128, .bf16⟩
  | 42 => ⟨S8x4096x128, .bf16⟩
  | 43 => ⟨S8x256x4096, .bf16⟩
  | 44 => ⟨S8x256x4096, .bf16⟩
  | 45 => ⟨S8x128x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x2048, .bf16⟩
  | .local _ .vmem, ⟨5, _⟩ => ⟨S256x512, .bf16⟩
  | .local _ .vmem, ⟨6, _⟩ => ⟨S128x512, .bf16⟩
  | .local _ .vmem, ⟨7, _⟩ => ⟨S128x256, .bf16⟩
  | .local _ .vmem, ⟨8, _⟩ => ⟨S128x512, .bf16⟩
  | .local _ .vmem, ⟨9, _⟩ => ⟨S256x256, .bf16⟩
  | .local _ .vmem, ⟨10, _⟩ => ⟨S1x256, .f32⟩
  | .local _ .vmem, ⟨11, _⟩ => ⟨S1x128, .f32⟩
  | .local _ .vmem, ⟨12, _⟩ => ⟨S1x256, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1x1024x256, .bf16⟩
  | .local _ .vmem, ⟨27, _⟩ => ⟨S1x1024x256, .bf16⟩
  | .local _ .vmem, ⟨28, _⟩ => ⟨S1x1024x256, .bf16⟩
  | .local _ .vmem, ⟨29, _⟩ => ⟨S1x1024x256, .bf16⟩
  | .local _ .vmem, ⟨30, _⟩ => ⟨S1x1024x256, .bf16⟩
  | .local _ .vmem, ⟨31, _⟩ => ⟨S1x1024x256, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x1024x512, .bf16⟩
  | .local _ .vmem, ⟨36, _⟩ => ⟨S1x1024x256, .bf16⟩
  | .local _ .vmem, ⟨37, _⟩ => ⟨S1x1024x256, .bf16⟩
  | .local _ .vmem, ⟨38, _⟩ => ⟨S1x1024x256, .f32⟩
  | .local _ .vmem, ⟨39, _⟩ => ⟨S1x1024x256, .f32⟩
  | .local _ .vmem, ⟨40, _⟩ => ⟨S1x1024x256, .bf16⟩
  | .local _ .vmem, ⟨41, _⟩ => ⟨S1x1024x256, .bf16⟩
  | .local _ .vmem, ⟨42, _⟩ => ⟨S1x1024x128, .bf16⟩
  | .local _ .vmem, ⟨43, _⟩ => ⟨S1x1024x128, .bf16⟩
  | .local _ .vmem, ⟨44, _⟩ => ⟨S1x1024x128, .bf16⟩
  | .local _ .vmem, ⟨45, _⟩ => ⟨S1x1024x128, .bf16⟩
  | .local _ .vmem, ⟨46, _⟩ => ⟨S1x256x1024, .bf16⟩
  | .local _ .vmem, ⟨47, _⟩ => ⟨S1x256x1024, .bf16⟩
  | .local _ .vmem, ⟨48, _⟩ => ⟨S1x256x1024, .bf16⟩
  | .local _ .vmem, ⟨49, _⟩ => ⟨S1x256x1024, .bf16⟩
  | .local _ .vmem, ⟨50, _⟩ => ⟨S1x128x1024, .bf16⟩
  | .local _ .vmem, ⟨51, _⟩ => ⟨S1x128x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_v0 : Ref sig .tc := ⟨.hbm, 13, rfl⟩
abbrev main_cst_2 : Ref sig .tc := ⟨.hbm, 14, rfl⟩
abbrev main_v1 : Ref sig .tc := ⟨.hbm, 15, rfl⟩
abbrev main_cst_3 : Ref sig .tc := ⟨.hbm, 16, rfl⟩
abbrev main_v2 : Ref sig .tc := ⟨.hbm, 17, rfl⟩
abbrev main_cst_4 : Ref sig .tc := ⟨.hbm, 18, rfl⟩
abbrev main_v3 : Ref sig .tc := ⟨.hbm, 19, rfl⟩
abbrev main_cst_5 : Ref sig .tc := ⟨.hbm, 20, rfl⟩
abbrev main_v4 : Ref sig .tc := ⟨.hbm, 21, rfl⟩
abbrev main_cst_6 : Ref sig .tc := ⟨.hbm, 22, rfl⟩
abbrev main_v5 : Ref sig .tc := ⟨.hbm, 23, rfl⟩
abbrev main_cst_7 : Ref sig .tc := ⟨.hbm, 24, rfl⟩
abbrev main_v6 : Ref sig .tc := ⟨.hbm, 25, rfl⟩
abbrev main_cst_8 : Ref sig .tc := ⟨.hbm, 26, rfl⟩
abbrev main_v7 : Ref sig .tc := ⟨.hbm, 27, rfl⟩
abbrev main_cst_9 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_10 : Ref sig .tc := ⟨.hbm, 43, rfl⟩
abbrev main_v22 : Ref sig .tc := ⟨.hbm, 44, rfl⟩
abbrev main_v23 : Ref sig .tc := ⟨.hbm, 45, rfl⟩
abbrev main_c_11 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_12 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_13 : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_14 : Ref sig .tc := ⟨.hbm, 64, rfl⟩
abbrev main_call1_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_15 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_c : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_0 : Ref sig .tc := ⟨.hbm, 98, rfl⟩
abbrev main_call2_v12 : Ref sig .tc := ⟨.hbm, 99, rfl⟩
abbrev main_call2_v13 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_16 : Ref sig .tc := ⟨.hbm, 104, rfl⟩
abbrev main_call3_v0 : Ref sig .tc := ⟨.hbm, 105, rfl⟩
abbrev main_call3_c : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_c_1 : Ref sig .tc := ⟨.hbm, 112, rfl⟩
abbrev main_call3_v5 : Ref sig .tc := ⟨.hbm, 113, rfl⟩
abbrev main_call3_v6 : Ref sig .tc := ⟨.hbm, 114, rfl⟩
abbrev main_call3_c_2 : Ref sig .tc := ⟨.hbm, 115, rfl⟩
abbrev main_call3_v7 : Ref sig .tc := ⟨.hbm, 116, rfl⟩
abbrev main_call3_v8 : Ref sig .tc := ⟨.hbm, 117, rfl⟩
abbrev main_call3_c_3 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95_0 : Ref sig .tc := ⟨.hbm, 161, rfl⟩
abbrev main_v95_1 : Ref sig .tc := ⟨.hbm, 162, rfl⟩
abbrev main_v95_2 : Ref sig .tc := ⟨.hbm, 163, rfl⟩
abbrev main_v95_3 : Ref sig .tc := ⟨.hbm, 164, rfl⟩
abbrev main_v95_4 : Ref sig .tc := ⟨.hbm, 165, rfl⟩
abbrev main_v95_5 : Ref sig .tc := ⟨.hbm, 166, rfl⟩
abbrev main_v95_6 : Ref sig .tc := ⟨.hbm, 167, rfl⟩
abbrev main_v95_7 : Ref sig .tc := ⟨.hbm, 168, rfl⟩
abbrev main_v95_8 : Ref sig .tc := ⟨.hbm, 169, rfl⟩
abbrev main_v95_9 : Ref sig .tc := ⟨.hbm, 170, rfl⟩
abbrev main_v95_10 : Ref sig .tc := ⟨.hbm, 171, rfl⟩
abbrev main_v95_11 : Ref sig .tc := ⟨.hbm, 172, rfl⟩
abbrev main_v95_12 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_stg27_0 : Ref sig .tc := ⟨.vmem, 44, rfl⟩
abbrev cc0_stg27_1 : Ref sig .tc := ⟨.vmem, 45, rfl⟩
abbrev cc0_stg28_0 : Ref sig .tc := ⟨.vmem, 46, rfl⟩
abbrev cc0_stg28_1 : Ref sig .tc := ⟨.vmem, 47, rfl⟩
abbrev cc0_stg29_0 : Ref sig .tc := ⟨.vmem, 48, rfl⟩
abbrev cc0_stg29_1 : Ref sig .tc := ⟨.vmem, 49, rfl⟩
abbrev cc0_stg30_0 : Ref sig .tc := ⟨.vmem, 50, rfl⟩
abbrev cc0_stg30_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43
abbrev cc0_sem27_0 : DmaSem sig := 44
abbrev cc0_sem27_1 : DmaSem sig := 45
abbrev cc0_sem28_0 : DmaSem sig := 46
abbrev cc0_sem28_1 : DmaSem sig := 47
abbrev cc0_sem29_0 : DmaSem sig := 48
abbrev cc0_sem29_1 : DmaSem sig := 49
abbrev cc0_sem30_0 : DmaSem sig := 50
abbrev cc0_sem30_1 : DmaSem sig := 51

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1024x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1024x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1024x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1024x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x256x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x256x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x128x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]
-- ==== Reference5Ideal.lean ====
abbrev S8x4096x1024 : Shape := ⟨3, ![8, 4096, 1024]⟩
abbrev S8x3072 : Shape := ⟨2, ![8, 3072]⟩
abbrev S1024x7072 : Shape := ⟨2, ![1024, 7072]⟩
abbrev S256 : Shape := ⟨1, ![256]⟩
abbrev S256x384 : Shape := ⟨2, ![256, 384]⟩
abbrev S128 : Shape := ⟨1, ![128]⟩
abbrev S128x512 : Shape := ⟨2, ![128, 512]⟩
abbrev S64 : Shape := ⟨1, ![64]⟩
abbrev S8x1x3072 : Shape := ⟨3, ![8, 1, 3072]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x7072 : Shape := ⟨3, ![8, 4096, 7072]⟩
abbrev S8x4096x256 : Shape := ⟨3, ![8, 4096, 256]⟩
abbrev S8x4096x128 : Shape := ⟨3, ![8, 4096, 128]⟩
abbrev S1x1x128 : Shape := ⟨3, ![1, 1, 128]⟩
abbrev S8x4096x512 : Shape := ⟨3, ![8, 4096, 512]⟩
abbrev S8x4096x4x128 : Shape := ⟨4, ![8, 4096, 4, 128]⟩
abbrev S8x4096x4x64 : Shape := ⟨4, ![8, 4096, 4, 64]⟩
abbrev S8x256x4096 : Shape := ⟨3, ![8, 256, 4096]⟩
abbrev S8x128x4096 : Shape := ⟨3, ![8, 128, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024x7072, .f32⟩
  | .hbm, ⟨3, _⟩ => ⟨S256, .f32⟩
  | .hbm, ⟨4, _⟩ => ⟨S256x384, .f32⟩
  | .hbm, ⟨5, _⟩ => ⟨S128, .f32⟩
  | .hbm, ⟨6, _⟩ => ⟨S128x512, .f32⟩
  | .hbm, ⟨7, _⟩ => ⟨S64, .f32⟩
  | .hbm, ⟨8, _⟩ => ⟨S64, .f32⟩
  | .hbm, ⟨9, _⟩ => ⟨S8x1x3072, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x7072, .f32⟩
  | .hbm, ⟨44, _⟩ => ⟨S8x4096x256, .f32⟩
  | .hbm, ⟨45, _⟩ => ⟨S8x4096x256, .f32⟩
  | .hbm, ⟨46, _⟩ => ⟨S8x4096x128, .f32⟩
  | .hbm, ⟨47, _⟩ => ⟨S8x4096x256, .f32⟩
  | .hbm, ⟨48, _⟩ => ⟨S8x4096x128, .f32⟩
  | .hbm, ⟨49, _⟩ => ⟨S8x4096x128, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x128, .f32⟩
  | .hbm, ⟨61, _⟩ => ⟨S8x4096x128, .f32⟩
  | .hbm, ⟨62, _⟩ => ⟨S1x1x128, .f32⟩
  | .hbm, ⟨63, _⟩ => ⟨S8x4096x128, .f32⟩
  | .hbm, ⟨64, _⟩ => ⟨S8x4096x128, .f32⟩
  | .hbm, ⟨65, _⟩ => ⟨S8x4096x512, .f32⟩
  | .hbm, ⟨66, _⟩ => ⟨S8x4096x4x128, .f32⟩
  | .hbm, ⟨67, _⟩ => ⟨S8x4096x4x64, .f32⟩
  | .hbm, ⟨68, _⟩ => ⟨S8x4096x256, .f32⟩
  | .hbm, ⟨69, _⟩ => ⟨S8x4096x256, .bf16⟩
  | .hbm, ⟨70, _⟩ => ⟨S8x4096x256, .bf16⟩
  | .hbm, ⟨71, _⟩ => ⟨S8x4096x256, .bf16⟩
  | .hbm, ⟨72, _⟩ => ⟨S8x4096x128, .bf16⟩
  | .hbm, ⟨73, _⟩ => ⟨S8x256x4096, .f32⟩
  | .hbm, ⟨74, _⟩ => ⟨S8x256x4096, .bf16⟩
  | .hbm, ⟨75, _⟩ => ⟨S8x256x4096, .f32⟩
  | .hbm, ⟨76, _⟩ => ⟨S8x256x4096, .bf16⟩
  | .hbm, ⟨77, _⟩ => ⟨S8x128x4096, .f32⟩
  | .hbm, ⟨78, _⟩ => ⟨S8x128x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Proof.Softmax.lean ====
/-
  The mathematics of a softmax taken piece by piece, over the extended reals: scores are real numbers, the values they
  weigh are arbitrary extended reals. A running pair (maximum so far, sum so far weighed against that maximum) is
  carried from one run of scores to the next; at the end the sum is divided by the sum of the weights.
-/
module

public import Idealize.ShloMosaic.PureOps.Ideal.Laws
public import Idealize.ShloMosaic.Lib.IdealHost

@[expose] public section

noncomputable section

namespace Cert.Softmax

open Idealize.ShloMosaic Finset

/-- The values `v`, each weighed by two to the power of its score above `m`, summed over the first `n`. -/
def wsum (s : ℕ → ℝ) (v : ℕ → EReal) (m : ℝ) (n : ℕ) : EReal :=
  ∑ j ∈ range n, v j * (((2 : ℝ) ^ (s j - m) : ℝ) : EReal)

/-- The softmax of the first `n` scores (base two), applied to the values `v`. -/
def attend (s : ℕ → ℝ) (v : ℕ → EReal) (n : ℕ) : EReal :=
  ∑ j ∈ range n, v j * (((2 : ℝ) ^ (s j) / ∑ i ∈ range n, (2 : ℝ) ^ (s i) : ℝ) : EReal)

/-- A nonnegative real factor moves into a sum of extended reals. -/
theorem sum_mul_coe {ι : Type} (t : Finset ι) (f : ι → EReal) (c : ℝ) (hc : 0 ≤ c) :
    (∑ j ∈ t, f j) * (c : EReal) = ∑ j ∈ t, f j * (c : EReal) := by
  classical
  induction t using Finset.induction_on with
  | empty => simp
  | insert a t ha ih =>
    rw [sum_insert ha, sum_insert ha, ← ih]
    exact EReal.right_distrib_of_nonneg_of_ne_top (EReal.coe_nonneg.mpr hc) (EReal.coe_ne_top c) _ _

/-- Changing the level the weights are taken against is one factor. -/
theorem wsum_rescale (s : ℕ → ℝ) (v : ℕ → EReal) (m m' : ℝ) (n : ℕ) :
    (((2 : ℝ) ^ (m - m') : ℝ) : EReal) * wsum s v m n = wsum s v m' n := by
  unfold wsum
  rw [mul_comm, sum_mul_coe _ _ _ (Real.rpow_nonneg (by norm_num) _)]
  refine sum_congr rfl fun j _ => ?_
  rw [mul_assoc, ← EReal.coe_mul, ← Real.rpow_add (by norm_num)]
  congr 3; ring

/-- The running pair of an online softmax after `n` scores: a real level `m`, and for each row of values the sum
    weighed against it. -/
def Running {R : Type} (s : ℕ → ℝ) (v : R → ℕ → EReal) (n : ℕ) (M : EReal) (A : R → EReal) : Prop :=
  ∃ m : ℝ, M = (m : EReal) ∧ ∀ r, A r = wsum s (v r) m n

/-- Before any score: any real level, zero sums. -/
theorem Running.zero {R : Type} (s : ℕ → ℝ) (v : R → ℕ → EReal) (m : ℝ) (M : EReal) (A : R → EReal)
    (hM : M = (m : EReal)) (hA : ∀ r, A r = 0) : Running s v 0 M A :=
  ⟨m, hM, fun r => by rw [hA r]; simp [wsum]⟩

/-- The greatest of finitely many reals and minus infinity is not plus infinity. -/
theorem fold_max_ne_top {ι : Type} (t : Finset ι) (f : ι → EReal) (b : EReal) (hb : b ≠ ⊤) (hf : ∀ i, f i ≠ ⊤) :
    t.fold max b f ≠ ⊤ := by
  classical
  induction t using Finset.induction_on with
  | empty => simpa using hb
  | insert a t ha ih =>
    rw [fold_insert ha]
    intro h
    rcases max_choice (f a) (t.fold max b f) with h' | h'
    · exact hf a (h'.symm.trans h)
    · exact ih (h'.symm.trans h)

/-- A real joined with something below plus infinity is real. -/
theorem max_coe_real (m : ℝ) (x : EReal) (hx : x ≠ ⊤) : ∃ m' : ℝ, max (m : EReal) x = (m' : EReal) := by
  induction x with
  | bot => exact ⟨m, by simp⟩
  | top => exact absurd rfl hx
  | coe x => exact ⟨max m x, (EReal.coe_strictMono.monotone.map_max).symm⟩

/-- One run of `K` further scores. -/
theorem Running.step {R : Type} {s : ℕ → ℝ} {v : R → ℕ → EReal} {n : ℕ} {M : EReal} {A : R → EReal}
    (h : Running s v n M A) {K : ℕ} {S : Fin K → EReal} {V : R → Fin K → EReal} {M' : EReal} {A' : R → EReal} {b : EReal} (hb : b = ⊥)
    (hS : ∀ k, S k = ((s (n + k.val) : ℝ) : EReal)) (hV : ∀ r k, V r k = v r (n + k.val))
    (hM : M' = max M ((univ : Finset (Fin K)).fold max b S))
    (hA : ∀ r, A' r = Ideal.exp2 (M - M') * A r + ∑ k, V r k * Ideal.exp2 (S k - M')) :
    Running s v (n + K) M' A' := by
  obtain ⟨m, rfl, hA0⟩ := h
  obtain ⟨m', hm'⟩ := max_coe_real m ((univ : Finset (Fin K)).fold max b S)
    (fold_max_ne_top _ _ _ (by rw [hb]; exact bot_ne_top) fun k => by rw [hS]; exact EReal.coe_ne_top _)
  rw [hm'] at hM
  refine ⟨m', hM, fun r => ?_⟩
  rw [hA r, hA0 r, hM, ← EReal.coe_sub, Ideal.exp2_coe]
  rw [show Real.rpow 2 (m - m') = (2 : ℝ) ^ (m - m') from rfl, wsum_rescale]
  unfold wsum
  rw [sum_range_add, sum_range (fun x => v r (n + x) * _)]
  refine congrArg _ (sum_congr rfl fun k _ => ?_)
  rw [hV, hS, ← EReal.coe_sub, Ideal.exp2_coe]
  rfl

/-- A sum of real coercions is the coercion of the sum. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [sum_insert ha, sum_insert ha, EReal.coe_add, ih]

/-- The end of an online softmax: a row's sum times the reciprocal of the row of ones' is the softmax's. -/
theorem Running.finish {R : Type} {s : ℕ → ℝ} {v : R → ℕ → EReal} {n : ℕ} {M : EReal} {A : R → EReal}
    (h : Running s v n M A) (hn : 0 < n) (one : R) (hone : ∀ j, v one j = 1) (r : R) :
    A r * Ideal.div 1 (A one) = attend s (v r) n := by
  obtain ⟨m, -, hA⟩ := h
  have hpos : 0 < ∑ i ∈ range n, (2 : ℝ) ^ (s i - m) :=
    sum_pos (fun i _ => Real.rpow_pos_of_pos (by norm_num) _) ⟨0, mem_range.mpr hn⟩
  have h1 : A one = ((∑ i ∈ range n, (2 : ℝ) ^ (s i - m) : ℝ) : EReal) := by
    rw [hA one, wsum, coe_sum]
    exact sum_congr rfl fun j _ => by rw [hone, one_mul]
  have h2 : Ideal.div 1 (A one) = (((∑ i ∈ range n, (2 : ℝ) ^ (s i - m))⁻¹ : ℝ) : EReal) := by
    rw [h1, Ideal.div, if_neg (by exact_mod_cast hpos.ne'), one_mul, EReal.coe_inv]
  rw [h2, hA r, wsum, sum_mul_coe _ _ _ (inv_nonneg.mpr hpos.le), attend]
  refine sum_congr rfl fun j _ => ?_
  rw [mul_assoc, ← EReal.coe_mul]
  congr 2
  have e : ∀ i, (2 : ℝ) ^ (s i - m) = (2 : ℝ) ^ (s i) * ((2 : ℝ) ^ m)⁻¹ := fun i => by
    rw [Real.rpow_sub (by norm_num), div_eq_mul_inv]
  have hm : ((2 : ℝ) ^ m) ≠ 0 := (Real.rpow_pos_of_pos (by norm_num) _).ne'
  simp only [e]
  rw [← sum_mul, mul_inv, inv_inv, div_eq_mul_inv]
  field_simp

/-- A weight of the plain softmax (base `e`, taken against any real level `m`) of real scores. -/
theorem weight_eq {ι : Type} (t : Finset ι) (σ : ι → ℝ) (m : ℝ) (j : ι) (hj : j ∈ t) :
    Ideal.div (Ideal.exp ((σ j : EReal) - (m : EReal))) (0 + ∑ i ∈ t, Ideal.exp ((σ i : EReal) - (m : EReal)))
      = ((Real.exp (σ j) / ∑ i ∈ t, Real.exp (σ i) : ℝ) : EReal) := by
  have h1 : ∀ i, Ideal.exp ((σ i : EReal) - (m : EReal)) = ((Real.exp (σ i) * (Real.exp m)⁻¹ : ℝ) : EReal) := fun i => by
    rw [← EReal.coe_sub, Ideal.exp_coe, Real.exp_sub, div_eq_mul_inv]
  have hpos : 0 < ∑ i ∈ t, Real.exp (σ i) := sum_pos (fun i _ => Real.exp_pos _) ⟨j, hj⟩
  simp only [h1]
  rw [← coe_sum, zero_add, ← sum_mul, Ideal.div, if_neg, ← EReal.coe_inv, ← EReal.coe_mul]
  · congr 1
    have := Real.exp_pos m
    field_simp
  · have := mul_pos hpos (inv_pos.mpr (Real.exp_pos m))
    exact_mod_cast this.ne'

/-- The plain softmax of `c + l` scores whose first `c` stand last in the online order is `attend`: position `j` of the
    plain order is position `place c l j` of the online one. -/
def place (c l j : ℕ) : ℕ := if j < c then l + j else j - c

theorem sum_place {M : Type} [AddCommMonoid M] (c l : ℕ) (g : ℕ → M) :
    ∑ j : Fin (c + l), g (place c l j.val) = ∑ i ∈ range (l + c), g i := by
  refine sum_bij' (fun j _ => place c l j.val) (fun i hi => ⟨if i < l then c + i else i - l, ?_⟩) ?_ ?_ ?_ ?_ ?_
  · have := mem_range.mp hi; split <;> omega
  · intro j _; have := j.isLt; rw [mem_range]; unfold place; split <;> omega
  · intro i hi; exact mem_univ _
  · intro j _; apply Fin.ext; have := j.isLt; unfold place; dsimp only; split <;> split <;> omega
  · intro i hi; have := mem_range.mp hi; unfold place; dsimp only; split <;> split <;> omega
  · intro j _; rfl

theorem plain_eq_attend (c l : ℕ) (s : ℕ → ℝ) (v : ℕ → EReal) (σ : Fin (c + l) → ℝ) (w : Fin (c + l) → EReal) (m : ℝ)
    (hσ : ∀ j, σ j = s (place c l j.val) * Real.log 2) (hw : ∀ j, w j = v (place c l j.val)) :
    ∑ j, Ideal.div (Ideal.exp ((σ j : EReal) - (m : EReal))) (0 + ∑ i, Ideal.exp ((σ i : EReal) - (m : EReal))) * w j
      = attend s v (l + c) := by
  have e : ∀ j, Real.exp (σ j) = (2 : ℝ) ^ (s (place c l j.val)) := fun j => by
    rw [hσ, Real.rpow_def_of_pos (by norm_num), mul_comm]
  rw [attend, ← sum_place c l]
  refine sum_congr rfl fun j hj => ?_
  rw [weight_eq univ σ m j hj, hw, mul_comm]
  simp only [e]
  rw [sum_place c l fun i => (2 : ℝ) ^ (s i)]

end Cert.Softmax

end
-- ==== Proof.AttnStep.lean ====
/-
  One step of the attention kernels read at an index: the vector operations a chunk of keys goes through, for a chunk of
  any length, and the running pair of `Softmax` they carry on.
-/
module

public import proofs.«01_k».proof.Proof.Softmax
public import Idealize.ShloMosaic.Lib.MatmulPlain
public import Idealize.ShloMosaic.Lib.ValueLayout
public import Idealize.ShloMosaic.Lib.Pipeline.ValueKit

@[expose] public section

set_option maxRecDepth 16384

noncomputable section

namespace Cert.AttnStep

open Idealize.ShloMosaic hiding ix0 ix1 ix2 ix3 ix4 ix5
open Idealize.ShloMosaic.ValueIdx Finset Cert.Softmax

/-- The kernels' minus infinity. -/
theorem negInf : Ideal.ofBits .f32 0xFF800000#32 = ⊥ := by
  simp [Ideal.ofBits, Ideal.ieee]

/-- The row of new maxima at a query. -/
theorem newMax_apply {K : ℕ} (S : FVec Ideal ⟨2, ![K, 2048]⟩ .f32) (m : FVec Ideal ⟨2, ![1, 2048]⟩ .f32)
    (hr : (⟨2, ![K, 2048]⟩ : Shape).Reduces [0] ⟨1, ![2048]⟩) (hs : (⟨1, ![2048]⟩ : Shape).ShapeCasts ⟨2, ![1, 2048]⟩)
    (hφ : FKind.Formats .f32) (hacc : (0xFF800000#32 : BitVec 32) = FKind.maximumf.neutral .f32 hφ) (c : Fin 2048) :
    maximumf m (shapeCast ⟨2, ![1, 2048]⟩ (multiReduction .maximumf [0] ⟨1, ![2048]⟩ S 0xFF800000#32 hr hφ hacc) hs) (ix2 0 c)
      = max (m (ix2 0 c)) ((univ : Finset (Fin K)).fold max (Ideal.ofBits .f32 0xFF800000#32) fun k => S (ix2 k c)) := by
  rw [maximumf_apply, shapeCast_a_1a_apply, Ideal.multiReduction_maximumf_single]
  congr 2
  funext k
  refine congrArg S (funext fun a => Fin.ext ?_)
  match a with
  | ⟨0, _⟩ => rfl
  | ⟨1, _⟩ => rfl

/-- The new sums at a row of values and a query. -/
theorem newSum_apply {K : ℕ} (S : FVec Ideal ⟨2, ![K, 2048]⟩ .f32) (m m' : FVec Ideal ⟨2, ![1, 2048]⟩ .f32)
    (a : FVec Ideal ⟨2, ![128, 2048]⟩ .f32) (V : FVec Ideal ⟨2, ![128, K]⟩ .bf16)
    (h1 : (⟨2, ![1, 2048]⟩ : Shape).Broadcasts ⟨2, ![128, 2048]⟩) (h2 : (⟨2, ![1, 2048]⟩ : Shape).Broadcasts ⟨2, ![K, 2048]⟩)
    (ht : FTy.bf16.bits < FTy.f32.bits) (r : Fin 128) (c : Fin 2048) :
    addf (mulf (broadcastTo ⟨2, ![128, 2048]⟩ (exp2 (subf m m')) h1) a)
        (matmul (DotDims.plain 128 K 2048) none V (truncf .bf16 (exp2 (subf S (broadcastTo ⟨2, ![K, 2048]⟩ m' h2))) ht)
          (constant ⟨2, ![128, 2048]⟩ .f32 0x00000000#32)) (ix2 r c)
      = Ideal.exp2 (m (ix2 0 c) - m' (ix2 0 c)) * a (ix2 r c)
        + ∑ k : Fin K, V (ix2 r k) * Ideal.exp2 (S (ix2 k c) - m' (ix2 0 c)) := by
  rw [addf_apply, mulf_apply, broadcastTo_1b_ab_apply]
  refine congr (congrArg _ rfl) ((Ideal.matmul_plain_apply none _ _ _ r c).trans ?_)
  rw [constant_apply, Ideal.ofBits_zero_f32, zero_add]
  refine sum_congr rfl fun k _ => ?_
  rw [truncf_apply]
  show _ * Ideal.exp2 (S (ix2 k c) - broadcastTo _ m' h2 (ix2 k c)) = _
  rw [broadcastTo_1b_ab_apply]

/-- One chunk of keys: the running pair goes from `n` scores to `n + K`. -/
theorem step {K : ℕ} {s : ℕ → ℝ} {v : Fin 128 → ℕ → EReal} {n : ℕ} {c : Fin 2048}
    {m m' : FVec Ideal ⟨2, ![1, 2048]⟩ .f32} {a a' : FVec Ideal ⟨2, ![128, 2048]⟩ .f32}
    (h : Running s v n (m (ix2 0 c)) fun r => a (ix2 r c))
    (S : FVec Ideal ⟨2, ![K, 2048]⟩ .f32) (V : FVec Ideal ⟨2, ![128, K]⟩ .bf16)
    (hr : (⟨2, ![K, 2048]⟩ : Shape).Reduces [0] ⟨1, ![2048]⟩) (hs : (⟨1, ![2048]⟩ : Shape).ShapeCasts ⟨2, ![1, 2048]⟩)
    (hφ : FKind.Formats .f32) (hacc : (0xFF800000#32 : BitVec 32) = FKind.maximumf.neutral .f32 hφ)
    (h1 : (⟨2, ![1, 2048]⟩ : Shape).Broadcasts ⟨2, ![128, 2048]⟩) (h2 : (⟨2, ![1, 2048]⟩ : Shape).Broadcasts ⟨2, ![K, 2048]⟩)
    (ht : FTy.bf16.bits < FTy.f32.bits)
    (hS : ∀ k : Fin K, S (ix2 k c) = ((s (n + k.val) : ℝ) : EReal))
    (hV : ∀ (r : Fin 128) (k : Fin K), V (ix2 r k) = v r (n + k.val))
    (hm : m' = maximumf m (shapeCast ⟨2, ![1, 2048]⟩ (multiReduction .maximumf [0] ⟨1, ![2048]⟩ S 0xFF800000#32 hr hφ hacc) hs))
    (ha : a' = addf (mulf (broadcastTo ⟨2, ![128, 2048]⟩ (exp2 (subf m m')) h1) a)
        (matmul (DotDims.plain 128 K 2048) none V (truncf .bf16 (exp2 (subf S (broadcastTo ⟨2, ![K, 2048]⟩ m' h2))) ht)
          (constant ⟨2, ![128, 2048]⟩ .f32 0x00000000#32))) :
    Running s v (n + K) (m' (ix2 0 c)) fun r => a' (ix2 r c) := by
  refine h.step negInf hS hV ?_ fun r => ?_
  · rw [hm]; exact newMax_apply S m hr hs hφ hacc c
  · rw [ha]; exact newSum_apply S m m' a V h1 h2 ht r c

/-- A chunk's score at a key and a query: the sum over the lanes. -/
theorem score_apply {K : ℕ} (k : FVec Ideal ⟨2, ![K, 128]⟩ .bf16) (q : FVec Ideal ⟨2, ![2048, 128]⟩ .bf16) (j : Fin K) (c : Fin 2048) :
    matmul (DotDims.transposedRhs K 128 2048) none k q (constant ⟨2, ![K, 2048]⟩ .f32 0x00000000#32) (ix2 j c)
      = ∑ l : Fin 128, k (ix2 j l) * q (ix2 c l) := by
  refine (Ideal.matmul_transposedRhs_apply none _ _ _ j c).trans ?_
  rw [constant_apply, Ideal.ofBits_zero_f32, zero_add]

/-- A chunk of values with its row `b` made of ones. -/
theorem ones_apply {K : ℕ} (b : ℕ) (hb : b < 128) (v : FVec Ideal ⟨2, ![128, K]⟩ .bf16) (hi : (⟨2, ![128, K]⟩ : Shape).Iotas .tc 32 [0])
    (r : Fin 128) (k : Fin K) :
    select (cmpi .eq (iota .tc ⟨2, ![128, K]⟩ 32 [0] hi) (broadcast ⟨2, ![128, K]⟩ (BitVec.ofNat 32 b)))
        (broadcast ⟨2, ![128, K]⟩ (Scalar.ofBits (F := Ideal) .bf16 0x3F80#16)) v (ix2 r k)
      = if r.val = b then 1 else v (ix2 r k) := by
  rw [select_apply]
  show Scalar.select (IntOp.cmpi .eq (iota .tc ⟨2, ![128, K]⟩ 32 [0] hi (ix2 r k)) (BitVec.ofNat 32 b)) _ _ = _
  rw [iota_single_apply]
  have hr := r.isLt
  have e : (BitVec.ofNat 32 ((ix2 r k) 0 : Fin 128).val = BitVec.ofNat 32 b) ↔ r.val = b := by
    rw [← BitVec.toNat_inj]; simp only [BitVec.toNat_ofNat]
    show r.val % 2 ^ 32 = b % 2 ^ 32 ↔ _
    omega
  by_cases h : r.val = b
  · rw [if_pos h]
    have : IntOp.cmpi .eq (BitVec.ofNat 32 ((ix2 r k) 0 : Fin 128).val) (BitVec.ofNat 32 b) = 1#1 := by
      rw [e.mpr h]; simp [IntOp.cmpi]
    erw [this]
    rw [select_one]
    exact Ideal.ofBits_one_bf16
  · rw [if_neg h]
    have : IntOp.cmpi .eq (BitVec.ofNat 32 ((ix2 r k) 0 : Fin 128).val) (BitVec.ofNat 32 b) = 0#1 := by
      show BitVec.ofBool (_ == _) = 0#1
      rw [beq_eq_false_iff_ne.mpr (mt e.mp h)]; rfl
    erw [this]
    rw [select_zero]

/-- The scores of a chunk of keys taken out of a block: `K` keys from key `n0` on, 128 lanes from lane `off` on. -/
theorem score_ld {N W K : ℕ} (x : FVec Ideal ⟨3, ![1, N, W]⟩ .bf16) (n0 off : ℕ)
    (inb : ∀ a, ![0, n0, off] a + ![1, K, 128] a ≤ (⟨3, ![1, N, W]⟩ : Shape).size a) (q : FVec Ideal ⟨2, ![2048, 128]⟩ .bf16)
    (h : (⟨3, ![1, K, 128]⟩ : Shape).ShapeCasts ⟨2, ![K, 128]⟩) (j : Fin K) (c : Fin 2048)
    (hj : n0 + j.val < N) (ho : ∀ l : Fin 128, off + l.val < W) :
    matmul (DotDims.transposedRhs K 128 2048) none
        (shapeCast ⟨2, ![K, 128]⟩ (View.ld (Val := Elt Ideal) (e' := .bf16) x (Rect.unit (s := ⟨3, ![1, N, W]⟩) ![0, n0, off] ![1, K, 128] inb)) h : FVec Ideal ⟨2, ![K, 128]⟩ .bf16)
        q (constant ⟨2, ![K, 2048]⟩ .f32 0x00000000#32) (ix2 j c)
      = ∑ l : Fin 128, x (ix3 0 ⟨n0 + j.val, hj⟩ ⟨off + l.val, ho l⟩) * q (ix2 c l) := by
  rw [score_apply]
  refine sum_congr rfl fun l _ => congrArg (· * q (ix2 c l)) ?_
  refine (shapeCast_1ab_ab_apply (a := K) (b := 128) _ h j l).trans ?_
  rw [View.ld_unit]
  refine extractStridedSlice_apply _ _ _ _ _ fun a => ?_
  match a with
  | ⟨0, _⟩ => rfl
  | ⟨1, _⟩ => rfl
  | ⟨2, _⟩ => rfl

/-- A chunk of values taken out of a block, `K` keys from key `n0` on. -/
theorem vals_ld {N K : ℕ} (x : FVec Ideal ⟨3, ![1, 128, N]⟩ .bf16) (n0 : ℕ)
    (inb : ∀ a, ![0, 0, n0] a + ![1, 128, K] a ≤ (⟨3, ![1, 128, N]⟩ : Shape).size a)
    (h : (⟨3, ![1, 128, K]⟩ : Shape).ShapeCasts ⟨2, ![128, K]⟩) (r : Fin 128) (j : Fin K) (hj : n0 + j.val < N) :
    (shapeCast ⟨2, ![128, K]⟩ (View.ld (Val := Elt Ideal) (e' := .bf16) x (Rect.unit (s := ⟨3, ![1, 128, N]⟩) ![0, 0, n0] ![1, 128, K] inb)) h : FVec Ideal ⟨2, ![128, K]⟩ .bf16)
        (ix2 r j) = x (ix3 0 r ⟨n0 + j.val, hj⟩) := by
  refine (shapeCast_1ab_ab_apply (a := 128) (b := K) _ h r j).trans ?_
  rw [View.ld_unit]
  refine extractStridedSlice_apply _ _ _ _ _ fun a => ?_
  match a with
  | ⟨0, _⟩ => rfl
  | ⟨1, _⟩ => exact (Nat.zero_add _).symm
  | ⟨2, _⟩ => rfl

/-- One chunk of keys and values taken out of the blocks: the running pair goes on by its `K` scores. -/
theorem chunk {N W K : ℕ} {s : ℕ → ℝ} {v : Fin 128 → ℕ → EReal} {n : ℕ} {c : Fin 2048}
    {m m' : FVec Ideal ⟨2, ![1, 2048]⟩ .f32} {a a' : FVec Ideal ⟨2, ![128, 2048]⟩ .f32}
    (h : Running s v n (m (ix2 0 c)) fun r => a (ix2 r c))
    (base n0 off b : ℕ) (hn : base + n0 = n) (hb : b < 128) (hN : n0 + K ≤ N) (hW : off + 128 ≤ W)
    (x : FVec Ideal ⟨3, ![1, N, W]⟩ .bf16) (y : FVec Ideal ⟨3, ![1, 128, N]⟩ .bf16) (q : FVec Ideal ⟨2, ![2048, 128]⟩ .bf16)
    (hs : ∀ (j : ℕ) (hj : j < N), ∑ l : Fin 128, x (ix3 0 ⟨j, hj⟩ ⟨off + l.val, by have := l.isLt; omega⟩) * q (ix2 c l) = ((s (base + j) : ℝ) : EReal))
    (hv : ∀ (r : Fin 128) (j : ℕ) (hj : j < N), (if r.val = b then 1 else y (ix3 0 r ⟨j, hj⟩)) = v r (base + j))
    (S : FVec Ideal ⟨2, ![K, 2048]⟩ .f32)
    {inb : ∀ a, ![0, n0, off] a + ![1, K, 128] a ≤ (⟨3, ![1, N, W]⟩ : Shape).size a}
    {hc : (⟨3, ![1, K, 128]⟩ : Shape).ShapeCasts ⟨2, ![K, 128]⟩}
    {inb' : ∀ a, ![0, 0, n0] a + ![1, 128, K] a ≤ (⟨3, ![1, 128, N]⟩ : Shape).size a}
    {hc' : (⟨3, ![1, 128, K]⟩ : Shape).ShapeCasts ⟨2, ![128, K]⟩} {hi : (⟨2, ![128, K]⟩ : Shape).Iotas .tc 32 [0]}
    {hr : (⟨2, ![K, 2048]⟩ : Shape).Reduces [0] ⟨1, ![2048]⟩} {hcs : (⟨1, ![2048]⟩ : Shape).ShapeCasts ⟨2, ![1, 2048]⟩}
    {hφ : FKind.Formats .f32} {hacc : (0xFF800000#32 : BitVec 32) = FKind.maximumf.neutral .f32 hφ}
    {h1 : (⟨2, ![1, 2048]⟩ : Shape).Broadcasts ⟨2, ![128, 2048]⟩} {h2 : (⟨2, ![1, 2048]⟩ : Shape).Broadcasts ⟨2, ![K, 2048]⟩}
    {ht : FTy.bf16.bits < FTy.f32.bits}
    (hS : S = matmul (DotDims.transposedRhs K 128 2048) none
        (shapeCast ⟨2, ![K, 128]⟩ (View.ld (Val := Elt Ideal) (e' := .bf16) x (Rect.unit (s := ⟨3, ![1, N, W]⟩) ![0, n0, off] ![1, K, 128] inb)) hc : FVec Ideal ⟨2, ![K, 128]⟩ .bf16)
        q (constant ⟨2, ![K, 2048]⟩ .f32 0x00000000#32))
    (hm : m' = maximumf m (shapeCast ⟨2, ![1, 2048]⟩ (multiReduction .maximumf [0] ⟨1, ![2048]⟩ S 0xFF800000#32 hr hφ hacc) hcs))
    (ha : a' = addf (mulf (broadcastTo ⟨2, ![128, 2048]⟩ (exp2 (subf m m')) h1) a)
        (matmul (DotDims.plain 128 K 2048) none
          (select (cmpi .eq (iota .tc ⟨2, ![128, K]⟩ 32 [0] hi) (broadcast ⟨2, ![128, K]⟩ (BitVec.ofNat 32 b)))
            (broadcast ⟨2, ![128, K]⟩ (Scalar.ofBits (F := Ideal) .bf16 0x3F80#16))
            (shapeCast ⟨2, ![128, K]⟩ (View.ld (Val := Elt Ideal) (e' := .bf16) y (Rect.unit (s := ⟨3, ![1, 128, N]⟩) ![0, 0, n0] ![1, 128, K] inb')) hc' : FVec Ideal ⟨2, ![128, K]⟩ .bf16)
            : FVec Ideal ⟨2, ![128, K]⟩ .bf16)
          (truncf .bf16 (exp2 (subf S (broadcastTo ⟨2, ![K, 2048]⟩ m' h2))) ht)
          (constant ⟨2, ![128, 2048]⟩ .f32 0x00000000#32))) :
    Running s v (n + K) (m' (ix2 0 c)) fun r => a' (ix2 r c) := by
  subst hn
  refine step h S _ hr hcs hφ hacc h1 h2 ht (fun k => ?_) (fun r k => ?_) hm ha
  · have := k.isLt
    rw [hS, score_ld x n0 off inb q hc k c (by omega) (fun l => by have := l.isLt; omega), Nat.add_assoc]
    exact hs _ _
  · have := k.isLt
    rw [ones_apply b hb, vals_ld y n0 inb' hc' r k (by omega), Nat.add_assoc]
    exact hv _ _ _

/-- A float32 literal whose exponent field isn't all ones is a real number. -/
theorem literal_real (b : BitVec 32) (h : (b.extractLsb' 23 8).toNat ≠ 255) : ∃ m : ℝ, Ideal.ofBits .f32 b = (m : EReal) := by
  simp only [Ideal.ofBits, Ideal.ieee]
  rw [if_neg (by simpa using h)]
  split <;> exact ⟨_, rfl⟩

/-- The end of a head: its sums times the reciprocal of its row of ones. -/
theorem ratio_apply (a : FVec Ideal ⟨2, ![128, 2048]⟩ .f32) (b : ℕ) (hb : b < 128)
    (hs : (⟨2, ![128, 2048]⟩ : Shape).Slices ![b, 0] ⟨2, ![1, 2048]⟩)
    (h1 : (⟨2, ![1, 2048]⟩ : Shape).Broadcasts ⟨2, ![128, 2048]⟩) (r : Fin 128) (c : Fin 2048) :
    mulf a (broadcastTo ⟨2, ![128, 2048]⟩ (divf (broadcast ⟨2, ![1, 2048]⟩ (Scalar.ofBits (F := Ideal) .f32 0x3F800000#32))
        (extractStridedSlice ⟨2, ![1, 2048]⟩ ![b, 0] a hs)) h1) (ix2 r c)
      = a (ix2 r c) * Ideal.div 1 (a (ix2 ⟨b, hb⟩ c)) := by
  rw [mulf_apply, broadcastTo_1b_ab_apply, divf_apply]
  refine congrArg _ (congr (congrArg Ideal.div Ideal.ofBits_one_f32) ?_)
  refine extractStridedSlice_apply _ _ _ _ _ fun x => ?_
  match x with
  | ⟨0, _⟩ => rfl
  | ⟨1, _⟩ => exact (Nat.zero_add _).symm

/-- The block the kernels store: rows below 64 from the first head, the others from the second, transposed. -/
theorem store_apply (a a' : FVec Ideal ⟨2, ![128, 2048]⟩ .f32) (hi : (⟨2, ![128, 2048]⟩ : Shape).Iotas .tc 32 [0])
    (hp : (⟨2, ![128, 2048]⟩ : Shape).Transposes [1, 0] ⟨2, ![2048, 128]⟩) (ht : FTy.bf16.bits < FTy.f32.bits)
    (hc : (⟨2, ![2048, 128]⟩ : Shape).ShapeCasts ⟨3, ![1, 2048, 128]⟩) (z : Fin 1) (c : Fin 2048) (r : Fin 128) :
    (shapeCast ⟨3, ![1, 2048, 128]⟩ (truncf .bf16 (transpose ⟨2, ![2048, 128]⟩ [1, 0]
        (select (cmpi .slt (iota .tc ⟨2, ![128, 2048]⟩ 32 [0] hi) (broadcast ⟨2, ![128, 2048]⟩ 64#32)) a a') hp) ht
        : FVec Ideal ⟨2, ![2048, 128]⟩ .bf16) hc : FVec Ideal ⟨3, ![1, 2048, 128]⟩ .bf16) (ix3 z c r)
      = if r.val < 64 then a (ix2 r c) else a' (ix2 r c) := by
  refine (shapeCast_ab_1ab_apply _ hc z c r).trans ?_
  rw [truncf_apply, transpose_ix2_apply, select_apply]
  show Scalar.select (IntOp.cmpi .slt (iota .tc ⟨2, ![128, 2048]⟩ 32 [0] hi (ix2 r c)) 64#32) _ _ = _
  rw [iota_single_apply]
  have e : ∀ r : Fin 128, IntOp.cmpi .slt (BitVec.ofNat 32 r.val) 64#32 = if r.val < 64 then 1#1 else 0#1 := by decide
  erw [e r]
  split <;> rfl

end Cert.AttnStep

end
-- ==== Proof.BlockB.lean ====
/-
  The block the latent kernel stores, read at an index: for one query of the block, each of its two heads carries the
  running pair of `Softmax` over eight chunks of 512 latent keys and one of 256 context keys.
-/
module

public import proofs.«01_k».proof.Proof.AttnStep
public import proofs.«01_k».proof.Proof.Gen.KernelIdeal.Value

@[expose] public section

set_option maxRecDepth 16384

noncomputable section

namespace Cert.KernelIdeal.Block

open Cert.KernelIdeal Cert.KernelIdeal.Gen
open Idealize.ShloMosaic hiding ix0 ix1 ix2 ix3 ix4 ix5
open Idealize.ShloMosaic.ValueIdx Finset Cert.Softmax Cert.AttnStep

variable (x0 : FVec Ideal S1x2048x256 .bf16) (x1 : FVec Ideal S1x4096x256 .bf16) (x2 : FVec Ideal S1x128x4096 .bf16)
  (x3 : FVec Ideal S1x256x256 .bf16) (x4 : FVec Ideal S1x128x256 .bf16)

/-- Head 0: its sums after each chunk of latent keys. -/
def sum0_1 : FVec Ideal S128x2048 .f32 :=
  k0_pay14 (k0_pay78 (F := Ideal) x0 x1 x2 x3 x4) (k0_pay5 (F := Ideal)) (k0_pay80 (F := Ideal) x0 x1 x2 x3 x4) (View.ld x2 r0_7)
def sum0_2 : FVec Ideal S128x2048 .f32 :=
  k0_pay20 (k0_pay82 (F := Ideal) x0 x1 x2 x3 x4) (k0_pay85 (F := Ideal) x0 x1 x2 x3 x4) (sum0_1 x0 x1 x2 x3 x4) (View.ld x2 r0_10)
def sum0_3 : FVec Ideal S128x2048 .f32 :=
  k0_pay29 (k0_pay84 (F := Ideal) x0 x1 x2 x3 x4) (k0_pay89 (F := Ideal) x0 x1 x2 x3 x4) (sum0_2 x0 x1 x2 x3 x4) (View.ld x2 r0_13)
def sum0_4 : FVec Ideal S128x2048 .f32 :=
  k0_pay37 (k0_pay88 (F := Ideal) x0 x1 x2 x3 x4) (k0_pay93 (F := Ideal) x0 x1 x2 x3 x4) (sum0_3 x0 x1 x2 x3 x4) (View.ld x2 r0_16)
def sum0_5 : FVec Ideal S128x2048 .f32 :=
  k0_pay44 (k0_pay92 (F := Ideal) x0 x1 x2 x3 x4) (k0_pay98 (F := Ideal) x0 x1 x2 x3 x4) (sum0_4 x0 x1 x2 x3 x4) (View.ld x2 r0_19)
def sum0_6 : FVec Ideal S128x2048 .f32 :=
  k0_pay54 (k0_pay50 (View.ld x2 r0_22)) (k0_pay52 (k0_pay97 (F := Ideal) x0 x1 x2 x3 x4) (k0_pay102 (F := Ideal) x0 x1 x2 x3 x4) (sum0_5 x0 x1 x2 x3 x4)) (k0_pay53 (k0_pay97 (F := Ideal) x0 x1 x2 x3 x4) (k0_pay102 (F := Ideal) x0 x1 x2 x3 x4))
def sum0_7 : FVec Ideal S128x2048 .f32 :=
  k0_pay61 (k0_pay101 (F := Ideal) x0 x1 x2 x3 x4) (k0_pay106 (F := Ideal) x0 x1 x2 x3 x4) (sum0_6 x0 x1 x2 x3 x4) (k0_pay59 (View.ld x2 r0_25)) (k0_pay110 (F := Ideal) x0 x1 x2 x3 x4)
def sum0_8 : FVec Ideal S128x2048 .f32 :=
  k0_pay68 (k0_pay105 (F := Ideal) x0 x1 x2 x3 x4) (k0_pay110 (F := Ideal) x0 x1 x2 x3 x4) (sum0_7 x0 x1 x2 x3 x4) (k0_pay65 (View.ld x2 r0_27)) (k0_pay112 (F := Ideal) x0 x1 x2 x3 x4)

/-- Head 1: its sums after each chunk of latent keys. -/
def sum1_1 : FVec Ideal S128x2048 .f32 :=
  k0_pay17 (k0_pay79 (F := Ideal) x0 x1 x2 x3 x4) (k0_pay7 (F := Ideal)) (k0_pay81 (F := Ideal) x0 x1 x2 x3 x4) (View.ld x2 r0_7)
def sum1_2 : FVec Ideal S128x2048 .f32 :=
  k0_pay26 (sum1_1 x0 x1 x2 x3 x4) (k0_pay22 (View.ld x2 r0_10)) (k0_pay24 (k0_pay83 (F := Ideal) x0 x1 x2 x3 x4) (k0_pay87 (F := Ideal) x0 x1 x2 x3 x4)) (k0_pay25 (k0_pay83 (F := Ideal) x0 x1 x2 x3 x4) (k0_pay87 (F := Ideal) x0 x1 x2 x3 x4))
def sum1_3 : FVec Ideal S128x2048 .f32 :=
  k0_pay34 (k0_pay86 (F := Ideal) x0 x1 x2 x3 x4) (k0_pay91 (F := Ideal) x0 x1 x2 x3 x4) (sum1_2 x0 x1 x2 x3 x4) (k0_pay31 (View.ld x2 r0_13)) (k0_pay95 (F := Ideal) x0 x1 x2 x3 x4)
def sum1_4 : FVec Ideal S128x2048 .f32 :=
  k0_pay41 (k0_pay90 (F := Ideal) x0 x1 x2 x3 x4) (k0_pay96 (F := Ideal) x0 x1 x2 x3 x4) (sum1_3 x0 x1 x2 x3 x4) (k0_pay39 (View.ld x2 r0_16)) (iota .tc S128x512 32 [0] iota_S128x512_d0_w32)
def sum1_5 : FVec Ideal S128x2048 .f32 :=
  k0_pay48 (k0_pay94 (F := Ideal) x0 x1 x2 x3 x4) (k0_pay100 (F := Ideal) x0 x1 x2 x3 x4) (sum1_4 x0 x1 x2 x3 x4) (View.ld x2 r0_19)
def sum1_6 : FVec Ideal S128x2048 .f32 :=
  k0_pay57 (k0_pay99 (F := Ideal) x0 x1 x2 x3 x4) (k0_pay104 (F := Ideal) x0 x1 x2 x3 x4) (sum1_5 x0 x1 x2 x3 x4) (View.ld x2 r0_22)
def sum1_7 : FVec Ideal S128x2048 .f32 :=
  k0_pay64 (k0_pay103 (F := Ideal) x0 x1 x2 x3 x4) (k0_pay108 (F := Ideal) x0 x1 x2 x3 x4) (sum1_6 x0 x1 x2 x3 x4) (View.ld x2 r0_25)
def sum1_8 : FVec Ideal S128x2048 .f32 :=
  k0_pay70 (k0_pay107 (F := Ideal) x0 x1 x2 x3 x4) (k0_pay111 (F := Ideal) x0 x1 x2 x3 x4) (sum1_7 x0 x1 x2 x3 x4) (View.ld x2 r0_27)

/-- Head 0 of one query: what its scores and its values (with the row of ones) are, the running pair of the latent keys. -/
theorem lat0 {s : ℕ → ℝ} {v : Fin 128 → ℕ → EReal} {c : Fin 2048}
    (hs : ∀ (j : ℕ) (hj : j < 4096), ∑ l : Fin 128, x1 (ix3 0 ⟨j, hj⟩ ⟨0 + l.val, by have := l.isLt; omega⟩) * (k0_pay76 (F := Ideal) x0 x1 x2 x3 x4) (ix2 c l) = ((s (0 + j) : ℝ) : EReal))
    (hv : ∀ (r : Fin 128) (j : ℕ) (hj : j < 4096), (if r.val = 64 then 1 else x2 (ix3 0 r ⟨j, hj⟩)) = v r (0 + j)) :
    Running s v 4096 ((k0_pay67 (k0_pay110 (F := Ideal) x0 x1 x2 x3 x4) (k0_pay112 (F := Ideal) x0 x1 x2 x3 x4) : FVec Ideal S1x2048 .f32) (ix2 0 c)) fun r => sum0_8 x0 x1 x2 x3 x4 (ix2 r c) := by
  obtain ⟨m, hm⟩ := literal_real 0xF149F2CA#32 (by decide)
  have h0 : Running s v 0 ((k0_pay78 (F := Ideal) x0 x1 x2 x3 x4) (ix2 0 c)) fun r => (k0_pay5 (F := Ideal)) (ix2 r c) :=
    Running.zero s v m (k0_pay78 (F := Ideal) x0 x1 x2 x3 x4 (ix2 0 c)) (fun r => k0_pay5 (F := Ideal) (ix2 r c)) hm fun r => Ideal.ofBits_zero_f32
  have h1 := chunk (K := 512) (h1 := broadcasts_S1x2048_S128x2048) (h2 := broadcasts_S1x2048_S512x2048) (m' := (k0_pay85 (F := Ideal) x0 x1 x2 x3 x4)) (a' := sum0_1 x0 x1 x2 x3 x4) h0 0 0 0 64 rfl (by decide) (by decide) (by decide) x1 x2 (k0_pay76 (F := Ideal) x0 x1 x2 x3 x4) hs hv (k0_pay80 (F := Ideal) x0 x1 x2 x3 x4) rfl rfl rfl
  have h2 := chunk (K := 512) (h1 := broadcasts_S1x2048_S128x2048) (h2 := broadcasts_S1x2048_S512x2048) (m' := (k0_pay89 (F := Ideal) x0 x1 x2 x3 x4)) (a' := sum0_2 x0 x1 x2 x3 x4) h1 0 512 0 64 rfl (by decide) (by decide) (by decide) x1 x2 (k0_pay76 (F := Ideal) x0 x1 x2 x3 x4) hs hv (k0_pay82 (F := Ideal) x0 x1 x2 x3 x4) rfl rfl rfl
  have h3 := chunk (K := 512) (h1 := broadcasts_S1x2048_S128x2048) (h2 := broadcasts_S1x2048_S512x2048) (m' := (k0_pay93 (F := Ideal) x0 x1 x2 x3 x4)) (a' := sum0_3 x0 x1 x2 x3 x4) h2 0 1024 0 64 rfl (by decide) (by decide) (by decide) x1 x2 (k0_pay76 (F := Ideal) x0 x1 x2 x3 x4) hs hv (k0_pay84 (F := Ideal) x0 x1 x2 x3 x4) rfl rfl rfl
  have h4 := chunk (K := 512) (h1 := broadcasts_S1x2048_S128x2048) (h2 := broadcasts_S1x2048_S512x2048) (m' := (k0_pay98 (F := Ideal) x0 x1 x2 x3 x4)) (a' := sum0_4 x0 x1 x2 x3 x4) h3 0 1536 0 64 rfl (by decide) (by decide) (by decide) x1 x2 (k0_pay76 (F := Ideal) x0 x1 x2 x3 x4) hs hv (k0_pay88 (F := Ideal) x0 x1 x2 x3 x4) rfl rfl rfl
  have h5 := chunk (K := 512) (h1 := broadcasts_S1x2048_S128x2048) (h2 := broadcasts_S1x2048_S512x2048) (m' := (k0_pay102 (F := Ideal) x0 x1 x2 x3 x4)) (a' := sum0_5 x0 x1 x2 x3 x4) h4 0 2048 0 64 rfl (by decide) (by decide) (by decide) x1 x2 (k0_pay76 (F := Ideal) x0 x1 x2 x3 x4) hs hv (k0_pay92 (F := Ideal) x0 x1 x2 x3 x4) rfl rfl rfl
  have h6 := chunk (K := 512) (h1 := broadcasts_S1x2048_S128x2048) (h2 := broadcasts_S1x2048_S512x2048) (m' := (k0_pay106 (F := Ideal) x0 x1 x2 x3 x4)) (a' := sum0_6 x0 x1 x2 x3 x4) h5 0 2560 0 64 rfl (by decide) (by decide) (by decide) x1 x2 (k0_pay76 (F := Ideal) x0 x1 x2 x3 x4) hs hv (k0_pay97 (F := Ideal) x0 x1 x2 x3 x4) rfl rfl rfl
  have h7 := chunk (K := 512) (h1 := broadcasts_S1x2048_S128x2048) (h2 := broadcasts_S1x2048_S512x2048) (m' := (k0_pay110 (F := Ideal) x0 x1 x2 x3 x4)) (a' := sum0_7 x0 x1 x2 x3 x4) h6 0 3072 0 64 rfl (by decide) (by decide) (by decide) x1 x2 (k0_pay76 (F := Ideal) x0 x1 x2 x3 x4) hs hv (k0_pay101 (F := Ideal) x0 x1 x2 x3 x4) rfl rfl rfl
  have h8 := chunk (K := 512) (h1 := broadcasts_S1x2048_S128x2048) (h2 := broadcasts_S1x2048_S512x2048) (m' := k0_pay67 (k0_pay110 (F := Ideal) x0 x1 x2 x3 x4) (k0_pay112 (F := Ideal) x0 x1 x2 x3 x4)) (a' := sum0_8 x0 x1 x2 x3 x4) h7 0 3584 0 64 rfl (by decide) (by decide) (by decide) x1 x2 (k0_pay76 (F := Ideal) x0 x1 x2 x3 x4) hs hv (k0_pay105 (F := Ideal) x0 x1 x2 x3 x4) rfl (by unfold k0_pay67 k0_pay112 k0_pay66; rfl) (by unfold sum0_8 k0_pay68 k0_pay67 k0_pay65; rfl)
  exact h8

/-- Head 1 of one query: what its scores and its values (with the row of ones) are, the running pair of the latent keys. -/
theorem lat1 {s : ℕ → ℝ} {v : Fin 128 → ℕ → EReal} {c : Fin 2048}
    (hs : ∀ (j : ℕ) (hj : j < 4096), ∑ l : Fin 128, x1 (ix3 0 ⟨j, hj⟩ ⟨128 + l.val, by have := l.isLt; omega⟩) * (k0_pay77 (F := Ideal) x0 x1 x2 x3 x4) (ix2 c l) = ((s (0 + j) : ℝ) : EReal))
    (hv : ∀ (r : Fin 128) (j : ℕ) (hj : j < 4096), (if r.val = 0 then 1 else x2 (ix3 0 r ⟨j, hj⟩)) = v r (0 + j)) :
    Running s v 4096 ((k0_pay69 (k0_pay107 (F := Ideal) x0 x1 x2 x3 x4) (k0_pay111 (F := Ideal) x0 x1 x2 x3 x4) : FVec Ideal S1x2048 .f32) (ix2 0 c)) fun r => sum1_8 x0 x1 x2 x3 x4 (ix2 r c) := by
  obtain ⟨m, hm⟩ := literal_real 0xF149F2CA#32 (by decide)
  have h0 : Running s v 0 ((k0_pay79 (F := Ideal) x0 x1 x2 x3 x4) (ix2 0 c)) fun r => (k0_pay7 (F := Ideal)) (ix2 r c) :=
    Running.zero s v m (k0_pay79 (F := Ideal) x0 x1 x2 x3 x4 (ix2 0 c)) (fun r => k0_pay7 (F := Ideal) (ix2 r c)) hm fun r => Ideal.ofBits_zero_f32
  have h1 := chunk (K := 512) (h1 := broadcasts_S1x2048_S128x2048) (h2 := broadcasts_S1x2048_S512x2048) (m' := (k0_pay87 (F := Ideal) x0 x1 x2 x3 x4)) (a' := sum1_1 x0 x1 x2 x3 x4) h0 0 0 128 0 rfl (by decide) (by decide) (by decide) x1 x2 (k0_pay77 (F := Ideal) x0 x1 x2 x3 x4) hs hv (k0_pay81 (F := Ideal) x0 x1 x2 x3 x4) rfl rfl rfl
  have h2 := chunk (K := 512) (h1 := broadcasts_S1x2048_S128x2048) (h2 := broadcasts_S1x2048_S512x2048) (m' := (k0_pay91 (F := Ideal) x0 x1 x2 x3 x4)) (a' := sum1_2 x0 x1 x2 x3 x4) h1 0 512 128 0 rfl (by decide) (by decide) (by decide) x1 x2 (k0_pay77 (F := Ideal) x0 x1 x2 x3 x4) hs hv (k0_pay83 (F := Ideal) x0 x1 x2 x3 x4) rfl rfl (by unfold sum1_2 k0_pay26 k0_pay22 k0_pay24 k0_pay25 k0_pay91 k0_pay23; rfl)
  have h3 := chunk (K := 512) (h1 := broadcasts_S1x2048_S128x2048) (h2 := broadcasts_S1x2048_S512x2048) (m' := (k0_pay96 (F := Ideal) x0 x1 x2 x3 x4)) (a' := sum1_3 x0 x1 x2 x3 x4) h2 0 1024 128 0 rfl (by decide) (by decide) (by decide) x1 x2 (k0_pay77 (F := Ideal) x0 x1 x2 x3 x4) hs hv (k0_pay86 (F := Ideal) x0 x1 x2 x3 x4) rfl (by unfold k0_pay96 k0_pay33 k0_pay95 k0_pay32; rfl) (by unfold sum1_3 k0_pay34 k0_pay31 k0_pay96 k0_pay33; rfl)
  have h4 := chunk (K := 512) (h1 := broadcasts_S1x2048_S128x2048) (h2 := broadcasts_S1x2048_S512x2048) (m' := (k0_pay100 (F := Ideal) x0 x1 x2 x3 x4)) (a' := sum1_4 x0 x1 x2 x3 x4) h3 0 1536 128 0 rfl (by decide) (by decide) (by decide) x1 x2 (k0_pay77 (F := Ideal) x0 x1 x2 x3 x4) hs hv (k0_pay90 (F := Ideal) x0 x1 x2 x3 x4) rfl rfl rfl
  have h5 := chunk (K := 512) (h1 := broadcasts_S1x2048_S128x2048) (h2 := broadcasts_S1x2048_S512x2048) (m' := (k0_pay104 (F := Ideal) x0 x1 x2 x3 x4)) (a' := sum1_5 x0 x1 x2 x3 x4) h4 0 2048 128 0 rfl (by decide) (by decide) (by decide) x1 x2 (k0_pay77 (F := Ideal) x0 x1 x2 x3 x4) hs hv (k0_pay94 (F := Ideal) x0 x1 x2 x3 x4) rfl rfl rfl
  have h6 := chunk (K := 512) (h1 := broadcasts_S1x2048_S128x2048) (h2 := broadcasts_S1x2048_S512x2048) (m' := (k0_pay108 (F := Ideal) x0 x1 x2 x3 x4)) (a' := sum1_6 x0 x1 x2 x3 x4) h5 0 2560 128 0 rfl (by decide) (by decide) (by decide) x1 x2 (k0_pay77 (F := Ideal) x0 x1 x2 x3 x4) hs hv (k0_pay99 (F := Ideal) x0 x1 x2 x3 x4) rfl rfl rfl
  have h7 := chunk (K := 512) (h1 := broadcasts_S1x2048_S128x2048) (h2 := broadcasts_S1x2048_S512x2048) (m' := (k0_pay111 (F := Ideal) x0 x1 x2 x3 x4)) (a' := sum1_7 x0 x1 x2 x3 x4) h6 0 3072 128 0 rfl (by decide) (by decide) (by decide) x1 x2 (k0_pay77 (F := Ideal) x0 x1 x2 x3 x4) hs hv (k0_pay103 (F := Ideal) x0 x1 x2 x3 x4) rfl rfl rfl
  have h8 := chunk (K := 512) (h1 := broadcasts_S1x2048_S128x2048) (h2 := broadcasts_S1x2048_S512x2048) (m' := k0_pay69 (k0_pay107 (F := Ideal) x0 x1 x2 x3 x4) (k0_pay111 (F := Ideal) x0 x1 x2 x3 x4)) (a' := sum1_8 x0 x1 x2 x3 x4) h7 0 3584 128 0 rfl (by decide) (by decide) (by decide) x1 x2 (k0_pay77 (F := Ideal) x0 x1 x2 x3 x4) hs hv (k0_pay107 (F := Ideal) x0 x1 x2 x3 x4) rfl rfl rfl
  exact h8

/-- The final row of maxima of head 0, with the context keys. -/
def top0 : FVec Ideal S1x2048 .f32 := k0_pay72 (k0_pay109 (F := Ideal) x0 x1 x2 x3 x4) (k0_pay110 (F := Ideal) x0 x1 x2 x3 x4) (k0_pay112 (F := Ideal) x0 x1 x2 x3 x4)

/-- The final sums of head 0. -/
def tot0 : FVec Ideal S128x2048 .f32 :=
  addf (mulf (broadcastTo S128x2048 (k0_pay73 (k0_pay109 (F := Ideal) x0 x1 x2 x3 x4) (k0_pay110 (F := Ideal) x0 x1 x2 x3 x4) (k0_pay112 (F := Ideal) x0 x1 x2 x3 x4)) broadcasts_S1x2048_S128x2048) (sum0_8 x0 x1 x2 x3 x4))
    (matmul dot_S128x256_S256x2048_S128x2048_1_0_0_1_n_n none (k0_pay71 (F := Ideal) (View.ld x4 r0_28))
      (truncf .bf16 (k0_pay74 (k0_pay109 (F := Ideal) x0 x1 x2 x3 x4) (k0_pay110 (F := Ideal) x0 x1 x2 x3 x4) (k0_pay112 (F := Ideal) x0 x1 x2 x3 x4)) bitsLt_bf16_f32) (constant S128x2048 .f32 0x00000000#32))

/-- The scores of the context keys of head 1. -/
def ctx1 : FVec Ideal S256x2048 .f32 := k0_pay62 (k0_pay77 (F := Ideal) x0 x1 x2 x3 x4) (View.ld x3 r0_26)

/-- The final row of maxima of head 1, with the context keys. -/
def top1 : FVec Ideal S1x2048 .f32 :=
  maximumf (k0_pay69 (k0_pay107 (F := Ideal) x0 x1 x2 x3 x4) (k0_pay111 (F := Ideal) x0 x1 x2 x3 x4)) (shapeCast S1x2048 (multiReduction .maximumf [0] S2048 (ctx1 x0 x1 x2 x3 x4) 0xFF800000#32
    reduces_S256x2048_S2048 (.inl rfl) rfl) shapeCasts_S2048_S1x2048)

/-- The final sums of head 1. -/
def tot1 : FVec Ideal S128x2048 .f32 :=
  addf (mulf (broadcastTo S128x2048 (exp2 (subf (k0_pay69 (k0_pay107 (F := Ideal) x0 x1 x2 x3 x4) (k0_pay111 (F := Ideal) x0 x1 x2 x3 x4)) (top1 x0 x1 x2 x3 x4))) broadcasts_S1x2048_S128x2048)
      (sum1_8 x0 x1 x2 x3 x4))
    (matmul dot_S128x256_S256x2048_S128x2048_1_0_0_1_n_n none
      (select (cmpi .eq (iota .tc S128x256 32 [0] iota_S128x256_d0_w32) (broadcast S128x256 0#32))
        (broadcast S128x256 (Scalar.ofBits (F := Ideal) .bf16 0x3F80#16))
        (shapeCast S128x256 (View.ld (Val := Elt Ideal) (e' := .bf16) x4 r0_28) shapeCasts_S1x128x256_S128x256 : FVec Ideal S128x256 .bf16))
      (truncf .bf16 (exp2 (subf (ctx1 x0 x1 x2 x3 x4) (broadcastTo S256x2048 (top1 x0 x1 x2 x3 x4) broadcasts_S1x2048_S256x2048)))
        bitsLt_bf16_f32) (constant S128x2048 .f32 0x00000000#32))

/-- The stored block at query `c`, row `r` of the pair of heads, from the scores and values of both heads over the 4352
    keys in the order latent keys first. -/
theorem block {s s' : ℕ → ℝ} {v v' : Fin 128 → ℕ → EReal} {c : Fin 2048}
    (hsl0 : ∀ (j : ℕ) (hj : j < 4096), ∑ l : Fin 128, x1 (ix3 0 ⟨j, hj⟩ ⟨0 + l.val, by have := l.isLt; omega⟩) * (k0_pay76 (F := Ideal) x0 x1 x2 x3 x4) (ix2 c l) = ((s (0 + j) : ℝ) : EReal))
    (hvl0 : ∀ (r : Fin 128) (j : ℕ) (hj : j < 4096), (if r.val = 64 then 1 else x2 (ix3 0 r ⟨j, hj⟩)) = v r (0 + j))
    (hsc0 : ∀ (j : ℕ) (hj : j < 256), ∑ l : Fin 128, x3 (ix3 0 ⟨j, hj⟩ ⟨0 + l.val, by have := l.isLt; omega⟩) * (k0_pay76 (F := Ideal) x0 x1 x2 x3 x4) (ix2 c l) = ((s (4096 + j) : ℝ) : EReal))
    (hvc0 : ∀ (r : Fin 128) (j : ℕ) (hj : j < 256), (if r.val = 64 then 1 else x4 (ix3 0 r ⟨j, hj⟩)) = v r (4096 + j))
    (hsl1 : ∀ (j : ℕ) (hj : j < 4096), ∑ l : Fin 128, x1 (ix3 0 ⟨j, hj⟩ ⟨128 + l.val, by have := l.isLt; omega⟩) * (k0_pay77 (F := Ideal) x0 x1 x2 x3 x4) (ix2 c l) = ((s' (0 + j) : ℝ) : EReal))
    (hvl1 : ∀ (r : Fin 128) (j : ℕ) (hj : j < 4096), (if r.val = 0 then 1 else x2 (ix3 0 r ⟨j, hj⟩)) = v' r (0 + j))
    (hsc1 : ∀ (j : ℕ) (hj : j < 256), ∑ l : Fin 128, x3 (ix3 0 ⟨j, hj⟩ ⟨128 + l.val, by have := l.isLt; omega⟩) * (k0_pay77 (F := Ideal) x0 x1 x2 x3 x4) (ix2 c l) = ((s' (4096 + j) : ℝ) : EReal))
    (hvc1 : ∀ (r : Fin 128) (j : ℕ) (hj : j < 256), (if r.val = 0 then 1 else x4 (ix3 0 r ⟨j, hj⟩)) = v' r (4096 + j))
    (one : ∀ j, v ⟨64, by decide⟩ j = 1) (one' : ∀ j, v' ⟨0, by decide⟩ j = 1) (r : Fin 128) :
    (out0_5 (F := Ideal) x0 x1 x2 x3 x4 (ix3 0 c r) : EReal) = if r.val < 64 then attend s (v r) 4352 else attend s' (v' r) 4352 := by
  have h0 := chunk (K := 256) (h1 := broadcasts_S1x2048_S128x2048) (h2 := broadcasts_S1x2048_S256x2048) (m := k0_pay67 (k0_pay110 (F := Ideal) x0 x1 x2 x3 x4) (k0_pay112 (F := Ideal) x0 x1 x2 x3 x4)) (a := sum0_8 x0 x1 x2 x3 x4)
    (m' := top0 x0 x1 x2 x3 x4) (a' := tot0 x0 x1 x2 x3 x4)
    (lat0 x0 x1 x2 x3 x4 hsl0 hvl0) 4096 0 0 64 rfl (by decide) (by decide) (by decide) x3 x4 (k0_pay76 (F := Ideal) x0 x1 x2 x3 x4) hsc0 hvc0 (k0_pay109 (F := Ideal) x0 x1 x2 x3 x4) rfl rfl (by unfold tot0 top0 k0_pay71 k0_pay73 k0_pay74 k0_pay72; rfl)
  have h1 := chunk (K := 256) (h1 := broadcasts_S1x2048_S128x2048) (h2 := broadcasts_S1x2048_S256x2048) (m := k0_pay69 (k0_pay107 (F := Ideal) x0 x1 x2 x3 x4) (k0_pay111 (F := Ideal) x0 x1 x2 x3 x4)) (a := sum1_8 x0 x1 x2 x3 x4)
    (m' := top1 x0 x1 x2 x3 x4) (a' := tot1 x0 x1 x2 x3 x4)
    (lat1 x0 x1 x2 x3 x4 hsl1 hvl1) 4096 0 128 0 rfl (by decide) (by decide) (by decide) x3 x4 (k0_pay77 (F := Ideal) x0 x1 x2 x3 x4) hsc1 hvc1 (ctx1 x0 x1 x2 x3 x4) rfl (by unfold top1; rfl) (by unfold tot1; rfl)
  have hz : (![0, 0, 0] : Fin S1x2048x128.rank → ℕ) = fun _ => 0 := by decide
  refine (congrFun (View.canon_unit_zero (S := S1x2048x128) hz inb_S1x2048x128_S1x2048x128_0_0_0 _) _).trans ?_
  refine (store_apply _ _ _ _ _ _ 0 c r).trans ?_
  refine ite_congr rfl (fun _ => ?_) fun _ => ?_
  · exact (ratio_apply _ 64 (by decide) _ _ r c).trans (h0.finish (by decide) ⟨64, by decide⟩ one r)
  · exact (ratio_apply _ 0 (by decide) _ _ r c).trans (h1.finish (by decide) ⟨0, by decide⟩ one' r)

end Cert.KernelIdeal.Block

end
-- ==== Proof.HostB.lean ====
module

public import proofs.«01_k».proof.Proof.BlockB
public import Idealize.ShloMosaic.Lib.Pipeline.ValueKit
public import Idealize.ShloMosaic.Lib.Claim
public import Idealize.ShloMosaic.Lib.IdealHost
public import Idealize.ShloMosaic.Lib.KernelVsHost

@[expose] public section

set_option maxRecDepth 16384

noncomputable section

namespace Cert.KernelIdeal.Block

open Cert.KernelIdeal Cert.KernelIdeal.Gen
open Idealize.ShloMosaic hiding ix0 ix1 ix2 ix3 ix4 ix5
open Idealize.ShloMosaic.ValueIdx Idealize.ShloMosaic.TcCoe Finset

variable (m : (ℓ : Loc nD τ sig) → Buf (Elt Ideal) ℓ)

/-- A host padding of the last axis from 96 to 128 lanes, at a lane below 96. -/
theorem pad_in {T : ℕ} (x : FVec Ideal ⟨4, ![8, 4, T, 96]⟩ .f32) (v : FVec Ideal S_ .f32)
    (h : (⟨4, ![8, 4, T, 96]⟩ : Shape).Pads ![0, 0, 0, 0] ![0, 0, 0, 32] ![0, 0, 0, 0] ⟨4, ![8, 4, T, 128]⟩) (hu : 0 < S_.numel)
    (b : Fin 8) (hd : Fin 4) (t : Fin T) (l : Fin 128) (hl : l.val < 96) :
    pad ⟨4, ![8, 4, T, 128]⟩ ![0, 0, 0, 0] ![0, 0, 0, 32] ![0, 0, 0, 0] x v h hu (ix4 b hd t l) = x (ix4 b hd t ⟨l.val, hl⟩) := by
  refine pad_apply_of_inside _ _ _ x v h hu _ _ fun a => ?_
  match a with
  | ⟨0, _⟩ => exact ((Nat.zero_add _).trans (Nat.mul_one _)).symm
  | ⟨1, _⟩ => exact ((Nat.zero_add _).trans (Nat.mul_one _)).symm
  | ⟨2, _⟩ => exact ((Nat.zero_add _).trans (Nat.mul_one _)).symm
  | ⟨3, _⟩ => exact ((Nat.zero_add _).trans (Nat.mul_one _)).symm

/-- The same at a lane from 96 on: the padding value. -/
theorem pad_out {T : ℕ} (x : FVec Ideal ⟨4, ![8, 4, T, 96]⟩ .f32) (v : FVec Ideal S_ .f32)
    (h : (⟨4, ![8, 4, T, 96]⟩ : Shape).Pads ![0, 0, 0, 0] ![0, 0, 0, 32] ![0, 0, 0, 0] ⟨4, ![8, 4, T, 128]⟩) (hu : 0 < S_.numel)
    (b : Fin 8) (hd : Fin 4) (t : Fin T) (l : Fin 128) (hl : ¬ l.val < 96) :
    pad ⟨4, ![8, 4, T, 128]⟩ ![0, 0, 0, 0] ![0, 0, 0, 32] ![0, 0, 0, 0] x v h hu (ix4 b hd t l) = v (Shape.Idx.first hu) := by
  refine pad_apply_of_not_inside _ _ _ x v h hu _ ⟨3, (by decide : 3 < 4)⟩ fun hin => hl ?_
  have h3 : (l.val - 0) / (0 + 1) < 96 := hin.2.2
  omega

/-- A value padded with zeros to 128 lanes, packed head by head into rows, at lane `l` of head `hd`. -/
theorem rows_apply {T : ℕ} (x : FVec Ideal ⟨4, ![8, 4, T, 96]⟩ .f32) (v : FVec Ideal S_ .f32)
    (h : (⟨4, ![8, 4, T, 96]⟩ : Shape).Pads ![0, 0, 0, 0] ![0, 0, 0, 32] ![0, 0, 0, 0] ⟨4, ![8, 4, T, 128]⟩) (hu : 0 < S_.numel)
    (hp : (⟨4, ![8, 4, T, 128]⟩ : Shape).Transposes [0, 2, 1, 3] ⟨4, ![8, T, 4, 128]⟩)
    (hc : (⟨4, ![8, T, 4, 128]⟩ : Shape).ShapeCasts ⟨3, ![8, T, 512]⟩) (hv : v (Shape.Idx.first hu) = (0 : EReal))
    (b : Fin 8) (hd : Fin 4) (t : Fin T) (l : Fin 128) (e : Fin 512) (he : e.val = 128 * hd.val + l.val) :
    (shapeCast ⟨3, ![8, T, 512]⟩ (transpose ⟨4, ![8, T, 4, 128]⟩ [0, 2, 1, 3]
      (pad ⟨4, ![8, 4, T, 128]⟩ ![0, 0, 0, 0] ![0, 0, 0, 32] ![0, 0, 0, 0] x v h hu) hp) hc (ix3 b t e) : EReal)
      = if hl : l.val < 96 then x (ix4 b hd t ⟨l.val, hl⟩) else 0 := by
  refine (shapeCast_apply _ hc (ix3 b t e) (ix4 b t hd l) ?_).trans ?_
  · rw [Shape.rowMajor_val_four, Shape.rowMajor_val_three]
    show ((b.val * T + t.val) * 4 + hd.val) * 128 + l.val = (b.val * T + t.val) * 512 + e.val
    omega
  · refine (transpose_apply _ _ hp (ix4 b t hd l) (ix4 b hd t l) fun a => ?_).trans ?_
    · match a with
      | ⟨0, _⟩ => rfl
      | ⟨1, _⟩ => rfl
      | ⟨2, _⟩ => rfl
      | ⟨3, _⟩ => rfl
    · split
      · exact pad_in x v h hu b hd t l ‹_›
      · exact (pad_out x v h hu b hd t l ‹_›).trans hv

/-- The padding value of the host. -/
theorem zero_int : (sitofp (F := Ideal) .f32 (constantI S_ 32 0#32)) (Shape.Idx.first h_S_) = (0 : EReal) := by
  show (((0#32 : BitVec 32).toInt : ℝ) : EReal) = 0
  simp

/-- The queries, keys, values, context keys and context values the program is given. -/
abbrev argQ (c : Dev nD) : FVec Ideal S8x4x4096x96 .f32 := m ((c : Thread nD τ).loc main_arg0)
@[inherit_doc argQ] abbrev argK (c : Dev nD) : FVec Ideal S8x4x4096x96 .f32 := m ((c : Thread nD τ).loc main_arg1)
@[inherit_doc argQ] abbrev argV (c : Dev nD) : FVec Ideal S8x4x4096x64 .f32 := m ((c : Thread nD τ).loc main_arg2)
@[inherit_doc argQ] abbrev argKc (c : Dev nD) : FVec Ideal S8x4x256x96 .f32 := m ((c : Thread nD τ).loc main_arg3)
@[inherit_doc argQ] abbrev argVc (c : Dev nD) : FVec Ideal S8x4x256x64 .f32 := m ((c : Thread nD τ).loc main_arg4)

/-- What the host hands over as packed queries. -/
theorem q_entry (c : Dev nD) (b : Fin 8) (t : Fin 4096) (hd : Fin 4) (l : Fin 128) (e : Fin 512) (he : e.val = 128 * hd.val + l.val) :
    ((V m c main_v9 : FVec Ideal S8x4096x512 .bf16) (ix3 b t e) : EReal)
      = if hl : l.val < 96 then argQ m c (ix4 b hd t ⟨l.val, hl⟩) * (Ideal.ofBits .f32 0x3DD105EC#32 : EReal)
          * Ideal.div (Ideal.ofBits .f32 0x3F800000#32) (Ideal.log (Ideal.ofBits .f32 0x40000000#32)) else 0 := by
  simp only [V, List.flatten_cons, List.flatten_nil, List.append_nil, List.cons_append, List.nil_append]
  after_results
  rw [truncf_apply]
  refine Eq.trans ?_ (rows_apply (mulf (mulf (argQ m c) (broadcastInDim S8x4x4096x96 ![] bcast_S_S8x4x4096x96 (constant (F := Ideal) S_ .f32 0x3DD105EC#32)))
    (broadcastInDim S8x4x4096x96 ![] bcast_S_S8x4x4096x96 (Host.divf (constant (F := Ideal) S_ .f32 0x3F800000#32) (Host.log (constant (F := Ideal) S_ .f32 0x40000000#32))))) (sitofp (F := Ideal) .f32 (constantI S_ 32 0#32))
    pads_S8x4x4096x96_S8x4x4096x128_000_000_000_0320 h_S_ transposes_S8x4x4096x128_S8x4096x4x128_0_2_1_3
    shapeCasts_S8x4096x4x128_S8x4096x512 zero_int b hd t l e he)
  rfl

/-- What the host hands over as packed keys. -/
theorem k_entry (c : Dev nD) (b : Fin 8) (t : Fin 4096) (hd : Fin 4) (l : Fin 128) (e : Fin 512) (he : e.val = 128 * hd.val + l.val) :
    ((V m c main_v13 : FVec Ideal S8x4096x512 .bf16) (ix3 b t e) : EReal)
      = if hl : l.val < 96 then (argK m c (ix4 b hd t ⟨l.val, hl⟩)) else 0 := by
  simp only [V, List.flatten_cons, List.flatten_nil, List.append_nil, List.cons_append, List.nil_append]
  after_results
  rw [truncf_apply]
  refine Eq.trans ?_ (rows_apply (argK m c) (sitofp (F := Ideal) .f32 (constantI S_ 32 0#32))
    pads_S8x4x4096x96_S8x4x4096x128_000_000_000_0320 h_S_ transposes_S8x4x4096x128_S8x4096x4x128_0_2_1_3
    shapeCasts_S8x4096x4x128_S8x4096x512 zero_int b hd t l e he)
  rfl

/-- What the host hands over as packed context keys. -/
theorem kc_entry (c : Dev nD) (b : Fin 8) (t : Fin 256) (hd : Fin 4) (l : Fin 128) (e : Fin 512) (he : e.val = 128 * hd.val + l.val) :
    ((V m c main_v17 : FVec Ideal S8x256x512 .bf16) (ix3 b t e) : EReal)
      = if hl : l.val < 96 then (argKc m c (ix4 b hd t ⟨l.val, hl⟩)) else 0 := by
  simp only [V, List.flatten_cons, List.flatten_nil, List.append_nil, List.cons_append, List.nil_append]
  after_results
  rw [truncf_apply]
  refine Eq.trans ?_ (rows_apply (argKc m c) (sitofp (F := Ideal) .f32 (constantI S_ 32 0#32))
    pads_S8x4x256x96_S8x4x256x128_000_000_000_0320 h_S_ transposes_S8x4x256x128_S8x256x4x128_0_2_1_3
    shapeCasts_S8x256x4x128_S8x256x512 zero_int b hd t l e he)
  rfl

/-- Values packed head by head into columns. -/
theorem cols_apply {T : ℕ} (x : FVec Ideal ⟨4, ![8, 4, T, 64]⟩ .f32)
    (hp : (⟨4, ![8, 4, T, 64]⟩ : Shape).Transposes [0, 1, 3, 2] ⟨4, ![8, 4, 64, T]⟩)
    (hc : (⟨4, ![8, 4, 64, T]⟩ : Shape).ShapeCasts ⟨3, ![8, 256, T]⟩)
    (b : Fin 8) (hd : Fin 4) (t : Fin T) (d : Fin 64) (e : Fin 256) (he : e.val = 64 * hd.val + d.val) :
    (shapeCast ⟨3, ![8, 256, T]⟩ (transpose ⟨4, ![8, 4, 64, T]⟩ [0, 1, 3, 2] x hp) hc (ix3 b e t) : EReal) = x (ix4 b hd t d) := by
  refine (shapeCast_apply _ hc (ix3 b e t) (ix4 b hd d t) ?_).trans ?_
  · rw [Shape.rowMajor_val_four, Shape.rowMajor_val_three]
    show ((b.val * 4 + hd.val) * 64 + d.val) * T + t.val = (b.val * 256 + e.val) * T + t.val
    rw [he]; ring
  · refine transpose_apply _ _ hp (ix4 b hd d t) (ix4 b hd t d) fun a => ?_
    match a with
    | ⟨0, _⟩ => rfl
    | ⟨1, _⟩ => rfl
    | ⟨2, _⟩ => rfl
    | ⟨3, _⟩ => rfl

/-- What the host hands over as packed values. -/
theorem v_entry (c : Dev nD) (b : Fin 8) (t : Fin 4096) (hd : Fin 4) (d : Fin 64) (e : Fin 256) (he : e.val = 64 * hd.val + d.val) :
    ((V m c main_v20 : FVec Ideal S8x256x4096 .bf16) (ix3 b e t) : EReal) = argV m c (ix4 b hd t d) := by
  simp only [V, List.flatten_cons, List.flatten_nil, List.append_nil, List.cons_append, List.nil_append]
  after_results
  exact cols_apply _ transposes_S8x4x4096x64_S8x4x64x4096_0_1_3_2 shapeCasts_S8x4x64x4096_S8x256x4096 b hd t d e he

/-- What the host hands over as packed context values. -/
theorem vc_entry (c : Dev nD) (b : Fin 8) (t : Fin 256) (hd : Fin 4) (d : Fin 64) (e : Fin 256) (he : e.val = 64 * hd.val + d.val) :
    ((V m c main_v23 : FVec Ideal S8x256x256 .bf16) (ix3 b e t) : EReal) = argVc m c (ix4 b hd t d) := by
  simp only [V, List.flatten_cons, List.flatten_nil, List.append_nil, List.cons_append, List.nil_append]
  after_results
  exact cols_apply _ transposes_S8x4x256x64_S8x4x64x256_0_1_3_2 shapeCasts_S8x4x64x256_S8x256x256 b hd t d e he

end Cert.KernelIdeal.Block

end
-- ==== Proof.Joined.lean ====
module

public import proofs.«01_k».proof.Proof.Softmax

/-!
One row of keys: the 4096 latent positions followed by the 256 context positions.
-/

@[expose] public section

noncomputable section

namespace Cert.Softmax

open Finset Idealize.ShloMosaic

/-- The latent entries followed by the context entries, zero after both. -/
def joined {α : Type} [Zero α] (f : Fin 4096 → α) (g : Fin 256 → α) (j : ℕ) : α :=
  if h : j < 4096 then f ⟨j, h⟩ else if h' : j - 4096 < 256 then g ⟨j - 4096, h'⟩ else 0

theorem joined_lat {α : Type} [Zero α] (f : Fin 4096 → α) (g : Fin 256 → α) (j : ℕ) (hj : j < 4096) : joined f g (0 + j) = f ⟨j, hj⟩ := by
  unfold joined
  simp only [Nat.zero_add]
  rw [dif_pos hj]

theorem joined_ctx {α : Type} [Zero α] (f : Fin 4096 → α) (g : Fin 256 → α) (j : ℕ) (hj : j < 256) : joined f g (4096 + j) = g ⟨j, hj⟩ := by
  have e : 4096 + j - 4096 = j := by omega
  unfold joined
  rw [dif_neg (by omega)]
  simp only [e]
  rw [dif_pos hj]

/-- Read in the other order, context first. -/
theorem joined_place {α : Type} [Zero α] (f : Fin 4096 → α) (g : Fin 256 → α) (j : Fin (256 + 4096)) :
    joined f g (place 256 4096 j.val) = if h : j.val < 256 then g ⟨j.val, h⟩ else f ⟨j.val - 256, by have := j.isLt; omega⟩ := by
  unfold place
  split
  · exact joined_ctx f g _ ‹_›
  · have h := joined_lat f g (j.val - 256) (by have := j.isLt; omega)
    rwa [Nat.zero_add] at h

/-- The score, to base two, of a key against a query: the query scaled by `sc` and by `1 / log 2` first. -/
def dotScore {D : ℕ} (sc : ℝ) (k q : Fin D → ℝ) : ℝ := ∑ l, k l * (q l * sc * (1 / Real.log 2))

/-- It is the plain scaled product up to the change of base. -/
theorem dotScore_mul_log {D : ℕ} (sc : ℝ) (k q : Fin D → ℝ) : dotScore sc k q * Real.log 2 = (∑ l, q l * k l) * sc := by
  have h2 : Real.log 2 ≠ 0 := (Real.log_pos (by norm_num)).ne'
  unfold dotScore
  rw [sum_mul, sum_mul]
  refine sum_congr rfl fun l _ => ?_
  field_simp

/-- A product over 128 lanes whose lanes from `D` on are zero is the product over `D` lanes. -/
theorem sum_lanes {D E : ℕ} (k q : Fin D → ℝ) (X Y : Fin (D + E) → EReal)
    (hX : ∀ l, X l = if h : l.val < D then (k ⟨l.val, h⟩ : EReal) else 0)
    (hY : ∀ l, Y l = if h : l.val < D then (q ⟨l.val, h⟩ : EReal) else 0) :
    ∑ l, X l * Y l = ((∑ l, k l * q l : ℝ) : EReal) := by
  rw [Fin.sum_univ_add, coe_sum]
  have hz : ∑ l : Fin E, X (Fin.natAdd D l) * Y (Fin.natAdd D l) = 0 :=
    sum_eq_zero fun l _ => by rw [hX, dif_neg (by simp), zero_mul]
  rw [hz, add_zero]
  refine sum_congr rfl fun l _ => ?_
  rw [hX, hY, dif_pos (by simp), dif_pos (by simp), EReal.coe_mul]
  rfl

end Cert.Softmax

end
-- ==== Proof.FinalB.lean ====
module

public import proofs.«01_k».proof.Proof.HostB
public import proofs.«01_k».proof.Proof.Joined

/-!
The array the first attention kernel leaves: at every row and column the softmax of that row's scores applied to that
column's values.
-/

@[expose] public section

set_option maxRecDepth 16384

noncomputable section

namespace Cert.KernelIdeal.Block

open Cert.KernelIdeal Cert.KernelIdeal.Gen Cert.Softmax
open Idealize.ShloMosaic hiding ix0 ix1 ix2 ix3 ix4 ix5
open Idealize.ShloMosaic.ValueIdx Idealize.ShloMosaic.TcCoe Finset

variable (m : (ℓ : Loc nD τ sig) → Buf (Elt Ideal) ℓ)

/-- Where the windows of a grid point lie. -/
theorem idx : ∀ t : Fin cfg0.N,
    win0_0.index t = ![t.val / 4, t.val % 2, t.val / 2 % 2] ∧ win0_1.index t = ![t.val / 4, 0, t.val / 2 % 2]
    ∧ win0_2.index t = ![t.val / 4, t.val / 2 % 2, 0] ∧ win0_3.index t = ![t.val / 4, 0, t.val / 2 % 2]
    ∧ win0_4.index t = ![t.val / 4, t.val / 2 % 2, 0] ∧ win0_5.index t = ![t.val / 4, t.val % 2, t.val / 2 % 2] :=
  (by decide +kernel : ∀ t : Fin grid0.N, _)

theorem lt_N (t : Fin cfg0.N) : t.val < 32 := t.isLt

/-- The batch entry, head pair and half of the rows of a grid point. -/
abbrev bat (t : Fin cfg0.N) : Fin 8 := ⟨t.val / 4, by have := lt_N t; omega⟩
@[inherit_doc bat] abbrev pr (t : Fin cfg0.N) : Fin 2 := ⟨t.val / 2 % 2, by omega⟩
@[inherit_doc bat] abbrev half (t : Fin cfg0.N) : Fin 2 := ⟨t.val % 2, by omega⟩

/-! The blocks of a grid point, named. -/

def B0 (c : Dev nD) (t : Fin cfg0.N) : FVec Ideal S1x2048x256 .bf16 := iblk m c 0 t
def B1 (c : Dev nD) (t : Fin cfg0.N) : FVec Ideal S1x4096x256 .bf16 := iblk m c 1 t
def B2 (c : Dev nD) (t : Fin cfg0.N) : FVec Ideal S1x128x4096 .bf16 := iblk m c 2 t
def B3 (c : Dev nD) (t : Fin cfg0.N) : FVec Ideal S1x256x256 .bf16 := iblk m c 3 t
def B4 (c : Dev nD) (t : Fin cfg0.N) : FVec Ideal S1x128x256 .bf16 := iblk m c 4 t

/-! An entry of a block is an entry of the array it is cut from. -/

theorem read0 (X : FVec Ideal S8x4096x512 .bf16) (t : Fin cfg0.N) (r : Fin 2048) (e : Fin 256) :
    (((cfg0.win 0).blk t).view.read (Elt Ideal) X : FVec Ideal S1x2048x256 .bf16) (ix3 0 r e) = X (ix3 (bat t) ⟨2048 * (half t).val + r.val, by omega⟩ ⟨256 * (pr t).val + e.val, by omega⟩) := by
  blk_ext [idx t]
  · show _ * 2048 + r.val = _
    omega
  · show _ * 256 + e.val = _
    omega

theorem blk0 (c : Dev nD) (t : Fin cfg0.N) (r : Fin 2048) (e : Fin 256) :
    B0 m c t (ix3 0 r e) = (V m c main_v9 : FVec Ideal S8x4096x512 .bf16) (ix3 (bat t) ⟨2048 * (half t).val + r.val, by omega⟩ ⟨256 * (pr t).val + e.val, by omega⟩) :=
  read0 (V m c main_v9) t r e

theorem read1 (X : FVec Ideal S8x4096x512 .bf16) (t : Fin cfg0.N) (j : Fin 4096) (e : Fin 256) :
    (((cfg0.win 1).blk t).view.read (Elt Ideal) X : FVec Ideal S1x4096x256 .bf16) (ix3 0 j e) = X (ix3 (bat t) j ⟨256 * (pr t).val + e.val, by omega⟩) := by
  blk_ext [idx t]
  · show _ * 256 + e.val = _
    omega

theorem blk1 (c : Dev nD) (t : Fin cfg0.N) (j : Fin 4096) (e : Fin 256) :
    B1 m c t (ix3 0 j e) = (V m c main_v13 : FVec Ideal S8x4096x512 .bf16) (ix3 (bat t) j ⟨256 * (pr t).val + e.val, by omega⟩) :=
  read1 (V m c main_v13) t j e

theorem read2 (X : FVec Ideal S8x256x4096 .bf16) (t : Fin cfg0.N) (r : Fin 128) (j : Fin 4096) :
    (((cfg0.win 2).blk t).view.read (Elt Ideal) X : FVec Ideal S1x128x4096 .bf16) (ix3 0 r j) = X (ix3 (bat t) ⟨128 * (pr t).val + r.val, by omega⟩ j) := by
  blk_ext [idx t]
  · show _ * 128 + r.val = _
    omega

theorem blk2 (c : Dev nD) (t : Fin cfg0.N) (r : Fin 128) (j : Fin 4096) :
    B2 m c t (ix3 0 r j) = (V m c main_v20 : FVec Ideal S8x256x4096 .bf16) (ix3 (bat t) ⟨128 * (pr t).val + r.val, by omega⟩ j) :=
  read2 (V m c main_v20) t r j

theorem read3 (X : FVec Ideal S8x256x512 .bf16) (t : Fin cfg0.N) (j : Fin 256) (e : Fin 256) :
    (((cfg0.win 3).blk t).view.read (Elt Ideal) X : FVec Ideal S1x256x256 .bf16) (ix3 0 j e) = X (ix3 (bat t) j ⟨256 * (pr t).val + e.val, by omega⟩) := by
  blk_ext [idx t]
  · show _ * 256 + e.val = _
    omega

theorem blk3 (c : Dev nD) (t : Fin cfg0.N) (j : Fin 256) (e : Fin 256) :
    B3 m c t (ix3 0 j e) = (V m c main_v17 : FVec Ideal S8x256x512 .bf16) (ix3 (bat t) j ⟨256 * (pr t).val + e.val, by omega⟩) :=
  read3 (V m c main_v17) t j e

theorem read4 (X : FVec Ideal S8x256x256 .bf16) (t : Fin cfg0.N) (r : Fin 128) (j : Fin 256) :
    (((cfg0.win 4).blk t).view.read (Elt Ideal) X : FVec Ideal S1x128x256 .bf16) (ix3 0 r j) = X (ix3 (bat t) ⟨128 * (pr t).val + r.val, by omega⟩ j) := by
  blk_ext [idx t]
  · show _ * 128 + r.val = _
    omega

theorem blk4 (c : Dev nD) (t : Fin cfg0.N) (r : Fin 128) (j : Fin 256) :
    B4 m c t (ix3 0 r j) = (V m c main_v23 : FVec Ideal S8x256x256 .bf16) (ix3 (bat t) ⟨128 * (pr t).val + r.val, by omega⟩ j) :=
  read4 (V m c main_v23) t r j

theorem read5 (X : FVec Ideal S8x4096x256 .bf16) (t : Fin cfg0.N) (r : Fin 2048) (e : Fin 128) :
    X ((win0_5.blk t).view.emb (ix3 0 r e)) = X (ix3 (bat t) ⟨2048 * (half t).val + r.val, by omega⟩ ⟨128 * (pr t).val + e.val, by omega⟩) := by
  blk_ext [idx t]
  · show _ * 2048 + r.val = _
    omega
  · show _ * 128 + e.val = _
    omega

/-- A head's queries as the kernel loads them out of a block. -/
theorem q_ld (x : FVec Ideal S1x2048x256 .bf16) (off : ℕ) (inb : ∀ a, ![0, 0, off] a + ![1, 2048, 128] a ≤ S1x2048x256.size a)
    (c : Fin 2048) (l : Fin 128) (ho : off + l.val < 256) :
    (shapeCast S2048x128 (View.ld (Val := Elt Ideal) (e' := .bf16) x (Rect.unit (s := S1x2048x256) ![0, 0, off] ![1, 2048, 128] inb)) shapeCasts_S1x2048x128_S2048x128
      : FVec Ideal S2048x128 .bf16) (ix2 c l) = x (ix3 0 c ⟨off + l.val, ho⟩) := by
  refine (shapeCast_1ab_ab_apply (a := 2048) (b := 128) _ shapeCasts_S1x2048x128_S2048x128 c l).trans ?_
  rw [View.ld_unit]
  refine extractStridedSlice_apply _ _ _ _ _ fun a => ?_
  match a with
  | ⟨0, _⟩ => rfl
  | ⟨1, _⟩ => exact (Nat.zero_add _).symm
  | ⟨2, _⟩ => rfl

theorem q0_apply (x0 : FVec Ideal S1x2048x256 .bf16) (x1 : FVec Ideal S1x4096x256 .bf16) (x2 : FVec Ideal S1x128x4096 .bf16)
    (x3 : FVec Ideal S1x256x256 .bf16) (x4 : FVec Ideal S1x128x256 .bf16) (c : Fin 2048) (l : Fin 128) :
    (k0_pay76 (F := Ideal) x0 x1 x2 x3 x4) (ix2 c l) = x0 (ix3 0 c ⟨0 + l.val, by omega⟩) :=
  q_ld x0 0 inb_S1x2048x256_S1x2048x128_0_0_0 c l (by omega)

theorem q1_apply (x0 : FVec Ideal S1x2048x256 .bf16) (x1 : FVec Ideal S1x4096x256 .bf16) (x2 : FVec Ideal S1x128x4096 .bf16)
    (x3 : FVec Ideal S1x256x256 .bf16) (x4 : FVec Ideal S1x128x256 .bf16) (c : Fin 2048) (l : Fin 128) :
    (k0_pay77 (F := Ideal) x0 x1 x2 x3 x4) (ix2 c l) = x0 (ix3 0 c ⟨128 + l.val, by omega⟩) :=
  q_ld x0 128 inb_S1x2048x256_S1x2048x128_0_0_128 c l (by omega)

/-- The body's block of results, its queries read out of their block. -/
theorem block' (x0 : FVec Ideal S1x2048x256 .bf16) (x1 : FVec Ideal S1x4096x256 .bf16) (x2 : FVec Ideal S1x128x4096 .bf16)
    (x3 : FVec Ideal S1x256x256 .bf16) (x4 : FVec Ideal S1x128x256 .bf16) {s : Fin 2 → ℕ → ℝ} {v v' : Fin 128 → ℕ → EReal} {c : Fin 2048}
    (f : Fin 2 → Fin 128 → Fin 256) (hf : ∀ o l, (f o l).val = 128 * o.val + l.val)
    (hsl : ∀ (o : Fin 2) (j : ℕ) (hj : j < 4096), ∑ l : Fin 128, x1 (ix3 0 ⟨j, hj⟩ (f o l)) * x0 (ix3 0 c (f o l)) = ((s o (0 + j) : ℝ) : EReal))
    (hsc : ∀ (o : Fin 2) (j : ℕ) (hj : j < 256), ∑ l : Fin 128, x3 (ix3 0 ⟨j, hj⟩ (f o l)) * x0 (ix3 0 c (f o l)) = ((s o (4096 + j) : ℝ) : EReal))
    (hvl : ∀ (r : Fin 128) (j : ℕ) (hj : j < 4096), (if r.val = 64 then 1 else x2 (ix3 0 r ⟨j, hj⟩)) = v r (0 + j))
    (hvc : ∀ (r : Fin 128) (j : ℕ) (hj : j < 256), (if r.val = 64 then 1 else x4 (ix3 0 r ⟨j, hj⟩)) = v r (4096 + j))
    (hvl' : ∀ (r : Fin 128) (j : ℕ) (hj : j < 4096), (if r.val = 0 then 1 else x2 (ix3 0 r ⟨j, hj⟩)) = v' r (0 + j))
    (hvc' : ∀ (r : Fin 128) (j : ℕ) (hj : j < 256), (if r.val = 0 then 1 else x4 (ix3 0 r ⟨j, hj⟩)) = v' r (4096 + j))
    (one : ∀ j, v ⟨64, by decide⟩ j = 1) (one' : ∀ j, v' ⟨0, by decide⟩ j = 1) (r : Fin 128) :
    (out0_5 (F := Ideal) x0 x1 x2 x3 x4 (ix3 0 c r) : EReal) = if r.val < 64 then attend (s 0) (v r) 4352 else attend (s 1) (v' r) 4352 := by
  have f0 : ∀ l : Fin 128, (⟨0 + l.val, by omega⟩ : Fin 256) = f 0 l := fun l => Fin.ext ((by show 0 + l.val = 128 * 0 + l.val; omega : _ = 128 * (0 : Fin 2).val + l.val).trans (hf 0 l).symm)
  have f1 : ∀ l : Fin 128, (⟨128 + l.val, by omega⟩ : Fin 256) = f 1 l := fun l => Fin.ext ((by show 128 + l.val = 128 * 1 + l.val; omega : _ = 128 * (1 : Fin 2).val + l.val).trans (hf 1 l).symm)
  refine block x0 x1 x2 x3 x4 (fun j hj => ?_) hvl (fun j hj => ?_) hvc (fun j hj => ?_) hvl' (fun j hj => ?_) hvc' one one' r
  · refine Eq.trans (sum_congr rfl fun l _ => ?_) (hsl 0 j hj)
    rw [q0_apply, f0]
  · refine Eq.trans (sum_congr rfl fun l _ => ?_) (hsc 0 j hj)
    rw [q0_apply, f0]
  · refine Eq.trans (sum_congr rfl fun l _ => ?_) (hsl 1 j hj)
    rw [q1_apply, f1]
  · refine Eq.trans (sum_congr rfl fun l _ => ?_) (hsc 1 j hj)
    rw [q1_apply, f1]

/-- The factors the host scales the queries by are real numbers. -/
theorem scale_real : ∃ sc : ℝ, Ideal.ofBits .f32 0x3DD105EC#32 = (sc : EReal) := AttnStep.literal_real _ (by decide)

theorem inv_log : Ideal.div (Ideal.ofBits .f32 0x3F800000#32) (Ideal.log (Ideal.ofBits .f32 0x40000000#32)) = ((1 / Real.log 2 : ℝ) : EReal) := by
  have h2 : Ideal.ofBits .f32 0x40000000#32 = ((2 : ℝ) : EReal) := by
    simp [Ideal.ofBits, Ideal.ieee]
    rw [← EReal.coe_mul]
    norm_num
  rw [Ideal.ofBits_one_f32, h2, Ideal.log_coe, if_neg (by norm_num), Ideal.div_coe (Real.log_pos (by norm_num)).ne', one_mul]

section Rows

variable (sc : ℝ) (q k : S8x4x4096x96.Idx → ℝ) (kc : S8x4x256x96.Idx → ℝ)
variable (v : S8x4x4096x64.Idx → EReal) (vc : S8x4x256x64.Idx → EReal)

/-- The scores of a row of a head. -/
def score (b : Fin 8) (h : Fin 4) (t : Fin 4096) : ℕ → ℝ :=
  joined (fun j => dotScore sc (fun l : Fin 96 => k (ix4 b h j l)) fun l => q (ix4 b h t l))
    fun j => dotScore sc (fun l : Fin 96 => kc (ix4 b h j l)) fun l => q (ix4 b h t l)

/-- The values of a column of a head. -/
def column (b : Fin 8) (h : Fin 4) (d : Fin 64) : ℕ → EReal :=
  joined (fun j => v (ix4 b h j d)) fun j => vc (ix4 b h j d)

/-- The whole result: at row `t`, column `64 h + d`, head `h`'s attention at lane `d`. -/
def result : FVec Ideal S8x4096x256 .bf16 := fun i =>
  attend (score sc q k kc (i 0) ⟨(i 2).val / 64, by have := (i 2).isLt; change _ < 256 at this; omega⟩ (i 1))
    (column v vc (i 0) ⟨(i 2).val / 64, by have := (i 2).isLt; change _ < 256 at this; omega⟩ ⟨(i 2).val % 64, by omega⟩) 4352

end Rows

section Final

variable {q k : S8x4x4096x96.Idx → ℝ} {kc : S8x4x256x96.Idx → ℝ} {sc : ℝ} (c : Dev nD)
  (hsc : Ideal.ofBits .f32 0x3DD105EC#32 = (sc : EReal))
  (hq : ∀ i, argQ m c i = (q i : EReal)) (hk : ∀ i, argK m c i = (k i : EReal)) (hkc : ∀ i, argKc m c i = (kc i : EReal))

include hsc hq in
/-- A query lane of a row of a grid point's block. -/
theorem q_lane (t : Fin cfg0.N) (r : Fin 2048) (o : Fin 2) (l : Fin 128) (e : Fin 256) (he : e.val = 128 * o.val + l.val) :
    B0 m c t (ix3 0 r e)
      = if h : l.val < 96 then ((q (ix4 (bat t) ⟨2 * (pr t).val + o.val, by omega⟩ ⟨2048 * (half t).val + r.val, by omega⟩ ⟨l.val, h⟩)
          * sc * (1 / Real.log 2) : ℝ) : EReal) else 0 := by
  refine (blk0 m c t r e).trans ?_
  refine (q_entry m c (bat t) _ ⟨2 * (pr t).val + o.val, by omega⟩ l _ (by show 256 * _ + e.val = 128 * (2 * _ + _) + _; omega)).trans ?_
  split
  · rw [hq, hsc, inv_log, ← EReal.coe_mul, ← EReal.coe_mul]
  · rfl

include hsc hq hk in
/-- The scores of the latent keys. -/
theorem lat_score (t : Fin cfg0.N) (r : Fin 2048) (o : Fin 2) (j : ℕ) (hj : j < 4096) (f : Fin 128 → Fin 256) (hf : ∀ l, (f l).val = 128 * o.val + l.val) :
    ∑ l : Fin 128, B1 m c t (ix3 0 ⟨j, hj⟩ (f l)) * B0 m c t (ix3 0 r (f l))
      = ((score sc q k kc (bat t) ⟨2 * (pr t).val + o.val, by omega⟩ ⟨2048 * (half t).val + r.val, by omega⟩ (0 + j) : ℝ) : EReal) := by
  unfold score
  rw [joined_lat _ _ j hj]
  refine sum_lanes (D := 96) (E := 32) _ _ _ _ (fun l => ?_) fun l => q_lane m c hsc hq t r o l _ (hf l)
  refine (blk1 m c t _ _).trans ?_
  refine (k_entry m c (bat t) _ ⟨2 * (pr t).val + o.val, by omega⟩ l _ (by show 256 * _ + (f l).val = 128 * (2 * _ + _) + _; rw [hf l]; omega)).trans ?_
  split
  · exact hk _
  · rfl

include hsc hq hkc in
/-- The scores of the context keys. -/
theorem ctx_score (t : Fin cfg0.N) (r : Fin 2048) (o : Fin 2) (j : ℕ) (hj : j < 256) (f : Fin 128 → Fin 256) (hf : ∀ l, (f l).val = 128 * o.val + l.val) :
    ∑ l : Fin 128, B3 m c t (ix3 0 ⟨j, hj⟩ (f l)) * B0 m c t (ix3 0 r (f l))
      = ((score sc q k kc (bat t) ⟨2 * (pr t).val + o.val, by omega⟩ ⟨2048 * (half t).val + r.val, by omega⟩ (4096 + j) : ℝ) : EReal) := by
  unfold score
  rw [joined_ctx _ _ j hj]
  refine sum_lanes (D := 96) (E := 32) _ _ _ _ (fun l => ?_) fun l => q_lane m c hsc hq t r o l _ (hf l)
  refine (blk3 m c t _ _).trans ?_
  refine (kc_entry m c (bat t) _ ⟨2 * (pr t).val + o.val, by omega⟩ l _ (by show 256 * _ + (f l).val = 128 * (2 * _ + _) + _; rw [hf l]; omega)).trans ?_
  split
  · exact hkc _
  · rfl

/-- The values of row `r` of a grid point's block, its `64 o` to `64 o + 63` being head `o` of the pair. -/
theorem lat_val (t : Fin cfg0.N) (r : Fin 128) (j : ℕ) (hj : j < 4096) :
    B2 m c t (ix3 0 r ⟨j, hj⟩)
      = column (argV m c) (argVc m c) (bat t) ⟨2 * (pr t).val + r.val / 64, by omega⟩ ⟨r.val % 64, by omega⟩ (0 + j) := by
  unfold column
  rw [joined_lat _ _ j hj]
  refine (blk2 m c t _ _).trans ?_
  exact v_entry m c (bat t) _ ⟨2 * (pr t).val + r.val / 64, by omega⟩ ⟨r.val % 64, by omega⟩ _ (by show 128 * _ + r.val = 64 * (2 * _ + _) + r.val % 64; omega)

theorem ctx_val (t : Fin cfg0.N) (r : Fin 128) (j : ℕ) (hj : j < 256) :
    B4 m c t (ix3 0 r ⟨j, hj⟩)
      = column (argV m c) (argVc m c) (bat t) ⟨2 * (pr t).val + r.val / 64, by omega⟩ ⟨r.val % 64, by omega⟩ (4096 + j) := by
  unfold column
  rw [joined_ctx _ _ j hj]
  refine (blk4 m c t _ _).trans ?_
  exact vc_entry m c (bat t) _ ⟨2 * (pr t).val + r.val / 64, by omega⟩ ⟨r.val % 64, by omega⟩ _ (by show 128 * _ + r.val = 64 * (2 * _ + _) + r.val % 64; omega)

/-- A column of values with one row replaced by ones. -/
def withOne (b : Fin 128) (w : Fin 128 → ℕ → EReal) (r : Fin 128) (j : ℕ) : EReal := if r.val = b.val then 1 else w r j

include hsc hq hk hkc in
/-- What a grid point's body leaves at row `r`, column `e` of its block. -/
theorem point (t : Fin cfg0.N) (r : Fin 2048) (e : Fin 128) :
    (out0_5 (F := Ideal) (B0 m c t) (B1 m c t) (B2 m c t) (B3 m c t) (B4 m c t) (ix3 0 r e) : EReal)
      = result sc q k kc (argV m c) (argVc m c) (ix3 (bat t) ⟨2048 * (half t).val + r.val, by omega⟩ ⟨128 * (pr t).val + e.val, by omega⟩) := by
  let w : Fin 128 → ℕ → EReal := fun r => column (argV m c) (argVc m c) (bat t) ⟨2 * (pr t).val + r.val / 64, by omega⟩ ⟨r.val % 64, by omega⟩
  refine (block' (B0 m c t) (B1 m c t) (B2 m c t) (B3 m c t) (B4 m c t)
    (s := fun o => score sc q k kc (bat t) ⟨2 * (pr t).val + o.val, by omega⟩ ⟨2048 * (half t).val + r.val, by omega⟩)
    (v := withOne ⟨64, by decide⟩ w) (v' := withOne ⟨0, by decide⟩ w) (c := r)
    (fun o l => ⟨128 * o.val + l.val, by omega⟩) (fun _ _ => rfl)
    (fun o j hj => lat_score m c hsc hq hk t r o j hj _ fun _ => rfl) (fun o j hj => ctx_score m c hsc hq hkc t r o j hj _ fun _ => rfl)
    (fun r j hj => ite_congr rfl (fun _ => rfl) fun _ => lat_val m c t r j hj) (fun r j hj => ite_congr rfl (fun _ => rfl) fun _ => ctx_val m c t r j hj)
    (fun r j hj => ite_congr rfl (fun _ => rfl) fun _ => lat_val m c t r j hj) (fun r j hj => ite_congr rfl (fun _ => rfl) fun _ => ctx_val m c t r j hj)
    (fun j => if_pos rfl) (fun j => if_pos rfl) e).trans ?_
  · have hd : (128 * (pr t).val + e.val) / 64 = 2 * (pr t).val + e.val / 64 := by omega
    have hm : (128 * (pr t).val + e.val) % 64 = e.val % 64 := by omega
    have hw : ∀ (o : Fin 2) (b : Fin 128), e.val / 64 = o.val → e.val ≠ b.val →
        attend (score sc q k kc (bat t) ⟨2 * (pr t).val + o.val, by omega⟩ ⟨2048 * (half t).val + r.val, by omega⟩) (withOne b w e) 4352
          = result sc q k kc (argV m c) (argVc m c) (ix3 (bat t) ⟨2048 * (half t).val + r.val, by omega⟩ ⟨128 * (pr t).val + e.val, by omega⟩) := by
      intro o b ho hb
      have h1 : withOne b w e = w e := funext fun j => if_neg hb
      have h2 : (⟨(128 * (pr t).val + e.val) / 64, by omega⟩ : Fin 4) = ⟨2 * (pr t).val + o.val, by omega⟩ := Fin.ext (hd.trans (by rw [ho]))
      have h3 : (⟨2 * (pr t).val + e.val / 64, by omega⟩ : Fin 4) = ⟨2 * (pr t).val + o.val, by omega⟩ := Fin.ext (by show _ + _ = _; rw [ho])
      have h4 : (⟨(128 * (pr t).val + e.val) % 64, by omega⟩ : Fin 64) = ⟨e.val % 64, by omega⟩ := Fin.ext hm
      rw [h1]
      show attend _ (column _ _ _ ⟨2 * (pr t).val + e.val / 64, _⟩ _) _ = attend (score sc q k kc (bat t) ⟨(128 * (pr t).val + e.val) / 64, _⟩ _)
        (column _ _ (bat t) ⟨(128 * (pr t).val + e.val) / 64, _⟩ ⟨(128 * (pr t).val + e.val) % 64, _⟩) 4352
      rw [h2, h3, h4]
    split
    · exact hw 0 ⟨64, by decide⟩ (by show _ = 0; omega) (by show _ ≠ 64; omega)
    · exact hw 1 ⟨0, by decide⟩ (by show _ = 1; omega) (by show _ ≠ 0; omega)

include hsc hq hk hkc in
/-- The array after the run. -/
theorem final : (dats m 0 c).arrAt 5 cfg0.N = result sc q k kc (argV m c) (argVc m c) := by
  refine (dats m 0 c).arrAt_eq_of_covers 5 _ (by decide +kernel) fun t _ y => ?_
  blk_simp
  rw [after0_5]
  have hy : y = (ix3 (0 : Fin 1) (y 1) (y 2) : S1x2048x128.Idx) := by
    funext a
    match a with
    | ⟨0, _⟩ => exact Subsingleton.elim (α := Fin 1) _ _
    | ⟨1, _⟩ => rfl
    | ⟨2, _⟩ => rfl
  rw [hy]
  exact (point m c hsc hq hk hkc t (y 1) (y 2)).trans (read5 _ t (y 1) (y 2)).symm

end Final

end Cert.KernelIdeal.Block

end
-- ==== Proof.Finite.lean ====
module

public import Idealize.ShloMosaic.Lib.KernelVsHost
public import Idealize.ShloMosaic.Lib.Pipeline.Value
public import Idealize.ShloMosaic.PureOps.Ideal.Laws
public import proofs.«01_k».proof.Proof.Softmax

/-!
What the precondition gives — the arrays it names hold real numbers — and the maximum of a row of real numbers.
-/

@[expose] public section

noncomputable section

namespace Cert.Finite

open Idealize.ShloMosaic Finset

/-- A one-bit conjunction is one exactly when both sides are. -/
theorem and_one : ∀ a b : BitVec 1, IntOp.andi a b = 1#1 → a = 1#1 ∧ b = 1#1 := by decide

/-- A running conjunction that ends at one met only ones. -/
theorem foldl_and {ι : Type} (f : ι → BitVec 1) (l : List ι) (b : BitVec 1) (h : l.foldl (fun r n => IntOp.andi r (f n)) b = 1#1) :
    b = 1#1 ∧ ∀ n ∈ l, f n = 1#1 := by
  induction l generalizing b with
  | nil => exact ⟨h, fun n hn => absurd hn List.not_mem_nil⟩
  | cons a l ih =>
    obtain ⟨h1, h2⟩ := ih _ h
    obtain ⟨h3, h4⟩ := and_one _ _ h1
    exact ⟨h3, fun n hn => (List.mem_cons.mp hn).elim (fun e => e ▸ h4) (h2 n)⟩

/-- An extended real whose absolute value is below plus infinity is real. -/
theorem real_of_abs (x : EReal) (h : max x (-x) < ⊤) : ∃ r : ℝ, x = (r : EReal) := by
  induction x with
  | bot => simp at h
  | top => simp at h
  | coe r => exact ⟨r, rfl⟩

theorem posInf : Ideal.ofBits .f32 0x7F800000#32 = ⊤ := by
  simp [Ideal.ofBits, Ideal.ieee]

/-- Every entry's absolute value compares below infinity, so every entry is real. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (h : ∀ j, Host.reduce IntOp.andi (cmpf .olt (Host.absf x) (broadcastInDim s ![] hb (constant ⟨0, ![]⟩ .f32 0x7F800000#32)))
      (constantI ⟨0, ![]⟩ 1 1#1) hr hu j = 1#1) :
    ∃ r : s.Idx → ℝ, ∀ i, x i = ((r i : ℝ) : EReal) := by
  have hi : ∀ i, ∃ r : ℝ, (x i : EReal) = (r : EReal) := fun i => by
    have h1 := (foldl_and _ _ _ (h (hr.drop i))).2 (s.rowMajor i) (List.mem_filter.mpr ⟨List.mem_finRange _, by simp⟩)
    rw [Equiv.symm_apply_apply] at h1
    have h2 : Ideal.cmp .olt (max (x i) (-(x i))) (Ideal.ofBits .f32 0x7F800000#32) = 1#1 := h1
    rw [posInf] at h2
    refine real_of_abs _ ?_
    by_contra hlt
    have h3 : Ideal.cmp .olt (max (x i) (-(x i))) ⊤ = BitVec.ofBool (decide (max (x i) (-(x i)) < ⊤)) := rfl
    rw [h3, decide_eq_false hlt] at h2
    exact absurd h2 (by decide)
  exact ⟨fun i => (hi i).choose, fun i => (hi i).choose_spec⟩

/-- The greatest of a nonempty family of reals, starting from minus infinity, is real. -/
theorem fold_max_real {n : ℕ} (f : Fin (n + 1) → EReal) (σ : Fin (n + 1) → ℝ) (hf : ∀ i, f i = (σ i : EReal)) (b : EReal) (hb : b = ⊥) :
    ∃ m : ℝ, (univ : Finset (Fin (n + 1))).fold max b f = (m : EReal) := by
  have ht := Softmax.fold_max_ne_top univ f b (by simp [hb]) fun i => by rw [hf]; exact EReal.coe_ne_top _
  have hl : f 0 ≤ (univ : Finset (Fin (n + 1))).fold max b f := (Finset.le_fold_max _).mpr (Or.inr ⟨0, mem_univ _, le_rfl⟩)
  generalize (univ : Finset (Fin (n + 1))).fold max b f = y at ht hl
  induction y with
  | bot => rw [hf] at hl; exact absurd (le_bot_iff.mp hl) (EReal.coe_ne_bot _)
  | top => exact absurd rfl ht
  | coe r => exact ⟨r, rfl⟩

/-- The host's maximum over one axis of an array of reals is real. -/
theorem reduce_max_real {s t u : Shape} {a : Fin s.rank} {n : ℕ} (hn : s.size a = n + 1) (x : FVec Ideal s .f32) (σ : s.Idx → ℝ)
    (hx : ∀ i, x i = ((σ i : ℝ) : EReal)) (h : s.ReducesTo [a] t) (hu : 0 < u.numel) (h' : s.Reduces [a] t) (j : t.Idx) :
    ∃ m : ℝ, Host.reduce FloatOps.maximumf x (constant u .f32 0xFF800000#32) h hu j = ((m : ℝ) : EReal) := by
  have e : Host.reduce FloatOps.maximumf x (constant u .f32 0xFF800000#32) h hu j
      = (univ : Finset (Fin (s.size a))).fold max (Ideal.ofBits .f32 0xFF800000#32) (fun k => (x (h'.lift j k) : EReal)) :=
    (congrFun (hostReduce_maximumf_eq_multiReduction x 0xFF800000#32 h hu h' (.inl rfl) rfl) j).trans
      (Ideal.multiReduction_maximumf_single x 0xFF800000#32 h' (.inl rfl) rfl j)
  rw [e]
  have hb : Ideal.ofBits .f32 0xFF800000#32 = ⊥ := by simp [Ideal.ofBits, Ideal.ieee]
  have key : ∀ (k : ℕ) (hk : k = n + 1) (f : Fin k → EReal) (τ : Fin k → ℝ), (∀ i, f i = (τ i : EReal)) →
      ∃ m : ℝ, (univ : Finset (Fin k)).fold max (Ideal.ofBits .f32 0xFF800000#32) f = (m : EReal) := by
    intro k hk f τ hf
    subst hk
    exact fold_max_real f τ hf _ hb
  exact key _ hn _ (fun k => σ (h'.lift j k)) fun k => hx _

end Cert.Finite

end
-- ==== Proof.RefB.lean ====
module

public import proofs.«01_k».proof.Proof.FinalB
public import proofs.«01_k».proof.Proof.Finite
public import proofs.«01_k».proof.Proof.Gen.ReferenceIdeal.Read

/-!
The reference of the first attention, read entry by entry: the same softmax of the same scores.
-/

@[expose] public section

set_option maxRecDepth 16384

noncomputable section

namespace Cert.ReferenceIdeal.Plain

open Cert.ReferenceIdeal Cert.ReferenceIdeal.Gen Cert.ReferenceIdeal.Read Cert.Softmax
open Cert.KernelIdeal.Block (score column result)
open Idealize.ShloMosaic hiding ix0 ix1 ix2 ix3 ix4 ix5
open Idealize.ShloMosaic.ValueIdx Finset

/-- Context first, then latent: an entry of the concatenated array. -/
theorem concat_apply {D : ℕ} (x : FVec Ideal ⟨4, ![8, 4, 4096, D]⟩ .f32) (y : FVec Ideal ⟨4, ![8, 4, 256, D]⟩ .f32)
    (h : Shape.Concatenates [⟨4, ![8, 4, 256, D]⟩, ⟨4, ![8, 4, 4096, D]⟩] ⟨4, ![8, 4, 4352, D]⟩ 2)
    (b : Fin 8) (hd : Fin 4) (j : Fin 4352) (l : Fin D) :
    (concatenate ⟨4, ![8, 4, 4352, D]⟩ 2 [⟨⟨4, ![8, 4, 256, D]⟩, y⟩, ⟨⟨4, ![8, 4, 4096, D]⟩, x⟩] h (ix4 b hd j l) : EReal)
      = joined (fun i => (x (ix4 b hd i l) : EReal)) (fun i => (y (ix4 b hd i l) : EReal)) (place 256 4096 j.val) := by
  rw [joined_place _ _ j]
  split
  · refine concatenate_pair_apply_left 2 y x h _ rfl _ fun a => ?_
    match a with
    | ⟨0, _⟩ => rfl
    | ⟨1, _⟩ => rfl
    | ⟨2, _⟩ => rfl
    | ⟨3, _⟩ => rfl
  · rename_i hj
    refine concatenate_pair_apply_right 2 y x h _ rfl rfl _ (fun a ha => ?_) ?_
    · match a with
      | ⟨0, _⟩ => rfl
      | ⟨1, _⟩ => rfl
      | ⟨2, _⟩ => exact absurd rfl ha
      | ⟨3, _⟩ => rfl
    · show j.val - 256 + 256 = j.val
      omega

variable {x0 x1 : FVec Ideal S8x4x4096x96 .f32} {x2 : FVec Ideal S8x4x4096x64 .f32} {x3 : FVec Ideal S8x4x256x96 .f32} {x4 : FVec Ideal S8x4x256x64 .f32}
variable {q k : S8x4x4096x96.Idx → ℝ} {kc : S8x4x256x96.Idx → ℝ} {sc : ℝ}
  (hsc : Ideal.ofBits .f32 0x3DD105EC#32 = (sc : EReal))
  (hq : ∀ i, x0 i = (q i : EReal)) (hk : ∀ i, x1 i = (k i : EReal)) (hkc : ∀ i, x3 i = (kc i : EReal))

include hsc hq hk hkc in
/-- The scaled scores. -/
theorem scores (b : Fin 8) (h : Fin 4) (t : Fin 4096) (j : Fin 4352) :
    (val_main_v4 (F := Ideal) x0 x1 x3 (ix4 b h t j) : EReal) = ((score sc q k kc b h t (place 256 4096 j.val) * Real.log 2 : ℝ) : EReal) := by
  have e1 : (val_main_v4 (F := Ideal) x0 x1 x3 (ix4 b h t j) : EReal)
      = (∑ l : Fin 96, x0 (ix4 b h t l) * (val_main_v0 (F := Ideal) x1 x3) (ix4 b h j l)) * (Ideal.ofBits .f32 0x3DD105EC#32 : EReal) := by
    rw [val_main_v4_apply, val_main_v2_apply, val_main_v3_apply, val_main_cst_apply]
    refine congrArg (· * (Ideal.ofBits .f32 0x3DD105EC#32 : EReal)) (sum_congr rfl fun l _ => ?_)
    refine congrArg₂ (· * ·) (congrArg x0 ?_) (congrArg (val_main_v0 (F := Ideal) x1 x3) ?_)
    · funext a
      match a with
      | ⟨0, _⟩ => rfl
      | ⟨1, _⟩ => rfl
      | ⟨2, _⟩ => rfl
      | ⟨3, _⟩ => rfl
    · funext a
      match a with
      | ⟨0, _⟩ => rfl
      | ⟨1, _⟩ => rfl
      | ⟨2, _⟩ => rfl
      | ⟨3, _⟩ => rfl
  rw [e1, hsc]
  unfold score
  have e2 : ∀ l : Fin 96, (val_main_v0 (F := Ideal) x1 x3 (ix4 b h j l) : EReal) = _ := fun l => concat_apply x1 x3 _ b h j l
  rw [joined_place _ _ j]
  split
  · rename_i hj
    rw [dotScore_mul_log, EReal.coe_mul, coe_sum]
    refine congrArg (· * (sc : EReal)) (sum_congr rfl fun l _ => ?_)
    rw [e2, joined_place _ _ j, dif_pos hj, hq, hkc, EReal.coe_mul]
  · rename_i hj
    rw [dotScore_mul_log, EReal.coe_mul, coe_sum]
    refine congrArg (· * (sc : EReal)) (sum_congr rfl fun l _ => ?_)
    rw [e2, joined_place _ _ j, dif_neg hj, hq, hk, EReal.coe_mul]

include hsc hq hk hkc in
/-- The row maxima are real. -/
theorem max_real (b : Fin 8) (h : Fin 4) (t : Fin 4096) : ∃ m : ℝ, (val_main_v7 (F := Ideal) x0 x1 x3 (ix3 b h t) : EReal) = (m : EReal) := by
  obtain ⟨m, hm⟩ := Finite.reduce_max_real (n := 4351) rfl (val_main_v4 (F := Ideal) x0 x1 x3)
    (fun i => score sc q k kc (i 0) (i 1) (i 2) (place 256 4096 (i 3).val) * Real.log 2)
    (fun i => by
      have hi : i = ix4 (i 0) (i 1) (i 2) (i 3) := by
        funext a
        match a with
        | ⟨0, _⟩ => rfl
        | ⟨1, _⟩ => rfl
        | ⟨2, _⟩ => rfl
        | ⟨3, _⟩ => rfl
      conv_lhs => rw [hi]
      exact scores hsc hq hk hkc (i 0) (i 1) (i 2) (i 3)) reducesTo_S8x4x4096x4352_S8x4x4096_d3 h_S_ (by decide) (ix3 b h t)
  refine ⟨m, ?_⟩
  rw [val_main_v7_apply, val_main_v6_apply, val_main_cst_1_apply]
  show max (Ideal.ofBits .f32 0xFF800000#32 : EReal) (val_main_v5 (F := Ideal) x0 x1 x3 (ix3 b h t)) = _
  rw [AttnStep.negInf]
  exact (max_bot_left _).trans hm

include hsc hq hk hkc in
/-- The attention before the heads are put side by side. -/
theorem heads (b : Fin 8) (h : Fin 4) (t : Fin 4096) (d : Fin 64) :
    (val_main_v16 (F := Ideal) x0 x1 x2 x3 x4 (ix4 b h t d) : EReal) = attend (score sc q k kc b h t) (column x2 x4 b h d) 4352 := by
  obtain ⟨m, hm⟩ := max_real hsc hq hk hkc b h t
  have e11 : ∀ j : Fin 4352, (val_main_v11 (F := Ideal) x0 x1 x3 (ix4 b h t j) : EReal)
      = Ideal.exp (((score sc q k kc b h t (place 256 4096 j.val) * Real.log 2 : ℝ) : EReal) - (m : EReal)) := fun j => by
    rw [val_main_v11_apply, val_main_v10_apply, val_main_v9_apply, val_main_v8_apply]
    have e7 : idx_main_v8 (idx_main_v9 (ix4 b h t j)) = ix3 b h t := by
      funext a
      match a with
      | ⟨0, _⟩ => rfl
      | ⟨1, _⟩ => rfl
      | ⟨2, _⟩ => rfl
    rw [e7]
    show Ideal.exp ((val_main_v4 (F := Ideal) x0 x1 x3 (ix4 b h t j) : EReal) - (val_main_v7 (F := Ideal) x0 x1 x3 (ix3 b h t) : EReal)) = _
    rw [hm, scores hsc hq hk hkc b h t j]
  have e14 : ∀ j : Fin 4352, (val_main_v14 (F := Ideal) x0 x1 x3 (ix4 b h t j) : EReal)
      = 0 + ∑ i : Fin 4352, Ideal.exp (((score sc q k kc b h t (place 256 4096 i.val) * Real.log 2 : ℝ) : EReal) - (m : EReal)) := fun j => by
    rw [val_main_v14_apply, val_main_v13_apply, val_main_v12_apply]
    refine congrArg₂ (· + ·) Ideal.ofBits_zero_f32 (sum_congr rfl fun i _ => ?_)
    refine Eq.trans (congrArg (val_main_v11 (F := Ideal) x0 x1 x3) ?_) (e11 i)
    funext a
    match a with
    | ⟨0, _⟩ => rfl
    | ⟨1, _⟩ => rfl
    | ⟨2, _⟩ => rfl
    | ⟨3, _⟩ => rfl
  rw [val_main_v16_apply]
  refine Eq.trans (sum_congr rfl fun j _ => ?_) (plain_eq_attend 256 4096 (score sc q k kc b h t) (column x2 x4 b h d)
    (fun j => score sc q k kc b h t (place 256 4096 j.val) * Real.log 2)
    (fun j => column x2 x4 b h d (place 256 4096 j.val)) m (fun _ => rfl) fun _ => rfl)
  have el : lidx_main_v16 (ix4 b h t d) j = ix4 b h t j := by
    funext a
    match a with
    | ⟨0, _⟩ => rfl
    | ⟨1, _⟩ => rfl
    | ⟨2, _⟩ => rfl
    | ⟨3, _⟩ => rfl
  have er : ridx_main_v16 (ix4 b h t d) j = ix4 b h j d := by
    funext a
    match a with
    | ⟨0, _⟩ => rfl
    | ⟨1, _⟩ => rfl
    | ⟨2, _⟩ => rfl
    | ⟨3, _⟩ => rfl
  rw [el, er, val_main_v15_apply]
  refine congrArg₂ (· * ·) ?_ (concat_apply x2 x4 _ b h j d)
  show Ideal.div (val_main_v11 (F := Ideal) x0 x1 x3 (ix4 b h t j) : EReal) (val_main_v14 (F := Ideal) x0 x1 x3 (ix4 b h t j) : EReal) = _
  rw [e11 j, e14 j]

include hsc hq hk hkc in
/-- The reference's result. -/
theorem value : (val_main_v19 (F := Ideal) x0 x1 x2 x3 x4) = result sc q k kc x2 x4 := by
  funext i
  rw [val_main_v19_apply, val_main_v18_apply, val_main_v17_apply]
  have h0 : (i 0).val < 8 := (i 0).isLt
  have h1 : (i 1).val < 4096 := (i 1).isLt
  have h2 : (i 2).val < 256 := (i 2).isLt
  refine Eq.trans (congrArg (val_main_v16 (F := Ideal) x0 x1 x2 x3 x4) ?_)
    (heads hsc hq hk hkc (i 0) ⟨(i 2).val / 64, by omega⟩ (i 1) ⟨(i 2).val % 64, by omega⟩)
  funext a
  match a with
  | ⟨0, _⟩ =>
    refine Fin.ext ?_
    show (((i 0).val * 4096 + (i 1).val) * 256 + (i 2).val) / 1048576 = (i 0).val
    omega
  | ⟨1, _⟩ =>
    refine Fin.ext ?_
    show (((i 0).val * 4096 + (i 1).val) * 256 + (i 2).val) / 64 % 4 = (i 2).val / 64
    omega
  | ⟨2, _⟩ =>
    refine Fin.ext ?_
    show (((i 0).val * 4096 + (i 1).val) * 256 + (i 2).val) / 256 % 4096 = (i 1).val
    omega
  | ⟨3, _⟩ =>
    refine Fin.ext ?_
    show (((i 0).val * 4096 + (i 1).val) * 256 + (i 2).val) % 64 = (i 2).val % 64
    omega

end Cert.ReferenceIdeal.Plain

end
-- ==== Proof.ClaimB.lean ====
module

public import proofs.«01_k».proof.Defs
public import proofs.«01_k».proof.Proof.RefB
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import Idealize.ShloMosaic.Lib.Quiescent

/-!
The claims about the first attention: the kernel and the reference end with equal results.
-/

@[expose] public section

set_option maxRecDepth 16384

noncomputable section

namespace Cert.ClaimB

open Idealize.ShloMosaic Idealize.SL.Sem Cert.Finite

/-- The precondition: queries, keys and context keys are real. -/
theorem reals {x0 x1 : FVec Ideal Pre_finite.S8x4x4096x96 .f32} {x2 : FVec Ideal Pre_finite.S8x4x4096x64 .f32}
    {x3 : FVec Ideal Pre_finite.S8x4x256x96 .f32} {x4 : FVec Ideal Pre_finite.S8x4x256x64 .f32}
    (h : (@Pre_finite.fn Pre_finite.Gen.facts Ideal _ x0 x1 x2 x3 x4) = fun _ => 1#1) :
    (∃ r : Pre_finite.S8x4x4096x96.Idx → ℝ, ∀ i, x0 i = ((r i : ℝ) : EReal)) ∧ (∃ r : Pre_finite.S8x4x4096x96.Idx → ℝ, ∀ i, x1 i = ((r i : ℝ) : EReal))
      ∧ ∃ r : Pre_finite.S8x4x256x96.Idx → ℝ, ∀ i, x3 i = ((r i : ℝ) : EReal) := by
  have hj := fun j => and_one _ _ (congrFun h j)
  have hi := fun j => and_one _ _ (hj j).1
  exact ⟨all_real x0 _ _ _ fun j => (hi j).1, all_real x1 _ _ _ fun j => (hi j).2, all_real x3 _ _ _ fun j => (hj j).2⟩

/-- The two programs' results are equal. -/
theorem algebraic : @algebraic_KernelIdeal_ReferenceIdeal_pre_finite KernelIdeal.Gen.facts ReferenceIdeal.Gen.facts Pre_finite.Gen.facts := by
  intro m g m' g' hpre hagree
  refine ⟨fun c => (KernelIdeal.Gen.dats m 0 c).arrAt 5 KernelIdeal.cfg0.N, KernelIdeal.Value.run_blocks m g,
    (θ_run _ _ _).mono (fun r h c => ⟨(h c).1.trans ?_, (h c).2⟩) (ReferenceIdeal.Value.run m' g')⟩
  obtain ⟨⟨q, hq⟩, ⟨k, hk⟩, ⟨kc, hkc⟩⟩ := reals (hpre c)
  obtain ⟨sc, hsc⟩ := KernelIdeal.Block.scale_real
  obtain ⟨h0, h1, h2, h3, h4⟩ := hagree c
  rw [h0, h1, h2, h3, h4]
  exact (ReferenceIdeal.Read.val_main_v19_eq _ _ _ _ _).trans
    ((ReferenceIdeal.Plain.value hsc hq hk hkc).trans (KernelIdeal.Block.final m c hsc hq hk hkc).symm)

/-- The compiled kernel, its ideal reading and the reference leave their arguments and end with counters at zero. -/
theorem frameP : @quiescent_Kernel Kernel.Gen.facts := fun m g _ => Kernel.Gen.frame m g

theorem framePI : @quiescent_KernelIdeal KernelIdeal.Gen.facts := fun m g _ => KernelIdeal.Gen.frame m g

theorem framePI_pre : @quiescent_KernelIdeal_pre_finite KernelIdeal.Gen.facts Pre_finite.Gen.facts := fun m g _ => KernelIdeal.Gen.frame m g

theorem frameRI : @quiescent_ReferenceIdeal ReferenceIdeal.Gen.facts := fun m g _ =>
  (θ_run _ _ _).mono (fun _ h => ⟨fun c => (h c).2, sem_eq_zero_of_no_sems (by decide) _⟩) (ReferenceIdeal.Value.run m g)

theorem frameRI_pre : @quiescent_ReferenceIdeal_pre_finite ReferenceIdeal.Gen.facts Pre_finite.Gen.facts := fun m g _ => frameRI m g trivial

end Cert.ClaimB

end
-- ==== Proof.BlockD.lean ====
/-
  The block the grouped-query kernel stores, read at an index: for one query of the block, each of its two heads carries the
  running pair of `Softmax` over eight chunks of 512 latent keys and one of 256 context keys.
-/
module

public import proofs.«01_k».proof.Proof.AttnStep
public import proofs.«01_k».proof.Proof.Gen.Kernel2Ideal.Frame

@[expose] public section

set_option maxRecDepth 16384

noncomputable section

namespace Cert.Kernel2Ideal.Block

open Cert.Kernel2Ideal Cert.Kernel2Ideal.Gen
open Idealize.ShloMosaic hiding ix0 ix1 ix2 ix3 ix4 ix5
open Idealize.ShloMosaic.ValueIdx Finset Cert.Softmax Cert.AttnStep

variable (x0 : FVec Ideal S1x2048x128 .bf16) (x1 : FVec Ideal S1x4096x128 .bf16) (x2 : FVec Ideal S1x128x4096 .bf16)
  (x3 : FVec Ideal S1x256x128 .bf16) (x4 : FVec Ideal S1x128x256 .bf16)

/-- Head 0: its sums after each chunk of latent keys. -/
def sum0_1 : FVec Ideal S128x2048 .f32 :=
  k0_pay16 (k0_pay71 (F := Ideal) x0 x1 x2 x3 x4) (k0_pay5 (F := Ideal)) (k0_pay73 (F := Ideal) x0 x1 x2 x3 x4) (View.ld x2 r0_4)
def sum0_2 : FVec Ideal S128x2048 .f32 :=
  k0_pay24 (k0_pay75 (F := Ideal) x0 x1 x2 x3 x4) (k0_pay79 (F := Ideal) x0 x1 x2 x3 x4) (sum0_1 x0 x1 x2 x3 x4) (View.ld x2 r0_6)
def sum0_3 : FVec Ideal S128x2048 .f32 :=
  k0_pay30 (k0_pay77 (F := Ideal) x0 x1 x2 x3 x4) (k0_pay83 (F := Ideal) x0 x1 x2 x3 x4) (sum0_2 x0 x1 x2 x3 x4) (View.ld x2 r0_8)
def sum0_4 : FVec Ideal S128x2048 .f32 :=
  k0_pay39 (sum0_3 x0 x1 x2 x3 x4) (k0_pay35 (View.ld x2 r0_10)) (k0_pay37 (k0_pay80 (F := Ideal) x0 x1 x2 x3 x4) (k0_pay87 (F := Ideal) x0 x1 x2 x3 x4)) (k0_pay38 (k0_pay80 (F := Ideal) x0 x1 x2 x3 x4) (k0_pay87 (F := Ideal) x0 x1 x2 x3 x4))
def sum0_5 : FVec Ideal S128x2048 .f32 :=
  k0_pay46 (k0_pay84 (F := Ideal) x0 x1 x2 x3 x4) (k0_pay91 (F := Ideal) x0 x1 x2 x3 x4) (sum0_4 x0 x1 x2 x3 x4) (k0_pay44 (View.ld x2 r0_12))
def sum0_6 : FVec Ideal S128x2048 .f32 :=
  k0_pay52 (k0_pay88 (F := Ideal) x0 x1 x2 x3 x4) (k0_pay95 (F := Ideal) x0 x1 x2 x3 x4) (sum0_5 x0 x1 x2 x3 x4) (View.ld x2 r0_14)
def sum0_7 : FVec Ideal S128x2048 .f32 :=
  k0_pay58 (k0_pay92 (F := Ideal) x0 x1 x2 x3 x4) (k0_pay99 (F := Ideal) x0 x1 x2 x3 x4) (sum0_6 x0 x1 x2 x3 x4) (View.ld x2 r0_16)
def sum0_8 : FVec Ideal S128x2048 .f32 :=
  k0_pay62 (k0_pay96 (F := Ideal) x0 x1 x2 x3 x4) (k0_pay101 (F := Ideal) x0 x1 x2 x3 x4) (sum0_7 x0 x1 x2 x3 x4) (View.ld x2 r0_17)

/-- Head 1: its sums after each chunk of latent keys. -/
def sum1_1 : FVec Ideal S128x2048 .f32 :=
  k0_pay21 (k0_pay72 (F := Ideal) x0 x1 x2 x3 x4) (k0_pay7 (F := Ideal)) (k0_pay74 (F := Ideal) x0 x1 x2 x3 x4) (k0_pay18 (View.ld x2 r0_4)) k0_pay19 (Scalar.ofBits .bf16 0x3F80#16)
def sum1_2 : FVec Ideal S128x2048 .f32 :=
  k0_pay27 (k0_pay76 (F := Ideal) x0 x1 x2 x3 x4) (k0_pay81 (F := Ideal) x0 x1 x2 x3 x4) (sum1_1 x0 x1 x2 x3 x4) (View.ld x2 r0_6)
def sum1_3 : FVec Ideal S128x2048 .f32 :=
  k0_pay33 (k0_pay78 (F := Ideal) x0 x1 x2 x3 x4) (k0_pay85 (F := Ideal) x0 x1 x2 x3 x4) (sum1_2 x0 x1 x2 x3 x4) (View.ld x2 r0_8)
def sum1_4 : FVec Ideal S128x2048 .f32 :=
  k0_pay42 (k0_pay82 (F := Ideal) x0 x1 x2 x3 x4) (k0_pay89 (F := Ideal) x0 x1 x2 x3 x4) (sum1_3 x0 x1 x2 x3 x4) (View.ld x2 r0_10)
def sum1_5 : FVec Ideal S128x2048 .f32 :=
  k0_pay49 (k0_pay86 (F := Ideal) x0 x1 x2 x3 x4) (k0_pay93 (F := Ideal) x0 x1 x2 x3 x4) (sum1_4 x0 x1 x2 x3 x4) (View.ld x2 r0_12)
def sum1_6 : FVec Ideal S128x2048 .f32 :=
  k0_pay55 (k0_pay90 (F := Ideal) x0 x1 x2 x3 x4) (k0_pay97 (F := Ideal) x0 x1 x2 x3 x4) (sum1_5 x0 x1 x2 x3 x4) (View.ld x2 r0_14)
def sum1_7 : FVec Ideal S128x2048 .f32 :=
  k0_pay60 (k0_pay94 (F := Ideal) x0 x1 x2 x3 x4) (k0_pay100 (F := Ideal) x0 x1 x2 x3 x4) (sum1_6 x0 x1 x2 x3 x4) (View.ld x2 r0_16)
def sum1_8 : FVec Ideal S128x2048 .f32 :=
  k0_pay64 (k0_pay98 (F := Ideal) x0 x1 x2 x3 x4) (k0_pay102 (F := Ideal) x0 x1 x2 x3 x4) (sum1_7 x0 x1 x2 x3 x4) (View.ld x2 r0_17)

/-- Head 0 of one query: what its scores and its values (with the row of ones) are, the running pair of the latent keys. -/
theorem lat0 {s : ℕ → ℝ} {v : Fin 128 → ℕ → EReal} {c : Fin 2048}
    (hs : ∀ (j : ℕ) (hj : j < 4096), ∑ l : Fin 128, x1 (ix3 0 ⟨j, hj⟩ ⟨0 + l.val, by have := l.isLt; omega⟩) * (k0_pay69 (F := Ideal) x0 x1 x2 x3 x4) (ix2 c l) = ((s (0 + j) : ℝ) : EReal))
    (hv : ∀ (r : Fin 128) (j : ℕ) (hj : j < 4096), (if r.val = 64 then 1 else x2 (ix3 0 r ⟨j, hj⟩)) = v r (0 + j)) :
    Running s v 4096 ((k0_pay61 (k0_pay96 (F := Ideal) x0 x1 x2 x3 x4) (k0_pay101 (F := Ideal) x0 x1 x2 x3 x4) : FVec Ideal S1x2048 .f32) (ix2 0 c)) fun r => sum0_8 x0 x1 x2 x3 x4 (ix2 r c) := by
  obtain ⟨m, hm⟩ := literal_real 0xF149F2CA#32 (by decide)
  have h0 : Running s v 0 ((k0_pay71 (F := Ideal) x0 x1 x2 x3 x4) (ix2 0 c)) fun r => (k0_pay5 (F := Ideal)) (ix2 r c) :=
    Running.zero s v m ((k0_pay71 (F := Ideal) x0 x1 x2 x3 x4) (ix2 0 c)) (fun r => k0_pay5 (F := Ideal) (ix2 r c)) hm fun r => Ideal.ofBits_zero_f32
  have h1 := chunk (K := 512) (h1 := broadcasts_S1x2048_S128x2048) (h2 := broadcasts_S1x2048_S512x2048) (m' := (k0_pay79 (F := Ideal) x0 x1 x2 x3 x4)) (a' := sum0_1 x0 x1 x2 x3 x4) h0 0 0 0 64 rfl (by decide) (by decide) (by decide) x1 x2 (k0_pay69 (F := Ideal) x0 x1 x2 x3 x4) hs hv (k0_pay73 (F := Ideal) x0 x1 x2 x3 x4) rfl rfl rfl
  have h2 := chunk (K := 512) (h1 := broadcasts_S1x2048_S128x2048) (h2 := broadcasts_S1x2048_S512x2048) (m' := (k0_pay83 (F := Ideal) x0 x1 x2 x3 x4)) (a' := sum0_2 x0 x1 x2 x3 x4) h1 0 512 0 64 rfl (by decide) (by decide) (by decide) x1 x2 (k0_pay69 (F := Ideal) x0 x1 x2 x3 x4) hs hv (k0_pay75 (F := Ideal) x0 x1 x2 x3 x4) rfl rfl rfl
  have h3 := chunk (K := 512) (h1 := broadcasts_S1x2048_S128x2048) (h2 := broadcasts_S1x2048_S512x2048) (m' := (k0_pay87 (F := Ideal) x0 x1 x2 x3 x4)) (a' := sum0_3 x0 x1 x2 x3 x4) h2 0 1024 0 64 rfl (by decide) (by decide) (by decide) x1 x2 (k0_pay69 (F := Ideal) x0 x1 x2 x3 x4) hs hv (k0_pay77 (F := Ideal) x0 x1 x2 x3 x4) rfl rfl rfl
  have h4 := chunk (K := 512) (h1 := broadcasts_S1x2048_S128x2048) (h2 := broadcasts_S1x2048_S512x2048) (m' := (k0_pay91 (F := Ideal) x0 x1 x2 x3 x4)) (a' := sum0_4 x0 x1 x2 x3 x4) h3 0 1536 0 64 rfl (by decide) (by decide) (by decide) x1 x2 (k0_pay69 (F := Ideal) x0 x1 x2 x3 x4) hs hv (k0_pay80 (F := Ideal) x0 x1 x2 x3 x4) rfl rfl rfl
  have h5 := chunk (K := 512) (h1 := broadcasts_S1x2048_S128x2048) (h2 := broadcasts_S1x2048_S512x2048) (m' := (k0_pay95 (F := Ideal) x0 x1 x2 x3 x4)) (a' := sum0_5 x0 x1 x2 x3 x4) h4 0 2048 0 64 rfl (by decide) (by decide) (by decide) x1 x2 (k0_pay69 (F := Ideal) x0 x1 x2 x3 x4) hs hv (k0_pay84 (F := Ideal) x0 x1 x2 x3 x4) rfl rfl rfl
  have h6 := chunk (K := 512) (h1 := broadcasts_S1x2048_S128x2048) (h2 := broadcasts_S1x2048_S512x2048) (m' := (k0_pay99 (F := Ideal) x0 x1 x2 x3 x4)) (a' := sum0_6 x0 x1 x2 x3 x4) h5 0 2560 0 64 rfl (by decide) (by decide) (by decide) x1 x2 (k0_pay69 (F := Ideal) x0 x1 x2 x3 x4) hs hv (k0_pay88 (F := Ideal) x0 x1 x2 x3 x4) rfl rfl rfl
  have h7 := chunk (K := 512) (h1 := broadcasts_S1x2048_S128x2048) (h2 := broadcasts_S1x2048_S512x2048) (m' := (k0_pay101 (F := Ideal) x0 x1 x2 x3 x4)) (a' := sum0_7 x0 x1 x2 x3 x4) h6 0 3072 0 64 rfl (by decide) (by decide) (by decide) x1 x2 (k0_pay69 (F := Ideal) x0 x1 x2 x3 x4) hs hv (k0_pay92 (F := Ideal) x0 x1 x2 x3 x4) rfl rfl rfl
  have h8 := chunk (K := 512) (h1 := broadcasts_S1x2048_S128x2048) (h2 := broadcasts_S1x2048_S512x2048) (m' := (k0_pay61 (k0_pay96 (F := Ideal) x0 x1 x2 x3 x4) (k0_pay101 (F := Ideal) x0 x1 x2 x3 x4))) (a' := sum0_8 x0 x1 x2 x3 x4) h7 0 3584 0 64 rfl (by decide) (by decide) (by decide) x1 x2 (k0_pay69 (F := Ideal) x0 x1 x2 x3 x4) hs hv (k0_pay96 (F := Ideal) x0 x1 x2 x3 x4) rfl rfl rfl
  exact h8

/-- Head 1 of one query: what its scores and its values (with the row of ones) are, the running pair of the latent keys. -/
theorem lat1 {s : ℕ → ℝ} {v : Fin 128 → ℕ → EReal} {c : Fin 2048}
    (hs : ∀ (j : ℕ) (hj : j < 4096), ∑ l : Fin 128, x1 (ix3 0 ⟨j, hj⟩ ⟨0 + l.val, by have := l.isLt; omega⟩) * (k0_pay70 (F := Ideal) x0 x1 x2 x3 x4) (ix2 c l) = ((s (0 + j) : ℝ) : EReal))
    (hv : ∀ (r : Fin 128) (j : ℕ) (hj : j < 4096), (if r.val = 0 then 1 else x2 (ix3 0 r ⟨j, hj⟩)) = v r (0 + j)) :
    Running s v 4096 ((k0_pay63 (k0_pay98 (F := Ideal) x0 x1 x2 x3 x4) (k0_pay102 (F := Ideal) x0 x1 x2 x3 x4) : FVec Ideal S1x2048 .f32) (ix2 0 c)) fun r => sum1_8 x0 x1 x2 x3 x4 (ix2 r c) := by
  obtain ⟨m, hm⟩ := literal_real 0xF149F2CA#32 (by decide)
  have h0 : Running s v 0 ((k0_pay72 (F := Ideal) x0 x1 x2 x3 x4) (ix2 0 c)) fun r => (k0_pay7 (F := Ideal)) (ix2 r c) :=
    Running.zero s v m ((k0_pay72 (F := Ideal) x0 x1 x2 x3 x4) (ix2 0 c)) (fun r => k0_pay7 (F := Ideal) (ix2 r c)) hm fun r => Ideal.ofBits_zero_f32
  have h1 := chunk (K := 512) (h1 := broadcasts_S1x2048_S128x2048) (h2 := broadcasts_S1x2048_S512x2048) (m' := (k0_pay81 (F := Ideal) x0 x1 x2 x3 x4)) (a' := sum1_1 x0 x1 x2 x3 x4) h0 0 0 0 0 rfl (by decide) (by decide) (by decide) x1 x2 (k0_pay70 (F := Ideal) x0 x1 x2 x3 x4) hs hv (k0_pay74 (F := Ideal) x0 x1 x2 x3 x4) rfl rfl rfl
  have h2 := chunk (K := 512) (h1 := broadcasts_S1x2048_S128x2048) (h2 := broadcasts_S1x2048_S512x2048) (m' := (k0_pay85 (F := Ideal) x0 x1 x2 x3 x4)) (a' := sum1_2 x0 x1 x2 x3 x4) h1 0 512 0 0 rfl (by decide) (by decide) (by decide) x1 x2 (k0_pay70 (F := Ideal) x0 x1 x2 x3 x4) hs hv (k0_pay76 (F := Ideal) x0 x1 x2 x3 x4) rfl rfl rfl
  have h3 := chunk (K := 512) (h1 := broadcasts_S1x2048_S128x2048) (h2 := broadcasts_S1x2048_S512x2048) (m' := (k0_pay89 (F := Ideal) x0 x1 x2 x3 x4)) (a' := sum1_3 x0 x1 x2 x3 x4) h2 0 1024 0 0 rfl (by decide) (by decide) (by decide) x1 x2 (k0_pay70 (F := Ideal) x0 x1 x2 x3 x4) hs hv (k0_pay78 (F := Ideal) x0 x1 x2 x3 x4) rfl rfl rfl
  have h4 := chunk (K := 512) (h1 := broadcasts_S1x2048_S128x2048) (h2 := broadcasts_S1x2048_S512x2048) (m' := (k0_pay93 (F := Ideal) x0 x1 x2 x3 x4)) (a' := sum1_4 x0 x1 x2 x3 x4) h3 0 1536 0 0 rfl (by decide) (by decide) (by decide) x1 x2 (k0_pay70 (F := Ideal) x0 x1 x2 x3 x4) hs hv (k0_pay82 (F := Ideal) x0 x1 x2 x3 x4) rfl rfl rfl
  have h5 := chunk (K := 512) (h1 := broadcasts_S1x2048_S128x2048) (h2 := broadcasts_S1x2048_S512x2048) (m' := (k0_pay97 (F := Ideal) x0 x1 x2 x3 x4)) (a' := sum1_5 x0 x1 x2 x3 x4) h4 0 2048 0 0 rfl (by decide) (by decide) (by decide) x1 x2 (k0_pay70 (F := Ideal) x0 x1 x2 x3 x4) hs hv (k0_pay86 (F := Ideal) x0 x1 x2 x3 x4) rfl rfl rfl
  have h6 := chunk (K := 512) (h1 := broadcasts_S1x2048_S128x2048) (h2 := broadcasts_S1x2048_S512x2048) (m' := (k0_pay100 (F := Ideal) x0 x1 x2 x3 x4)) (a' := sum1_6 x0 x1 x2 x3 x4) h5 0 2560 0 0 rfl (by decide) (by decide) (by decide) x1 x2 (k0_pay70 (F := Ideal) x0 x1 x2 x3 x4) hs hv (k0_pay90 (F := Ideal) x0 x1 x2 x3 x4) rfl rfl rfl
  have h7 := chunk (K := 512) (h1 := broadcasts_S1x2048_S128x2048) (h2 := broadcasts_S1x2048_S512x2048) (m' := (k0_pay102 (F := Ideal) x0 x1 x2 x3 x4)) (a' := sum1_7 x0 x1 x2 x3 x4) h6 0 3072 0 0 rfl (by decide) (by decide) (by decide) x1 x2 (k0_pay70 (F := Ideal) x0 x1 x2 x3 x4) hs hv (k0_pay94 (F := Ideal) x0 x1 x2 x3 x4) rfl rfl rfl
  have h8 := chunk (K := 512) (h1 := broadcasts_S1x2048_S128x2048) (h2 := broadcasts_S1x2048_S512x2048) (m' := (k0_pay63 (k0_pay98 (F := Ideal) x0 x1 x2 x3 x4) (k0_pay102 (F := Ideal) x0 x1 x2 x3 x4))) (a' := sum1_8 x0 x1 x2 x3 x4) h7 0 3584 0 0 rfl (by decide) (by decide) (by decide) x1 x2 (k0_pay70 (F := Ideal) x0 x1 x2 x3 x4) hs hv (k0_pay98 (F := Ideal) x0 x1 x2 x3 x4) rfl rfl rfl
  exact h8

/-- The scores of the context keys of head 0. -/
def ctx0 : FVec Ideal S256x2048 .f32 := k0_pay53 (k0_pay69 (F := Ideal) x0 x1 x2 x3 x4) (View.ld x3 r0_15)

/-- The final row of maxima of head 0, with the context keys. -/
def top0 : FVec Ideal S1x2048 .f32 :=
  maximumf (k0_pay61 (k0_pay96 (F := Ideal) x0 x1 x2 x3 x4) (k0_pay101 (F := Ideal) x0 x1 x2 x3 x4)) (shapeCast S1x2048 (multiReduction .maximumf [0] S2048 (ctx0 x0 x1 x2 x3 x4) 0xFF800000#32
    reduces_S256x2048_S2048 (.inl rfl) rfl) shapeCasts_S2048_S1x2048)

/-- The final sums of head 0. -/
def tot0 : FVec Ideal S128x2048 .f32 :=
  addf (mulf (broadcastTo S128x2048 (exp2 (subf (k0_pay61 (k0_pay96 (F := Ideal) x0 x1 x2 x3 x4) (k0_pay101 (F := Ideal) x0 x1 x2 x3 x4)) (top0 x0 x1 x2 x3 x4))) broadcasts_S1x2048_S128x2048)
      (sum0_8 x0 x1 x2 x3 x4))
    (matmul dot_S128x256_S256x2048_S128x2048_1_0_0_1_n_n none
      (select (cmpi .eq (iota .tc S128x256 32 [0] iota_S128x256_d0_w32) (broadcast S128x256 64#32))
        (broadcast S128x256 (Scalar.ofBits (F := Ideal) .bf16 0x3F80#16))
        (shapeCast S128x256 (View.ld (Val := Elt Ideal) (e' := .bf16) x4 r0_18) shapeCasts_S1x128x256_S128x256 : FVec Ideal S128x256 .bf16))
      (truncf .bf16 (exp2 (subf (ctx0 x0 x1 x2 x3 x4) (broadcastTo S256x2048 (top0 x0 x1 x2 x3 x4) broadcasts_S1x2048_S256x2048)))
        bitsLt_bf16_f32) (constant S128x2048 .f32 0x00000000#32))

/-- The scores of the context keys of head 1. -/
def ctx1 : FVec Ideal S256x2048 .f32 := k0_pay56 (k0_pay70 (F := Ideal) x0 x1 x2 x3 x4) (View.ld x3 r0_15)

/-- The final row of maxima of head 1, with the context keys. -/
def top1 : FVec Ideal S1x2048 .f32 :=
  maximumf (k0_pay63 (k0_pay98 (F := Ideal) x0 x1 x2 x3 x4) (k0_pay102 (F := Ideal) x0 x1 x2 x3 x4)) (shapeCast S1x2048 (multiReduction .maximumf [0] S2048 (ctx1 x0 x1 x2 x3 x4) 0xFF800000#32
    reduces_S256x2048_S2048 (.inl rfl) rfl) shapeCasts_S2048_S1x2048)

/-- The final sums of head 1. -/
def tot1 : FVec Ideal S128x2048 .f32 :=
  addf (mulf (broadcastTo S128x2048 (exp2 (subf (k0_pay63 (k0_pay98 (F := Ideal) x0 x1 x2 x3 x4) (k0_pay102 (F := Ideal) x0 x1 x2 x3 x4)) (top1 x0 x1 x2 x3 x4))) broadcasts_S1x2048_S128x2048)
      (sum1_8 x0 x1 x2 x3 x4))
    (matmul dot_S128x256_S256x2048_S128x2048_1_0_0_1_n_n none
      (select (cmpi .eq (iota .tc S128x256 32 [0] iota_S128x256_d0_w32) (broadcast S128x256 0#32))
        (broadcast S128x256 (Scalar.ofBits (F := Ideal) .bf16 0x3F80#16))
        (shapeCast S128x256 (View.ld (Val := Elt Ideal) (e' := .bf16) x4 r0_18) shapeCasts_S1x128x256_S128x256 : FVec Ideal S128x256 .bf16))
      (truncf .bf16 (exp2 (subf (ctx1 x0 x1 x2 x3 x4) (broadcastTo S256x2048 (top1 x0 x1 x2 x3 x4) broadcasts_S1x2048_S256x2048)))
        bitsLt_bf16_f32) (constant S128x2048 .f32 0x00000000#32))

/-- The stored block at query `c`, row `r` of the pair of heads, from the scores and values of both heads over the 4352
    keys in the order latent keys first. -/
theorem block {s s' : ℕ → ℝ} {v v' : Fin 128 → ℕ → EReal} {c : Fin 2048}
    (hsl0 : ∀ (j : ℕ) (hj : j < 4096), ∑ l : Fin 128, x1 (ix3 0 ⟨j, hj⟩ ⟨0 + l.val, by have := l.isLt; omega⟩) * (k0_pay69 (F := Ideal) x0 x1 x2 x3 x4) (ix2 c l) = ((s (0 + j) : ℝ) : EReal))
    (hvl0 : ∀ (r : Fin 128) (j : ℕ) (hj : j < 4096), (if r.val = 64 then 1 else x2 (ix3 0 r ⟨j, hj⟩)) = v r (0 + j))
    (hsc0 : ∀ (j : ℕ) (hj : j < 256), ∑ l : Fin 128, x3 (ix3 0 ⟨j, hj⟩ ⟨0 + l.val, by have := l.isLt; omega⟩) * (k0_pay69 (F := Ideal) x0 x1 x2 x3 x4) (ix2 c l) = ((s (4096 + j) : ℝ) : EReal))
    (hvc0 : ∀ (r : Fin 128) (j : ℕ) (hj : j < 256), (if r.val = 64 then 1 else x4 (ix3 0 r ⟨j, hj⟩)) = v r (4096 + j))
    (hsl1 : ∀ (j : ℕ) (hj : j < 4096), ∑ l : Fin 128, x1 (ix3 0 ⟨j, hj⟩ ⟨0 + l.val, by have := l.isLt; omega⟩) * (k0_pay70 (F := Ideal) x0 x1 x2 x3 x4) (ix2 c l) = ((s' (0 + j) : ℝ) : EReal))
    (hvl1 : ∀ (r : Fin 128) (j : ℕ) (hj : j < 4096), (if r.val = 0 then 1 else x2 (ix3 0 r ⟨j, hj⟩)) = v' r (0 + j))
    (hsc1 : ∀ (j : ℕ) (hj : j < 256), ∑ l : Fin 128, x3 (ix3 0 ⟨j, hj⟩ ⟨0 + l.val, by have := l.isLt; omega⟩) * (k0_pay70 (F := Ideal) x0 x1 x2 x3 x4) (ix2 c l) = ((s' (4096 + j) : ℝ) : EReal))
    (hvc1 : ∀ (r : Fin 128) (j : ℕ) (hj : j < 256), (if r.val = 0 then 1 else x4 (ix3 0 r ⟨j, hj⟩)) = v' r (4096 + j))
    (one : ∀ j, v ⟨64, by decide⟩ j = 1) (one' : ∀ j, v' ⟨0, by decide⟩ j = 1) (r : Fin 128) :
    (out0_5 (F := Ideal) x0 x1 x2 x3 x4 (ix3 0 c r) : EReal) = if r.val < 64 then attend s (v r) 4352 else attend s' (v' r) 4352 := by
  have h0 := chunk (K := 256) (h1 := broadcasts_S1x2048_S128x2048) (h2 := broadcasts_S1x2048_S256x2048) (m := k0_pay61 (k0_pay96 (F := Ideal) x0 x1 x2 x3 x4) (k0_pay101 (F := Ideal) x0 x1 x2 x3 x4)) (a := sum0_8 x0 x1 x2 x3 x4)
    (m' := top0 x0 x1 x2 x3 x4) (a' := tot0 x0 x1 x2 x3 x4)
    (lat0 x0 x1 x2 x3 x4 hsl0 hvl0) 4096 0 0 64 rfl (by decide) (by decide) (by decide) x3 x4 (k0_pay69 (F := Ideal) x0 x1 x2 x3 x4) hsc0 hvc0 (ctx0 x0 x1 x2 x3 x4) rfl (by unfold top0; rfl) (by unfold tot0; rfl)
  have h1 := chunk (K := 256) (h1 := broadcasts_S1x2048_S128x2048) (h2 := broadcasts_S1x2048_S256x2048) (m := k0_pay63 (k0_pay98 (F := Ideal) x0 x1 x2 x3 x4) (k0_pay102 (F := Ideal) x0 x1 x2 x3 x4)) (a := sum1_8 x0 x1 x2 x3 x4)
    (m' := top1 x0 x1 x2 x3 x4) (a' := tot1 x0 x1 x2 x3 x4)
    (lat1 x0 x1 x2 x3 x4 hsl1 hvl1) 4096 0 0 0 rfl (by decide) (by decide) (by decide) x3 x4 (k0_pay70 (F := Ideal) x0 x1 x2 x3 x4) hsc1 hvc1 (ctx1 x0 x1 x2 x3 x4) rfl (by unfold top1; rfl) (by unfold tot1; rfl)
  have hz : (![0, 0, 0] : Fin S1x2048x128.rank → ℕ) = fun _ => 0 := by decide
  refine (congrFun (View.canon_unit_zero (S := S1x2048x128) hz inb_S1x2048x128_S1x2048x128_0_0_0 _) _).trans ?_
  refine (store_apply _ _ _ _ _ _ 0 c r).trans ?_
  refine ite_congr rfl (fun _ => ?_) fun _ => ?_
  · exact (ratio_apply _ 64 (by decide) _ _ r c).trans (h0.finish (by decide) ⟨64, by decide⟩ one r)
  · exact (ratio_apply _ 0 (by decide) _ _ r c).trans (h1.finish (by decide) ⟨0, by decide⟩ one' r)

end Cert.Kernel2Ideal.Block

end
-- ==== Proof.HostD.lean ====
module

public import proofs.«01_k».proof.Proof.BlockD
public import Idealize.ShloMosaic.Lib.Pipeline.ValueKit
public import Idealize.ShloMosaic.Lib.Claim
public import Idealize.ShloMosaic.Lib.IdealHost
public import Idealize.ShloMosaic.Lib.KernelVsHost

/-!
The arrays the grouped-query kernel is handed, read at an index from the program's arguments.
-/

@[expose] public section

set_option maxRecDepth 16384

noncomputable section

namespace Cert.Kernel2Ideal.Block

open Cert.Kernel2Ideal Cert.Kernel2Ideal.Gen
open Idealize.ShloMosaic hiding ix0 ix1 ix2 ix3 ix4 ix5
open Idealize.ShloMosaic.ValueIdx Idealize.ShloMosaic.TcCoe Finset

variable (m : (ℓ : Loc nD τ sig) → Buf (Elt Ideal) ℓ)

/-- Heads packed one after another into rows. -/
theorem rows_apply {H W T : ℕ} (hW : W = 64 * H) (x : FVec Ideal ⟨4, ![8, H, T, 64]⟩ .f32)
    (hp : (⟨4, ![8, H, T, 64]⟩ : Shape).Transposes [0, 2, 1, 3] ⟨4, ![8, T, H, 64]⟩)
    (hc : (⟨4, ![8, T, H, 64]⟩ : Shape).ShapeCasts ⟨3, ![8, T, W]⟩)
    (b : Fin 8) (hd : Fin H) (t : Fin T) (l : Fin 64) (e : Fin W) (he : e.val = 64 * hd.val + l.val) :
    (shapeCast ⟨3, ![8, T, W]⟩ (transpose ⟨4, ![8, T, H, 64]⟩ [0, 2, 1, 3] x hp) hc (ix3 b t e) : EReal) = x (ix4 b hd t l) := by
  refine (shapeCast_apply _ hc (ix3 b t e) (ix4 b t hd l) ?_).trans ?_
  · rw [Shape.rowMajor_val_four, Shape.rowMajor_val_three]
    show ((b.val * T + t.val) * H + hd.val) * 64 + l.val = (b.val * T + t.val) * W + e.val
    rw [he, hW]; ring
  · refine transpose_apply _ _ hp (ix4 b t hd l) (ix4 b hd t l) fun a => ?_
    match a with
    | ⟨0, _⟩ => rfl
    | ⟨1, _⟩ => rfl
    | ⟨2, _⟩ => rfl
    | ⟨3, _⟩ => rfl

/-- The query heads reordered: the head at place `2 g + k` is the one at place `2 k + g`. -/
theorem swap_apply (x : FVec Ideal S8x4x4096x64 .f32) (b : Fin 8) (g k : Fin 2) (t : Fin 4096) (l : Fin 64) :
    (shapeCast S8x4x4096x64 (transpose S8x2x2x4096x64 [0, 2, 1, 3, 4] (shapeCast S8x2x2x4096x64 x shapeCasts_S8x4x4096x64_S8x2x2x4096x64)
        transposes_S8x2x2x4096x64_S8x2x2x4096x64_0_2_1_3_4) shapeCasts_S8x2x2x4096x64_S8x4x4096x64 (ix4 b ⟨2 * g.val + k.val, by omega⟩ t l) : EReal)
      = x (ix4 b ⟨2 * k.val + g.val, by omega⟩ t l) := by
  refine (shapeCast_apply _ shapeCasts_S8x2x2x4096x64_S8x4x4096x64 _ (ix5 b g k t l) ?_).trans ?_
  · rw [Shape.rowMajor_val_five, Shape.rowMajor_val_four]
    show (((b.val * 2 + g.val) * 2 + k.val) * 4096 + t.val) * 64 + l.val = ((b.val * 4 + (2 * g.val + k.val)) * 4096 + t.val) * 64 + l.val
    ring
  · refine (transpose_apply _ _ transposes_S8x2x2x4096x64_S8x2x2x4096x64_0_2_1_3_4 (ix5 b g k t l) (ix5 b k g t l) fun a => ?_).trans ?_
    · match a with
      | ⟨0, _⟩ => rfl
      | ⟨1, _⟩ => rfl
      | ⟨2, _⟩ => rfl
      | ⟨3, _⟩ => rfl
      | ⟨4, _⟩ => rfl
    · refine shapeCast_apply _ shapeCasts_S8x4x4096x64_S8x2x2x4096x64 _ _ ?_
      rw [Shape.rowMajor_val_five, Shape.rowMajor_val_four]
      show ((b.val * 4 + (2 * k.val + g.val)) * 4096 + t.val) * 64 + l.val = (((b.val * 2 + k.val) * 2 + g.val) * 4096 + t.val) * 64 + l.val
      ring

/-- Values packed head by head into columns. -/
theorem cols_apply {T : ℕ} (x : FVec Ideal ⟨4, ![8, 2, T, 64]⟩ .f32)
    (hp : (⟨4, ![8, 2, T, 64]⟩ : Shape).Transposes [0, 1, 3, 2] ⟨4, ![8, 2, 64, T]⟩)
    (hc : (⟨4, ![8, 2, 64, T]⟩ : Shape).ShapeCasts ⟨3, ![8, 128, T]⟩)
    (b : Fin 8) (hd : Fin 2) (t : Fin T) (d : Fin 64) (e : Fin 128) (he : e.val = 64 * hd.val + d.val) :
    (shapeCast ⟨3, ![8, 128, T]⟩ (transpose ⟨4, ![8, 2, 64, T]⟩ [0, 1, 3, 2] x hp) hc (ix3 b e t) : EReal) = x (ix4 b hd t d) := by
  refine (shapeCast_apply _ hc (ix3 b e t) (ix4 b hd d t) ?_).trans ?_
  · rw [Shape.rowMajor_val_four, Shape.rowMajor_val_three]
    show ((b.val * 2 + hd.val) * 64 + d.val) * T + t.val = (b.val * 128 + e.val) * T + t.val
    rw [he]; ring
  · refine transpose_apply _ _ hp (ix4 b hd d t) (ix4 b hd t d) fun a => ?_
    match a with
    | ⟨0, _⟩ => rfl
    | ⟨1, _⟩ => rfl
    | ⟨2, _⟩ => rfl
    | ⟨3, _⟩ => rfl

/-- The queries, keys, values, context keys and context values the program is given. -/
abbrev argQ (c : Dev nD) : FVec Ideal S8x4x4096x64 .f32 := m ((c : Thread nD τ).loc main_arg0)
@[inherit_doc argQ] abbrev argK (c : Dev nD) : FVec Ideal S8x2x4096x64 .f32 := m ((c : Thread nD τ).loc main_arg1)
@[inherit_doc argQ] abbrev argV (c : Dev nD) : FVec Ideal S8x2x4096x64 .f32 := m ((c : Thread nD τ).loc main_arg2)
@[inherit_doc argQ] abbrev argKc (c : Dev nD) : FVec Ideal S8x2x256x64 .f32 := m ((c : Thread nD τ).loc main_arg3)
@[inherit_doc argQ] abbrev argVc (c : Dev nD) : FVec Ideal S8x2x256x64 .f32 := m ((c : Thread nD τ).loc main_arg4)

/-- What the host hands over as packed queries. -/
theorem q_entry (c : Dev nD) (b : Fin 8) (t : Fin 4096) (g k : Fin 2) (l : Fin 64) (e : Fin 256) (he : e.val = 64 * (2 * g.val + k.val) + l.val) :
    ((V m c main_v11 : FVec Ideal S8x4096x256 .bf16) (ix3 b t e) : EReal)
      = argQ m c (ix4 b ⟨2 * k.val + g.val, by omega⟩ t l) * (Ideal.ofBits .f32 0x3E000000#32 : EReal)
          * Ideal.div (Ideal.ofBits .f32 0x3F800000#32) (Ideal.log (Ideal.ofBits .f32 0x40000000#32)) := by
  simp only [V, V0, List.flatten_cons, List.flatten_nil, List.append_nil, List.cons_append, List.nil_append]
  after_results
  rw [truncf_apply]
  refine (rows_apply (H := 4) (W := 256) rfl _ transposes_S8x4x4096x64_S8x4096x4x64_0_2_1_3 shapeCasts_S8x4096x4x64_S8x4096x256
    b ⟨2 * g.val + k.val, by omega⟩ t l e he).trans ?_
  refine (swap_apply (mulf (mulf (argQ m c) (broadcastInDim S8x4x4096x64 ![] bcast_S_S8x4x4096x64 (constant (F := Ideal) S_ .f32 0x3E000000#32)))
    (broadcastInDim S8x4x4096x64 ![] bcast_S_S8x4x4096x64 (Host.divf (constant (F := Ideal) S_ .f32 0x3F800000#32) (Host.log (constant (F := Ideal) S_ .f32 0x40000000#32)))))
    b g k t l).trans ?_
  rfl

/-- What the host hands over as packed keys. -/
theorem k_entry (c : Dev nD) (b : Fin 8) (t : Fin 4096) (hd : Fin 2) (l : Fin 64) (e : Fin 128) (he : e.val = 64 * hd.val + l.val) :
    ((V m c main_v14 : FVec Ideal S8x4096x128 .bf16) (ix3 b t e) : EReal) = argK m c (ix4 b hd t l) := by
  simp only [V, V0, List.flatten_cons, List.flatten_nil, List.append_nil, List.cons_append, List.nil_append]
  after_results
  rw [truncf_apply]
  exact rows_apply (H := 2) (W := 128) rfl _ transposes_S8x2x4096x64_S8x4096x2x64_0_2_1_3 shapeCasts_S8x4096x2x64_S8x4096x128 b hd t l e he

/-- What the host hands over as packed context keys. -/
theorem kc_entry (c : Dev nD) (b : Fin 8) (t : Fin 256) (hd : Fin 2) (l : Fin 64) (e : Fin 128) (he : e.val = 64 * hd.val + l.val) :
    ((V m c main_v17 : FVec Ideal S8x256x128 .bf16) (ix3 b t e) : EReal) = argKc m c (ix4 b hd t l) := by
  simp only [V, V0, List.flatten_cons, List.flatten_nil, List.append_nil, List.cons_append, List.nil_append]
  after_results
  rw [truncf_apply]
  exact rows_apply (H := 2) (W := 128) rfl _ transposes_S8x2x256x64_S8x256x2x64_0_2_1_3 shapeCasts_S8x256x2x64_S8x256x128 b hd t l e he

/-- What the host hands over as packed values. -/
theorem v_entry (c : Dev nD) (b : Fin 8) (t : Fin 4096) (hd : Fin 2) (d : Fin 64) (e : Fin 128) (he : e.val = 64 * hd.val + d.val) :
    ((V m c main_v20 : FVec Ideal S8x128x4096 .bf16) (ix3 b e t) : EReal) = argV m c (ix4 b hd t d) := by
  simp only [V, V0, List.flatten_cons, List.flatten_nil, List.append_nil, List.cons_append, List.nil_append]
  after_results
  exact cols_apply _ transposes_S8x2x4096x64_S8x2x64x4096_0_1_3_2 shapeCasts_S8x2x64x4096_S8x128x4096 b hd t d e he

/-- What the host hands over as packed context values. -/
theorem vc_entry (c : Dev nD) (b : Fin 8) (t : Fin 256) (hd : Fin 2) (d : Fin 64) (e : Fin 128) (he : e.val = 64 * hd.val + d.val) :
    ((V m c main_v23 : FVec Ideal S8x128x256 .bf16) (ix3 b e t) : EReal) = argVc m c (ix4 b hd t d) := by
  simp only [V, V0, List.flatten_cons, List.flatten_nil, List.append_nil, List.cons_append, List.nil_append]
  after_results
  exact cols_apply _ transposes_S8x2x256x64_S8x2x64x256_0_1_3_2 shapeCasts_S8x2x64x256_S8x128x256 b hd t d e he

end Cert.Kernel2Ideal.Block

end
-- ==== Proof.FinalD.lean ====
module

public import proofs.«01_k».proof.Proof.HostD
public import proofs.«01_k».proof.Proof.FinalB

/-!
The array the grouped-query kernel leaves: at every row and column the softmax of that row's scores applied to that
column's values.
-/

@[expose] public section

set_option maxRecDepth 16384

noncomputable section

namespace Cert.Kernel2Ideal.Block

open Cert.Kernel2Ideal Cert.Kernel2Ideal.Gen Cert.Softmax
open Idealize.ShloMosaic hiding ix0 ix1 ix2 ix3 ix4 ix5
open Idealize.ShloMosaic.ValueIdx Idealize.ShloMosaic.TcCoe Finset

variable (m : (ℓ : Loc nD τ sig) → Buf (Elt Ideal) ℓ)

/-- Where the windows of a grid point lie. -/
theorem idx : ∀ t : Fin cfg0.N,
    win0_0.index t = ![t.val / 4, t.val % 2, t.val / 2 % 2] ∧ win0_1.index t = ![t.val / 4, 0, 0]
    ∧ win0_2.index t = ![t.val / 4, 0, 0] ∧ win0_3.index t = ![t.val / 4, 0, 0]
    ∧ win0_4.index t = ![t.val / 4, 0, 0] ∧ win0_5.index t = ![t.val / 4, t.val % 2, t.val / 2 % 2] :=
  (by decide +kernel : ∀ t : Fin grid0.N, _)

theorem lt_N (t : Fin cfg0.N) : t.val < 32 := t.isLt

/-- The batch entry, head pair and half of the rows of a grid point. -/
abbrev bat (t : Fin cfg0.N) : Fin 8 := ⟨t.val / 4, by have := lt_N t; omega⟩
@[inherit_doc bat] abbrev pr (t : Fin cfg0.N) : Fin 2 := ⟨t.val / 2 % 2, by omega⟩
@[inherit_doc bat] abbrev half (t : Fin cfg0.N) : Fin 2 := ⟨t.val % 2, by omega⟩

/-! The blocks of a grid point, named. -/

def B0 (c : Dev nD) (t : Fin cfg0.N) : FVec Ideal S1x2048x128 .bf16 := iblk m c 0 t
def B1 (c : Dev nD) (t : Fin cfg0.N) : FVec Ideal S1x4096x128 .bf16 := iblk m c 1 t
def B2 (c : Dev nD) (t : Fin cfg0.N) : FVec Ideal S1x128x4096 .bf16 := iblk m c 2 t
def B3 (c : Dev nD) (t : Fin cfg0.N) : FVec Ideal S1x256x128 .bf16 := iblk m c 3 t
def B4 (c : Dev nD) (t : Fin cfg0.N) : FVec Ideal S1x128x256 .bf16 := iblk m c 4 t

/-! An entry of a block is an entry of the array it is cut from. -/

theorem read0 (X : FVec Ideal S8x4096x256 .bf16) (t : Fin cfg0.N) (r : Fin 2048) (e : Fin 128) :
    (((cfg0.win 0).blk t).view.read (Elt Ideal) X : FVec Ideal S1x2048x128 .bf16) (ix3 0 r e) = X (ix3 (bat t) ⟨2048 * (half t).val + r.val, by omega⟩ ⟨128 * (pr t).val + e.val, by omega⟩) := by
  blk_ext [idx t]
  · show _ * 2048 + r.val = _
    omega
  · show _ * 128 + e.val = _
    omega

theorem blk0 (c : Dev nD) (t : Fin cfg0.N) (r : Fin 2048) (e : Fin 128) :
    B0 m c t (ix3 0 r e) = (V m c main_v11 : FVec Ideal S8x4096x256 .bf16) (ix3 (bat t) ⟨2048 * (half t).val + r.val, by omega⟩ ⟨128 * (pr t).val + e.val, by omega⟩) :=
  read0 (V m c main_v11) t r e

theorem read1 (X : FVec Ideal S8x4096x128 .bf16) (t : Fin cfg0.N) (j : Fin 4096) (e : Fin 128) :
    (((cfg0.win 1).blk t).view.read (Elt Ideal) X : FVec Ideal S1x4096x128 .bf16) (ix3 0 j e) = X (ix3 (bat t) j e) := by
  blk_ext [idx t]

theorem blk1 (c : Dev nD) (t : Fin cfg0.N) (j : Fin 4096) (e : Fin 128) :
    B1 m c t (ix3 0 j e) = (V m c main_v14 : FVec Ideal S8x4096x128 .bf16) (ix3 (bat t) j e) :=
  read1 (V m c main_v14) t j e

theorem read2 (X : FVec Ideal S8x128x4096 .bf16) (t : Fin cfg0.N) (j : Fin 128) (e : Fin 4096) :
    (((cfg0.win 2).blk t).view.read (Elt Ideal) X : FVec Ideal S1x128x4096 .bf16) (ix3 0 j e) = X (ix3 (bat t) j e) := by
  blk_ext [idx t]

theorem blk2 (c : Dev nD) (t : Fin cfg0.N) (j : Fin 128) (e : Fin 4096) :
    B2 m c t (ix3 0 j e) = (V m c main_v20 : FVec Ideal S8x128x4096 .bf16) (ix3 (bat t) j e) :=
  read2 (V m c main_v20) t j e

theorem read3 (X : FVec Ideal S8x256x128 .bf16) (t : Fin cfg0.N) (j : Fin 256) (e : Fin 128) :
    (((cfg0.win 3).blk t).view.read (Elt Ideal) X : FVec Ideal S1x256x128 .bf16) (ix3 0 j e) = X (ix3 (bat t) j e) := by
  blk_ext [idx t]

theorem blk3 (c : Dev nD) (t : Fin cfg0.N) (j : Fin 256) (e : Fin 128) :
    B3 m c t (ix3 0 j e) = (V m c main_v17 : FVec Ideal S8x256x128 .bf16) (ix3 (bat t) j e) :=
  read3 (V m c main_v17) t j e

theorem read4 (X : FVec Ideal S8x128x256 .bf16) (t : Fin cfg0.N) (j : Fin 128) (e : Fin 256) :
    (((cfg0.win 4).blk t).view.read (Elt Ideal) X : FVec Ideal S1x128x256 .bf16) (ix3 0 j e) = X (ix3 (bat t) j e) := by
  blk_ext [idx t]

theorem blk4 (c : Dev nD) (t : Fin cfg0.N) (j : Fin 128) (e : Fin 256) :
    B4 m c t (ix3 0 j e) = (V m c main_v23 : FVec Ideal S8x128x256 .bf16) (ix3 (bat t) j e) :=
  read4 (V m c main_v23) t j e

theorem read5 (X : FVec Ideal S8x4096x256 .bf16) (t : Fin cfg0.N) (r : Fin 2048) (e : Fin 128) :
    X ((win0_5.blk t).view.emb (ix3 0 r e)) = X (ix3 (bat t) ⟨2048 * (half t).val + r.val, by omega⟩ ⟨128 * (pr t).val + e.val, by omega⟩) := by
  blk_ext [idx t]
  · show _ * 2048 + r.val = _
    omega
  · show _ * 128 + e.val = _
    omega

/-- A block of queries as the kernel loads it. -/
theorem q_ld (x : FVec Ideal S1x2048x128 .bf16) (c : Fin 2048) (l : Fin 128) :
    (shapeCast S2048x128 (View.ld (Val := Elt Ideal) (e' := .bf16) x r0_0) shapeCasts_S1x2048x128_S2048x128
      : FVec Ideal S2048x128 .bf16) (ix2 c l) = x (ix3 0 c l) := by
  refine (shapeCast_1ab_ab_apply (a := 2048) (b := 128) _ shapeCasts_S1x2048x128_S2048x128 c l).trans ?_
  rw [View.ld_unit]
  refine extractStridedSlice_apply _ _ _ _ _ fun a => ?_
  match a with
  | ⟨0, _⟩ => rfl
  | ⟨1, _⟩ => exact (Nat.zero_add _).symm
  | ⟨2, _⟩ => exact (Nat.zero_add _).symm

theorem zero_bf16 : (Scalar.ofBits (F := Ideal) .bf16 0x0000#16 : EReal) = 0 := by
  show Ideal.ofBits .bf16 0x0000#16 = 0
  simp [Ideal.ofBits, Ideal.ieee]

/-- The queries of head `o` of the pair: the other head's lanes are replaced by zero. -/
theorem q0_apply (x0 : FVec Ideal S1x2048x128 .bf16) (x1 : FVec Ideal S1x4096x128 .bf16) (x2 : FVec Ideal S1x128x4096 .bf16)
    (x3 : FVec Ideal S1x256x128 .bf16) (x4 : FVec Ideal S1x128x256 .bf16) (c : Fin 2048) (l : Fin 128) :
    ((k0_pay69 (F := Ideal) x0 x1 x2 x3 x4) (ix2 c l) : EReal) = if l.val / 64 = (0 : Fin 2).val then x0 (ix3 0 c l) else 0 := by
  unfold k0_pay69 k0_pay2
  show Scalar.select (IntOp.cmpi .slt (iota .tc S2048x128 32 [1] iota_S2048x128_d1_w32 (ix2 c l)) 64#32)
    ((shapeCast S2048x128 (View.ld (Val := Elt Ideal) (e' := .bf16) x0 r0_0) shapeCasts_S1x2048x128_S2048x128 : FVec Ideal S2048x128 .bf16) (ix2 c l))
    (Scalar.ofBits (F := Ideal) .bf16 0x0000#16) = _
  rw [iota_single_apply, q_ld, zero_bf16]
  have e : ∀ r : Fin 128, IntOp.cmpi .slt (BitVec.ofNat 32 r.val) 64#32 = if r.val / 64 = (0 : Fin 2).val then 1#1 else 0#1 := by decide
  erw [e l]
  split <;> rfl

@[inherit_doc q0_apply]
theorem q1_apply (x0 : FVec Ideal S1x2048x128 .bf16) (x1 : FVec Ideal S1x4096x128 .bf16) (x2 : FVec Ideal S1x128x4096 .bf16)
    (x3 : FVec Ideal S1x256x128 .bf16) (x4 : FVec Ideal S1x128x256 .bf16) (c : Fin 2048) (l : Fin 128) :
    ((k0_pay70 (F := Ideal) x0 x1 x2 x3 x4) (ix2 c l) : EReal) = if l.val / 64 = (1 : Fin 2).val then x0 (ix3 0 c l) else 0 := by
  unfold k0_pay70 k0_pay3
  show Scalar.select (IntOp.cmpi .sge (iota .tc S2048x128 32 [1] iota_S2048x128_d1_w32 (ix2 c l)) 64#32)
    ((shapeCast S2048x128 (View.ld (Val := Elt Ideal) (e' := .bf16) x0 r0_0) shapeCasts_S1x2048x128_S2048x128 : FVec Ideal S2048x128 .bf16) (ix2 c l))
    (Scalar.ofBits (F := Ideal) .bf16 0x0000#16) = _
  rw [iota_single_apply, q_ld, zero_bf16]
  have e : ∀ r : Fin 128, IntOp.cmpi .sge (BitVec.ofNat 32 r.val) 64#32 = if r.val / 64 = (1 : Fin 2).val then 1#1 else 0#1 := by decide
  erw [e l]
  split <;> rfl

/-- The body's block of results, its queries read out of their block. -/
theorem block' (x0 : FVec Ideal S1x2048x128 .bf16) (x1 : FVec Ideal S1x4096x128 .bf16) (x2 : FVec Ideal S1x128x4096 .bf16)
    (x3 : FVec Ideal S1x256x128 .bf16) (x4 : FVec Ideal S1x128x256 .bf16) {s : Fin 2 → ℕ → ℝ} {v v' : Fin 128 → ℕ → EReal} {c : Fin 2048}
    (hsl : ∀ (o : Fin 2) (j : ℕ) (hj : j < 4096), ∑ l : Fin 128, x1 (ix3 0 ⟨j, hj⟩ l) * (if l.val / 64 = o.val then x0 (ix3 0 c l) else 0) = ((s o (0 + j) : ℝ) : EReal))
    (hsc : ∀ (o : Fin 2) (j : ℕ) (hj : j < 256), ∑ l : Fin 128, x3 (ix3 0 ⟨j, hj⟩ l) * (if l.val / 64 = o.val then x0 (ix3 0 c l) else 0) = ((s o (4096 + j) : ℝ) : EReal))
    (hvl : ∀ (r : Fin 128) (j : ℕ) (hj : j < 4096), (if r.val = 64 then 1 else x2 (ix3 0 r ⟨j, hj⟩)) = v r (0 + j))
    (hvc : ∀ (r : Fin 128) (j : ℕ) (hj : j < 256), (if r.val = 64 then 1 else x4 (ix3 0 r ⟨j, hj⟩)) = v r (4096 + j))
    (hvl' : ∀ (r : Fin 128) (j : ℕ) (hj : j < 4096), (if r.val = 0 then 1 else x2 (ix3 0 r ⟨j, hj⟩)) = v' r (0 + j))
    (hvc' : ∀ (r : Fin 128) (j : ℕ) (hj : j < 256), (if r.val = 0 then 1 else x4 (ix3 0 r ⟨j, hj⟩)) = v' r (4096 + j))
    (one : ∀ j, v ⟨64, by decide⟩ j = 1) (one' : ∀ j, v' ⟨0, by decide⟩ j = 1) (r : Fin 128) :
    (out0_5 (F := Ideal) x0 x1 x2 x3 x4 (ix3 0 c r) : EReal) = if r.val < 64 then attend (s 0) (v r) 4352 else attend (s 1) (v' r) 4352 := by
  have f0 : ∀ l : Fin 128, (⟨0 + l.val, by omega⟩ : Fin 128) = l := fun l => Fin.ext (Nat.zero_add _)
  refine block x0 x1 x2 x3 x4 (fun j hj => ?_) hvl (fun j hj => ?_) hvc (fun j hj => ?_) hvl' (fun j hj => ?_) hvc' one one' r
  · refine Eq.trans (sum_congr rfl fun l _ => ?_) (hsl 0 j hj)
    rw [q0_apply, f0]
  · refine Eq.trans (sum_congr rfl fun l _ => ?_) (hsc 0 j hj)
    rw [q0_apply, f0]
  · refine Eq.trans (sum_congr rfl fun l _ => ?_) (hsl 1 j hj)
    rw [q1_apply, f0]
  · refine Eq.trans (sum_congr rfl fun l _ => ?_) (hsc 1 j hj)
    rw [q1_apply, f0]

/-- A product over 128 lanes of which only the 64 of one half count. -/
theorem sum_half (o : Fin 2) (k q : Fin 64 → ℝ) (X Y : Fin 128 → EReal)
    (hX : ∀ l : Fin 64, X ⟨64 * o.val + l.val, by omega⟩ = (k l : EReal)) (hY : ∀ l : Fin 64, Y ⟨64 * o.val + l.val, by omega⟩ = (q l : EReal)) :
    ∑ l : Fin 128, X l * (if l.val / 64 = o.val then Y l else 0) = ((∑ l, k l * q l : ℝ) : EReal) := by
  have key : ∑ l : Fin 128, X l * (if l.val / 64 = o.val then Y l else 0) = ∑ l : Fin 64, X ⟨64 * o.val + l.val, by omega⟩ * Y ⟨64 * o.val + l.val, by omega⟩ := by
    refine (Fin.sum_univ_add (a := 64) (b := 64) (fun l : Fin (64 + 64) => X l * (if l.val / 64 = o.val then Y l else 0))).trans ?_
    match o with
    | ⟨0, _⟩ =>
      rw [sum_eq_zero (s := univ) (f := fun l : Fin 64 => X (Fin.natAdd 64 l) * _) fun l _ => by
        rw [if_neg (by show ¬ (64 + l.val) / 64 = 0; omega), mul_zero], add_zero]
      refine sum_congr rfl fun l _ => ?_
      rw [if_pos (by show l.val / 64 = 0; omega)]
      exact congrArg₂ (fun p q : EReal => p * q) (congrArg X (Fin.ext (by show l.val = 64 * 0 + l.val; omega))) (congrArg Y (Fin.ext (by show l.val = 64 * 0 + l.val; omega)))
    | ⟨1, _⟩ =>
      rw [sum_eq_zero (s := univ) (f := fun l : Fin 64 => X (Fin.castAdd 64 l) * _) fun l _ => by
        rw [if_neg (by show ¬ l.val / 64 = 1; omega), mul_zero], zero_add]
      refine sum_congr rfl fun l _ => ?_
      rw [if_pos (by show (64 + l.val) / 64 = 1; omega)]
      rfl
  rw [key, coe_sum]
  refine sum_congr rfl fun l _ => ?_
  rw [hX, hY, EReal.coe_mul]

/-- The factor the host scales the queries by is a real number. -/
theorem scale_real : ∃ sc : ℝ, Ideal.ofBits .f32 0x3E000000#32 = (sc : EReal) := AttnStep.literal_real _ (by decide)

section Rows

variable (sc : ℝ) (q : S8x4x4096x64.Idx → ℝ) (k : S8x2x4096x64.Idx → ℝ) (kc : S8x2x256x64.Idx → ℝ)
variable (v : S8x2x4096x64.Idx → EReal) (vc : S8x2x256x64.Idx → EReal)

/-- The scores of a row of query head `h` against key head `u`. -/
def score (b : Fin 8) (h : Fin 4) (u : Fin 2) (t : Fin 4096) : ℕ → ℝ :=
  joined (fun j => dotScore sc (fun l : Fin 64 => k (ix4 b u j l)) fun l => q (ix4 b h t l))
    fun j => dotScore sc (fun l : Fin 64 => kc (ix4 b u j l)) fun l => q (ix4 b h t l)

/-- The values of a column of value head `u`. -/
def column (b : Fin 8) (u : Fin 2) (d : Fin 64) : ℕ → EReal :=
  joined (fun j => v (ix4 b u j d)) fun j => vc (ix4 b u j d)

/-- Row `t`, column `128 g + 64 u + d`: query head `2 u + g`'s attention over key head `u` at lane `d`. -/
def resultAt (b : Fin 8) (t : Fin 4096) (g u : Fin 2) (d : Fin 64) : EReal :=
  attend (score sc q k kc b ⟨2 * u.val + g.val, by omega⟩ u t) (column v vc b u d) 4352

/-- The whole result. -/
def result : FVec Ideal S8x4096x256 .bf16 := fun i =>
  resultAt sc q k kc v vc (i 0) (i 1) ⟨(i 2).val / 128, by have := (i 2).isLt; change _ < 256 at this; omega⟩ ⟨(i 2).val / 64 % 2, by omega⟩ ⟨(i 2).val % 64, by omega⟩

end Rows

section Final

variable {q : S8x4x4096x64.Idx → ℝ} {k : S8x2x4096x64.Idx → ℝ} {kc : S8x2x256x64.Idx → ℝ} {sc : ℝ} (c : Dev nD)
  (hsc : Ideal.ofBits .f32 0x3E000000#32 = (sc : EReal))
  (hq : ∀ i, argQ m c i = (q i : EReal)) (hk : ∀ i, argK m c i = (k i : EReal)) (hkc : ∀ i, argKc m c i = (kc i : EReal))

include hsc hq in
/-- A query lane of a row of a grid point's block. -/
theorem q_lane (t : Fin cfg0.N) (r : Fin 2048) (o : Fin 2) (l : Fin 64) (e : Fin 128) (he : e.val = 64 * o.val + l.val) :
    B0 m c t (ix3 0 r e)
      = ((q (ix4 (bat t) ⟨2 * o.val + (pr t).val, by omega⟩ ⟨2048 * (half t).val + r.val, by omega⟩ l) * sc * (1 / Real.log 2) : ℝ) : EReal) := by
  refine (blk0 m c t r e).trans ?_
  refine (q_entry m c (bat t) _ (pr t) o l _ (by show 128 * _ + e.val = 64 * (2 * _ + _) + _; omega)).trans ?_
  rw [hq, hsc, KernelIdeal.Block.inv_log, ← EReal.coe_mul, ← EReal.coe_mul]

include hsc hq hk in
/-- The scores of the latent keys. -/
theorem lat_score (t : Fin cfg0.N) (r : Fin 2048) (o : Fin 2) (j : ℕ) (hj : j < 4096) :
    ∑ l : Fin 128, B1 m c t (ix3 0 ⟨j, hj⟩ l) * (if l.val / 64 = o.val then B0 m c t (ix3 0 r l) else 0)
      = ((score sc q k kc (bat t) ⟨2 * o.val + (pr t).val, by omega⟩ o ⟨2048 * (half t).val + r.val, by omega⟩ (0 + j) : ℝ) : EReal) := by
  unfold score
  rw [joined_lat _ _ j hj]
  refine sum_half o _ _ (fun l => B1 m c t (ix3 0 ⟨j, hj⟩ l)) (fun l => B0 m c t (ix3 0 r l)) (fun l => ?_) fun l => q_lane m c hsc hq t r o l _ rfl
  refine (blk1 m c t _ _).trans ?_
  exact (k_entry m c (bat t) _ o l _ rfl).trans (hk _)

include hsc hq hkc in
/-- The scores of the context keys. -/
theorem ctx_score (t : Fin cfg0.N) (r : Fin 2048) (o : Fin 2) (j : ℕ) (hj : j < 256) :
    ∑ l : Fin 128, B3 m c t (ix3 0 ⟨j, hj⟩ l) * (if l.val / 64 = o.val then B0 m c t (ix3 0 r l) else 0)
      = ((score sc q k kc (bat t) ⟨2 * o.val + (pr t).val, by omega⟩ o ⟨2048 * (half t).val + r.val, by omega⟩ (4096 + j) : ℝ) : EReal) := by
  unfold score
  rw [joined_ctx _ _ j hj]
  refine sum_half o _ _ (fun l => B3 m c t (ix3 0 ⟨j, hj⟩ l)) (fun l => B0 m c t (ix3 0 r l)) (fun l => ?_) fun l => q_lane m c hsc hq t r o l _ rfl
  refine (blk3 m c t _ _).trans ?_
  exact (kc_entry m c (bat t) _ o l _ rfl).trans (hkc _)

/-- The values of row `r` of a grid point's block, its `64 u` to `64 u + 63` being value head `u`. -/
theorem lat_val (t : Fin cfg0.N) (r : Fin 128) (j : ℕ) (hj : j < 4096) :
    B2 m c t (ix3 0 r ⟨j, hj⟩) = column (argV m c) (argVc m c) (bat t) ⟨r.val / 64, by omega⟩ ⟨r.val % 64, by omega⟩ (0 + j) := by
  unfold column
  rw [joined_lat _ _ j hj]
  refine (blk2 m c t _ _).trans ?_
  exact v_entry m c (bat t) _ ⟨r.val / 64, by omega⟩ ⟨r.val % 64, by omega⟩ _ (by show r.val = 64 * (r.val / 64) + r.val % 64; omega)

theorem ctx_val (t : Fin cfg0.N) (r : Fin 128) (j : ℕ) (hj : j < 256) :
    B4 m c t (ix3 0 r ⟨j, hj⟩) = column (argV m c) (argVc m c) (bat t) ⟨r.val / 64, by omega⟩ ⟨r.val % 64, by omega⟩ (4096 + j) := by
  unfold column
  rw [joined_ctx _ _ j hj]
  refine (blk4 m c t _ _).trans ?_
  exact vc_entry m c (bat t) _ ⟨r.val / 64, by omega⟩ ⟨r.val % 64, by omega⟩ _ (by show r.val = 64 * (r.val / 64) + r.val % 64; omega)

/-- A column of values with one row replaced by ones. -/
def withOne (b : Fin 128) (w : Fin 128 → ℕ → EReal) (r : Fin 128) (j : ℕ) : EReal := if r.val = b.val then 1 else w r j

include hsc hq hk hkc in
/-- What a grid point's body leaves at row `r`, column `e` of its block. -/
theorem point (t : Fin cfg0.N) (r : Fin 2048) (e : Fin 128) :
    (out0_5 (F := Ideal) (B0 m c t) (B1 m c t) (B2 m c t) (B3 m c t) (B4 m c t) (ix3 0 r e) : EReal)
      = result sc q k kc (argV m c) (argVc m c) (ix3 (bat t) ⟨2048 * (half t).val + r.val, by omega⟩ ⟨128 * (pr t).val + e.val, by omega⟩) := by
  let w : Fin 128 → ℕ → EReal := fun r => column (argV m c) (argVc m c) (bat t) ⟨r.val / 64, by omega⟩ ⟨r.val % 64, by omega⟩
  refine (block' (B0 m c t) (B1 m c t) (B2 m c t) (B3 m c t) (B4 m c t)
    (s := fun o => score sc q k kc (bat t) ⟨2 * o.val + (pr t).val, by omega⟩ o ⟨2048 * (half t).val + r.val, by omega⟩)
    (v := withOne ⟨64, by decide⟩ w) (v' := withOne ⟨0, by decide⟩ w) (c := r)
    (fun o j hj => lat_score m c hsc hq hk t r o j hj) (fun o j hj => ctx_score m c hsc hq hkc t r o j hj)
    (fun r j hj => ite_congr rfl (fun _ => rfl) fun _ => lat_val m c t r j hj) (fun r j hj => ite_congr rfl (fun _ => rfl) fun _ => ctx_val m c t r j hj)
    (fun r j hj => ite_congr rfl (fun _ => rfl) fun _ => lat_val m c t r j hj) (fun r j hj => ite_congr rfl (fun _ => rfl) fun _ => ctx_val m c t r j hj)
    (fun j => if_pos rfl) (fun j => if_pos rfl) e).trans ?_
  have hw : ∀ (o : Fin 2) (b : Fin 128), e.val / 64 = o.val → e.val ≠ b.val →
      attend (score sc q k kc (bat t) ⟨2 * o.val + (pr t).val, by omega⟩ o ⟨2048 * (half t).val + r.val, by omega⟩) (withOne b w e) 4352
        = result sc q k kc (argV m c) (argVc m c) (ix3 (bat t) ⟨2048 * (half t).val + r.val, by omega⟩ ⟨128 * (pr t).val + e.val, by omega⟩) := by
    intro o b ho hb
    have h1 : withOne b w e = w e := funext fun j => if_neg hb
    have h2 : (⟨(128 * (pr t).val + e.val) / 128, by omega⟩ : Fin 2) = pr t := Fin.ext (by show (128 * (pr t).val + e.val) / 128 = (pr t).val; omega)
    have h3 : (⟨e.val / 64, by omega⟩ : Fin 2) = o := Fin.ext ho
    have h4 : (⟨(128 * (pr t).val + e.val) % 64, by omega⟩ : Fin 64) = ⟨e.val % 64, by omega⟩ := Fin.ext (by show (128 * (pr t).val + e.val) % 64 = e.val % 64; omega)
    have h5 : (⟨(128 * (pr t).val + e.val) / 64 % 2, by omega⟩ : Fin 2) = o := Fin.ext (by show (128 * (pr t).val + e.val) / 64 % 2 = o.val; omega)
    rw [h1]
    show attend _ (column _ _ _ ⟨e.val / 64, _⟩ _) _ = resultAt sc q k kc _ _ (bat t) ⟨2048 * (half t).val + r.val, _⟩ ⟨(128 * (pr t).val + e.val) / 128, _⟩
      ⟨(128 * (pr t).val + e.val) / 64 % 2, _⟩ ⟨(128 * (pr t).val + e.val) % 64, _⟩
    rw [h2, h3, h4, h5]
    rfl
  split
  · exact hw 0 ⟨64, by decide⟩ (by show _ = 0; omega) (by show _ ≠ 64; omega)
  · exact hw 1 ⟨0, by decide⟩ (by show _ = 1; omega) (by show _ ≠ 0; omega)

include hsc hq hk hkc in
/-- The array after the run. -/
theorem final : (dats m 0 c).arrAt 5 cfg0.N = result sc q k kc (argV m c) (argVc m c) := by
  refine (dats m 0 c).arrAt_eq_of_covers 5 _ (by decide +kernel) fun t _ y => ?_
  blk_simp
  rw [after0_5]
  have hy : y = (ix3 (0 : Fin 1) (y 1) (y 2) : S1x2048x128.Idx) := by
    funext a
    match a with
    | ⟨0, _⟩ => exact Subsingleton.elim (α := Fin 1) _ _
    | ⟨1, _⟩ => rfl
    | ⟨2, _⟩ => rfl
  rw [hy]
  exact (point m c hsc hq hk hkc t (y 1) (y 2)).trans (read5 _ t (y 1) (y 2)).symm

end Final

end Cert.Kernel2Ideal.Block

end
-- ==== Proof.TailD.lean ====
module

public import proofs.«01_k».proof.Proof.FinalD

/-!
The host lines after the grouped-query call: the heads put back in their own order, and the array the program returns.
-/

@[expose] public section

set_option maxRecDepth 16384

noncomputable section

namespace Cert.Kernel2Ideal.Block

open Cert.Kernel2Ideal Cert.Kernel2Ideal.Gen Cert.Softmax
open Idealize.ShloMosaic hiding ix0 ix1 ix2 ix3 ix4 ix5
open Idealize.ShloMosaic.ValueIdx Idealize.ShloMosaic.TcCoe Idealize.SL.Sem

variable (m : (ℓ : Loc nD τ sig) → Buf (Elt Ideal) ℓ) (ρ : Dev nD → PrngReg)

/-- The host lines after the call, as one function of the call's result. -/
def reorder (x : FVec Ideal S8x4096x256 .bf16) : FVec Ideal S8x4096x256 .bf16 :=
  shapeCast S8x4096x256 (transpose S8x4096x2x2x64 [0, 1, 3, 2, 4] (shapeCast S8x4096x2x2x64 x shapeCasts_S8x4096x256_S8x4096x2x2x64)
    transposes_S8x4096x2x2x64_S8x4096x2x2x64_0_1_3_2_4) shapeCasts_S8x4096x2x2x64_S8x4096x256

/-- Head `2 u + g` of the reordered array is the head at place `2 g + u` of the call's. -/
theorem reorder_apply (x : FVec Ideal S8x4096x256 .bf16) (b : Fin 8) (t : Fin 4096) (u g : Fin 2) (d : Fin 64) :
    (reorder x (ix3 b t ⟨128 * u.val + 64 * g.val + d.val, by omega⟩) : EReal) = x (ix3 b t ⟨128 * g.val + 64 * u.val + d.val, by omega⟩) := by
  unfold reorder
  refine (shapeCast_apply _ shapeCasts_S8x4096x2x2x64_S8x4096x256 _ (ix5 b t u g d) ?_).trans ?_
  · rw [Shape.rowMajor_val_five, Shape.rowMajor_val_three]
    show (((b.val * 4096 + t.val) * 2 + u.val) * 2 + g.val) * 64 + d.val = (b.val * 4096 + t.val) * 256 + (128 * u.val + 64 * g.val + d.val)
    ring
  · refine (transpose_apply _ _ transposes_S8x4096x2x2x64_S8x4096x2x2x64_0_1_3_2_4 (ix5 b t u g d) (ix5 b t g u d) fun a => ?_).trans ?_
    · match a with
      | ⟨0, _⟩ => rfl
      | ⟨1, _⟩ => rfl
      | ⟨2, _⟩ => rfl
      | ⟨3, _⟩ => rfl
      | ⟨4, _⟩ => rfl
    · refine shapeCast_apply _ shapeCasts_S8x4096x256_S8x4096x2x2x64 _ _ ?_
      rw [Shape.rowMajor_val_five, Shape.rowMajor_val_three]
      show (b.val * 4096 + t.val) * 256 + (128 * g.val + 64 * u.val + d.val) = (((b.val * 4096 + t.val) * 2 + g.val) * 2 + u.val) * 64 + d.val
      ring

/-- What the program returns: the call's array reordered. -/
theorem tail (c : Dev nD) :
    Pipeline.afterTail₀ cfgs (dats m) 0 (V0 m) [hostOps1] c main_v27 = reorder ((dats m 0 c).arrAt 5 cfg0.N) := by
  unfold Pipeline.afterTail₀
  simp only [hostOps1, List.flatten_cons, List.flatten_nil, List.append_nil, List.cons_append, List.nil_append]
  after_results
  have h := Pipeline.withArrays_arr spec0 winFacts0.arr_inj c (V0 m c) (fun w => (dats m 0 c).arrAt w cfg0.N) 5
  exact congrArg reorder h

/-- The run: the array returned, and the arguments as they were. -/
theorem run : θ_run defs (onTc (τ := τ) (main (F := Ideal))) ⟨m, fun _ => 0, ρ⟩ fun r => ∀ c : Dev nD,
      r.2.mem ((c : Thread nD τ).loc main_v27) = reorder ((dats m 0 c).arrAt 5 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h c).2 main_v27 (Pipeline.mem_restRefs_of main_v27 (by decide) (by decide))).trans (tail m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

section Result

variable (sc : ℝ) (q : S8x4x4096x64.Idx → ℝ) (k : S8x2x4096x64.Idx → ℝ) (kc : S8x2x256x64.Idx → ℝ)
variable (v : S8x2x4096x64.Idx → EReal) (vc : S8x2x256x64.Idx → EReal)

/-- The whole result, the heads in their own order: column `128 u + 64 g + d` is lane `d` of query head `2 u + g`. -/
def ordered : FVec Ideal S8x4096x256 .bf16 := fun i =>
  resultAt sc q k kc v vc (i 0) (i 1) ⟨(i 2).val / 64 % 2, by omega⟩ ⟨(i 2).val / 128, by have := (i 2).isLt; change _ < 256 at this; omega⟩ ⟨(i 2).val % 64, by omega⟩

theorem reorder_result : reorder (result sc q k kc v vc) = ordered sc q k kc v vc := by
  funext i
  have h2 : (i 2).val < 256 := (i 2).isLt
  obtain ⟨u, hu⟩ : ∃ u : Fin 2, u.val = (i 2).val / 128 := ⟨⟨(i 2).val / 128, by omega⟩, rfl⟩
  obtain ⟨g, hg⟩ : ∃ g : Fin 2, g.val = (i 2).val / 64 % 2 := ⟨⟨(i 2).val / 64 % 2, by omega⟩, rfl⟩
  obtain ⟨d, hd⟩ : ∃ d : Fin 64, d.val = (i 2).val % 64 := ⟨⟨(i 2).val % 64, by omega⟩, rfl⟩
  have hi : i = (ix3 (i 0) (i 1) (⟨128 * u.val + 64 * g.val + d.val, by omega⟩ : Fin 256) : S8x4096x256.Idx) := by
    funext a
    match a with
    | ⟨0, _⟩ => rfl
    | ⟨1, _⟩ => rfl
    | ⟨2, _⟩ => exact Fin.ext (by show (i 2).val = 128 * u.val + 64 * g.val + d.val; omega)
  have e1 : (reorder (result sc q k kc v vc) i : EReal) = result sc q k kc v vc (ix3 (i 0) (i 1) ⟨128 * g.val + 64 * u.val + d.val, by omega⟩) :=
    (congrArg (reorder (result sc q k kc v vc)) hi).trans (reorder_apply _ (i 0) (i 1) u g d)
  refine e1.trans ?_
  have eg : (⟨(128 * g.val + 64 * u.val + d.val) / 128, by omega⟩ : Fin 2) = ⟨(i 2).val / 64 % 2, by omega⟩ := Fin.ext (by show (128 * g.val + 64 * u.val + d.val) / 128 = (i 2).val / 64 % 2; omega)
  have eu : (⟨(128 * g.val + 64 * u.val + d.val) / 64 % 2, by omega⟩ : Fin 2) = ⟨(i 2).val / 128, by omega⟩ := Fin.ext (by show (128 * g.val + 64 * u.val + d.val) / 64 % 2 = (i 2).val / 128; omega)
  have ed : (⟨(128 * g.val + 64 * u.val + d.val) % 64, by omega⟩ : Fin 64) = ⟨(i 2).val % 64, by omega⟩ := Fin.ext (by show (128 * g.val + 64 * u.val + d.val) % 64 = (i 2).val % 64; omega)
  show resultAt sc q k kc v vc (i 0) (i 1) ⟨(128 * g.val + 64 * u.val + d.val) / 128, _⟩ ⟨(128 * g.val + 64 * u.val + d.val) / 64 % 2, _⟩ ⟨(128 * g.val + 64 * u.val + d.val) % 64, _⟩ = _
  rw [eg, eu, ed]
  rfl

end Result

end Cert.Kernel2Ideal.Block

end
-- ==== Proof.RefD.lean ====
module

public import proofs.«01_k».proof.Proof.TailD
public import proofs.«01_k».proof.Proof.Finite
public import proofs.«01_k».proof.Proof.Gen.Reference2Ideal.Read

/-!
The reference of the grouped-query attention, read entry by entry: the same softmax of the same scores.
-/

@[expose] public section

set_option maxRecDepth 16384

noncomputable section

namespace Cert.Reference2Ideal.Plain

open Cert.Reference2Ideal Cert.Reference2Ideal.Gen Cert.Reference2Ideal.Read Cert.Softmax
open Cert.Kernel2Ideal.Block (score column ordered resultAt)
open Idealize.ShloMosaic hiding ix0 ix1 ix2 ix3 ix4 ix5
open Idealize.ShloMosaic.ValueIdx Finset

/-- Context first, then latent: an entry of the concatenated array. -/
theorem concat_apply {D : ℕ} (x : FVec Ideal ⟨4, ![8, 2, 4096, D]⟩ .f32) (y : FVec Ideal ⟨4, ![8, 2, 256, D]⟩ .f32)
    (h : Shape.Concatenates [⟨4, ![8, 2, 256, D]⟩, ⟨4, ![8, 2, 4096, D]⟩] ⟨4, ![8, 2, 4352, D]⟩ 2)
    (b : Fin 8) (hd : Fin 2) (j : Fin 4352) (l : Fin D) :
    (concatenate ⟨4, ![8, 2, 4352, D]⟩ 2 [⟨⟨4, ![8, 2, 256, D]⟩, y⟩, ⟨⟨4, ![8, 2, 4096, D]⟩, x⟩] h (ix4 b hd j l) : EReal)
      = joined (fun i => (x (ix4 b hd i l) : EReal)) (fun i => (y (ix4 b hd i l) : EReal)) (place 256 4096 j.val) := by
  rw [joined_place _ _ j]
  split
  · refine concatenate_pair_apply_left 2 y x h _ rfl _ fun a => ?_
    match a with
    | ⟨0, _⟩ => rfl
    | ⟨1, _⟩ => rfl
    | ⟨2, _⟩ => rfl
    | ⟨3, _⟩ => rfl
  · rename_i hj
    refine concatenate_pair_apply_right 2 y x h _ rfl rfl _ (fun a ha => ?_) ?_
    · match a with
      | ⟨0, _⟩ => rfl
      | ⟨1, _⟩ => rfl
      | ⟨2, _⟩ => exact absurd rfl ha
      | ⟨3, _⟩ => rfl
    · show j.val - 256 + 256 = j.val
      omega

variable {x0 : FVec Ideal S8x4x4096x64 .f32} {x1 x2 : FVec Ideal S8x2x4096x64 .f32} {x3 x4 : FVec Ideal S8x2x256x64 .f32}
variable {q : S8x4x4096x64.Idx → ℝ} {k : S8x2x4096x64.Idx → ℝ} {kc : S8x2x256x64.Idx → ℝ} {sc : ℝ}
  (hsc : Ideal.ofBits .f32 0x3E000000#32 = (sc : EReal))
  (hq : ∀ i, x0 i = (q i : EReal)) (hk : ∀ i, x1 i = (k i : EReal)) (hkc : ∀ i, x3 i = (kc i : EReal))

/-- The queries grouped by key head: group `u`, place `g` is query head `2 u + g`. -/
theorem group_apply (x0 : FVec Ideal S8x4x4096x64 .f32) (b : Fin 8) (u g : Fin 2) (t : Fin 4096) (l : Fin 64) :
    (val_main_v2 (F := Ideal) x0 (ix5 b u g t l) : EReal) = x0 (ix4 b ⟨2 * u.val + g.val, by omega⟩ t l) := by
  unfold val_main_v2
  refine shapeCast_apply _ shapeCasts_S8x4x4096x64_S8x2x2x4096x64 _ _ ?_
  rw [Shape.rowMajor_val_five, Shape.rowMajor_val_four]
  show ((b.val * 4 + (2 * u.val + g.val)) * 4096 + t.val) * 64 + l.val = (((b.val * 2 + u.val) * 2 + g.val) * 4096 + t.val) * 64 + l.val
  ring

include hsc hq hk hkc in
/-- The scaled scores. -/
theorem scores (b : Fin 8) (u g : Fin 2) (t : Fin 4096) (j : Fin 4352) :
    (val_main_v5 (F := Ideal) x0 x1 x3 (ix5 b u g t j) : EReal) = ((score sc q k kc b ⟨2 * u.val + g.val, by omega⟩ u t (place 256 4096 j.val) * Real.log 2 : ℝ) : EReal) := by
  have e1 : (val_main_v5 (F := Ideal) x0 x1 x3 (ix5 b u g t j) : EReal)
      = (∑ l : Fin 64, x0 (ix4 b ⟨2 * u.val + g.val, by omega⟩ t l) * (val_main_v0 (F := Ideal) x1 x3) (ix4 b u j l)) * (Ideal.ofBits .f32 0x3E000000#32 : EReal) := by
    rw [val_main_v5_apply, val_main_v3_apply, val_main_v4_apply, val_main_cst_apply]
    refine congrArg (· * (Ideal.ofBits .f32 0x3E000000#32 : EReal)) (sum_congr rfl fun l _ => ?_)
    refine congrArg₂ (· * ·) (Eq.trans (congrArg (val_main_v2 (F := Ideal) x0) ?_) (group_apply x0 b u g t l)) (congrArg (val_main_v0 (F := Ideal) x1 x3) ?_)
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
  rw [e1, hsc]
  unfold score
  have e2 : ∀ l : Fin 64, (val_main_v0 (F := Ideal) x1 x3 (ix4 b u j l) : EReal) = _ := fun l => concat_apply x1 x3 _ b u j l
  rw [joined_place _ _ j]
  split
  · rename_i hj
    rw [dotScore_mul_log, EReal.coe_mul, coe_sum]
    refine congrArg (· * (sc : EReal)) (sum_congr rfl fun l _ => ?_)
    rw [e2, joined_place _ _ j, dif_pos hj, hq, hkc, EReal.coe_mul]
  · rename_i hj
    rw [dotScore_mul_log, EReal.coe_mul, coe_sum]
    refine congrArg (· * (sc : EReal)) (sum_congr rfl fun l _ => ?_)
    rw [e2, joined_place _ _ j, dif_neg hj, hq, hk, EReal.coe_mul]

include hsc hq hk hkc in
/-- The row maxima are real. -/
theorem max_real (b : Fin 8) (u g : Fin 2) (t : Fin 4096) : ∃ m : ℝ, (val_main_v8 (F := Ideal) x0 x1 x3 (ix4 b u g t) : EReal) = (m : EReal) := by
  obtain ⟨m, hm⟩ := Finite.reduce_max_real (n := 4351) rfl (val_main_v5 (F := Ideal) x0 x1 x3)
    (fun i => score sc q k kc (i 0) ⟨2 * (i 1).val + (i 2).val, by have h1 : (i 1).val < 2 := (i 1).isLt; have h2 : (i 2).val < 2 := (i 2).isLt; omega⟩ (i 1) (i 3) (place 256 4096 (i 4).val) * Real.log 2)
    (fun i => by
      have hi : i = ix5 (i 0) (i 1) (i 2) (i 3) (i 4) := by
        funext a
        match a with
        | ⟨0, _⟩ => rfl
        | ⟨1, _⟩ => rfl
        | ⟨2, _⟩ => rfl
        | ⟨3, _⟩ => rfl
        | ⟨4, _⟩ => rfl
      conv_lhs => rw [hi]
      exact scores hsc hq hk hkc (i 0) (i 1) (i 2) (i 3) (i 4)) reducesTo_S8x2x2x4096x4352_S8x2x2x4096_d4 h_S_ (by decide) (ix4 b u g t)
  refine ⟨m, ?_⟩
  rw [val_main_v8_apply, val_main_v7_apply, val_main_cst_1_apply]
  show max (Ideal.ofBits .f32 0xFF800000#32 : EReal) (val_main_v6 (F := Ideal) x0 x1 x3 (ix4 b u g t)) = _
  rw [AttnStep.negInf]
  exact (max_bot_left _).trans hm

include hsc hq hk hkc in
/-- The attention before the heads are put side by side. -/
theorem heads (b : Fin 8) (u g : Fin 2) (t : Fin 4096) (d : Fin 64) :
    (val_main_v17 (F := Ideal) x0 x1 x2 x3 x4 (ix5 b u g t d) : EReal) = resultAt sc q k kc x2 x4 b t g u d := by
  unfold resultAt
  obtain ⟨m, hm⟩ := max_real hsc hq hk hkc b u g t
  have e12 : ∀ j : Fin 4352, (val_main_v12 (F := Ideal) x0 x1 x3 (ix5 b u g t j) : EReal)
      = Ideal.exp (((score sc q k kc b ⟨2 * u.val + g.val, by omega⟩ u t (place 256 4096 j.val) * Real.log 2 : ℝ) : EReal) - (m : EReal)) := fun j => by
    rw [val_main_v12_apply, val_main_v11_apply, val_main_v10_apply, val_main_v9_apply]
    have e8 : idx_main_v9 (idx_main_v10 (ix5 b u g t j)) = ix4 b u g t := by
      funext a
      match a with
      | ⟨0, _⟩ => rfl
      | ⟨1, _⟩ => rfl
      | ⟨2, _⟩ => rfl
      | ⟨3, _⟩ => rfl
    rw [e8]
    show Ideal.exp ((val_main_v5 (F := Ideal) x0 x1 x3 (ix5 b u g t j) : EReal) - (val_main_v8 (F := Ideal) x0 x1 x3 (ix4 b u g t) : EReal)) = _
    rw [hm, scores hsc hq hk hkc b u g t j]
  have e15 : ∀ j : Fin 4352, (val_main_v15 (F := Ideal) x0 x1 x3 (ix5 b u g t j) : EReal)
      = 0 + ∑ i : Fin 4352, Ideal.exp (((score sc q k kc b ⟨2 * u.val + g.val, by omega⟩ u t (place 256 4096 i.val) * Real.log 2 : ℝ) : EReal) - (m : EReal)) := fun j => by
    rw [val_main_v15_apply, val_main_v14_apply, val_main_v13_apply]
    refine congrArg₂ (· + ·) Ideal.ofBits_zero_f32 (sum_congr rfl fun i _ => ?_)
    refine Eq.trans (congrArg (val_main_v12 (F := Ideal) x0 x1 x3) ?_) (e12 i)
    funext a
    match a with
    | ⟨0, _⟩ => rfl
    | ⟨1, _⟩ => rfl
    | ⟨2, _⟩ => rfl
    | ⟨3, _⟩ => rfl
    | ⟨4, _⟩ => rfl
  rw [val_main_v17_apply]
  refine Eq.trans (sum_congr rfl fun j _ => ?_) (plain_eq_attend 256 4096 (score sc q k kc b ⟨2 * u.val + g.val, by omega⟩ u t) (column x2 x4 b u d)
    (fun j => score sc q k kc b ⟨2 * u.val + g.val, by omega⟩ u t (place 256 4096 j.val) * Real.log 2)
    (fun j => column x2 x4 b u d (place 256 4096 j.val)) m (fun _ => rfl) fun _ => rfl)
  have el : lidx_main_v17 (ix5 b u g t d) j = ix5 b u g t j := by
    funext a
    match a with
    | ⟨0, _⟩ => rfl
    | ⟨1, _⟩ => rfl
    | ⟨2, _⟩ => rfl
    | ⟨3, _⟩ => rfl
    | ⟨4, _⟩ => rfl
  have er : ridx_main_v17 (ix5 b u g t d) j = ix4 b u j d := by
    funext a
    match a with
    | ⟨0, _⟩ => rfl
    | ⟨1, _⟩ => rfl
    | ⟨2, _⟩ => rfl
    | ⟨3, _⟩ => rfl
  rw [el, er, val_main_v16_apply]
  refine congrArg₂ (· * ·) ?_ (concat_apply x2 x4 _ b u j d)
  show Ideal.div (val_main_v12 (F := Ideal) x0 x1 x3 (ix5 b u g t j) : EReal) (val_main_v15 (F := Ideal) x0 x1 x3 (ix5 b u g t j) : EReal) = _
  rw [e12 j, e15 j]

/-- The heads side by side: column `128 u + 64 g + d` is lane `d` of group `u`, place `g`. -/
theorem side_apply (b : Fin 8) (t : Fin 4096) (u g : Fin 2) (d : Fin 64) (e : Fin 256) (he : e.val = 128 * u.val + 64 * g.val + d.val) :
    (val_main_v20 (F := Ideal) x0 x1 x2 x3 x4 (ix3 b t e) : EReal) = val_main_v17 (F := Ideal) x0 x1 x2 x3 x4 (ix5 b u g t d) := by
  unfold val_main_v20
  refine (shapeCast_apply _ shapeCasts_S8x4096x4x64_S8x4096x256 (ix3 b t e) (ix4 b t ⟨2 * u.val + g.val, by omega⟩ d) ?_).trans ?_
  · rw [Shape.rowMajor_val_four, Shape.rowMajor_val_three]
    show ((b.val * 4096 + t.val) * 4 + (2 * u.val + g.val)) * 64 + d.val = (b.val * 4096 + t.val) * 256 + e.val
    rw [he]; ring
  · unfold val_main_v19
    refine (transpose_apply _ _ transposes_S8x4x4096x64_S8x4096x4x64_0_2_1_3 _ (ix4 b ⟨2 * u.val + g.val, by omega⟩ t d) fun a => ?_).trans ?_
    · match a with
      | ⟨0, _⟩ => rfl
      | ⟨1, _⟩ => rfl
      | ⟨2, _⟩ => rfl
      | ⟨3, _⟩ => rfl
    · unfold val_main_v18
      refine shapeCast_apply _ shapeCasts_S8x2x2x4096x64_S8x4x4096x64 _ _ ?_
      rw [Shape.rowMajor_val_five, Shape.rowMajor_val_four]
      show (((b.val * 2 + u.val) * 2 + g.val) * 4096 + t.val) * 64 + d.val = ((b.val * 4 + (2 * u.val + g.val)) * 4096 + t.val) * 64 + d.val
      ring

include hsc hq hk hkc in
/-- The reference's result. -/
theorem value : (val_main_v21 (F := Ideal) x0 x1 x2 x3 x4) = ordered sc q k kc x2 x4 := by
  funext i
  have h2 : (i 2).val < 256 := (i 2).isLt
  have hi : i = (ix3 (i 0) (i 1) (i 2) : S8x4096x256.Idx) := by
    funext a
    match a with
    | ⟨0, _⟩ => rfl
    | ⟨1, _⟩ => rfl
    | ⟨2, _⟩ => rfl
  rw [val_main_v21_apply]
  show (val_main_v20 (F := Ideal) x0 x1 x2 x3 x4 i : EReal) = _
  refine (congrArg (val_main_v20 (F := Ideal) x0 x1 x2 x3 x4) hi).trans ?_
  refine (side_apply (i 0) (i 1) ⟨(i 2).val / 128, by omega⟩ ⟨(i 2).val / 64 % 2, by omega⟩ ⟨(i 2).val % 64, by omega⟩ (i 2)
    (by show (i 2).val = 128 * ((i 2).val / 128) + 64 * ((i 2).val / 64 % 2) + (i 2).val % 64; omega)).trans ?_
  exact heads hsc hq hk hkc (i 0) ⟨(i 2).val / 128, by omega⟩ ⟨(i 2).val / 64 % 2, by omega⟩ (i 1) ⟨(i 2).val % 64, by omega⟩

end Cert.Reference2Ideal.Plain

end
-- ==== Proof.ClaimD.lean ====
module

public import proofs.«01_k».proof.Defs
public import proofs.«01_k».proof.Proof.RefD
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_finite2
public import Idealize.ShloMosaic.Lib.Quiescent

/-!
The claims about the grouped-query attention: the kernel and the reference end with equal results.
-/

@[expose] public section

set_option maxRecDepth 16384

noncomputable section

namespace Cert.ClaimD

open Idealize.ShloMosaic Idealize.SL.Sem Cert.Finite

/-- The precondition: queries, keys and context keys are real. -/
theorem reals {x0 : FVec Ideal Pre_finite2.S8x4x4096x64 .f32} {x1 x2 : FVec Ideal Pre_finite2.S8x2x4096x64 .f32}
    {x3 x4 : FVec Ideal Pre_finite2.S8x2x256x64 .f32}
    (h : (@Pre_finite2.fn Pre_finite2.Gen.facts Ideal _ x0 x1 x2 x3 x4) = fun _ => 1#1) :
    (∃ r : Pre_finite2.S8x4x4096x64.Idx → ℝ, ∀ i, x0 i = ((r i : ℝ) : EReal)) ∧ (∃ r : Pre_finite2.S8x2x4096x64.Idx → ℝ, ∀ i, x1 i = ((r i : ℝ) : EReal))
      ∧ ∃ r : Pre_finite2.S8x2x256x64.Idx → ℝ, ∀ i, x3 i = ((r i : ℝ) : EReal) := by
  have hj := fun j => and_one _ _ (congrFun h j)
  have hi := fun j => and_one _ _ (hj j).1
  exact ⟨all_real x0 _ _ _ fun j => (hi j).1, all_real x1 _ _ _ fun j => (hi j).2, all_real x3 _ _ _ fun j => (hj j).2⟩

/-- The two programs' results are equal. -/
theorem algebraic : @algebraic_Kernel2Ideal_Reference2Ideal_pre_finite2 Kernel2Ideal.Gen.facts Reference2Ideal.Gen.facts Pre_finite2.Gen.facts := by
  intro m g m' g' hpre hagree
  refine ⟨fun c => Kernel2Ideal.Block.reorder ((Kernel2Ideal.Gen.dats m 0 c).arrAt 5 Kernel2Ideal.cfg0.N), Kernel2Ideal.Block.run m g,
    (θ_run _ _ _).mono (fun r h c => ⟨(h c).1.trans ?_, (h c).2⟩) (Reference2Ideal.Value.run m' g')⟩
  obtain ⟨⟨q, hq⟩, ⟨k, hk⟩, ⟨kc, hkc⟩⟩ := reals (hpre c)
  obtain ⟨sc, hsc⟩ := Kernel2Ideal.Block.scale_real
  obtain ⟨h0, h1, h2, h3, h4⟩ := hagree c
  rw [h0, h1, h2, h3, h4]
  have hr := (congrArg Kernel2Ideal.Block.reorder (Kernel2Ideal.Block.final m c hsc hq hk hkc)).trans (Kernel2Ideal.Block.reorder_result ..)
  exact (Reference2Ideal.Read.val_main_v21_eq _ _ _ _ _).trans ((Reference2Ideal.Plain.value hsc hq hk hkc).trans hr.symm)

/-- The compiled kernel, its ideal reading and the reference leave their arguments and end with counters at zero. -/
theorem frameP : @quiescent_Kernel2 Kernel2.Gen.facts := fun m g _ => Kernel2.Gen.frame m g

theorem framePI : @quiescent_Kernel2Ideal Kernel2Ideal.Gen.facts := fun m g _ => Kernel2Ideal.Gen.frame m g

theorem framePI_pre : @quiescent_Kernel2Ideal_pre_finite2 Kernel2Ideal.Gen.facts Pre_finite2.Gen.facts := fun m g _ => Kernel2Ideal.Gen.frame m g

theorem frameRI : @quiescent_Reference2Ideal Reference2Ideal.Gen.facts := fun m g _ =>
  (θ_run _ _ _).mono (fun _ h => ⟨fun c => (h c).2, sem_eq_zero_of_no_sems (by decide) _⟩) (Reference2Ideal.Value.run m g)

theorem frameRI_pre : @quiescent_Reference2Ideal_pre_finite2 Reference2Ideal.Gen.facts Pre_finite2.Gen.facts := fun m g _ => frameRI m g trivial

end Cert.ClaimD

end
-- ==== Proof.MergeSpec.lean ====
/-
  The merge of four gated branches into a residual, one row at a time, on the extended reals.
-/
module

public import proofs.«01_k».proof.Proof.AttnStep

@[expose] public section

set_option maxRecDepth 16384

noncomputable section

namespace Cert.Merge

open Idealize.ShloMosaic hiding ix0 ix1 ix2 ix3 ix4 ix5
open Finset

/-- The mean of a row. -/
def mean (f : Fin 1024 → EReal) : EReal := Ideal.div (∑ k, f k) (Ideal.ofBits .f32 0x44800000#32)

/-- A row less its mean. -/
def cen (f : Fin 1024 → EReal) (j : Fin 1024) : EReal := f j - mean f

/-- A row normalised. -/
def norm (f : Fin 1024 → EReal) (j : Fin 1024) : EReal :=
  cen f j * Ideal.rsqrt (mean (fun k => cen f k * cen f k) + Ideal.ofBits .f32 0x358637BD#32)

/-- A normalised row scaled and shifted. -/
def modu (sh sc f : Fin 1024 → EReal) (j : Fin 1024) : EReal := norm f j * (Ideal.ofBits .f32 0x3F800000#32 + sc j) + sh j

/-- The sigmoid. -/
def sigmoid (x : EReal) : EReal :=
  Ideal.ofBits .f32 0x3F000000#32 * Ideal.tanh (Ideal.ofBits .f32 0x3F000000#32 * x) + Ideal.ofBits .f32 0x3F000000#32

/-- A row applied to a matrix. -/
def dot (a : Fin 1024 → EReal) (w : Fin 1024 → Fin 1024 → EReal) (j : Fin 1024) : EReal := ∑ k, a k * w k j

/-- A gated branch projected. -/
def branch (z y : Fin 256 → EReal) (wb : Fin 256 → Fin 1024 → EReal) (j : Fin 1024) : EReal :=
  ∑ d, (y d * (z d * sigmoid (z d))) * wb d j

/-- A branch's share of the sum. -/
def term (xm : Fin 1024 → EReal) (wz : Fin 256 → Fin 1024 → EReal) (y : Fin 256 → EReal) (wb : Fin 256 → Fin 1024 → EReal)
    (wm : Fin 1024 → Fin 1024 → EReal) (j : Fin 1024) : EReal :=
  sigmoid (dot xm wm j) * branch (fun d => ∑ k, xm k * wz d k) y wb j

/-- The four branches of a row merged. -/
def acc (xm : Fin 1024 → EReal) (wz : Fin 4 → Fin 256 → Fin 1024 → EReal) (y : Fin 4 → Fin 256 → EReal) (wb : Fin 4 → Fin 256 → Fin 1024 → EReal)
    (wm : Fin 4 → Fin 1024 → Fin 1024 → EReal) (j : Fin 1024) : EReal :=
  term xm (wz 0) (y 0) (wb 0) (wm 0) j + term xm (wz 1) (y 1) (wb 1) (wm 1) j + term xm (wz 2) (y 2) (wb 2) (wm 2) j
    + term xm (wz 3) (y 3) (wb 3) (wm 3) j

/-- The residual and the gated merge. -/
def res (ga x a : Fin 1024 → EReal) (wo : Fin 1024 → Fin 1024 → EReal) (j : Fin 1024) : EReal :=
  Ideal.ofBits .f32 0x3FB504F3#32 * x j + ga j * dot a wo j

/-- A row normalised, with a gain and a bias. -/
def out (r g b : Fin 1024 → EReal) (j : Fin 1024) : EReal := norm r j * g j + b j

/-- A row of the layer's result. -/
def row (sh sc ga x : Fin 1024 → EReal) (wz : Fin 4 → Fin 256 → Fin 1024 → EReal) (y : Fin 4 → Fin 256 → EReal)
    (wb : Fin 4 → Fin 256 → Fin 1024 → EReal) (wm : Fin 4 → Fin 1024 → Fin 1024 → EReal) (wo : Fin 1024 → Fin 1024 → EReal)
    (g b : Fin 1024 → EReal) : Fin 1024 → EReal :=
  out (res ga x (acc (modu sh sc x) wz y wb wm) wo) g b

/-- A branch's columns may be taken in any order. -/
theorem term_perm (σ : Equiv.Perm (Fin 256)) (xm : Fin 1024 → EReal) (wz : Fin 256 → Fin 1024 → EReal) (y : Fin 256 → EReal)
    (wb : Fin 256 → Fin 1024 → EReal) (wm : Fin 1024 → Fin 1024 → EReal) :
    term xm (fun d => wz (σ d)) (fun d => y (σ d)) (fun d => wb (σ d)) wm = term xm wz y wb wm := by
  funext j
  exact congrArg (sigmoid (dot xm wm j) * ·)
    (Equiv.sum_comp σ fun d => (y d * ((∑ k, xm k * wz d k) * sigmoid (∑ k, xm k * wz d k))) * wb d j)

/-- So the last branch's columns may be, in a whole row. -/
theorem row_perm (σ : Equiv.Perm (Fin 256)) (sh sc ga x : Fin 1024 → EReal) (wz wz' : Fin 4 → Fin 256 → Fin 1024 → EReal) (y y' : Fin 4 → Fin 256 → EReal)
    (wb wb' : Fin 4 → Fin 256 → Fin 1024 → EReal) (wm : Fin 4 → Fin 1024 → Fin 1024 → EReal) (wo : Fin 1024 → Fin 1024 → EReal) (g b : Fin 1024 → EReal)
    (hz : ∀ n : Fin 4, n.val < 3 → wz' n = wz n) (hy : ∀ n : Fin 4, n.val < 3 → y' n = y n) (hb : ∀ n : Fin 4, n.val < 3 → wb' n = wb n)
    (hz3 : wz' 3 = fun d => wz 3 (σ d)) (hy3 : y' 3 = fun d => y 3 (σ d)) (hb3 : wb' 3 = fun d => wb 3 (σ d)) :
    row sh sc ga x wz' y' wb' wm wo g b = row sh sc ga x wz y wb wm wo g b := by
  have e : acc (modu sh sc x) wz' y' wb' wm = acc (modu sh sc x) wz y wb wm := by
    funext j
    unfold acc
    rw [hz 0 (by decide), hz 1 (by decide), hz 2 (by decide), hy 0 (by decide), hy 1 (by decide), hy 2 (by decide),
      hb 0 (by decide), hb 1 (by decide), hb 2 (by decide), hz3, hy3, hb3, term_perm σ]
  unfold row
  rw [e]

theorem half : Ideal.ofBits .f32 0x3F000000#32 = ((1 / 2 : ℝ) : EReal) := by
  simp [Ideal.ofBits, Ideal.ieee]
  rw [← EReal.coe_mul]
  norm_num

theorem real_sigmoid (x : ℝ) : 1 / 2 * Real.tanh (1 / 2 * x) + 1 / 2 = 1 / (1 + Real.exp (-x)) := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p := Real.exp_pos (1 / 2 * x)
  have n := Real.exp_pos (-(1 / 2 * x))
  rw [Real.tanh_eq_sinh_div_cosh, Real.sinh_eq, Real.cosh_eq, h]
  generalize Real.exp (1 / 2 * x) = u at *
  generalize Real.exp (-(1 / 2 * x)) = v at *
  have hv : v = 1 / u := by field_simp; linarith
  subst hv
  field_simp
  ring

/-- The sigmoid by the exponential. -/
theorem sigmoid_eq (x : EReal) : sigmoid x = Ideal.div (Ideal.ofBits .f32 0x3F800000#32) (Ideal.ofBits .f32 0x3F800000#32 + Ideal.exp (-x)) := by
  unfold sigmoid
  rw [half, Ideal.ofBits_one_f32]
  induction x using EReal.rec with
  | bot =>
    have e : Ideal.exp (-(⊥ : EReal)) = ⊤ := rfl
    have t : (1 : EReal) + ⊤ = ⊤ := EReal.coe_add_top 1
    have d : Ideal.div 1 ⊤ = 0 := by simp [Ideal.div]
    rw [EReal.coe_mul_bot_of_pos (by norm_num), Ideal.tanh_bot, e, t, d, show (-1 : EReal) = ((-1 : ℝ) : EReal) from rfl, ← EReal.coe_mul, ← EReal.coe_add]
    norm_num
  | top =>
    have e : Ideal.exp (-(⊤ : EReal)) = 0 := rfl
    have d : Ideal.div 1 1 = 1 := by simp [Ideal.div]
    rw [EReal.coe_mul_top_of_pos (by norm_num), Ideal.tanh_top, e, add_zero, d, mul_one, ← EReal.coe_add]
    norm_num
  | coe x =>
    rw [← EReal.coe_mul, Ideal.tanh_coe, ← EReal.coe_neg, Ideal.exp_coe, show (1 : EReal) = ((1 : ℝ) : EReal) from rfl, ← EReal.coe_add,
      Ideal.div_coe (by positivity), ← EReal.coe_mul, ← EReal.coe_mul, ← EReal.coe_add, real_sigmoid, one_mul]

end Cert.Merge

end
-- ==== Proof.MergeVec.lean ====
module

public import proofs.«01_k».proof.Proof.Gen.Kernel3Ideal.Frame

/-!
The merge kernel's body in vector operations: one sub-block of 256 rows, the same for each of the four.
-/

@[expose] public section

set_option maxRecDepth 16384

noncomputable section

namespace Cert.Kernel3Ideal.Merge

open Cert.Kernel3Ideal Cert.Kernel3Ideal.Gen
open Idealize.ShloMosaic

variable {F : FTy → Type} [FloatOps F]

/-- The mean of every row. -/
def vMean (x : FVec F S256x1024 .f32) : FVec F S256x1 .f32 :=
  divf (shapeCast S256x1 (multiReduction .add [1] S256 x 0x00000000#32 reduces_S256x1024_S256 (.inl rfl) rfl) shapeCasts_S256_S256x1)
    (broadcast S256x1 (Scalar.ofBits .f32 0x44800000#32))

/-- Every row less its mean. -/
def vCen (x : FVec F S256x1024 .f32) : FVec F S256x1024 .f32 := subf x (broadcastTo S256x1024 (vMean x) broadcasts_S256x1_S256x1024)

/-- Every row normalised. -/
def vNorm (x : FVec F S256x1024 .f32) : FVec F S256x1024 .f32 :=
  mulf (vCen x) (broadcastTo S256x1024 (rsqrt (addf (vMean (mulf (vCen x) (vCen x))) (broadcast S256x1 (Scalar.ofBits .f32 0x358637BD#32)))) broadcasts_S256x1_S256x1024)

/-- The modulated rows. -/
def vMod (sh sc : FVec F S1x1024 .f32) (x : FVec F S256x1024 .f32) : FVec F S256x1024 .bf16 :=
  truncf .bf16 (addf (mulf (vNorm x) (broadcastTo S256x1024 (addf (broadcast S1x1024 (Scalar.ofBits .f32 0x3F800000#32)) sc) broadcasts_S1x1024_S256x1024))
    (broadcastTo S256x1024 sh broadcasts_S1x1024_S256x1024)) bitsLt_bf16_f32

/-- The sigmoid, by the hyperbolic tangent. -/
def vSig {s : Shape} (x : FVec F s .f32) : FVec F s .f32 :=
  addf (mulf (broadcast s (Scalar.ofBits .f32 0x3F000000#32)) (tanh (mulf (broadcast s (Scalar.ofBits .f32 0x3F000000#32)) x)))
    (broadcast s (Scalar.ofBits .f32 0x3F000000#32))

/-- A product with a weight matrix. -/
def vDot (a : FVec F S256x1024 .bf16) (w : Vec F S1024x1024 .bf16) : FVec F S256x1024 .f32 :=
  matmul dot_S256x1024_S1024x1024_S256x1024_1_0_0_1_n_n none a (shapeCast S1024x1024 w shapeCasts_S1024x1024_S1024x1024)
    (constant S256x1024 .f32 0x00000000#32)

/-- A branch gated and projected. -/
def vBranch (z : FVec F S256x256 .f32) (y : Vec F S1x256x256 .bf16) (wb : Vec F S1x256x1024 .bf16) : FVec F S256x1024 .f32 :=
  matmul dot_S256x256_S256x1024_S256x1024_1_0_0_1_n_n none
    (truncf .bf16 (mulf (extf .f32 (shapeCast S256x256 y shapeCasts_S1x256x256_S256x256) bitsLt_bf16_f32) (mulf z (vSig z))) bitsLt_bf16_f32)
    (shapeCast S256x1024 wb shapeCasts_S1x256x1024_S256x1024) (constant S256x1024 .f32 0x00000000#32)

/-- A branch's share of the sum. -/
def vTerm (xm : FVec F S256x1024 .bf16) (z : FVec F S256x256 .f32) (y : Vec F S1x256x256 .bf16) (wb : Vec F S1x256x1024 .bf16)
    (wm : Vec F S1024x1024 .bf16) : FVec F S256x1024 .f32 :=
  mulf (vSig (vDot xm wm)) (vBranch z y wb)

/-- The four branches merged. -/
def vAcc (xm : FVec F S256x1024 .bf16) (z : FVec F S256x1024 .f32) (y0 y1 y2 y3 : Vec F S1x256x256 .bf16) (b0 b1 b2 b3 : Vec F S1x256x1024 .bf16)
    (m0 m1 m2 m3 : Vec F S1024x1024 .bf16) : FVec F S256x1024 .f32 :=
  addf (addf (addf (vTerm xm (extractStridedSlice S256x256 ![0, 0] z slices_S256x1024_o0_0_S256x256) y0 b0 m0)
    (vTerm xm (extractStridedSlice S256x256 ![0, 256] z slices_S256x1024_o0_256_S256x256) y1 b1 m1))
    (vTerm xm (extractStridedSlice S256x256 ![0, 512] z slices_S256x1024_o0_512_S256x256) y2 b2 m2))
    (vTerm xm (extractStridedSlice S256x256 ![0, 768] z slices_S256x1024_o0_768_S256x256) y3 b3 m3)

/-- The residual with the merged branches. -/
def vRes (ga : FVec F S1x1024 .f32) (x acc : FVec F S256x1024 .f32) (wo : Vec F S1024x1024 .bf16) : FVec F S256x1024 .f32 :=
  addf (mulf (broadcast S256x1024 (Scalar.ofBits .f32 0x3FB504F3#32)) x)
    (mulf (broadcastTo S256x1024 ga broadcasts_S1x1024_S256x1024) (vDot (truncf .bf16 acc bitsLt_bf16_f32) wo))

/-- What is stored. -/
def vOut (r : FVec F S256x1024 .f32) (g b : Vec F S1x1024 .f32) : FVec F S1x256x1024 .f32 :=
  shapeCast S1x256x1024 (addf (mulf (vNorm r) (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)) shapeCasts_S256x1024_S1x256x1024

/-- One sub-block. -/
def vSub (sh sc ga : Vec F S1x1x1024 .f32) (x : Vec F S1x256x1024 .f32) (y0 y1 y2 y3 : Vec F S1x256x256 .bf16) (wz : Vec F S1024x1024 .bf16)
    (b0 b1 b2 b3 : Vec F S1x256x1024 .bf16) (m0 m1 m2 m3 wo : Vec F S1024x1024 .bf16) (g b : Vec F S1x1024 .f32) : FVec F S1x256x1024 .f32 :=
  vOut (vRes (shapeCast S1x1024 ga shapeCasts_S1x1x1024_S1x1024) (shapeCast S256x1024 x shapeCasts_S1x256x1024_S256x1024)
    (vAcc (vMod (shapeCast S1x1024 sh shapeCasts_S1x1x1024_S1x1024) (shapeCast S1x1024 sc shapeCasts_S1x1x1024_S1x1024) (shapeCast S256x1024 x shapeCasts_S1x256x1024_S256x1024))
      (vDot (vMod (shapeCast S1x1024 sh shapeCasts_S1x1x1024_S1x1024) (shapeCast S1x1024 sc shapeCasts_S1x1x1024_S1x1024) (shapeCast S256x1024 x shapeCasts_S1x256x1024_S256x1024)) wz)
      y0 y1 y2 y3 b0 b1 b2 b3 m0 m1 m2 m3) wo) g b

set_option maxHeartbeats 2000000 in
/-- The body's store is the four sub-blocks. -/
theorem out_eq (x0 : Vec F S1x1024x1024 .f32) (x1 : Vec F S1x3x1024 .f32) (x2 x3 x4 x5 : Vec F S1x1024x256 .bf16) (x6 : Vec F S1024x1024 .bf16)
    (x7 : Vec F S1024x4096 .bf16) (x8 : Vec F S4x256x1024 .bf16) (x9 : Vec F S1024x1024 .bf16) (x10 x11 : Vec F S1x1024 .f32) :
    out0_12 x0 x1 x2 x3 x4 x5 x6 x7 x8 x9 x10 x11 = View.canon
      [⟨r0_19, vSub (View.ld x1 r0_0) (View.ld x1 r0_1) (View.ld x1 r0_2) (View.ld x0 r0_19) (View.ld x2 r0_20) (View.ld x3 r0_20) (View.ld x4 r0_20) (View.ld x5 r0_20) (View.ld x6 r0_4)
        (View.ld x8 r0_6) (View.ld x8 r0_8) (View.ld x8 r0_10) (View.ld x8 r0_12) (View.ld x7 r0_7) (View.ld x7 r0_9) (View.ld x7 r0_11) (View.ld x7 r0_13) (View.ld x9 r0_4) (View.ld x10 r0_14) (View.ld x11 r0_14)⟩,
      ⟨r0_17, vSub (View.ld x1 r0_0) (View.ld x1 r0_1) (View.ld x1 r0_2) (View.ld x0 r0_17) (View.ld x2 r0_18) (View.ld x3 r0_18) (View.ld x4 r0_18) (View.ld x5 r0_18) (View.ld x6 r0_4)
        (View.ld x8 r0_6) (View.ld x8 r0_8) (View.ld x8 r0_10) (View.ld x8 r0_12) (View.ld x7 r0_7) (View.ld x7 r0_9) (View.ld x7 r0_11) (View.ld x7 r0_13) (View.ld x9 r0_4) (View.ld x10 r0_14) (View.ld x11 r0_14)⟩,
      ⟨r0_15, vSub (View.ld x1 r0_0) (View.ld x1 r0_1) (View.ld x1 r0_2) (View.ld x0 r0_15) (View.ld x2 r0_16) (View.ld x3 r0_16) (View.ld x4 r0_16) (View.ld x5 r0_16) (View.ld x6 r0_4)
        (View.ld x8 r0_6) (View.ld x8 r0_8) (View.ld x8 r0_10) (View.ld x8 r0_12) (View.ld x7 r0_7) (View.ld x7 r0_9) (View.ld x7 r0_11) (View.ld x7 r0_13) (View.ld x9 r0_4) (View.ld x10 r0_14) (View.ld x11 r0_14)⟩,
      ⟨r0_3, vSub (View.ld x1 r0_0) (View.ld x1 r0_1) (View.ld x1 r0_2) (View.ld x0 r0_3) (View.ld x2 r0_5) (View.ld x3 r0_5) (View.ld x4 r0_5) (View.ld x5 r0_5) (View.ld x6 r0_4)
        (View.ld x8 r0_6) (View.ld x8 r0_8) (View.ld x8 r0_10) (View.ld x8 r0_12) (View.ld x7 r0_7) (View.ld x7 r0_9) (View.ld x7 r0_11) (View.ld x7 r0_13) (View.ld x9 r0_4) (View.ld x10 r0_14) (View.ld x11 r0_14)⟩] := rfl

end Cert.Kernel3Ideal.Merge

end
-- ==== Proof.MergeRow.lean ====
module

public import proofs.«01_k».proof.Proof.MergeSpec
public import proofs.«01_k».proof.Proof.MergeVec
public import Idealize.ShloMosaic.Lib.ValueLayoutCasts

/-!
The merge kernel's body, read row by row.
-/

@[expose] public section

set_option maxRecDepth 16384

noncomputable section

namespace Cert.Kernel3Ideal.Merge

open Cert.Kernel3Ideal Cert.Kernel3Ideal.Gen Cert.Merge
open Idealize.ShloMosaic hiding ix0 ix1 ix2 ix3 ix4 ix5
open Idealize.ShloMosaic.ValueIdx Finset

theorem col_apply (v : FVec Ideal S256x1 .f32) (r : Fin 256) (j : Fin 1024) :
    broadcastTo S256x1024 v broadcasts_S256x1_S256x1024 (ix2 r j) = v (ix2 r 0) := by
  refine broadcastTo_apply v _ (ix2 r j) (ix2 r (0 : Fin 1)) fun ax => ?_
  match ax with
  | ⟨0, _⟩ => rfl
  | ⟨1, _⟩ => rfl

theorem row_apply (v : FVec Ideal S1x1024 .f32) (r : Fin 256) (j : Fin 1024) :
    broadcastTo S256x1024 v broadcasts_S1x1024_S256x1024 (ix2 r j) = v (ix2 0 j) :=
  broadcastTo_1b_ab_apply (a := 256) (b := 1024) v broadcasts_S1x1024_S256x1024 r j

theorem vMean_apply (x : FVec Ideal S256x1024 .f32) (r : Fin 256) : (vMean x (ix2 r 0) : EReal) = mean fun k => x (ix2 r k) := by
  refine congrArg (Ideal.div · (Ideal.ofBits .f32 0x44800000#32)) ?_
  refine (shapeCast_a_a1_apply (a := 256) _ shapeCasts_S256_S256x1 r 0).trans ?_
  refine (Ideal.multiReduction_add_single x _ reduces_S256x1024_S256 _ _ _).trans ?_
  refine sum_congr rfl fun k _ => congrArg x (funext fun a => Fin.ext ?_)
  match a with
  | ⟨0, _⟩ => rfl
  | ⟨1, _⟩ => rfl

theorem vCen_apply (x : FVec Ideal S256x1024 .f32) (r : Fin 256) (j : Fin 1024) :
    (vCen x (ix2 r j) : EReal) = cen (fun k => x (ix2 r k)) j := by
  show (x (ix2 r j) : EReal) - broadcastTo S256x1024 (vMean x) broadcasts_S256x1_S256x1024 (ix2 r j) = _
  rw [col_apply, vMean_apply]
  rfl

theorem vNorm_apply (x : FVec Ideal S256x1024 .f32) (r : Fin 256) (j : Fin 1024) :
    (vNorm x (ix2 r j) : EReal) = norm (fun k => x (ix2 r k)) j := by
  refine congrArg₂ (· * ·) (vCen_apply x r j) ?_
  refine (col_apply _ r j).trans ?_
  refine congrArg (fun e => Ideal.rsqrt (e + Ideal.ofBits .f32 0x358637BD#32)) ?_
  refine (vMean_apply _ r).trans (congrArg mean (funext fun k => ?_))
  exact congrArg₂ (· * ·) (vCen_apply x r k) (vCen_apply x r k)

theorem vMod_apply (sh sc : FVec Ideal S1x1024 .f32) (x : FVec Ideal S256x1024 .f32) (r : Fin 256) (j : Fin 1024) :
    (vMod sh sc x (ix2 r j) : EReal) = modu (fun k => sh (ix2 0 k)) (fun k => sc (ix2 0 k)) (fun k => x (ix2 r k)) j :=
  congrArg₂ (· + ·) (congrArg₂ (· * ·) (vNorm_apply x r j) (row_apply _ r j)) (row_apply sh r j)

theorem vSig_apply {s : Shape} (x : FVec Ideal s .f32) (i : s.Idx) : (vSig x i : EReal) = sigmoid (x i) := rfl

theorem vDot_apply (a : FVec Ideal S256x1024 .bf16) (w : FVec Ideal S1024x1024 .bf16) (r : Fin 256) (j : Fin 1024) :
    (vDot (F := Ideal) a w (ix2 r j) : EReal) = ∑ k : Fin 1024, a (ix2 r k) * w (ix2 k j) := by
  refine (Ideal.matmul_plain_apply (M := 256) (K := 1024) (N := 1024) none _ _ _ r j).trans ?_
  rw [constant_apply, Ideal.ofBits_zero_f32, zero_add, shapeCast_self]

theorem vBranch_apply (z : FVec Ideal S256x256 .f32) (y : FVec Ideal S1x256x256 .bf16) (wb : FVec Ideal S1x256x1024 .bf16) (r : Fin 256) (j : Fin 1024) :
    (vBranch (F := Ideal) z y wb (ix2 r j) : EReal) = branch (fun d => z (ix2 r d)) (fun d => y (ix3 0 r d)) (fun d l => wb (ix3 0 d l)) j := by
  refine (Ideal.matmul_plain_apply (M := 256) (K := 256) (N := 1024) none _ _ _ r j).trans ?_
  rw [constant_apply, Ideal.ofBits_zero_f32, zero_add]
  refine sum_congr rfl fun d _ => congrArg₂ (· * ·) (congrArg (fun e : EReal => e * (z (ix2 r d) * sigmoid (z (ix2 r d)))) ?_) ?_
  · exact shapeCast_1ab_ab_apply (a := 256) (b := 256) y shapeCasts_S1x256x256_S256x256 r d
  · exact shapeCast_1ab_ab_apply (a := 256) (b := 1024) wb shapeCasts_S1x256x1024_S256x1024 d j

/-- A branch's share, its gate the columns of a block from `o` on. -/
theorem vTerm_apply (xm : FVec Ideal S256x1024 .bf16) (wz : FVec Ideal S1024x1024 .bf16) (o : ℕ) (ho : o + 256 ≤ 1024)
    (h : S256x1024.Slices ![0, o] S256x256) (y : FVec Ideal S1x256x256 .bf16) (wb : FVec Ideal S1x256x1024 .bf16)
    (wm : FVec Ideal S1024x1024 .bf16) (r : Fin 256) (j : Fin 1024) :
    (vTerm (F := Ideal) xm (extractStridedSlice S256x256 ![0, o] (vDot xm wz) h) y wb wm (ix2 r j) : EReal)
      = term (fun k => xm (ix2 r k)) (fun d k => wz (ix2 k ⟨o + d.val, by omega⟩)) (fun d => y (ix3 0 r d)) (fun d l => wb (ix3 0 d l))
          (fun k l => wm (ix2 k l)) j := by
  refine congrArg₂ (· * ·) (congrArg sigmoid (vDot_apply xm wm r j)) ?_
  refine (vBranch_apply _ y wb r j).trans (congrArg (fun z => branch z _ _ j) (funext fun d => ?_))
  refine (slice2_axis1_apply (n0 := 256) (n1 := 1024) (m := 256) o (vDot xm wz) h r d ⟨o + d.val, by omega⟩ rfl).trans ?_
  exact vDot_apply xm wz r _

/-- One sub-block at a row. -/
theorem vSub_apply (sh sc ga : FVec Ideal S1x1x1024 .f32) (x : FVec Ideal S1x256x1024 .f32) (y0 y1 y2 y3 : FVec Ideal S1x256x256 .bf16)
    (wz : FVec Ideal S1024x1024 .bf16) (b0 b1 b2 b3 : FVec Ideal S1x256x1024 .bf16) (m0 m1 m2 m3 wo : FVec Ideal S1024x1024 .bf16)
    (g b : FVec Ideal S1x1024 .f32) (r : Fin 256) (j : Fin 1024)
    (fsh fsc fga fx : Fin 1024 → EReal) (fz : Fin 4 → Fin 256 → Fin 1024 → EReal) (fy : Fin 4 → Fin 256 → EReal)
    (fb : Fin 4 → Fin 256 → Fin 1024 → EReal) (fm : Fin 4 → Fin 1024 → Fin 1024 → EReal) (fo : Fin 1024 → Fin 1024 → EReal)
    (fg fbi : Fin 1024 → EReal)
    (hsh : ∀ k, sh (ix3 0 0 k) = fsh k) (hsc : ∀ k, sc (ix3 0 0 k) = fsc k) (hga : ∀ k, ga (ix3 0 0 k) = fga k) (hx : ∀ k, x (ix3 0 r k) = fx k)
    (hy0 : ∀ d, y0 (ix3 0 r d) = fy 0 d) (hy1 : ∀ d, y1 (ix3 0 r d) = fy 1 d) (hy2 : ∀ d, y2 (ix3 0 r d) = fy 2 d) (hy3 : ∀ d, y3 (ix3 0 r d) = fy 3 d)
    (hz : ∀ (n : Fin 4) (d : Fin 256) k, wz (ix2 k ⟨256 * n.val + d.val, by omega⟩) = fz n d k)
    (hb0 : ∀ d l, b0 (ix3 0 d l) = fb 0 d l) (hb1 : ∀ d l, b1 (ix3 0 d l) = fb 1 d l) (hb2 : ∀ d l, b2 (ix3 0 d l) = fb 2 d l) (hb3 : ∀ d l, b3 (ix3 0 d l) = fb 3 d l)
    (hm0 : ∀ k l, m0 (ix2 k l) = fm 0 k l) (hm1 : ∀ k l, m1 (ix2 k l) = fm 1 k l) (hm2 : ∀ k l, m2 (ix2 k l) = fm 2 k l) (hm3 : ∀ k l, m3 (ix2 k l) = fm 3 k l)
    (ho : ∀ k l, wo (ix2 k l) = fo k l) (hg : ∀ k, g (ix2 0 k) = fg k) (hbi : ∀ k, b (ix2 0 k) = fbi k) :
    (vSub (F := Ideal) sh sc ga x y0 y1 y2 y3 wz b0 b1 b2 b3 m0 m1 m2 m3 wo g b (ix3 0 r j) : EReal) = row fsh fsc fga fx fz fy fb fm fo fg fbi j := by
  have cs : ∀ (v : FVec Ideal S1x1x1024 .f32) k, (shapeCast S1x1024 v shapeCasts_S1x1x1024_S1x1024 : FVec Ideal S1x1024 .f32) (ix2 0 k) = v (ix3 0 0 k) :=
    fun v k => shapeCast_1ab_ab_apply (a := 1) (b := 1024) v shapeCasts_S1x1x1024_S1x1024 0 k
  have cx : ∀ k, (shapeCast S256x1024 x shapeCasts_S1x256x1024_S256x1024 : FVec Ideal S256x1024 .f32) (ix2 r k) = fx k :=
    fun k => (shapeCast_1ab_ab_apply (a := 256) (b := 1024) x shapeCasts_S1x256x1024_S256x1024 r k).trans (hx k)
  have xm : ∀ k, (vMod (shapeCast S1x1024 sh shapeCasts_S1x1x1024_S1x1024) (shapeCast S1x1024 sc shapeCasts_S1x1x1024_S1x1024) (shapeCast S256x1024 x shapeCasts_S1x256x1024_S256x1024) (ix2 r k) : EReal)
      = modu fsh fsc fx k := fun k => by
    rw [vMod_apply]
    simp only [cs, cx, hsh, hsc]
  have hz0 : ∀ (d : Fin 256) k, wz (ix2 k ⟨0 + d.val, by omega⟩) = fz 0 d k := fun d k => hz 0 d k
  have hz1 : ∀ (d : Fin 256) k, wz (ix2 k ⟨256 + d.val, by omega⟩) = fz 1 d k := fun d k => hz 1 d k
  have hz2 : ∀ (d : Fin 256) k, wz (ix2 k ⟨512 + d.val, by omega⟩) = fz 2 d k := fun d k => hz 2 d k
  have hz3 : ∀ (d : Fin 256) k, wz (ix2 k ⟨768 + d.val, by omega⟩) = fz 3 d k := fun d k => hz 3 d k
  refine (shapeCast_ab_1ab_apply (a := 256) (b := 1024) _ shapeCasts_S256x1024_S1x256x1024 0 r j).trans ?_
  refine congrArg₂ (· + ·) (congrArg₂ (· * ·) ?_ ?_) ?_
  · refine (vNorm_apply _ r j).trans (congrArg (norm · j) (funext fun l => ?_))
    refine congrArg₂ (fun p q : EReal => p + q) (congrArg (fun e : EReal => Ideal.ofBits .f32 0x3FB504F3#32 * e) (cx l)) (congrArg₂ (fun p q : EReal => p * q) ((row_apply _ r l).trans ((cs ga l).trans (hga l))) ?_)
    refine (vDot_apply _ wo r l).trans (sum_congr rfl fun e _ => congrArg₂ (· * ·) ?_ (ho e l))
    refine congrArg₂ (fun p q : EReal => p + q) (congrArg₂ (fun p q : EReal => p + q) (congrArg₂ (fun p q : EReal => p + q) ?_ ?_) ?_) ?_
    · refine (vTerm_apply _ wz 0 (by omega) slices_S256x1024_o0_0_S256x256 y0 b0 m0 r e).trans ?_
      simp only [xm, hz0, hy0, hb0, hm0]
    · refine (vTerm_apply _ wz 256 (by omega) slices_S256x1024_o0_256_S256x256 y1 b1 m1 r e).trans ?_
      simp only [xm, hz1, hy1, hb1, hm1]
    · refine (vTerm_apply _ wz 512 (by omega) slices_S256x1024_o0_512_S256x256 y2 b2 m2 r e).trans ?_
      simp only [xm, hz2, hy2, hb2, hm2]
    · refine (vTerm_apply _ wz 768 (by omega) slices_S256x1024_o0_768_S256x256 y3 b3 m3 r e).trans ?_
      simp only [xm, hz3, hy3, hb3, hm3]
  · refine (row_apply _ r j).trans ?_
    rw [shapeCast_self]
    exact hg j
  · refine (row_apply _ r j).trans ?_
    rw [shapeCast_self]
    exact hbi j

end Cert.Kernel3Ideal.Merge

end
-- ==== Proof.BlockM.lean ====
module

public import proofs.«01_k».proof.Proof.MergeRow

/-!
A whole block of the merge kernel's result, every row of it the row of the specification.
-/

@[expose] public section

set_option maxRecDepth 16384

noncomputable section

namespace Cert.Kernel3Ideal.Merge

open Cert.Kernel3Ideal Cert.Kernel3Ideal.Gen Cert.Merge
open Idealize.ShloMosaic hiding ix0 ix1 ix2 ix3 ix4 ix5
open Idealize.ShloMosaic.ValueIdx Finset

/-- One of four. -/
def pick {α : Type} (a b c d : α) : Fin 4 → α
  | ⟨0, _⟩ => a
  | ⟨1, _⟩ => b
  | ⟨2, _⟩ => c
  | ⟨3, _⟩ => d

/-- A load of some rows of a block. -/
theorem ld_rows {n : ℕ} {Val : EltTy → Type} {e : EltTy} (x : (⟨3, ![1, 1024, n]⟩ : Shape).Idx → Val e) (o : ℕ) (ho : o + 256 ≤ 1024)
    (inb : ∀ a, (![0, o, 0] : Fin 3 → ℕ) a + (![1, 256, n] : Fin 3 → ℕ) a ≤ (⟨3, ![1, 1024, n]⟩ : Shape).size a) (r : Fin 256) (k : Fin n) :
    View.ld x (Rect.unit (s := ⟨3, ![1, 1024, n]⟩) ![0, o, 0] ![1, 256, n] inb) (ix3 0 r k)
      = x (ix3 0 ⟨o + r.val, by omega⟩ k) := by
  rw [View.ld_unit]
  refine extractStridedSlice_apply _ _ _ _ _ fun a => ?_
  match a with
  | ⟨0, _⟩ => rfl
  | ⟨1, _⟩ => rfl
  | ⟨2, _⟩ => exact (Nat.zero_add _).symm

/-- A load of one leading slice of a block. -/
theorem ld_slice {N a b : ℕ} {Val : EltTy → Type} {e : EltTy} (x : (⟨3, ![N, a, b]⟩ : Shape).Idx → Val e) (o : ℕ) (ho : o < N)
    (inb : ∀ i, (![o, 0, 0] : Fin 3 → ℕ) i + (![1, a, b] : Fin 3 → ℕ) i ≤ (⟨3, ![N, a, b]⟩ : Shape).size i) (d : Fin a) (k : Fin b) :
    View.ld x (Rect.unit (s := ⟨3, ![N, a, b]⟩) ![o, 0, 0] ![1, a, b] inb) (ix3 0 d k)
      = x (ix3 ⟨o, ho⟩ d k) := by
  rw [View.ld_unit]
  refine extractStridedSlice_apply _ _ _ _ _ fun a => ?_
  match a with
  | ⟨0, _⟩ => rfl
  | ⟨1, _⟩ => exact (Nat.zero_add _).symm
  | ⟨2, _⟩ => exact (Nat.zero_add _).symm

/-- A load of one row of the modulation. -/
theorem ld_mod {Val : EltTy → Type} {e : EltTy} (x : S1x3x1024.Idx → Val e) (o : ℕ) (ho : o < 3)
    (inb : ∀ i, (![0, o, 0] : Fin 3 → ℕ) i + S1x1x1024.size i ≤ S1x3x1024.size i) (k : Fin 1024) :
    View.ld x (Rect.unit (s := S1x3x1024) ![0, o, 0] S1x1x1024.size inb) (ix3 0 0 k)
      = x (ix3 0 ⟨o, ho⟩ k) := by
  rw [View.ld_unit]
  refine extractStridedSlice_apply _ _ _ _ _ fun a => ?_
  match a with
  | ⟨0, _⟩ => rfl
  | ⟨1, _⟩ => rfl
  | ⟨2, _⟩ => exact (Nat.zero_add _).symm

/-- A load of some columns of a matrix. -/
theorem ld_cols {R C n : ℕ} {Val : EltTy → Type} {e : EltTy} (x : (⟨2, ![R, C]⟩ : Shape).Idx → Val e) (o : ℕ) (ho : o + n ≤ C)
    (inb : ∀ i, (![0, o] : Fin 2 → ℕ) i + (![R, n] : Fin 2 → ℕ) i ≤ (⟨2, ![R, C]⟩ : Shape).size i) (k : Fin R) (l : Fin n) :
    View.ld x (Rect.unit (s := ⟨2, ![R, C]⟩) ![0, o] ![R, n] inb) (ix2 k l)
      = x (ix2 k ⟨o + l.val, by omega⟩) := by
  rw [View.ld_unit]
  refine extractStridedSlice_apply _ _ _ _ _ fun a => ?_
  match a with
  | ⟨0, _⟩ => exact (Nat.zero_add _).symm
  | ⟨1, _⟩ => rfl

section Block

variable (x0 : FVec Ideal S1x1024x1024 .f32) (x1 : FVec Ideal S1x3x1024 .f32) (x2 x3 x4 x5 : FVec Ideal S1x1024x256 .bf16) (x6 : FVec Ideal S1024x1024 .bf16)
  (x7 : FVec Ideal S1024x4096 .bf16) (x8 : FVec Ideal S4x256x1024 .bf16) (x9 : FVec Ideal S1024x1024 .bf16) (x10 x11 : FVec Ideal S1x1024 .f32)

/-- Row `t` of a block's result. -/
def blockRow (t : Fin 1024) : Fin 1024 → EReal :=
  row (fun k => x1 (ix3 0 0 k)) (fun k => x1 (ix3 0 1 k)) (fun k => x1 (ix3 0 2 k)) (fun k => x0 (ix3 0 t k))
    (fun n d k => x6 (ix2 k ⟨256 * n.val + d.val, by omega⟩)) (fun n d => pick x2 x3 x4 x5 n (ix3 0 t d)) (fun n d l => x8 (ix3 n d l))
    (fun n k l => x7 (ix2 k ⟨1024 * n.val + l.val, by omega⟩)) (fun k l => x9 (ix2 k l)) (fun k => x10 (ix2 0 k)) (fun k => x11 (ix2 0 k))

/-- A stored piece. -/
theorem piece (o : ℕ) (ho : o + 256 ≤ 1024) (ix : ∀ a, (![0, o, 0] : Fin 3 → ℕ) a + S1x256x1024.size a ≤ S1x1024x1024.size a)
    (iy : ∀ a, (![0, o, 0] : Fin 3 → ℕ) a + S1x256x256.size a ≤ S1x1024x256.size a) (r : Fin 256) (j : Fin 1024) :
    (vSub (F := Ideal) (View.ld x1 r0_0) (View.ld x1 r0_1) (View.ld x1 r0_2) (View.ld x0 (Rect.unit (s := S1x1024x1024) ![0, o, 0] S1x256x1024.size ix))
      (View.ld x2 (Rect.unit (s := S1x1024x256) ![0, o, 0] S1x256x256.size iy)) (View.ld x3 (Rect.unit (s := S1x1024x256) ![0, o, 0] S1x256x256.size iy))
      (View.ld x4 (Rect.unit (s := S1x1024x256) ![0, o, 0] S1x256x256.size iy)) (View.ld x5 (Rect.unit (s := S1x1024x256) ![0, o, 0] S1x256x256.size iy))
      (View.ld x6 r0_4) (View.ld x8 r0_6) (View.ld x8 r0_8) (View.ld x8 r0_10) (View.ld x8 r0_12) (View.ld x7 r0_7) (View.ld x7 r0_9) (View.ld x7 r0_11) (View.ld x7 r0_13)
      (View.ld x9 r0_4) (View.ld x10 r0_14) (View.ld x11 r0_14) (ix3 0 r j) : EReal)
      = blockRow x0 x1 x2 x3 x4 x5 x6 x7 x8 x9 x10 x11 ⟨o + r.val, by omega⟩ j := by
  have z0 : ∀ {n : ℕ} (k : Fin n) (h : 0 + k.val < n), (⟨0 + k.val, h⟩ : Fin n) = k := fun k _ => Fin.ext (Nat.zero_add _)
  have e6 : ∀ (n : Fin 4) (d : Fin 256) (k : Fin 1024), (View.ld (Val := Elt Ideal) (e' := .bf16) x6 r0_4 : FVec Ideal S1024x1024 .bf16) (ix2 k ⟨256 * n.val + d.val, by omega⟩)
      = x6 (ix2 k ⟨256 * n.val + d.val, by omega⟩) := fun n d k => by
    refine (ld_cols (Val := Elt Ideal) (e := .bf16) (R := 1024) (C := 1024) (n := 1024) x6 0 (by omega) _ k _).trans ?_
    rw [z0]
  have e9 : ∀ (k l : Fin 1024), (View.ld (Val := Elt Ideal) (e' := .bf16) x9 r0_4 : FVec Ideal S1024x1024 .bf16) (ix2 k l) = x9 (ix2 k l) := fun k l => by
    refine (ld_cols (Val := Elt Ideal) (e := .bf16) (R := 1024) (C := 1024) (n := 1024) x9 0 (by omega) _ k l).trans ?_
    rw [z0]
  have e1 : ∀ (x : FVec Ideal S1x1024 .f32) (k : Fin 1024), (View.ld (Val := Elt Ideal) (e' := .f32) x r0_14 : FVec Ideal S1x1024 .f32) (ix2 0 k) = x (ix2 0 k) := fun x k => by
    refine (ld_cols (Val := Elt Ideal) (e := .f32) (R := 1) (C := 1024) (n := 1024) x 0 (by omega) _ 0 k).trans ?_
    rw [z0]
  have e7 : ∀ (q : ℕ) (n : Fin 4) (hq : q = 1024 * n.val) (inb : ∀ i, (![0, q] : Fin 2 → ℕ) i + S1024x1024.size i ≤ S1024x4096.size i) (k l : Fin 1024),
      (View.ld (Val := Elt Ideal) (e' := .bf16) x7 (Rect.unit (s := S1024x4096) ![0, q] S1024x1024.size inb) : FVec Ideal S1024x1024 .bf16) (ix2 k l)
        = x7 (ix2 k ⟨1024 * n.val + l.val, by omega⟩) := fun q n hq inb k l => by
    refine (ld_cols (Val := Elt Ideal) (e := .bf16) (R := 1024) (C := 4096) (n := 1024) x7 q (by omega) inb k l).trans ?_
    exact congrArg x7 (congrArg (ix2 k) (Fin.ext (by show q + l.val = 1024 * n.val + l.val; rw [hq])))
  have e8 : ∀ (n : Fin 4) (inb : ∀ i, (![n.val, 0, 0] : Fin 3 → ℕ) i + S1x256x1024.size i ≤ S4x256x1024.size i) (d : Fin 256) (l : Fin 1024),
      (View.ld (Val := Elt Ideal) (e' := .bf16) x8 (Rect.unit (s := S4x256x1024) ![n.val, 0, 0] S1x256x1024.size inb) : FVec Ideal S1x256x1024 .bf16) (ix3 0 d l)
        = x8 (ix3 n d l) := fun n inb d l => ld_slice (Val := Elt Ideal) (e := .bf16) (N := 4) (a := 256) (b := 1024) x8 n.val n.isLt inb d l
  have em : ∀ (n : Fin 3) (inb : ∀ i, (![0, n.val, 0] : Fin 3 → ℕ) i + S1x1x1024.size i ≤ S1x3x1024.size i) (k : Fin 1024),
      (View.ld (Val := Elt Ideal) (e' := .f32) x1 (Rect.unit (s := S1x3x1024) ![0, n.val, 0] S1x1x1024.size inb) : FVec Ideal S1x1x1024 .f32) (ix3 0 0 k)
        = x1 (ix3 0 n k) := fun n inb k => ld_mod (Val := Elt Ideal) (e := .f32) x1 n.val n.isLt inb k
  have ey : ∀ (x : FVec Ideal S1x1024x256 .bf16) (d : Fin 256),
      (View.ld (Val := Elt Ideal) (e' := .bf16) x (Rect.unit (s := S1x1024x256) ![0, o, 0] S1x256x256.size iy) : FVec Ideal S1x256x256 .bf16) (ix3 0 r d)
        = x (ix3 0 ⟨o + r.val, by omega⟩ d) := fun x d => ld_rows (Val := Elt Ideal) (e := .bf16) (n := 256) x o ho iy r d
  have ex : ∀ d : Fin 1024,
      (View.ld (Val := Elt Ideal) (e' := .f32) x0 (Rect.unit (s := S1x1024x1024) ![0, o, 0] S1x256x1024.size ix) : FVec Ideal S1x256x1024 .f32) (ix3 0 r d)
        = x0 (ix3 0 ⟨o + r.val, by omega⟩ d) := fun d => ld_rows (Val := Elt Ideal) (e := .f32) (n := 1024) x0 o ho ix r d
  unfold blockRow
  exact vSub_apply _ _ _ _ _ _ _ _ _ _ _ _ _ _ _ _ _ _ _ _ r j (fun k => x1 (ix3 0 0 k)) (fun k => x1 (ix3 0 1 k)) (fun k => x1 (ix3 0 2 k)) (fun k => x0 (ix3 0 ⟨o + r.val, by omega⟩ k))
    (fun n d k => x6 (ix2 k ⟨256 * n.val + d.val, by omega⟩)) (fun n d => pick x2 x3 x4 x5 n (ix3 0 ⟨o + r.val, by omega⟩ d)) (fun n d l => x8 (ix3 n d l))
    (fun n k l => x7 (ix2 k ⟨1024 * n.val + l.val, by omega⟩)) (fun k l => x9 (ix2 k l)) (fun k => x10 (ix2 0 k)) (fun k => x11 (ix2 0 k))
    (em 0 _) (em 1 _) (em 2 _) ex (ey x2) (ey x3) (ey x4) (ey x5) e6 (e8 0 _) (e8 1 _) (e8 2 _) (e8 3 _) (e7 0 0 rfl _) (e7 1024 1 rfl _) (e7 2048 2 rfl _) (e7 3072 3 rfl _)
    e9 (e1 x10) (e1 x11)

/-- The stored pieces lie where their rows do. -/
theorem emb_rows (o : ℕ) (ho : o + 256 ≤ 1024) (ix : ∀ a, (![0, o, 0] : Fin 3 → ℕ) a + S1x256x1024.size a ≤ S1x1024x1024.size a) (r : Fin 256) (j : Fin 1024) :
    (Rect.unit (s := S1x1024x1024) ![0, o, 0] S1x256x1024.size ix).emb (ix3 0 r j) = ix3 0 ⟨o + r.val, by omega⟩ j := by
  funext a
  refine Fin.ext ?_
  match a with
  | ⟨0, _⟩ => rfl
  | ⟨1, _⟩ => show o + 1 * r.val = o + r.val; omega
  | ⟨2, _⟩ => show 0 + 1 * j.val = j.val; omega

/-- The block's result at a row. -/
theorem block (t j : Fin 1024) :
    (out0_12 (F := Ideal) x0 x1 x2 x3 x4 x5 x6 x7 x8 x9 x10 x11 (ix3 0 t j) : EReal) = blockRow x0 x1 x2 x3 x4 x5 x6 x7 x8 x9 x10 x11 t j := by
  rw [out_eq]
  have hx : ∀ y : S1x256x1024.Idx, y = (ix3 (0 : Fin 1) (y 1) (y 2) : S1x256x1024.Idx) := fun y => by
    funext a
    match a with
    | ⟨0, _⟩ => exact Subsingleton.elim (α := Fin 1) _ _
    | ⟨1, _⟩ => rfl
    | ⟨2, _⟩ => rfl
  refine View.canon_apply_of_pieces (Val := Elt Ideal) (S := S1x1024x1024) (e := .f32) (fun i => blockRow x0 x1 x2 x3 x4 x5 x6 x7 x8 x9 x10 x11 (i 1) (i 2)) _ (fun p hp => ?_) (ix3 0 t j) (cover0_12 _ _ _ _ _)
  have key : ∀ (o : ℕ) (ho : o + 256 ≤ 1024) (ix : ∀ a, (![0, o, 0] : Fin 3 → ℕ) a + S1x256x1024.size a ≤ S1x1024x1024.size a)
      (v : FVec Ideal S1x256x1024 .f32) (hv : ∀ r k, v (ix3 0 r k) = blockRow x0 x1 x2 x3 x4 x5 x6 x7 x8 x9 x10 x11 ⟨o + r.val, by omega⟩ k) (y : S1x256x1024.Idx),
      v y = (fun i : S1x1024x1024.Idx => blockRow x0 x1 x2 x3 x4 x5 x6 x7 x8 x9 x10 x11 (i 1) (i 2)) ((Rect.unit (s := S1x1024x1024) ![0, o, 0] S1x256x1024.size ix).emb y) :=
    fun o ho ix v hv y => by
      have e : y = (ix3 (0 : Fin 1) (y 1) (y 2) : S1x256x1024.Idx) := hx y
      have e' : (Rect.unit (s := S1x1024x1024) ![0, o, 0] S1x256x1024.size ix).emb y = _ := (congrArg (Rect.unit (s := S1x1024x1024) ![0, o, 0] S1x256x1024.size ix).emb e).trans (emb_rows o ho ix (y 1) (y 2))
      refine (congrArg v e).trans ((hv (y 1) (y 2)).trans ?_)
      exact (congrArg (fun i : S1x1024x1024.Idx => blockRow x0 x1 x2 x3 x4 x5 x6 x7 x8 x9 x10 x11 (i 1) (i 2)) e').symm
  simp only [List.mem_cons, List.not_mem_nil, or_false] at hp
  rcases hp with rfl | rfl | rfl | rfl
  · exact key 768 (by omega) inb_S1x1024x1024_S1x256x1024_0_768_0 _ fun r k => piece x0 x1 x2 x3 x4 x5 x6 x7 x8 x9 x10 x11 768 (by omega) inb_S1x1024x1024_S1x256x1024_0_768_0 inb_S1x1024x256_S1x256x256_0_768_0 r k
  · exact key 512 (by omega) inb_S1x1024x1024_S1x256x1024_0_512_0 _ fun r k => piece x0 x1 x2 x3 x4 x5 x6 x7 x8 x9 x10 x11 512 (by omega) inb_S1x1024x1024_S1x256x1024_0_512_0 inb_S1x1024x256_S1x256x256_0_512_0 r k
  · exact key 256 (by omega) inb_S1x1024x1024_S1x256x1024_0_256_0 _ fun r k => piece x0 x1 x2 x3 x4 x5 x6 x7 x8 x9 x10 x11 256 (by omega) inb_S1x1024x1024_S1x256x1024_0_256_0 inb_S1x1024x256_S1x256x256_0_256_0 r k
  · exact key 0 (by omega) inb_S1x1024x1024_S1x256x1024_0_0_0 _ fun r k => piece x0 x1 x2 x3 x4 x5 x6 x7 x8 x9 x10 x11 0 (by omega) inb_S1x1024x1024_S1x256x1024_0_0_0 inb_S1x1024x256_S1x256x256_0_0_0 r k

end Block

end Cert.Kernel3Ideal.Merge

end
-- ==== Proof.HostM.lean ====
module

public import proofs.«01_k».proof.Proof.Gen.Kernel3Ideal.Frame
public import Idealize.ShloMosaic.Lib.Pipeline.ValueKit
public import Idealize.ShloMosaic.Lib.Claim
public import Idealize.ShloMosaic.Lib.IdealHost
public import Idealize.ShloMosaic.Lib.KernelVsHost
public import Idealize.ShloMosaic.Lib.ValueLayout

/-!
What the host hands to the merge kernel, entry by entry.
-/

@[expose] public section

set_option maxRecDepth 16384

noncomputable section

namespace Cert.Kernel3Ideal.Merge

open Cert.Kernel3Ideal Cert.Kernel3Ideal.Gen
open Idealize.ShloMosaic hiding ix0 ix1 ix2 ix3 ix4 ix5
open Idealize.ShloMosaic.ValueIdx Idealize.ShloMosaic.TcCoe Finset

/-- The middle two heads exchanged. -/
def swapHead (h : Fin 4) : Fin 4 := match h with
  | ⟨0, _⟩ => 0
  | ⟨1, _⟩ => 2
  | ⟨2, _⟩ => 1
  | ⟨3, _⟩ => 3

/-- The columns of the middle two heads exchanged. -/
def swapCol (d : Fin 256) : Fin 256 := ⟨64 * (swapHead ⟨d.val / 64, by omega⟩).val + d.val % 64, by omega⟩

/-- A gather of heads along the middle axis. -/
theorem gather_mid (x : FVec Ideal S1024x4x64 .bf16) (idx : IVec S4x1 32) (k : Fin 1024) (h : Fin 4) (d : Fin 64) :
    Host.gather gather_S1024x4x64_S4x1_S1024x4x64_02_1_n_n_1_1_1024164 x idx (ix3 k h d)
      = x (ix3 k ⟨min (idx (ix2 h 0)).toInt.toNat 3, by omega⟩ d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ => exact (Nat.zero_add _)
  | ⟨1, _⟩ =>
    rw [GatherDims.offCoord_eq_zero _ _ _ (fun h => ((GatherDims.mem_sKept _ _).mp h).1 (List.mem_singleton.mpr rfl))]
    unfold GatherDims.start
    refine Eq.trans (congrArg (fun x => x + 0 + 0) (dif_pos (List.mem_singleton.mpr rfl))) ?_
    refine congrArg (fun i => min (idx i).toInt.toNat 3) ?_
    funext b
    refine Fin.ext ?_
    match b with
    | ⟨0, _⟩ => rfl
    | ⟨1, _⟩ => rfl
  | ⟨2, _⟩ => exact (Nat.zero_add _)

/-- A gather of heads along the leading axis. -/
theorem gather_lead (x : FVec Ideal S4x64x1024 .f32) (idx : IVec S4x1 32) (h : Fin 4) (d : Fin 64) (k : Fin 1024) :
    Host.gather gather_S4x64x1024_S4x1_S4x64x1024_12_0_n_n_0_1_1641024 x idx (ix3 h d k)
      = x (ix3 ⟨min (idx (ix2 h 0)).toInt.toNat 3, by omega⟩ d k) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨1, _⟩ => exact (Nat.zero_add _)
  | ⟨0, _⟩ =>
    rw [GatherDims.offCoord_eq_zero _ _ _ (fun h => ((GatherDims.mem_sKept _ _).mp h).1 (List.mem_singleton.mpr rfl))]
    unfold GatherDims.start
    refine Eq.trans (congrArg (fun x => x + 0 + 0) (dif_pos (List.mem_singleton.mpr rfl))) ?_
    refine congrArg (fun i => min (idx i).toInt.toNat 3) ?_
    funext b
    refine Fin.ext ?_
    match b with
    | ⟨0, _⟩ => rfl
    | ⟨1, _⟩ => rfl
  | ⟨2, _⟩ => exact (Nat.zero_add _)

/-- The heads' order as the host writes it. -/
def headOrder : IVec S4 32 := fun i => lit0 (S4.rowMajor i)

/-- The start indices of the host's gathers. -/
def headIdx : IVec S4x1 32 :=
  broadcastInDim S4x1 ![0] bcast_S4_S4x1_0 (select (cmpi .slt headOrder (broadcastInDim S4 ![] bcast_S_S4 (constantI S_ 32 0#32)))
    (addi headOrder (broadcastInDim S4 ![] bcast_S_S4 (constantI S_ 32 4#32))) headOrder)

theorem headIdx_apply (h : Fin 4) : min (headIdx (ix2 h 0)).toInt.toNat 3 = (swapHead h).val := by
  have e : headIdx (ix2 h 0) = Scalar.select (IntOp.cmpi .slt (lit0 h) 0#32) (lit0 h + 4#32) (lit0 h) := by
    have r : S4.rowMajor (ix1 h) = h := Fin.ext (Shape.rowMajor_val_one _)
    have i : headIdx (ix2 h 0) = (select (cmpi .slt headOrder (broadcastInDim S4 ![] bcast_S_S4 (constantI S_ 32 0#32)))
        (addi headOrder (broadcastInDim S4 ![] bcast_S_S4 (constantI S_ 32 4#32))) headOrder) (ix1 h) := by
      unfold headIdx
      refine broadcastInDim_apply _ _ _ _ _ fun a => ?_
      match a with
      | ⟨0, _⟩ => rfl
    rw [i]
    show Scalar.select (IntOp.cmpi .slt (lit0 (S4.rowMajor (ix1 h))) 0#32) (lit0 (S4.rowMajor (ix1 h)) + 4#32) (lit0 (S4.rowMajor (ix1 h))) = _
    rw [r]
  rw [e]
  exact (by decide : ∀ h : Fin 4, min (Scalar.select (IntOp.cmpi .slt (lit0 h) 0#32) (lit0 h + 4#32) (lit0 h)).toInt.toNat 3 = (swapHead h).val) h

/-- The columns the host builds the gates' weights from: the last branch's heads exchanged. -/
theorem cols_apply (x : FVec Ideal S1024x1024 .bf16) (k e : Fin 1024) :
    (concatenate S1024x1024 1 [⟨S1024x768, extractStridedSlice S1024x768 ![0, 0] x slices_S1024x1024_S1024x768_0_0⟩,
      ⟨S1024x256, shapeCast S1024x256 (Host.gather gather_S1024x4x64_S4x1_S1024x4x64_02_1_n_n_1_1_1024164
        (shapeCast S1024x4x64 (extractStridedSlice S1024x256 ![0, 768] x slices_S1024x1024_S1024x256_0_768) shapeCasts_S1024x256_S1024x4x64) headIdx)
        shapeCasts_S1024x4x64_S1024x256⟩] concatenates_S1024x768_S1024x256_S1024x1024_d1 (ix2 k e) : EReal)
      = if h : e.val < 768 then x (ix2 k e) else x (ix2 k ⟨768 + (swapCol ⟨e.val - 768, by omega⟩).val, by omega⟩) := by
  split
  · rename_i h
    refine (concatenate_pair_apply_left 1 _ _ concatenates_S1024x768_S1024x256_S1024x1024_d1 (ix2 k e) rfl (ix2 k ⟨e.val, h⟩) fun a => ?_).trans ?_
    · match a with
      | ⟨0, _⟩ => rfl
      | ⟨1, _⟩ => rfl
    · exact slice2_axis1_apply (n0 := 1024) (n1 := 1024) (m := 768) 0 x slices_S1024x1024_S1024x768_0_0 k ⟨e.val, h⟩ e (Nat.zero_add _).symm
  · rename_i h
    refine (concatenate_pair_apply_right 1 _ _ concatenates_S1024x768_S1024x256_S1024x1024_d1 (ix2 k e) rfl rfl (ix2 k (⟨e.val - 768, by omega⟩ : Fin 256)) (fun a ha => ?_) ?_).trans ?_
    · match a with
      | ⟨0, _⟩ => rfl
      | ⟨1, _⟩ => exact absurd rfl ha
    · show e.val - 768 + 768 = e.val
      omega
    · refine (shapeCast_apply _ shapeCasts_S1024x4x64_S1024x256 (ix2 k (⟨e.val - 768, by omega⟩ : Fin 256))
        (ix3 k (⟨(e.val - 768) / 64, by omega⟩ : Fin 4) (⟨(e.val - 768) % 64, by omega⟩ : Fin 64)) ?_).trans ?_
      · rw [Shape.rowMajor_val_three, Shape.rowMajor_val_two]
        show (k.val * 4 + (e.val - 768) / 64) * 64 + (e.val - 768) % 64 = k.val * 256 + (e.val - 768)
        omega
      · refine (gather_mid _ headIdx k _ _).trans ?_
        refine (shapeCast_apply _ shapeCasts_S1024x256_S1024x4x64 _ (ix2 k (swapCol ⟨e.val - 768, by omega⟩)) ?_).trans ?_
        · rw [Shape.rowMajor_val_three, Shape.rowMajor_val_two]
          show k.val * 256 + (64 * (swapHead ⟨(e.val - 768) / 64, _⟩).val + (e.val - 768) % 64) = (k.val * 4 + min (headIdx (ix2 _ 0)).toInt.toNat 3) * 64 + (e.val - 768) % 64
          rw [headIdx_apply]
          omega
        · exact slice2_axis1_apply (n0 := 1024) (n1 := 1024) (m := 256) 768 x slices_S1024x1024_S1024x256_0_768 k _ _ rfl

/-- The branches' projections as the host hands them over: the last branch's heads exchanged. -/
theorem rows_apply (x : FVec Ideal S4x256x1024 .f32) (n : Fin 4) (d : Fin 256) (l : Fin 1024) :
    (concatenate S4x256x1024 0 [⟨S3x256x1024, extractStridedSlice S3x256x1024 ![0, 0, 0] x slices_S4x256x1024_S3x256x1024_0_0_0⟩,
      ⟨S1x256x1024, broadcastInDim S1x256x1024 ![1, 2] bcast_S256x1024_S1x256x1024_1_2
        (shapeCast S256x1024 (Host.gather gather_S4x64x1024_S4x1_S4x64x1024_12_0_n_n_0_1_1641024
          (shapeCast S4x64x1024 (shapeCast S256x1024 (extractStridedSlice S1x256x1024 ![3, 0, 0] x slices_S4x256x1024_S1x256x1024_3_0_0) shapeCasts_S1x256x1024_S256x1024)
            shapeCasts_S256x1024_S4x64x1024) headIdx) shapeCasts_S4x64x1024_S256x1024)⟩] concatenates_S3x256x1024_S1x256x1024_S4x256x1024_d0 (ix3 n d l) : EReal)
      = if n.val < 3 then x (ix3 n d l) else x (ix3 n (swapCol d) l) := by
  split
  · rename_i h
    refine (concatenate_pair_apply_left 0 _ _ concatenates_S3x256x1024_S1x256x1024_S4x256x1024_d0 (ix3 n d l) rfl (ix3 ⟨n.val, h⟩ d l) fun a => ?_).trans ?_
    · match a with
      | ⟨0, _⟩ => rfl
      | ⟨1, _⟩ => rfl
      | ⟨2, _⟩ => rfl
    · refine extractStridedSlice_apply _ _ _ _ _ fun a => ?_
      match a with
      | ⟨0, _⟩ => exact (Nat.zero_add _).symm
      | ⟨1, _⟩ => exact (Nat.zero_add _).symm
      | ⟨2, _⟩ => exact (Nat.zero_add _).symm
  · rename_i h
    have hn : n = 3 := Fin.ext (by show n.val = 3; omega)
    subst hn
    refine (concatenate_pair_apply_right 0 _ _ concatenates_S3x256x1024_S1x256x1024_S4x256x1024_d0 (ix3 3 d l) rfl rfl (ix3 (0 : Fin 1) d l) (fun a ha => ?_) ?_).trans ?_
    · match a with
      | ⟨0, _⟩ => exact absurd rfl ha
      | ⟨1, _⟩ => rfl
      | ⟨2, _⟩ => rfl
    · rfl
    · refine (broadcastInDim_apply _ _ _ (ix3 (0 : Fin 1) d l) (ix2 d l) fun a => ?_).trans ?_
      · match a with
        | ⟨0, _⟩ => rfl
        | ⟨1, _⟩ => rfl
      refine (shapeCast_apply _ shapeCasts_S4x64x1024_S256x1024 (ix2 d l)
        (ix3 (⟨d.val / 64, by omega⟩ : Fin 4) (⟨d.val % 64, by omega⟩ : Fin 64) l) ?_).trans ?_
      · rw [Shape.rowMajor_val_three, Shape.rowMajor_val_two]
        show (d.val / 64 * 64 + d.val % 64) * 1024 + l.val = d.val * 1024 + l.val
        omega
      · refine (gather_lead _ headIdx _ _ l).trans ?_
        refine (shapeCast_apply _ shapeCasts_S256x1024_S4x64x1024 _ (ix2 (swapCol d) l) ?_).trans ?_
        · rw [Shape.rowMajor_val_three, Shape.rowMajor_val_two]
          show (64 * (swapHead ⟨d.val / 64, _⟩).val + d.val % 64) * 1024 + l.val = (min (headIdx (ix2 _ 0)).toInt.toNat 3 * 64 + d.val % 64) * 1024 + l.val
          rw [headIdx_apply]
          omega
        · refine (shapeCast_1ab_ab_apply (a := 256) (b := 1024) _ shapeCasts_S1x256x1024_S256x1024 (swapCol d) l).trans ?_
          refine extractStridedSlice_apply _ _ _ _ _ fun a => ?_
          match a with
          | ⟨0, _⟩ => rfl
          | ⟨1, _⟩ => exact (Nat.zero_add _).symm
          | ⟨2, _⟩ => exact (Nat.zero_add _).symm

/-- The last branch as the host hands it over: its middle two heads exchanged. -/
theorem last_apply (x : FVec Ideal S8x4096x256 .f32) (b : Fin 8) (t : Fin 4096) (d : Fin 256) :
    (shapeCast S8x4096x256 (transpose S8x4096x2x2x64 [0, 1, 3, 2, 4] (shapeCast S8x4096x2x2x64 x shapeCasts_S8x4096x256_S8x4096x2x2x64)
      transposes_S8x4096x2x2x64_S8x4096x2x2x64_0_1_3_2_4) shapeCasts_S8x4096x2x2x64_S8x4096x256 (ix3 b t d) : EReal) = x (ix3 b t (swapCol d)) := by
  refine (shapeCast_apply _ shapeCasts_S8x4096x2x2x64_S8x4096x256 (ix3 b t d)
    (ix5 b t (⟨d.val / 128, by omega⟩ : Fin 2) (⟨d.val / 64 % 2, by omega⟩ : Fin 2) (⟨d.val % 64, by omega⟩ : Fin 64)) ?_).trans ?_
  · rw [Shape.rowMajor_val_five, Shape.rowMajor_val_three]
    show (((b.val * 4096 + t.val) * 2 + d.val / 128) * 2 + d.val / 64 % 2) * 64 + d.val % 64 = (b.val * 4096 + t.val) * 256 + d.val
    omega
  refine (transpose_apply _ _ transposes_S8x4096x2x2x64_S8x4096x2x2x64_0_1_3_2_4 _
    (ix5 b t (⟨d.val / 64 % 2, by omega⟩ : Fin 2) (⟨d.val / 128, by omega⟩ : Fin 2) (⟨d.val % 64, by omega⟩ : Fin 64)) fun a => ?_).trans ?_
  · match a with
    | ⟨0, _⟩ => rfl
    | ⟨1, _⟩ => rfl
    | ⟨2, _⟩ => rfl
    | ⟨3, _⟩ => rfl
    | ⟨4, _⟩ => rfl
  refine shapeCast_apply _ shapeCasts_S8x4096x256_S8x4096x2x2x64 _ (ix3 b t (swapCol d)) ?_
  rw [Shape.rowMajor_val_five, Shape.rowMajor_val_three]
  have hs : (swapCol d).val = (d.val / 64 % 2 * 2 + d.val / 128) * 64 + d.val % 64 :=
    (by decide : ∀ d : Fin 256, (swapCol d).val = (d.val / 64 % 2 * 2 + d.val / 128) * 64 + d.val % 64) d
  show (b.val * 4096 + t.val) * 256 + (swapCol d).val = (((b.val * 4096 + t.val) * 2 + d.val / 64 % 2) * 2 + d.val / 128) * 64 + d.val % 64
  rw [hs]
  omega

variable (m : (ℓ : Loc nD τ sig) → Buf (Elt Ideal) ℓ)

/-- The arguments the program is given: the residual, the modulation, the four branches' outputs, and the weights. -/
abbrev argX (c : Dev nD) : FVec Ideal S8x4096x1024 .f32 := m ((c : Thread nD τ).loc main_arg0)
@[inherit_doc argX] abbrev argMod (c : Dev nD) : FVec Ideal S8x3072 .f32 := m ((c : Thread nD τ).loc main_arg1)
@[inherit_doc argX] abbrev argY0 (c : Dev nD) : FVec Ideal S8x4096x256 .f32 := m ((c : Thread nD τ).loc main_arg2)
@[inherit_doc argX] abbrev argY1 (c : Dev nD) : FVec Ideal S8x4096x256 .f32 := m ((c : Thread nD τ).loc main_arg3)
@[inherit_doc argX] abbrev argY2 (c : Dev nD) : FVec Ideal S8x4096x256 .f32 := m ((c : Thread nD τ).loc main_arg4)
@[inherit_doc argX] abbrev argY3 (c : Dev nD) : FVec Ideal S8x4096x256 .f32 := m ((c : Thread nD τ).loc main_arg5)
@[inherit_doc argX] abbrev argWin (c : Dev nD) : FVec Ideal S1024x7072 .f32 := m ((c : Thread nD τ).loc main_arg6)
@[inherit_doc argX] abbrev argWb (c : Dev nD) : FVec Ideal S4x256x1024 .f32 := m ((c : Thread nD τ).loc main_arg7)
@[inherit_doc argX] abbrev argWo (c : Dev nD) : FVec Ideal S1024x1024 .f32 := m ((c : Thread nD τ).loc main_arg8)
@[inherit_doc argX] abbrev argG (c : Dev nD) : FVec Ideal S1024 .f32 := m ((c : Thread nD τ).loc main_arg9)
@[inherit_doc argX] abbrev argB (c : Dev nD) : FVec Ideal S1024 .f32 := m ((c : Thread nD τ).loc main_arg10)

/-- The modulation's three parts. -/
theorem mod_entry (c : Dev nD) (b : Fin 8) (i : Fin 3) (k : Fin 1024) :
    ((V m c main_v37 : FVec Ideal S8x3x1024 .f32) (ix3 b i k) : EReal) = argMod m c (ix2 b ⟨1024 * i.val + k.val, by omega⟩) := by
  simp only [V, List.flatten_cons, List.flatten_nil, List.append_nil, List.cons_append, List.nil_append]
  after_results
  refine Eq.trans ?_ (shapeCast_apply (argMod m c) shapeCasts_S8x3072_S8x3x1024 (ix3 b i k) (ix2 b ⟨1024 * i.val + k.val, by omega⟩) ?_)
  · rfl
  · rw [Shape.rowMajor_val_three, Shape.rowMajor_val_two]
    show b.val * 3072 + (1024 * i.val + k.val) = (b.val * 3 + i.val) * 1024 + k.val
    omega

/-- A branch's output. -/
theorem y0_entry (c : Dev nD) (b : Fin 8) (t : Fin 4096) (d : Fin 256) :
    ((V m c main_v33 : FVec Ideal S8x4096x256 .bf16) (ix3 b t d) : EReal) = argY0 m c (ix3 b t d) := by
  simp only [V, List.flatten_cons, List.flatten_nil, List.append_nil, List.cons_append, List.nil_append]
  after_results
  rfl

/-- A branch's output. -/
theorem y1_entry (c : Dev nD) (b : Fin 8) (t : Fin 4096) (d : Fin 256) :
    ((V m c main_v34 : FVec Ideal S8x4096x256 .bf16) (ix3 b t d) : EReal) = argY1 m c (ix3 b t d) := by
  simp only [V, List.flatten_cons, List.flatten_nil, List.append_nil, List.cons_append, List.nil_append]
  after_results
  rfl

/-- A branch's output. -/
theorem y2_entry (c : Dev nD) (b : Fin 8) (t : Fin 4096) (d : Fin 256) :
    ((V m c main_v35 : FVec Ideal S8x4096x256 .bf16) (ix3 b t d) : EReal) = argY2 m c (ix3 b t d) := by
  simp only [V, List.flatten_cons, List.flatten_nil, List.append_nil, List.cons_append, List.nil_append]
  after_results
  rfl

/-- The last branch's output. -/
theorem y3_entry (c : Dev nD) (b : Fin 8) (t : Fin 4096) (d : Fin 256) :
    ((V m c main_v36 : FVec Ideal S8x4096x256 .bf16) (ix3 b t d) : EReal) = argY3 m c (ix3 b t (swapCol d)) := by
  simp only [V, List.flatten_cons, List.flatten_nil, List.append_nil, List.cons_append, List.nil_append]
  after_results
  rw [truncf_apply]
  refine Eq.trans ?_ (last_apply (argY3 m c) b t d)
  rfl

/-- The gates' weights. -/
theorem wz_entry (c : Dev nD) (k e : Fin 1024) :
    ((V m c main_v13 : FVec Ideal S1024x1024 .bf16) (ix2 k e) : EReal)
      = argWin m c (ix2 k (if h : e.val < 768 then ⟨1952 + e.val, by omega⟩ else ⟨2720 + (swapCol ⟨e.val - 768, by omega⟩).val, by omega⟩)) := by
  simp only [V, List.flatten_cons, List.flatten_nil, List.append_nil, List.cons_append, List.nil_append]
  after_results
  have hs : ∀ e : Fin 1024, (extractStridedSlice S1024x1024 ![0, 1952] (truncf .bf16 (argWin m c) bitsLt_bf16_f32 : FVec Ideal S1024x7072 .bf16)
      slices_S1024x7072_S1024x1024_0_1952 : FVec Ideal S1024x1024 .bf16) (ix2 k e) = argWin m c (ix2 k ⟨1952 + e.val, by omega⟩) := fun e =>
    slice2_axis1_apply (n0 := 1024) (n1 := 7072) (m := 1024) 1952 _ slices_S1024x7072_S1024x1024_0_1952 k e ⟨1952 + e.val, by omega⟩ rfl
  refine Eq.trans ?_ ((cols_apply (extractStridedSlice S1024x1024 ![0, 1952] (truncf .bf16 (argWin m c) bitsLt_bf16_f32 : FVec Ideal S1024x7072 .bf16)
      slices_S1024x7072_S1024x1024_0_1952 : FVec Ideal S1024x1024 .bf16) k e).trans ?_)
  · rfl
  · split
    · exact hs _
    · refine (hs _).trans (congrArg (argWin m c) (congrArg (ix2 k) (Fin.ext ?_)))
      show 1952 + (768 + _) = 2720 + _
      omega

/-- The mixing weights. -/
theorem wm_entry (c : Dev nD) (k : Fin 1024) (l : Fin 4096) :
    ((V m c main_v14 : FVec Ideal S1024x4096 .bf16) (ix2 k l) : EReal) = argWin m c (ix2 k ⟨2976 + l.val, by omega⟩) := by
  simp only [V, List.flatten_cons, List.flatten_nil, List.append_nil, List.cons_append, List.nil_append]
  after_results
  refine Eq.trans ?_ (slice2_axis1_apply (n0 := 1024) (n1 := 7072) (m := 4096) 2976 (truncf .bf16 (argWin m c) bitsLt_bf16_f32 : FVec Ideal S1024x7072 .bf16)
    slices_S1024x7072_S1024x4096_0_2976 k l ⟨2976 + l.val, by omega⟩ rfl)
  rfl

/-- The branches' projections. -/
theorem wb_entry (c : Dev nD) (n : Fin 4) (d : Fin 256) (l : Fin 1024) :
    ((V m c main_v29 : FVec Ideal S4x256x1024 .bf16) (ix3 n d l) : EReal)
      = if n.val < 3 then argWb m c (ix3 n d l) else argWb m c (ix3 n (swapCol d) l) := by
  simp only [V, List.flatten_cons, List.flatten_nil, List.append_nil, List.cons_append, List.nil_append]
  after_results
  rw [truncf_apply]
  refine Eq.trans ?_ (rows_apply (argWb m c) n d l)
  rfl

/-- The output projection. -/
theorem wo_entry (c : Dev nD) (k l : Fin 1024) :
    ((V m c main_v38 : FVec Ideal S1024x1024 .bf16) (ix2 k l) : EReal) = argWo m c (ix2 k l) := by
  simp only [V, List.flatten_cons, List.flatten_nil, List.append_nil, List.cons_append, List.nil_append]
  after_results
  rfl

/-- The gain. -/
theorem g_entry (c : Dev nD) (k : Fin 1024) :
    ((V m c main_v39 : FVec Ideal S1x1024 .f32) (ix2 0 k) : EReal) = argG m c (ix1 k) := by
  simp only [V, List.flatten_cons, List.flatten_nil, List.append_nil, List.cons_append, List.nil_append]
  after_results
  refine Eq.trans ?_ (shapeCast_a_1a_apply (a := 1024) (argG m c) shapeCasts_S1024_S1x1024 0 k)
  rfl

/-- The bias. -/
theorem b_entry (c : Dev nD) (k : Fin 1024) :
    ((V m c main_v40 : FVec Ideal S1x1024 .f32) (ix2 0 k) : EReal) = argB m c (ix1 k) := by
  simp only [V, List.flatten_cons, List.flatten_nil, List.append_nil, List.cons_append, List.nil_append]
  after_results
  refine Eq.trans ?_ (shapeCast_a_1a_apply (a := 1024) (argB m c) shapeCasts_S1024_S1x1024 0 k)
  rfl

end Cert.Kernel3Ideal.Merge

end
-- ==== Proof.FinalM.lean ====
module

public import proofs.«01_k».proof.Proof.BlockM
public import proofs.«01_k».proof.Proof.HostM
public import proofs.«01_k».proof.Proof.Gen.Kernel3Ideal.Value

/-!
The array the merge kernel leaves.
-/

@[expose] public section

set_option maxRecDepth 16384

noncomputable section

namespace Cert.Kernel3Ideal.Merge

open Cert.Kernel3Ideal Cert.Kernel3Ideal.Gen Cert.Merge
open Idealize.ShloMosaic hiding ix0 ix1 ix2 ix3 ix4 ix5
open Idealize.ShloMosaic.ValueIdx Idealize.ShloMosaic.TcCoe Finset

/-- The whole result: every row the row of the specification. -/
def result (x : FVec Ideal S8x4096x1024 .f32) (md : FVec Ideal S8x3072 .f32) (y0 y1 y2 y3 : FVec Ideal S8x4096x256 .f32) (win : FVec Ideal S1024x7072 .f32)
    (wb : FVec Ideal S4x256x1024 .f32) (wo : FVec Ideal S1024x1024 .f32) (g b : FVec Ideal S1024 .f32) : FVec Ideal S8x4096x1024 .f32 := fun i =>
  row (fun k => md (ix2 (i 0) ⟨k.val, by omega⟩)) (fun k => md (ix2 (i 0) ⟨1024 + k.val, by omega⟩)) (fun k => md (ix2 (i 0) ⟨2048 + k.val, by omega⟩))
    (fun k => x (ix3 (i 0) (i 1) k)) (fun n d k => win (ix2 k ⟨1952 + (256 * n.val + d.val), by omega⟩)) (fun n d => pick y0 y1 y2 y3 n (ix3 (i 0) (i 1) d))
    (fun n d l => wb (ix3 n d l)) (fun n k l => win (ix2 k ⟨2976 + (1024 * n.val + l.val), by omega⟩)) (fun k l => wo (ix2 k l)) (fun k => g (ix1 k))
    (fun k => b (ix1 k)) (i 2)

/-- The exchange of the middle two heads' columns, undone by itself. -/
def swapPerm : Equiv.Perm (Fin 256) :=
  (show Function.Involutive swapCol from (by decide : ∀ d : Fin 256, swapCol (swapCol d) = d)).toPerm

variable (m : (ℓ : Loc nD τ sig) → Buf (Elt Ideal) ℓ)

/-- Where the windows of a grid point lie. -/
theorem idx : ∀ t : Fin cfg0.N,
    win0_0.index t = ![t.val / 4, t.val % 4, 0] ∧ win0_1.index t = ![t.val / 4, 0, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![0, 0] ∧ win0_7.index t = ![0, 0] ∧ win0_8.index t = ![0, 0, 0] ∧ win0_9.index t = ![0, 0]
    ∧ win0_10.index t = ![0, 0] ∧ win0_11.index t = ![0, 0] ∧ win0_12.index t = ![t.val / 4, t.val % 4, 0] :=
  (by decide +kernel : ∀ t : Fin grid0.N, _)

theorem lt_N (t : Fin cfg0.N) : t.val < 32 := t.isLt

/-- The batch entry of a grid point, and the lines of its block. -/
abbrev bat (t : Fin cfg0.N) : Fin 8 := ⟨t.val / 4, by have := lt_N t; omega⟩
@[inherit_doc bat] abbrev line (t : Fin cfg0.N) (r : Fin 1024) : Fin 4096 := ⟨1024 * (t.val % 4) + r.val, by omega⟩

/-! The blocks of a grid point, named. -/

def B0 (c : Dev nD) (t : Fin cfg0.N) : FVec Ideal S1x1024x1024 .f32 := iblk m c 0 t
def B1 (c : Dev nD) (t : Fin cfg0.N) : FVec Ideal S1x3x1024 .f32 := iblk m c 1 t
def B2 (c : Dev nD) (t : Fin cfg0.N) : FVec Ideal S1x1024x256 .bf16 := iblk m c 2 t
def B3 (c : Dev nD) (t : Fin cfg0.N) : FVec Ideal S1x1024x256 .bf16 := iblk m c 3 t
def B4 (c : Dev nD) (t : Fin cfg0.N) : FVec Ideal S1x1024x256 .bf16 := iblk m c 4 t
def B5 (c : Dev nD) (t : Fin cfg0.N) : FVec Ideal S1x1024x256 .bf16 := iblk m c 5 t
def B6 (c : Dev nD) (t : Fin cfg0.N) : FVec Ideal S1024x1024 .bf16 := iblk m c 6 t
def B7 (c : Dev nD) (t : Fin cfg0.N) : FVec Ideal S1024x4096 .bf16 := iblk m c 7 t
def B8 (c : Dev nD) (t : Fin cfg0.N) : FVec Ideal S4x256x1024 .bf16 := iblk m c 8 t
def B9 (c : Dev nD) (t : Fin cfg0.N) : FVec Ideal S1024x1024 .bf16 := iblk m c 9 t
def B10 (c : Dev nD) (t : Fin cfg0.N) : FVec Ideal S1x1024 .f32 := iblk m c 10 t
def B11 (c : Dev nD) (t : Fin cfg0.N) : FVec Ideal S1x1024 .f32 := iblk m c 11 t

/-! An entry of a block is an entry of the array it is cut from. -/

theorem read0 (X : FVec Ideal S8x4096x1024 .f32) (t : Fin cfg0.N) (r : Fin 1024) (e : Fin 1024) :
    (((cfg0.win 0).blk t).view.read (Elt Ideal) X : FVec Ideal S1x1024x1024 .f32) (ix3 0 r e) = X (ix3 (bat t) (line t r) e) := by
  blk_ext [idx t]
  · show _ * 1024 + r.val = _
    omega

theorem blk0 (c : Dev nD) (t : Fin cfg0.N) (r : Fin 1024) (e : Fin 1024) :
    B0 m c t (ix3 0 r e) = (V m c main_arg0 : FVec Ideal S8x4096x1024 .f32) (ix3 (bat t) (line t r) e) :=
  read0 (V m c main_arg0) t r e

theorem read1 (X : FVec Ideal S8x3x1024 .f32) (t : Fin cfg0.N) (r : Fin 3) (e : Fin 1024) :
    (((cfg0.win 1).blk t).view.read (Elt Ideal) X : FVec Ideal S1x3x1024 .f32) (ix3 0 r e) = X (ix3 (bat t) r e) := by
  blk_ext [idx t]

theorem blk1 (c : Dev nD) (t : Fin cfg0.N) (r : Fin 3) (e : Fin 1024) :
    B1 m c t (ix3 0 r e) = (V m c main_v37 : FVec Ideal S8x3x1024 .f32) (ix3 (bat t) r e) :=
  read1 (V m c main_v37) t r e

theorem read2 (X : FVec Ideal S8x4096x256 .bf16) (t : Fin cfg0.N) (r : Fin 1024) (e : Fin 256) :
    (((cfg0.win 2).blk t).view.read (Elt Ideal) X : FVec Ideal S1x1024x256 .bf16) (ix3 0 r e) = X (ix3 (bat t) (line t r) e) := by
  blk_ext [idx t]
  · show _ * 1024 + r.val = _
    omega

theorem blk2 (c : Dev nD) (t : Fin cfg0.N) (r : Fin 1024) (e : Fin 256) :
    B2 m c t (ix3 0 r e) = (V m c main_v33 : FVec Ideal S8x4096x256 .bf16) (ix3 (bat t) (line t r) e) :=
  read2 (V m c main_v33) t r e

theorem read3 (X : FVec Ideal S8x4096x256 .bf16) (t : Fin cfg0.N) (r : Fin 1024) (e : Fin 256) :
    (((cfg0.win 3).blk t).view.read (Elt Ideal) X : FVec Ideal S1x1024x256 .bf16) (ix3 0 r e) = X (ix3 (bat t) (line t r) e) := by
  blk_ext [idx t]
  · show _ * 1024 + r.val = _
    omega

theorem blk3 (c : Dev nD) (t : Fin cfg0.N) (r : Fin 1024) (e : Fin 256) :
    B3 m c t (ix3 0 r e) = (V m c main_v34 : FVec Ideal S8x4096x256 .bf16) (ix3 (bat t) (line t r) e) :=
  read3 (V m c main_v34) t r e

theorem read4 (X : FVec Ideal S8x4096x256 .bf16) (t : Fin cfg0.N) (r : Fin 1024) (e : Fin 256) :
    (((cfg0.win 4).blk t).view.read (Elt Ideal) X : FVec Ideal S1x1024x256 .bf16) (ix3 0 r e) = X (ix3 (bat t) (line t r) e) := by
  blk_ext [idx t]
  · show _ * 1024 + r.val = _
    omega

theorem blk4 (c : Dev nD) (t : Fin cfg0.N) (r : Fin 1024) (e : Fin 256) :
    B4 m c t (ix3 0 r e) = (V m c main_v35 : FVec Ideal S8x4096x256 .bf16) (ix3 (bat t) (line t r) e) :=
  read4 (V m c main_v35) t r e

theorem read5 (X : FVec Ideal S8x4096x256 .bf16) (t : Fin cfg0.N) (r : Fin 1024) (e : Fin 256) :
    (((cfg0.win 5).blk t).view.read (Elt Ideal) X : FVec Ideal S1x1024x256 .bf16) (ix3 0 r e) = X (ix3 (bat t) (line t r) e) := by
  blk_ext [idx t]
  · show _ * 1024 + r.val = _
    omega

theorem blk5 (c : Dev nD) (t : Fin cfg0.N) (r : Fin 1024) (e : Fin 256) :
    B5 m c t (ix3 0 r e) = (V m c main_v36 : FVec Ideal S8x4096x256 .bf16) (ix3 (bat t) (line t r) e) :=
  read5 (V m c main_v36) t r e

theorem read6 (X : FVec Ideal S1024x1024 .bf16) (t : Fin cfg0.N) (r : Fin 1024) (e : Fin 1024) :
    (((cfg0.win 6).blk t).view.read (Elt Ideal) X : FVec Ideal S1024x1024 .bf16) (ix2 r e) = X (ix2 r e) := by
  blk_ext [idx t]

theorem blk6 (c : Dev nD) (t : Fin cfg0.N) (r : Fin 1024) (e : Fin 1024) :
    B6 m c t (ix2 r e) = (V m c main_v13 : FVec Ideal S1024x1024 .bf16) (ix2 r e) :=
  read6 (V m c main_v13) t r e

theorem read7 (X : FVec Ideal S1024x4096 .bf16) (t : Fin cfg0.N) (r : Fin 1024) (e : Fin 4096) :
    (((cfg0.win 7).blk t).view.read (Elt Ideal) X : FVec Ideal S1024x4096 .bf16) (ix2 r e) = X (ix2 r e) := by
  blk_ext [idx t]

theorem blk7 (c : Dev nD) (t : Fin cfg0.N) (r : Fin 1024) (e : Fin 4096) :
    B7 m c t (ix2 r e) = (V m c main_v14 : FVec Ideal S1024x4096 .bf16) (ix2 r e) :=
  read7 (V m c main_v14) t r e

theorem read8 (X : FVec Ideal S4x256x1024 .bf16) (t : Fin cfg0.N) (n : Fin 4) (r : Fin 256) (e : Fin 1024) :
    (((cfg0.win 8).blk t).view.read (Elt Ideal) X : FVec Ideal S4x256x1024 .bf16) (ix3 n r e) = X (ix3 n r e) := by
  blk_ext [idx t]

theorem blk8 (c : Dev nD) (t : Fin cfg0.N) (n : Fin 4) (r : Fin 256) (e : Fin 1024) :
    B8 m c t (ix3 n r e) = (V m c main_v29 : FVec Ideal S4x256x1024 .bf16) (ix3 n r e) :=
  read8 (V m c main_v29) t n r e

theorem read9 (X : FVec Ideal S1024x1024 .bf16) (t : Fin cfg0.N) (r : Fin 1024) (e : Fin 1024) :
    (((cfg0.win 9).blk t).view.read (Elt Ideal) X : FVec Ideal S1024x1024 .bf16) (ix2 r e) = X (ix2 r e) := by
  blk_ext [idx t]

theorem blk9 (c : Dev nD) (t : Fin cfg0.N) (r : Fin 1024) (e : Fin 1024) :
    B9 m c t (ix2 r e) = (V m c main_v38 : FVec Ideal S1024x1024 .bf16) (ix2 r e) :=
  read9 (V m c main_v38) t r e

theorem read10 (X : FVec Ideal S1x1024 .f32) (t : Fin cfg0.N) (r : Fin 1) (e : Fin 1024) :
    (((cfg0.win 10).blk t).view.read (Elt Ideal) X : FVec Ideal S1x1024 .f32) (ix2 r e) = X (ix2 r e) := by
  blk_ext [idx t]

theorem blk10 (c : Dev nD) (t : Fin cfg0.N) (r : Fin 1) (e : Fin 1024) :
    B10 m c t (ix2 r e) = (V m c main_v39 : FVec Ideal S1x1024 .f32) (ix2 r e) :=
  read10 (V m c main_v39) t r e

theorem read11 (X : FVec Ideal S1x1024 .f32) (t : Fin cfg0.N) (r : Fin 1) (e : Fin 1024) :
    (((cfg0.win 11).blk t).view.read (Elt Ideal) X : FVec Ideal S1x1024 .f32) (ix2 r e) = X (ix2 r e) := by
  blk_ext [idx t]

theorem blk11 (c : Dev nD) (t : Fin cfg0.N) (r : Fin 1) (e : Fin 1024) :
    B11 m c t (ix2 r e) = (V m c main_v40 : FVec Ideal S1x1024 .f32) (ix2 r e) :=
  read11 (V m c main_v40) t r e

theorem read12 (X : FVec Ideal S8x4096x1024 .f32) (t : Fin cfg0.N) (r : Fin 1024) (e : Fin 1024) :
    X ((win0_12.blk t).view.emb (ix3 0 r e)) = X (ix3 (bat t) (line t r) e) := by
  blk_ext [idx t]
  · show _ * 1024 + r.val = _
    omega

/-- What a grid point's body leaves at a row and column of its block. -/
theorem point (c : Dev nD) (t : Fin cfg0.N) (r e : Fin 1024) :
    (out0_12 (F := Ideal) (B0 m c t) (B1 m c t) (B2 m c t) (B3 m c t) (B4 m c t) (B5 m c t) (B6 m c t) (B7 m c t) (B8 m c t) (B9 m c t) (B10 m c t) (B11 m c t) (ix3 0 r e) : EReal)
      = result (argX m c) (argMod m c) (argY0 m c) (argY1 m c) (argY2 m c) (argY3 m c) (argWin m c) (argWb m c) (argWo m c) (argG m c) (argB m c)
          (ix3 (bat t) (line t r) e) := by
  refine (block _ _ _ _ _ _ _ _ _ _ _ _ r e).trans ?_
  have hmod : ∀ (i : Fin 3) k, B1 m c t (ix3 0 i k) = argMod m c (ix2 (bat t) ⟨1024 * i.val + k.val, by omega⟩) := fun i k =>
    (blk1 m c t i k).trans (mod_entry m c (bat t) i k)
  have h0 : ∀ k : Fin 1024, (⟨1024 * (0 : Fin 3).val + k.val, by show 1024 * 0 + k.val < 3072; omega⟩ : Fin 3072) = ⟨k.val, by omega⟩ := fun k => Fin.ext (by show 1024 * 0 + k.val = k.val; omega)
  have hx : ∀ k, B0 m c t (ix3 0 r k) = argX m c (ix3 (bat t) (line t r) k) := fun k =>
    (blk0 m c t r k).trans (congrFun (V_main_arg0 m c) _)
  have hy0 : ∀ d, B2 m c t (ix3 0 r d) = argY0 m c (ix3 (bat t) (line t r) d) := fun d => (blk2 m c t r d).trans (y0_entry m c _ _ d)
  have hy1 : ∀ d, B3 m c t (ix3 0 r d) = argY1 m c (ix3 (bat t) (line t r) d) := fun d => (blk3 m c t r d).trans (y1_entry m c _ _ d)
  have hy2 : ∀ d, B4 m c t (ix3 0 r d) = argY2 m c (ix3 (bat t) (line t r) d) := fun d => (blk4 m c t r d).trans (y2_entry m c _ _ d)
  have hy3 : ∀ d, B5 m c t (ix3 0 r d) = argY3 m c (ix3 (bat t) (line t r) (swapCol d)) := fun d => (blk5 m c t r d).trans (y3_entry m c _ _ d)
  have hz : ∀ k e, B6 m c t (ix2 k e) = _ := fun k e => (blk6 m c t k e).trans (wz_entry m c k e)
  have hm : ∀ k l, B7 m c t (ix2 k l) = argWin m c (ix2 k ⟨2976 + l.val, by omega⟩) := fun k l => (blk7 m c t k l).trans (wm_entry m c k l)
  have hb : ∀ n d l, B8 m c t (ix3 n d l) = _ := fun n d l => (blk8 m c t n d l).trans (wb_entry m c n d l)
  have ho : ∀ k l, B9 m c t (ix2 k l) = argWo m c (ix2 k l) := fun k l => (blk9 m c t k l).trans (wo_entry m c k l)
  have hg : ∀ k, B10 m c t (ix2 0 k) = argG m c (ix1 k) := fun k => (blk10 m c t 0 k).trans (g_entry m c k)
  have hbi : ∀ k, B11 m c t (ix2 0 k) = argB m c (ix1 k) := fun k => (blk11 m c t 0 k).trans (b_entry m c k)
  unfold blockRow result
  simp only [hmod, hx, hm, ho, hg, hbi]
  refine congrFun (Eq.trans ?_ (row_perm swapPerm _ _ _ _ _ (fun n d k => B6 m c t (ix2 k ⟨256 * n.val + d.val, by omega⟩)) _
    (fun n d => pick (B2 m c t) (B3 m c t) (B4 m c t) (B5 m c t) n (ix3 0 r d)) _ (fun n d l => B8 m c t (ix3 n d l)) _ _ _ _ ?_ ?_ ?_ ?_ ?_ ?_)) e
  · rw [show (fun k : Fin 1024 => (argMod m c) (ix2 (bat t) ⟨1024 * (0 : Fin 3).val + k.val, _⟩)) = fun k : Fin 1024 => argMod m c (ix2 (bat t) ⟨k.val, by omega⟩) from
      funext fun k => congrArg (argMod m c) (congrArg (ix2 (bat t)) (h0 k))]
    rfl
  · intro n hn
    funext d k
    rw [hz, dif_pos (by show 256 * n.val + d.val < 768; omega)]
  · intro n hn
    funext d
    match n with
    | ⟨0, _⟩ => exact hy0 d
    | ⟨1, _⟩ => exact hy1 d
    | ⟨2, _⟩ => exact hy2 d
    | ⟨3, h⟩ => exact absurd hn (by show ¬ 3 < 3; omega)
  · intro n hn
    funext d l
    rw [hb, if_pos hn]
  · funext d k
    have hd : (⟨256 * (3 : Fin 4).val + d.val - 768, by show 256 * 3 + d.val - 768 < 256; omega⟩ : Fin 256) = d := Fin.ext (by show 256 * 3 + d.val - 768 = d.val; omega)
    rw [hz, dif_neg (by show ¬ 256 * 3 + d.val < 768; omega)]
    refine congrArg (argWin m c) (congrArg (ix2 k) (Fin.ext ?_))
    refine (congrArg (fun q : Fin 256 => 2720 + (swapCol q).val) hd).trans ?_
    show 2720 + (swapCol d).val = 1952 + (256 * 3 + (swapCol d).val)
    omega
  · exact funext fun d => hy3 d
  · funext d l
    rw [hb, if_neg (by decide)]
    rfl

/-- The array after the run. -/
theorem final (c : Dev nD) : (dats m 0 c).arrAt 12 cfg0.N
    = result (argX m c) (argMod m c) (argY0 m c) (argY1 m c) (argY2 m c) (argY3 m c) (argWin m c) (argWb m c) (argWo m c) (argG m c) (argB m c) := by
  refine (dats m 0 c).arrAt_eq_of_covers 12 _ (by decide +kernel) fun t _ y => ?_
  blk_simp
  rw [after0_12]
  have hy : y = (ix3 (0 : Fin 1) (y 1) (y 2) : S1x1024x1024.Idx) := by
    funext a
    match a with
    | ⟨0, _⟩ => exact Subsingleton.elim (α := Fin 1) _ _
    | ⟨1, _⟩ => rfl
    | ⟨2, _⟩ => rfl
  rw [hy]
  exact (point m c t (y 1) (y 2)).trans (read12 _ t (y 1) (y 2)).symm

end Cert.Kernel3Ideal.Merge

end
-- ==== Proof.RefM.lean ====
module

public import proofs.«01_k».proof.Proof.FinalM
public import proofs.«01_k».proof.Proof.Gen.Reference3Ideal.Read

/-!
The reference of the merge, read entry by entry: every row is the row of the specification.
-/

@[expose] public section

set_option maxRecDepth 16384

noncomputable section

namespace Cert.Reference3Ideal.Plain

open Cert.Reference3Ideal Cert.Reference3Ideal.Gen Cert.Reference3Ideal.Read Cert.Merge
open Cert.Kernel3Ideal.Merge (pick result)
open Idealize.ShloMosaic hiding ix0 ix1 ix2 ix3 ix4 ix5
open Idealize.ShloMosaic.ValueIdx Finset

/-! Indices are equal when their coordinates are. -/

theorem ext1 {n0 : ℕ} (f g : Shape.Idx ⟨1, ![n0]⟩) (h0 : (f 0).val = (g 0).val) : f = g := by
  funext a
  match a with
  | ⟨0, _⟩ => exact Fin.ext h0

theorem ext2 {n0 n1 : ℕ} (f g : Shape.Idx ⟨2, ![n0, n1]⟩) (h0 : (f 0).val = (g 0).val) (h1 : (f 1).val = (g 1).val) : f = g := by
  funext a
  match a with
  | ⟨0, _⟩ => exact Fin.ext h0
  | ⟨1, _⟩ => exact Fin.ext h1

theorem ext3 {n0 n1 n2 : ℕ} (f g : Shape.Idx ⟨3, ![n0, n1, n2]⟩) (h0 : (f 0).val = (g 0).val) (h1 : (f 1).val = (g 1).val)
    (h2 : (f 2).val = (g 2).val) : f = g := by
  funext a
  match a with
  | ⟨0, _⟩ => exact Fin.ext h0
  | ⟨1, _⟩ => exact Fin.ext h1
  | ⟨2, _⟩ => exact Fin.ext h2

/-! Entries at indices with the same coordinates are equal. -/

theorem at1 {n0 : ℕ} (f : Shape.Idx ⟨1, ![n0]⟩ → EReal) (i : Shape.Idx ⟨1, ![n0]⟩) (a : Fin n0) (h0 : (i 0).val = a.val) : f i = f (ix1 a) :=
  congrArg f (ext1 _ _ h0)

theorem at2 {n0 n1 : ℕ} (f : Shape.Idx ⟨2, ![n0, n1]⟩ → EReal) (i : Shape.Idx ⟨2, ![n0, n1]⟩) (a : Fin n0) (b : Fin n1) (h0 : (i 0).val = a.val)
    (h1 : (i 1).val = b.val) : f i = f (ix2 a b) := congrArg f (ext2 _ _ h0 h1)

theorem at3 {n0 n1 n2 : ℕ} (f : Shape.Idx ⟨3, ![n0, n1, n2]⟩ → EReal) (i : Shape.Idx ⟨3, ![n0, n1, n2]⟩) (a : Fin n0) (b : Fin n1) (c : Fin n2)
    (h0 : (i 0).val = a.val) (h1 : (i 1).val = b.val) (h2 : (i 2).val = c.val) : f i = f (ix3 a b c) := congrArg f (ext3 _ _ h0 h1 h2)

variable (x0 : FVec Ideal S8x4096x1024 .f32) (x1 : FVec Ideal S8x3072 .f32) (x2 x3 x4 x5 : FVec Ideal S8x4096x256 .f32)
variable (x6 : FVec Ideal S1024x7072 .f32) (x7 : FVec Ideal S4x256x1024 .f32) (x8 : FVec Ideal S1024x1024 .f32) (x9 x10 : FVec Ideal S1024 .f32)

attribute [local irreducible] val_main_v0 val_main_v1 val_main_v2 val_main_v3 val_main_cst val_main_v4 val_main_v5 val_main_cst_0 val_main_v6 val_main_v7 val_main_v8 val_main_v9 val_main_v10 val_main_cst_1 val_main_v11 val_main_v12 val_main_cst_2 val_main_v13 val_main_v14 val_main_v15 val_main_v16 val_main_cst_3 val_main_v17 val_main_v18 val_main_v19 val_main_v20 val_main_v21 val_main_cst_4 val_main_v22 val_main_v23 val_main_v24 val_main_v25 val_main_v26 val_main_v27 val_main_v28 val_main_v29 val_main_v30 val_main_v31 val_main_v32 val_main_v33 val_main_v34 val_main_v35 val_main_v36 val_main_v37 val_main_v38 val_main_v39 val_main_v40 val_main_cst_5 val_main_v41 val_main_v42 val_main_cst_6 val_main_v43 val_main_v44 val_main_call0_v0 val_main_call0_v1 val_main_call0_cst val_main_call0_v2 val_main_call0_v3 val_main_call0_cst_0 val_main_call0_v4 val_main_call0_v5 val_main_v45 val_main_v46 val_main_v47 val_main_v48 val_main_v49 val_main_v50 val_main_cst_7 val_main_v51 val_main_v52 val_main_v53 val_main_v54 val_main_cst_8 val_main_v55 val_main_v56 val_main_cst_9 val_main_v57 val_main_v58 val_main_call1_v0 val_main_call1_v1 val_main_call1_cst val_main_call1_v2 val_main_call1_v3 val_main_call1_cst_0 val_main_call1_v4 val_main_call1_v5 val_main_v59 val_main_v60 val_main_v61 val_main_v62 val_main_v63 val_main_v64 val_main_v65 val_main_v66 val_main_v67 val_main_cst_10 val_main_v68 val_main_v69 val_main_cst_11 val_main_v70 val_main_v71 val_main_call2_v0 val_main_call2_v1 val_main_call2_cst val_main_call2_v2 val_main_call2_v3 val_main_call2_cst_0 val_main_call2_v4 val_main_call2_v5 val_main_v72 val_main_v73 val_main_v74 val_main_v75 val_main_v76 val_main_v77 val_main_v78 val_main_v79 val_main_v80 val_main_cst_12 val_main_v81 val_main_v82 val_main_cst_13 val_main_v83 val_main_v84 val_main_call3_v0 val_main_call3_v1 val_main_call3_cst val_main_call3_v2 val_main_call3_v3 val_main_call3_cst_0 val_main_call3_v4 val_main_call3_v5 val_main_v85 val_main_v86 val_main_v87 val_main_v88 val_main_v89 val_main_v90 val_main_v91 val_main_v92 val_main_cst_14 val_main_v93 val_main_v94 val_main_v95 val_main_v96 val_main_v97 val_main_cst_15 val_main_v98 val_main_v99 val_main_cst_16 val_main_v100 val_main_v101 val_main_v102 val_main_v103 val_main_v104 val_main_cst_17 val_main_v105 val_main_v106 val_main_cst_18 val_main_v107 val_main_v108 val_main_v109 val_main_v110 val_main_cst_19 val_main_v111 val_main_v112 val_main_v113 val_main_v114 val_main_v115 val_main_v116 val_main_v117 val_main_v118 val_main_v119 val_main_v120 val_main_v121

/-- The mean of a row of the input. -/
theorem mean1 (b : Fin 8) (t : Fin 4096) :
    (val_main_v7 (F := Ideal) x0 (ix3 b t 0) : EReal) = mean (fun k => x0 (ix3 b t k)) := by
  rw [val_main_v7_apply, val_main_v5_apply, val_main_v6_apply, val_main_cst_0_apply, val_main_v4_apply, val_main_cst_apply]
  refine congrArg (fun p : EReal => Ideal.div p (Ideal.ofBits .f32 0x44800000#32)) ?_
  show (Ideal.ofBits .f32 0x00000000#32 : EReal) + _ = _
  rw [Ideal.ofBits_zero_f32, zero_add]
  exact sum_congr rfl fun k _ => at3 (x0) _ b t k rfl rfl rfl

/-- A centred entry of the input. -/
theorem cen1 (b : Fin 8) (t : Fin 4096) (j : Fin 1024) :
    (val_main_v9 (F := Ideal) x0 (ix3 b t j) : EReal) = cen (fun k => x0 (ix3 b t k)) j := by
  rw [val_main_v9_apply, val_main_v8_apply]
  exact congrArg (fun p : EReal => x0 (ix3 b t j) - p) ((at3 (val_main_v7 (F := Ideal) x0) _ b t 0 rfl rfl rfl).trans (mean1 x0 b t))

@[inherit_doc cen1] theorem cen'1 (b : Fin 8) (t : Fin 4096) (j : Fin 1024) :
    (val_main_v16 (F := Ideal) x0 (ix3 b t j) : EReal) = cen (fun k => x0 (ix3 b t k)) j := by
  rw [val_main_v16_apply, val_main_v15_apply]
  exact congrArg (fun p : EReal => x0 (ix3 b t j) - p) ((at3 (val_main_v7 (F := Ideal) x0) _ b t 0 rfl rfl rfl).trans (mean1 x0 b t))

/-- The mean of the squares of the input. -/
theorem var1 (b : Fin 8) (t : Fin 4096) :
    (val_main_v14 (F := Ideal) x0 (ix3 b t 0) : EReal) = mean (fun k => cen (fun k => x0 (ix3 b t k)) k * cen (fun k => x0 (ix3 b t k)) k) := by
  rw [val_main_v14_apply, val_main_v12_apply, val_main_v13_apply, val_main_cst_2_apply, val_main_v11_apply, val_main_cst_1_apply]
  refine congrArg (fun p : EReal => Ideal.div p (Ideal.ofBits .f32 0x44800000#32)) ?_
  show (Ideal.ofBits .f32 0x00000000#32 : EReal) + _ = _
  rw [Ideal.ofBits_zero_f32, zero_add]
  refine sum_congr rfl fun k _ => ?_
  refine (at3 (val_main_v10 (F := Ideal) x0) _ b t k rfl rfl rfl).trans ?_
  rw [val_main_v10_apply]
  exact congrArg₂ (fun p q : EReal => p * q) (cen1 x0 b t k) (cen1 x0 b t k)

/-- A normalized entry of the input. -/
theorem norm1 (b : Fin 8) (t : Fin 4096) (j : Fin 1024) :
    (val_main_v21 (F := Ideal) x0 (ix3 b t j) : EReal) = norm (fun k => x0 (ix3 b t k)) j := by
  rw [val_main_v21_apply, val_main_v20_apply]
  refine congrArg₂ (fun p q : EReal => p * q) (cen'1 x0 b t j) ?_
  refine (at3 (val_main_v19 (F := Ideal) x0) _ b t 0 rfl rfl rfl).trans ?_
  rw [val_main_v19_apply, val_main_v18_apply, val_main_v17_apply, val_main_cst_3_apply]
  exact congrArg (fun p : EReal => Ideal.rsqrt (p + Ideal.ofBits .f32 0x358637BD#32)) (var1 x0 b t)

/-! The row of the input after the modulation, and its products with the first weights. -/

/-- The modulated row. -/
abbrev xm (x0 : FVec Ideal S8x4096x1024 .f32) (x1 : FVec Ideal S8x3072 .f32) (b : Fin 8) (t : Fin 4096) : Fin 1024 → EReal :=
  modu (fun k => x1 (ix2 b ⟨k.val, by omega⟩)) (fun k => x1 (ix2 b ⟨1024 + k.val, by omega⟩)) (fun k => x0 (ix3 b t k))

theorem shift (b : Fin 8) (t : Fin 4096) (j : Fin 1024) : (val_main_v26 (F := Ideal) x1 (ix3 b t j) : EReal) = x1 (ix2 b ⟨j.val, by omega⟩) := by
  rw [val_main_v26_apply, val_main_v1_apply, val_main_v0_apply]
  exact at2 x1 _ b ⟨j.val, by omega⟩ rfl rfl

theorem scale (b : Fin 8) (t : Fin 4096) (j : Fin 1024) :
    (val_main_v24 (F := Ideal) x1 (ix3 b t j) : EReal) = Ideal.ofBits .f32 0x3F800000#32 + x1 (ix2 b ⟨1024 + j.val, by omega⟩) := by
  rw [val_main_v24_apply, val_main_v23_apply, val_main_v22_apply, val_main_cst_4_apply, val_main_v2_apply, val_main_v0_apply]
  exact congrArg (fun p : EReal => Ideal.ofBits .f32 0x3F800000#32 + p) (at2 x1 _ b ⟨1024 + j.val, by omega⟩ rfl rfl)

theorem gate (b : Fin 8) (t : Fin 4096) (j : Fin 1024) : (val_main_v95 (F := Ideal) x1 (ix3 b t j) : EReal) = x1 (ix2 b ⟨2048 + j.val, by omega⟩) := by
  rw [val_main_v95_apply, val_main_v3_apply, val_main_v0_apply]
  exact at2 x1 _ b ⟨2048 + j.val, by omega⟩ rfl rfl

theorem modulated (b : Fin 8) (t : Fin 4096) (j : Fin 1024) : (val_main_v27 (F := Ideal) x0 x1 (ix3 b t j) : EReal) = xm x0 x1 b t j := by
  rw [val_main_v27_apply, val_main_v25_apply]
  exact congrArg₂ (fun p q : EReal => p + q) (congrArg₂ (fun p q : EReal => p * q) (norm1 x0 b t j) (scale x1 b t j)) (shift x1 b t j)

theorem wide (b : Fin 8) (t : Fin 4096) (e : Fin 7072) : (val_main_v28 (F := Ideal) x0 x1 x6 (ix3 b t e) : EReal) = ∑ k, xm x0 x1 b t k * x6 (ix2 k e) := by
  rw [val_main_v28_apply]
  refine sum_congr rfl fun k _ => congrArg₂ (fun p q : EReal => p * q) ?_ (at2 x6 _ k e rfl rfl)
  exact (at3 (val_main_v27 (F := Ideal) x0 x1) _ b t k rfl rfl rfl).trans (modulated x0 x1 b t k)

/-! Branch 0. -/

theorem gateIn0 (b : Fin 8) (t : Fin 4096) (d : Fin 256) :
    (val_main_v31 (F := Ideal) x0 x1 x6 (ix3 b t d) : EReal) = ∑ k, xm x0 x1 b t k * x6 (ix2 k ⟨1952 + (256 * 0 + d.val), by omega⟩) := by
  rw [val_main_v31_apply, val_main_v29_apply]
  exact (at3 (val_main_v28 (F := Ideal) x0 x1 x6) _ b t ⟨1952 + (256 * 0 + d.val), by omega⟩ rfl rfl
    (by show 1952 + d.val = 1952 + (256 * 0 + d.val); omega)).trans (wide x0 x1 x6 b t _)

theorem mixIn0 (b : Fin 8) (t : Fin 4096) (j : Fin 1024) :
    (val_main_v35 (F := Ideal) x0 x1 x6 (ix3 b t j) : EReal) = ∑ k, xm x0 x1 b t k * x6 (ix2 k ⟨2976 + (1024 * 0 + j.val), by omega⟩) := by
  rw [val_main_v35_apply, val_main_v30_apply]
  exact (at3 (val_main_v28 (F := Ideal) x0 x1 x6) _ b t ⟨2976 + (1024 * 0 + j.val), by omega⟩ rfl rfl
    (by show 2976 + j.val = 2976 + (1024 * 0 + j.val); omega)).trans (wide x0 x1 x6 b t _)

theorem mixGate0 (i : S8x4096x1024.Idx) : (val_main_v44 (F := Ideal) x0 x1 x6 i : EReal) = sigmoid (val_main_v35 (F := Ideal) x0 x1 x6 i) := by
  rw [val_main_v44_apply, val_main_v43_apply, val_main_cst_6_apply, val_main_v42_apply, val_main_v41_apply, val_main_cst_5_apply,
    val_main_v40_apply, val_main_v39_apply]
  exact (sigmoid_eq (val_main_v35 (F := Ideal) x0 x1 x6 i)).symm

theorem silu0 (i : S8x4096x256.Idx) : (val_main_v45 (F := Ideal) x0 x1 x6 i : EReal) = (val_main_v31 (F := Ideal) x0 x1 x6 i : EReal) * sigmoid (val_main_v31 (F := Ideal) x0 x1 x6 i) := by
  rw [val_main_v45_apply, val_main_call0_v5_apply, val_main_call0_v4_apply, val_main_call0_cst_0_apply, val_main_call0_v3_apply, val_main_call0_v2_apply,
    val_main_call0_cst_apply, val_main_call0_v1_apply, val_main_call0_v0_apply]
  exact congrArg (fun q : EReal => (val_main_v31 (F := Ideal) x0 x1 x6 i : EReal) * q) (sigmoid_eq (val_main_v31 (F := Ideal) x0 x1 x6 i)).symm

theorem gated0 (b : Fin 8) (t : Fin 4096) (d : Fin 256) : (val_main_v46 (F := Ideal) x0 x1 x2 x6 (ix3 b t d) : EReal)
    = x2 (ix3 b t d) * ((∑ k, xm x0 x1 b t k * x6 (ix2 k ⟨1952 + (256 * 0 + d.val), by omega⟩))
        * sigmoid (∑ k, xm x0 x1 b t k * x6 (ix2 k ⟨1952 + (256 * 0 + d.val), by omega⟩))) := by
  rw [val_main_v46_apply, silu0 x0 x1 x6, gateIn0 x0 x1 x6]
  rfl

theorem weight0 (d : Fin 256) (l : Fin 1024) : (val_main_v48 (F := Ideal) x7 (ix2 d l) : EReal) = x7 (ix3 0 d l) := by
  rw [val_main_v48_apply, val_main_v47_apply]
  refine at3 x7 _ 0 d l rfl ?_ ?_
  · show (d.val * 1024 + l.val) / 1024 % 256 = d.val
    omega
  · show (d.val * 1024 + l.val) % 1024 = l.val
    omega

theorem term0 (b : Fin 8) (t : Fin 4096) (j : Fin 1024) : (val_main_v50 (F := Ideal) x0 x1 x2 x6 x7 (ix3 b t j) : EReal) = (term (xm x0 x1 b t) (fun d k => x6 (ix2 k ⟨1952 + (256 * 0 + d.val), by omega⟩)) (fun d => x2 (ix3 b t d)) (fun d l => x7 (ix3 0 d l)) (fun k l => x6 (ix2 k ⟨2976 + (1024 * 0 + l.val), by omega⟩)) j) := by
  rw [val_main_v50_apply, val_main_v49_apply]
  refine congrArg₂ (fun p q : EReal => p * q) ((mixGate0 x0 x1 x6 _).trans (congrArg sigmoid (mixIn0 x0 x1 x6 b t j))) (sum_congr rfl fun d _ => ?_)
  exact congrArg₂ (fun p q : EReal => p * q) ((at3 (val_main_v46 (F := Ideal) x0 x1 x2 x6) _ b t d rfl rfl rfl).trans (gated0 x0 x1 x2 x6 b t d))
    ((at2 (val_main_v48 (F := Ideal) x7) _ d j rfl rfl).trans (weight0 x7 d j))

/-! Branch 1. -/

theorem gateIn1 (b : Fin 8) (t : Fin 4096) (d : Fin 256) :
    (val_main_v32 (F := Ideal) x0 x1 x6 (ix3 b t d) : EReal) = ∑ k, xm x0 x1 b t k * x6 (ix2 k ⟨1952 + (256 * 1 + d.val), by omega⟩) := by
  rw [val_main_v32_apply, val_main_v29_apply]
  exact (at3 (val_main_v28 (F := Ideal) x0 x1 x6) _ b t ⟨1952 + (256 * 1 + d.val), by omega⟩ rfl rfl
    (by show 1952 + (256 + d.val) = 1952 + (256 * 1 + d.val); omega)).trans (wide x0 x1 x6 b t _)

theorem mixIn1 (b : Fin 8) (t : Fin 4096) (j : Fin 1024) :
    (val_main_v36 (F := Ideal) x0 x1 x6 (ix3 b t j) : EReal) = ∑ k, xm x0 x1 b t k * x6 (ix2 k ⟨2976 + (1024 * 1 + j.val), by omega⟩) := by
  rw [val_main_v36_apply, val_main_v30_apply]
  exact (at3 (val_main_v28 (F := Ideal) x0 x1 x6) _ b t ⟨2976 + (1024 * 1 + j.val), by omega⟩ rfl rfl
    (by show 2976 + (1024 + j.val) = 2976 + (1024 * 1 + j.val); omega)).trans (wide x0 x1 x6 b t _)

theorem mixGate1 (i : S8x4096x1024.Idx) : (val_main_v58 (F := Ideal) x0 x1 x6 i : EReal) = sigmoid (val_main_v36 (F := Ideal) x0 x1 x6 i) := by
  rw [val_main_v58_apply, val_main_v57_apply, val_main_cst_9_apply, val_main_v56_apply, val_main_v55_apply, val_main_cst_8_apply,
    val_main_v54_apply, val_main_v53_apply]
  exact (sigmoid_eq (val_main_v36 (F := Ideal) x0 x1 x6 i)).symm

theorem silu1 (i : S8x4096x256.Idx) : (val_main_v59 (F := Ideal) x0 x1 x6 i : EReal) = (val_main_v32 (F := Ideal) x0 x1 x6 i : EReal) * sigmoid (val_main_v32 (F := Ideal) x0 x1 x6 i) := by
  rw [val_main_v59_apply, val_main_call1_v5_apply, val_main_call1_v4_apply, val_main_call1_cst_0_apply, val_main_call1_v3_apply, val_main_call1_v2_apply,
    val_main_call1_cst_apply, val_main_call1_v1_apply, val_main_call1_v0_apply]
  exact congrArg (fun q : EReal => (val_main_v32 (F := Ideal) x0 x1 x6 i : EReal) * q) (sigmoid_eq (val_main_v32 (F := Ideal) x0 x1 x6 i)).symm

theorem gated1 (b : Fin 8) (t : Fin 4096) (d : Fin 256) : (val_main_v60 (F := Ideal) x0 x1 x3 x6 (ix3 b t d) : EReal)
    = x3 (ix3 b t d) * ((∑ k, xm x0 x1 b t k * x6 (ix2 k ⟨1952 + (256 * 1 + d.val), by omega⟩))
        * sigmoid (∑ k, xm x0 x1 b t k * x6 (ix2 k ⟨1952 + (256 * 1 + d.val), by omega⟩))) := by
  rw [val_main_v60_apply, silu1 x0 x1 x6, gateIn1 x0 x1 x6]
  rfl

theorem weight1 (d : Fin 256) (l : Fin 1024) : (val_main_v62 (F := Ideal) x7 (ix2 d l) : EReal) = x7 (ix3 1 d l) := by
  rw [val_main_v62_apply, val_main_v61_apply]
  refine at3 x7 _ 1 d l rfl ?_ ?_
  · show (d.val * 1024 + l.val) / 1024 % 256 = d.val
    omega
  · show (d.val * 1024 + l.val) % 1024 = l.val
    omega

theorem term1 (b : Fin 8) (t : Fin 4096) (j : Fin 1024) : (val_main_v64 (F := Ideal) x0 x1 x3 x6 x7 (ix3 b t j) : EReal) = (term (xm x0 x1 b t) (fun d k => x6 (ix2 k ⟨1952 + (256 * 1 + d.val), by omega⟩)) (fun d => x3 (ix3 b t d)) (fun d l => x7 (ix3 1 d l)) (fun k l => x6 (ix2 k ⟨2976 + (1024 * 1 + l.val), by omega⟩)) j) := by
  rw [val_main_v64_apply, val_main_v63_apply]
  refine congrArg₂ (fun p q : EReal => p * q) ((mixGate1 x0 x1 x6 _).trans (congrArg sigmoid (mixIn1 x0 x1 x6 b t j))) (sum_congr rfl fun d _ => ?_)
  exact congrArg₂ (fun p q : EReal => p * q) ((at3 (val_main_v60 (F := Ideal) x0 x1 x3 x6) _ b t d rfl rfl rfl).trans (gated1 x0 x1 x3 x6 b t d))
    ((at2 (val_main_v62 (F := Ideal) x7) _ d j rfl rfl).trans (weight1 x7 d j))

/-! Branch 2. -/

theorem gateIn2 (b : Fin 8) (t : Fin 4096) (d : Fin 256) :
    (val_main_v33 (F := Ideal) x0 x1 x6 (ix3 b t d) : EReal) = ∑ k, xm x0 x1 b t k * x6 (ix2 k ⟨1952 + (256 * 2 + d.val), by omega⟩) := by
  rw [val_main_v33_apply, val_main_v29_apply]
  exact (at3 (val_main_v28 (F := Ideal) x0 x1 x6) _ b t ⟨1952 + (256 * 2 + d.val), by omega⟩ rfl rfl
    (by show 1952 + (512 + d.val) = 1952 + (256 * 2 + d.val); omega)).trans (wide x0 x1 x6 b t _)

theorem mixIn2 (b : Fin 8) (t : Fin 4096) (j : Fin 1024) :
    (val_main_v37 (F := Ideal) x0 x1 x6 (ix3 b t j) : EReal) = ∑ k, xm x0 x1 b t k * x6 (ix2 k ⟨2976 + (1024 * 2 + j.val), by omega⟩) := by
  rw [val_main_v37_apply, val_main_v30_apply]
  exact (at3 (val_main_v28 (F := Ideal) x0 x1 x6) _ b t ⟨2976 + (1024 * 2 + j.val), by omega⟩ rfl rfl
    (by show 2976 + (2048 + j.val) = 2976 + (1024 * 2 + j.val); omega)).trans (wide x0 x1 x6 b t _)

theorem mixGate2 (i : S8x4096x1024.Idx) : (val_main_v71 (F := Ideal) x0 x1 x6 i : EReal) = sigmoid (val_main_v37 (F := Ideal) x0 x1 x6 i) := by
  rw [val_main_v71_apply, val_main_v70_apply, val_main_cst_11_apply, val_main_v69_apply, val_main_v68_apply, val_main_cst_10_apply,
    val_main_v67_apply, val_main_v66_apply]
  exact (sigmoid_eq (val_main_v37 (F := Ideal) x0 x1 x6 i)).symm

theorem silu2 (i : S8x4096x256.Idx) : (val_main_v72 (F := Ideal) x0 x1 x6 i : EReal) = (val_main_v33 (F := Ideal) x0 x1 x6 i : EReal) * sigmoid (val_main_v33 (F := Ideal) x0 x1 x6 i) := by
  rw [val_main_v72_apply, val_main_call2_v5_apply, val_main_call2_v4_apply, val_main_call2_cst_0_apply, val_main_call2_v3_apply, val_main_call2_v2_apply,
    val_main_call2_cst_apply, val_main_call2_v1_apply, val_main_call2_v0_apply]
  exact congrArg (fun q : EReal => (val_main_v33 (F := Ideal) x0 x1 x6 i : EReal) * q) (sigmoid_eq (val_main_v33 (F := Ideal) x0 x1 x6 i)).symm

theorem gated2 (b : Fin 8) (t : Fin 4096) (d : Fin 256) : (val_main_v73 (F := Ideal) x0 x1 x4 x6 (ix3 b t d) : EReal)
    = x4 (ix3 b t d) * ((∑ k, xm x0 x1 b t k * x6 (ix2 k ⟨1952 + (256 * 2 + d.val), by omega⟩))
        * sigmoid (∑ k, xm x0 x1 b t k * x6 (ix2 k ⟨1952 + (256 * 2 + d.val), by omega⟩))) := by
  rw [val_main_v73_apply, silu2 x0 x1 x6, gateIn2 x0 x1 x6]
  rfl

theorem weight2 (d : Fin 256) (l : Fin 1024) : (val_main_v75 (F := Ideal) x7 (ix2 d l) : EReal) = x7 (ix3 2 d l) := by
  rw [val_main_v75_apply, val_main_v74_apply]
  refine at3 x7 _ 2 d l rfl ?_ ?_
  · show (d.val * 1024 + l.val) / 1024 % 256 = d.val
    omega
  · show (d.val * 1024 + l.val) % 1024 = l.val
    omega

theorem term2 (b : Fin 8) (t : Fin 4096) (j : Fin 1024) : (val_main_v77 (F := Ideal) x0 x1 x4 x6 x7 (ix3 b t j) : EReal) = (term (xm x0 x1 b t) (fun d k => x6 (ix2 k ⟨1952 + (256 * 2 + d.val), by omega⟩)) (fun d => x4 (ix3 b t d)) (fun d l => x7 (ix3 2 d l)) (fun k l => x6 (ix2 k ⟨2976 + (1024 * 2 + l.val), by omega⟩)) j) := by
  rw [val_main_v77_apply, val_main_v76_apply]
  refine congrArg₂ (fun p q : EReal => p * q) ((mixGate2 x0 x1 x6 _).trans (congrArg sigmoid (mixIn2 x0 x1 x6 b t j))) (sum_congr rfl fun d _ => ?_)
  exact congrArg₂ (fun p q : EReal => p * q) ((at3 (val_main_v73 (F := Ideal) x0 x1 x4 x6) _ b t d rfl rfl rfl).trans (gated2 x0 x1 x4 x6 b t d))
    ((at2 (val_main_v75 (F := Ideal) x7) _ d j rfl rfl).trans (weight2 x7 d j))

/-! Branch 3. -/

theorem gateIn3 (b : Fin 8) (t : Fin 4096) (d : Fin 256) :
    (val_main_v34 (F := Ideal) x0 x1 x6 (ix3 b t d) : EReal) = ∑ k, xm x0 x1 b t k * x6 (ix2 k ⟨1952 + (256 * 3 + d.val), by omega⟩) := by
  rw [val_main_v34_apply, val_main_v29_apply]
  exact (at3 (val_main_v28 (F := Ideal) x0 x1 x6) _ b t ⟨1952 + (256 * 3 + d.val), by omega⟩ rfl rfl
    (by show 1952 + (768 + d.val) = 1952 + (256 * 3 + d.val); omega)).trans (wide x0 x1 x6 b t _)

theorem mixIn3 (b : Fin 8) (t : Fin 4096) (j : Fin 1024) :
    (val_main_v38 (F := Ideal) x0 x1 x6 (ix3 b t j) : EReal) = ∑ k, xm x0 x1 b t k * x6 (ix2 k ⟨2976 + (1024 * 3 + j.val), by omega⟩) := by
  rw [val_main_v38_apply, val_main_v30_apply]
  exact (at3 (val_main_v28 (F := Ideal) x0 x1 x6) _ b t ⟨2976 + (1024 * 3 + j.val), by omega⟩ rfl rfl
    (by show 2976 + (3072 + j.val) = 2976 + (1024 * 3 + j.val); omega)).trans (wide x0 x1 x6 b t _)

theorem mixGate3 (i : S8x4096x1024.Idx) : (val_main_v84 (F := Ideal) x0 x1 x6 i : EReal) = sigmoid (val_main_v38 (F := Ideal) x0 x1 x6 i) := by
  rw [val_main_v84_apply, val_main_v83_apply, val_main_cst_13_apply, val_main_v82_apply, val_main_v81_apply, val_main_cst_12_apply,
    val_main_v80_apply, val_main_v79_apply]
  exact (sigmoid_eq (val_main_v38 (F := Ideal) x0 x1 x6 i)).symm

theorem silu3 (i : S8x4096x256.Idx) : (val_main_v85 (F := Ideal) x0 x1 x6 i : EReal) = (val_main_v34 (F := Ideal) x0 x1 x6 i : EReal) * sigmoid (val_main_v34 (F := Ideal) x0 x1 x6 i) := by
  rw [val_main_v85_apply, val_main_call3_v5_apply, val_main_call3_v4_apply, val_main_call3_cst_0_apply, val_main_call3_v3_apply, val_main_call3_v2_apply,
    val_main_call3_cst_apply, val_main_call3_v1_apply, val_main_call3_v0_apply]
  exact congrArg (fun q : EReal => (val_main_v34 (F := Ideal) x0 x1 x6 i : EReal) * q) (sigmoid_eq (val_main_v34 (F := Ideal) x0 x1 x6 i)).symm

theorem gated3 (b : Fin 8) (t : Fin 4096) (d : Fin 256) : (val_main_v86 (F := Ideal) x0 x1 x5 x6 (ix3 b t d) : EReal)
    = x5 (ix3 b t d) * ((∑ k, xm x0 x1 b t k * x6 (ix2 k ⟨1952 + (256 * 3 + d.val), by omega⟩))
        * sigmoid (∑ k, xm x0 x1 b t k * x6 (ix2 k ⟨1952 + (256 * 3 + d.val), by omega⟩))) := by
  rw [val_main_v86_apply, silu3 x0 x1 x6, gateIn3 x0 x1 x6]
  rfl

theorem weight3 (d : Fin 256) (l : Fin 1024) : (val_main_v88 (F := Ideal) x7 (ix2 d l) : EReal) = x7 (ix3 3 d l) := by
  rw [val_main_v88_apply, val_main_v87_apply]
  refine at3 x7 _ 3 d l rfl ?_ ?_
  · show (d.val * 1024 + l.val) / 1024 % 256 = d.val
    omega
  · show (d.val * 1024 + l.val) % 1024 = l.val
    omega

theorem term3 (b : Fin 8) (t : Fin 4096) (j : Fin 1024) : (val_main_v90 (F := Ideal) x0 x1 x5 x6 x7 (ix3 b t j) : EReal) = (term (xm x0 x1 b t) (fun d k => x6 (ix2 k ⟨1952 + (256 * 3 + d.val), by omega⟩)) (fun d => x5 (ix3 b t d)) (fun d l => x7 (ix3 3 d l)) (fun k l => x6 (ix2 k ⟨2976 + (1024 * 3 + l.val), by omega⟩)) j) := by
  rw [val_main_v90_apply, val_main_v89_apply]
  refine congrArg₂ (fun p q : EReal => p * q) ((mixGate3 x0 x1 x6 _).trans (congrArg sigmoid (mixIn3 x0 x1 x6 b t j))) (sum_congr rfl fun d _ => ?_)
  exact congrArg₂ (fun p q : EReal => p * q) ((at3 (val_main_v86 (F := Ideal) x0 x1 x5 x6) _ b t d rfl rfl rfl).trans (gated3 x0 x1 x5 x6 b t d))
    ((at2 (val_main_v88 (F := Ideal) x7) _ d j rfl rfl).trans (weight3 x7 d j))

/-! The branches together, the last products and the residual. -/

theorem sums (b : Fin 8) (t : Fin 4096) (j : Fin 1024) : (val_main_v91 (F := Ideal) x0 x1 x2 x3 x4 x5 x6 x7 (ix3 b t j) : EReal) = (acc (xm x0 x1 b t) (fun n d k => x6 (ix2 k ⟨1952 + (256 * n.val + d.val), by omega⟩)) (fun n d => pick x2 x3 x4 x5 n (ix3 b t d)) (fun n d l => x7 (ix3 n d l)) (fun n k l => x6 (ix2 k ⟨2976 + (1024 * n.val + l.val), by omega⟩))) j := by
  rw [val_main_v91_apply, val_main_v78_apply, val_main_v65_apply, val_main_v52_apply, val_main_v51_apply, val_main_cst_7_apply]
  have e0 : (Ideal.ofBits .f32 0x00000000#32 : EReal) + (val_main_v50 (F := Ideal) x0 x1 x2 x6 x7 (ix3 b t j) : EReal) = (term (xm x0 x1 b t) (fun d k => x6 (ix2 k ⟨1952 + (256 * 0 + d.val), by omega⟩)) (fun d => x2 (ix3 b t d)) (fun d l => x7 (ix3 0 d l)) (fun k l => x6 (ix2 k ⟨2976 + (1024 * 0 + l.val), by omega⟩)) j) := by
    rw [Ideal.ofBits_zero_f32, zero_add]
    exact term0 x0 x1 x2 x6 x7 b t j
  exact congrArg₂ (fun p q : EReal => p + q) (congrArg₂ (fun p q : EReal => p + q) (congrArg₂ (fun p q : EReal => p + q) e0 (term1 x0 x1 x3 x6 x7 b t j)) (term2 x0 x1 x4 x6 x7 b t j)) (term3 x0 x1 x5 x6 x7 b t j)

theorem residual (b : Fin 8) (t : Fin 4096) (j : Fin 1024) : (val_main_v97 (F := Ideal) x0 x1 x2 x3 x4 x5 x6 x7 x8 (ix3 b t j) : EReal) = (res (fun k => x1 (ix2 b ⟨2048 + k.val, by omega⟩)) (fun k => x0 (ix3 b t k)) (acc (xm x0 x1 b t) (fun n d k => x6 (ix2 k ⟨1952 + (256 * n.val + d.val), by omega⟩)) (fun n d => pick x2 x3 x4 x5 n (ix3 b t d)) (fun n d l => x7 (ix3 n d l)) (fun n k l => x6 (ix2 k ⟨2976 + (1024 * n.val + l.val), by omega⟩))) (fun k l => x8 (ix2 k l))) j := by
  rw [val_main_v97_apply, val_main_v94_apply, val_main_v93_apply, val_main_cst_14_apply, val_main_v96_apply, val_main_v92_apply]
  refine congrArg₂ (fun p q : EReal => p + q) rfl (congrArg₂ (fun p q : EReal => p * q) (gate x1 b t j) (sum_congr rfl fun k _ => ?_))
  exact congrArg₂ (fun p q : EReal => p * q) ((at3 (val_main_v91 (F := Ideal) x0 x1 x2 x3 x4 x5 x6 x7) _ b t k rfl rfl rfl).trans (sums x0 x1 x2 x3 x4 x5 x6 x7 b t k)) (at2 x8 _ k j rfl rfl)

/-- The mean of a row of the residual. -/
theorem mean2 (b : Fin 8) (t : Fin 4096) :
    (val_main_v101 (F := Ideal) x0 x1 x2 x3 x4 x5 x6 x7 x8 (ix3 b t 0) : EReal) = mean (fun k => val_main_v97 (F := Ideal) x0 x1 x2 x3 x4 x5 x6 x7 x8 (ix3 b t k)) := by
  rw [val_main_v101_apply, val_main_v99_apply, val_main_v100_apply, val_main_cst_16_apply, val_main_v98_apply, val_main_cst_15_apply]
  refine congrArg (fun p : EReal => Ideal.div p (Ideal.ofBits .f32 0x44800000#32)) ?_
  show (Ideal.ofBits .f32 0x00000000#32 : EReal) + _ = _
  rw [Ideal.ofBits_zero_f32, zero_add]
  exact sum_congr rfl fun k _ => at3 (val_main_v97 (F := Ideal) x0 x1 x2 x3 x4 x5 x6 x7 x8) _ b t k rfl rfl rfl

/-- A centred entry of the residual. -/
theorem cen2 (b : Fin 8) (t : Fin 4096) (j : Fin 1024) :
    (val_main_v103 (F := Ideal) x0 x1 x2 x3 x4 x5 x6 x7 x8 (ix3 b t j) : EReal) = cen (fun k => val_main_v97 (F := Ideal) x0 x1 x2 x3 x4 x5 x6 x7 x8 (ix3 b t k)) j := by
  rw [val_main_v103_apply, val_main_v102_apply]
  exact congrArg (fun p : EReal => val_main_v97 (F := Ideal) x0 x1 x2 x3 x4 x5 x6 x7 x8 (ix3 b t j) - p) ((at3 (val_main_v101 (F := Ideal) x0 x1 x2 x3 x4 x5 x6 x7 x8) _ b t 0 rfl rfl rfl).trans (mean2 x0 x1 x2 x3 x4 x5 x6 x7 x8 b t))

@[inherit_doc cen2] theorem cen'2 (b : Fin 8) (t : Fin 4096) (j : Fin 1024) :
    (val_main_v110 (F := Ideal) x0 x1 x2 x3 x4 x5 x6 x7 x8 (ix3 b t j) : EReal) = cen (fun k => val_main_v97 (F := Ideal) x0 x1 x2 x3 x4 x5 x6 x7 x8 (ix3 b t k)) j := by
  rw [val_main_v110_apply, val_main_v109_apply]
  exact congrArg (fun p : EReal => val_main_v97 (F := Ideal) x0 x1 x2 x3 x4 x5 x6 x7 x8 (ix3 b t j) - p) ((at3 (val_main_v101 (F := Ideal) x0 x1 x2 x3 x4 x5 x6 x7 x8) _ b t 0 rfl rfl rfl).trans (mean2 x0 x1 x2 x3 x4 x5 x6 x7 x8 b t))

/-- The mean of the squares of the residual. -/
theorem var2 (b : Fin 8) (t : Fin 4096) :
    (val_main_v108 (F := Ideal) x0 x1 x2 x3 x4 x5 x6 x7 x8 (ix3 b t 0) : EReal) = mean (fun k => cen (fun k => val_main_v97 (F := Ideal) x0 x1 x2 x3 x4 x5 x6 x7 x8 (ix3 b t k)) k * cen (fun k => val_main_v97 (F := Ideal) x0 x1 x2 x3 x4 x5 x6 x7 x8 (ix3 b t k)) k) := by
  rw [val_main_v108_apply, val_main_v106_apply, val_main_v107_apply, val_main_cst_18_apply, val_main_v105_apply, val_main_cst_17_apply]
  refine congrArg (fun p : EReal => Ideal.div p (Ideal.ofBits .f32 0x44800000#32)) ?_
  show (Ideal.ofBits .f32 0x00000000#32 : EReal) + _ = _
  rw [Ideal.ofBits_zero_f32, zero_add]
  refine sum_congr rfl fun k _ => ?_
  refine (at3 (val_main_v104 (F := Ideal) x0 x1 x2 x3 x4 x5 x6 x7 x8) _ b t k rfl rfl rfl).trans ?_
  rw [val_main_v104_apply]
  exact congrArg₂ (fun p q : EReal => p * q) (cen2 x0 x1 x2 x3 x4 x5 x6 x7 x8 b t k) (cen2 x0 x1 x2 x3 x4 x5 x6 x7 x8 b t k)

/-- A normalized entry of the residual. -/
theorem norm2 (b : Fin 8) (t : Fin 4096) (j : Fin 1024) :
    (val_main_v115 (F := Ideal) x0 x1 x2 x3 x4 x5 x6 x7 x8 (ix3 b t j) : EReal) = norm (fun k => val_main_v97 (F := Ideal) x0 x1 x2 x3 x4 x5 x6 x7 x8 (ix3 b t k)) j := by
  rw [val_main_v115_apply, val_main_v114_apply]
  refine congrArg₂ (fun p q : EReal => p * q) (cen'2 x0 x1 x2 x3 x4 x5 x6 x7 x8 b t j) ?_
  refine (at3 (val_main_v113 (F := Ideal) x0 x1 x2 x3 x4 x5 x6 x7 x8) _ b t 0 rfl rfl rfl).trans ?_
  rw [val_main_v113_apply, val_main_v112_apply, val_main_v111_apply, val_main_cst_19_apply]
  exact congrArg (fun p : EReal => Ideal.rsqrt (p + Ideal.ofBits .f32 0x358637BD#32)) (var2 x0 x1 x2 x3 x4 x5 x6 x7 x8 b t)

/-- The reference's result. -/
theorem value : (val_main_v121 (F := Ideal) x0 x1 x2 x3 x4 x5 x6 x7 x8 x9 x10 : FVec Ideal S8x4096x1024 .f32) = result x0 x1 x2 x3 x4 x5 x6 x7 x8 x9 x10 := by
  funext i
  have hi : i = (ix3 (i 0) (i 1) (i 2) : S8x4096x1024.Idx) := ext3 _ _ rfl rfl rfl
  refine (congrArg (val_main_v121 (F := Ideal) x0 x1 x2 x3 x4 x5 x6 x7 x8 x9 x10) hi).trans ?_
  have hr : (fun k => val_main_v97 (F := Ideal) x0 x1 x2 x3 x4 x5 x6 x7 x8 (ix3 (i 0) (i 1) k)) = _ := funext fun k => residual x0 x1 x2 x3 x4 x5 x6 x7 x8 (i 0) (i 1) k
  have hn : (val_main_v115 (F := Ideal) x0 x1 x2 x3 x4 x5 x6 x7 x8 (ix3 (i 0) (i 1) (i 2)) : EReal) = _ := (norm2 x0 x1 x2 x3 x4 x5 x6 x7 x8 (i 0) (i 1) (i 2)).trans (congrArg (fun f => norm f (i 2)) hr)
  rw [val_main_v121_apply, val_main_v118_apply, val_main_v117_apply, val_main_v116_apply, val_main_v120_apply, val_main_v119_apply]
  exact congrArg₂ (fun p q : EReal => p + q)
    (congrArg₂ (fun p q : EReal => p * q) hn (at1 x9 _ (i 2) rfl)) (at1 x10 _ (i 2) rfl)

end Cert.Reference3Ideal.Plain

end
-- ==== Proof.ClaimM.lean ====
module

public import proofs.«01_k».proof.Defs
public import proofs.«01_k».proof.Proof.RefM
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Quiescent

/-!
The claims about the merge: the kernel and the reference end with equal results.
-/

@[expose] public section

set_option maxRecDepth 16384

noncomputable section

namespace Cert.ClaimM

open Idealize.ShloMosaic Idealize.SL.Sem

/-- The two programs' results are equal. -/
theorem algebraic : @algebraic_Kernel3Ideal_Reference3Ideal Kernel3Ideal.Gen.facts Reference3Ideal.Gen.facts := by
  intro m g m' g' _ hagree
  refine ⟨fun c => (Kernel3Ideal.Gen.dats m 0 c).arrAt 12 Kernel3Ideal.cfg0.N, Kernel3Ideal.Value.run_blocks m g,
    (θ_run _ _ _).mono (fun r h c => ⟨(h c).1.trans ?_, (h c).2⟩) (Reference3Ideal.Value.run m' g')⟩
  obtain ⟨h0, h1, h2, h3, h4, h5, h6, h7, h8, h9, h10⟩ := hagree c
  refine (Reference3Ideal.Read.val_main_v121_eq (StableHlo.launchContents m' c)).trans ?_
  refine (Reference3Ideal.Plain.value (m' (c.tc.loc Reference3Ideal.main_arg0)) (m' (c.tc.loc Reference3Ideal.main_arg1)) (m' (c.tc.loc Reference3Ideal.main_arg2))
    (m' (c.tc.loc Reference3Ideal.main_arg3)) (m' (c.tc.loc Reference3Ideal.main_arg4)) (m' (c.tc.loc Reference3Ideal.main_arg5))
    (m' (c.tc.loc Reference3Ideal.main_arg6)) (m' (c.tc.loc Reference3Ideal.main_arg7)) (m' (c.tc.loc Reference3Ideal.main_arg8))
    (m' (c.tc.loc Reference3Ideal.main_arg9)) (m' (c.tc.loc Reference3Ideal.main_arg10))).trans ?_
  rw [h0, h1, h2, h3, h4, h5, h6, h7, h8, h9, h10]
  exact (Kernel3Ideal.Merge.final m c).symm

/-- The compiled kernel, its ideal reading and the reference leave their arguments and end with counters at zero. -/
theorem frameP : @quiescent_Kernel3 Kernel3.Gen.facts := fun m g _ => Kernel3.Gen.frame m g

theorem framePI : @quiescent_Kernel3Ideal Kernel3Ideal.Gen.facts := fun m g _ => Kernel3Ideal.Gen.frame m g

theorem frameRI : @quiescent_Reference3Ideal Reference3Ideal.Gen.facts := fun m g _ =>
  (θ_run _ _ _).mono (fun _ h => ⟨fun c => (h c).2, sem_eq_zero_of_no_sems (by decide) _⟩) (Reference3Ideal.Value.run m g)

end Cert.ClaimM

end
-- ==== Proof.FinalE.lean ====
module

public import proofs.«01_k».proof.Proof.Gen.Kernel4Ideal.Frame
public import Idealize.ShloMosaic.Lib.Pipeline.ValueKit
public import Idealize.ShloMosaic.Lib.Claim
public import Idealize.ShloMosaic.Lib.IdealHost
public import Idealize.ShloMosaic.Lib.KernelVsHost
public import Idealize.ShloMosaic.Lib.ValueLayout
public import Idealize.ShloMosaic.Lib.ValueLayoutCasts
public import Idealize.ShloMosaic.Lib.MatmulPlain
public import Idealize.ShloMosaic.Lib.Routing.OpsOne

/-!
The modulation: the array the call leaves, and the two arrays the program cuts from it.
-/

@[expose] public section

set_option maxRecDepth 16384

noncomputable section

namespace Cert.Kernel4Ideal.Mod

open Cert.Kernel4Ideal Cert.Kernel4Ideal.Gen
open Idealize.ShloMosaic hiding ix0 ix1 ix2 ix3 ix4 ix5
open Idealize.ShloMosaic.ValueIdx Idealize.ShloMosaic.TcCoe Idealize.SL.Sem Finset

variable (m : (ℓ : Loc nD τ sig) → Buf (Elt Ideal) ℓ) (ρ : Dev nD → PrngReg)

/-- The latent tokens' conditions, the context's, the weights and the offsets the program is given. -/
abbrev argC (c : Dev nD) : FVec Ideal S8x1024 .f32 := m ((c : Thread nD τ).loc main_arg0)
@[inherit_doc argC] abbrev argX (c : Dev nD) : FVec Ideal S1024 .f32 := m ((c : Thread nD τ).loc main_arg1)
@[inherit_doc argC] abbrev argW (c : Dev nD) : FVec Ideal S2x1024x3072 .f32 := m ((c : Thread nD τ).loc main_arg2)
@[inherit_doc argC] abbrev argB (c : Dev nD) : FVec Ideal S2x3072 .f32 := m ((c : Thread nD τ).loc main_arg3)

/-- One entry of a modulation: the gated conditions times a column, and an offset. -/
def entry (s w : Fin 1024 → EReal) (b : EReal) : EReal := ∑ k, (s k * Ideal.logistic (s k)) * w k + b

/-! ## The rows the host puts together -/

/-- Eight rows written at the top of sixteen. -/
theorem rows_set (x : FVec Ideal S16x1024 .f32) (i : IVec S1 32) (hi : (i (ix1 0)).toInt = 0) (u : FVec Ideal S8x1024 .f32) (r : Fin 8) (k : Fin 1024) :
    Host.scatter scatter_S16x1024_S1_S8x1024_01_n_0_0 (fun _ b => b) x i u (ix2 ⟨r.val, by omega⟩ k) = u (ix2 r k) := by
  have key : ∀ j : S8x1024.Idx, scatter_S16x1024_S1_S8x1024_01_n_0_0.resultIdx? j i = some (ix2 ⟨r.val, by omega⟩ k) ↔ (j 0).val = r.val ∧ (j 1).val = k.val := fun j => by
    refine (Routing.resultIdx?_ix2 (R := 16) (C := 1024) scatter_S16x1024_S1_S8x1024_01_n_0_0 j i ⟨r.val, by omega⟩ k).trans ?_
    have s0 : scatter_S16x1024_S1_S8x1024_01_n_0_0.start j i 0 = (i (ix1 0)).toInt := congrArg (fun q => (i q).toInt) (funext fun a => match a with | ⟨0, _⟩ => Subsingleton.elim (α := Fin 1) _ _)
    have s1 : scatter_S16x1024_S1_S8x1024_01_n_0_0.start j i 1 = 0 := rfl
    have w0 : scatter_S16x1024_S1_S8x1024_01_n_0_0.window j 0 = (j 0).val := rfl
    have w1 : scatter_S16x1024_S1_S8x1024_01_n_0_0.window j 1 = (j 1).val := rfl
    rw [s0, s1, w0, w1, hi]
    simp only [zero_add, Nat.cast_inj]
  refine Routing.scatter_set_hit _ x i u _ _ (fun j hj => ?_) (ix2 r k) ((key _).2 ⟨rfl, rfl⟩)
  obtain ⟨h0, h1⟩ := (key j).1 hj
  refine congrArg u (funext fun a => Fin.ext ?_)
  match a with
  | ⟨0, _⟩ => exact h0
  | ⟨1, _⟩ => exact h1

theorem row_lands (i : IVec S1 32) (hi : (i (ix1 0)).toInt = 8) (r : Fin 16) (k : Fin 1024) (j : S1024.Idx) :
    scatter_S16x1024_S1_S1024_0_0_0_0.resultIdx? j i = some (ix2 r k) ↔ 8 = r.val ∧ (j 0).val = k.val := by
  refine (Routing.resultIdx?_ix2 (R := 16) (C := 1024) scatter_S16x1024_S1_S1024_0_0_0_0 j i r k).trans ?_
  have s0 : scatter_S16x1024_S1_S1024_0_0_0_0.start j i 0 = (i (ix1 0)).toInt := congrArg (fun q => (i q).toInt) (funext fun a => match a with | ⟨0, _⟩ => Subsingleton.elim (α := Fin 1) _ _)
  have s1 : scatter_S16x1024_S1_S1024_0_0_0_0.start j i 1 = 0 := rfl
  have w0 : scatter_S16x1024_S1_S1024_0_0_0_0.window j 0 = 0 := rfl
  have w1 : scatter_S16x1024_S1_S1024_0_0_0_0.window j 1 = (j 0).val := rfl
  rw [s0, s1, w0, w1, hi]
  omega

/-- One row written below them. -/
theorem row_set (x : FVec Ideal S16x1024 .f32) (i : IVec S1 32) (hi : (i (ix1 0)).toInt = 8) (u : FVec Ideal S1024 .f32) (k : Fin 1024) :
    Host.scatter scatter_S16x1024_S1_S1024_0_0_0_0 (fun _ b => b) x i u (ix2 8 k) = u (ix1 k) := by
  refine Routing.scatter_set_hit _ x i u _ _ (fun j hj => ?_) (ix1 k) ((row_lands i hi 8 k _).2 ⟨rfl, rfl⟩)
  refine congrArg u (funext fun a => Fin.ext ?_)
  match a with
  | ⟨0, _⟩ => exact ((row_lands i hi 8 k j).1 hj).2

/-- The rows above it stay. -/
theorem row_keep (x : FVec Ideal S16x1024 .f32) (i : IVec S1 32) (hi : (i (ix1 0)).toInt = 8) (u : FVec Ideal S1024 .f32) (r : Fin 16) (hr : r.val ≠ 8) (k : Fin 1024) :
    Host.scatter scatter_S16x1024_S1_S1024_0_0_0_0 (fun _ b => b) x i u (ix2 r k) = x (ix2 r k) :=
  Routing.scatter_set_miss _ x i u _ fun j hj => hr ((row_lands i hi r k j).1 hj).1.symm

theorem lat_entry (c : Dev nD) (r : Fin 8) (k : Fin 1024) : ((V m c main_v4 : FVec Ideal S16x1024 .f32) (ix2 ⟨r.val, by omega⟩ k) : EReal) = argC m c (ix2 r k) := by
  simp only [V, V0, List.flatten_cons, List.flatten_nil, List.append_nil, List.cons_append, List.nil_append]
  after_results
  refine (row_keep _ _ (by rfl) _ _ (by show r.val ≠ 8; omega) k).trans ?_
  exact rows_set _ _ (by rfl) _ r k

theorem ctx_entry (c : Dev nD) (k : Fin 1024) : ((V m c main_v4 : FVec Ideal S16x1024 .f32) (ix2 8 k) : EReal) = argX m c (ix1 k) := by
  simp only [V, V0, List.flatten_cons, List.flatten_nil, List.append_nil, List.cons_append, List.nil_append]
  after_results
  exact row_set _ _ (by rfl) _ k

theorem b_entry (c : Dev nD) (l : Fin 2) (n : Fin 3072) : ((V m c main_v5 : FVec Ideal S2x1x3072 .f32) (ix3 l 0 n) : EReal) = argB m c (ix2 l n) := by
  simp only [V, V0, List.flatten_cons, List.flatten_nil, List.append_nil, List.cons_append, List.nil_append]
  after_results
  refine shapeCast_apply (argB m c) shapeCasts_S2x3072_S2x1x3072 _ (ix2 l n) ?_
  rw [Shape.rowMajor_val_two, Shape.rowMajor_val_three]
  show l.val * 3072 + n.val = (l.val * 1 + 0) * 3072 + n.val
  ring

/-! ## The call -/

/-- The call's array. -/
def result (x : FVec Ideal S16x1024 .f32) (w : FVec Ideal S2x1024x3072 .f32) (b : FVec Ideal S2x1x3072 .f32) : FVec Ideal S2x16x3072 .f32 := fun i =>
  entry (fun k => x (ix2 (i 1) k)) (fun k => w (ix3 (i 0) k (i 2))) (b (ix3 (i 0) 0 (i 2)))

/-- Where the windows of a grid point lie. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

theorem lt_N (t : Fin cfg0.N) : t.val < 12 := t.isLt

/-- The layer and the column of a grid point's block. -/
abbrev lay (t : Fin cfg0.N) : Fin 2 := ⟨t.val / 6, by have := lt_N t; omega⟩
@[inherit_doc lay] abbrev col (t : Fin cfg0.N) (e : Fin 512) : Fin 3072 := ⟨512 * (t.val % 6) + e.val, by omega⟩

theorem read0 (X : FVec Ideal S16x1024 .f32) (t : Fin cfg0.N) (r : Fin 16) (e : Fin 1024) :
    (((cfg0.win 0).blk t).view.read (Elt Ideal) X : FVec Ideal S16x1024 .f32) (ix2 r e) = X (ix2 r e) := by
  blk_ext [idx t]

theorem read1 (X : FVec Ideal S2x1024x3072 .f32) (t : Fin cfg0.N) (r : Fin 1024) (e : Fin 512) :
    (((cfg0.win 1).blk t).view.read (Elt Ideal) X : FVec Ideal S1x1024x512 .f32) (ix3 0 r e) = X (ix3 (lay t) r (col t e)) := by
  blk_ext [idx t]
  · show _ * 512 + e.val = _
    omega

theorem read2 (X : FVec Ideal S2x1x3072 .f32) (t : Fin cfg0.N) (e : Fin 512) :
    (((cfg0.win 2).blk t).view.read (Elt Ideal) X : FVec Ideal S1x1x512 .f32) (ix3 0 0 e) = X (ix3 (lay t) 0 (col t e)) := by
  blk_ext [idx t]
  · show _ * 512 + e.val = _
    omega

theorem read3 (X : FVec Ideal S2x16x3072 .f32) (t : Fin cfg0.N) (r : Fin 16) (e : Fin 512) :
    X ((win0_3.blk t).view.emb (ix3 0 r e)) = X (ix3 (lay t) r (col t e)) := by
  blk_ext [idx t]
  · show _ * 512 + e.val = _
    omega

/-- What a body leaves at a row and column of its block. -/
theorem block (x0 : FVec Ideal S16x1024 .f32) (x1 : FVec Ideal S1x1024x512 .f32) (x2 : FVec Ideal S1x1x512 .f32) (r : Fin 16) (e : Fin 512) :
    (out0_3 (F := Ideal) x0 x1 x2 (ix3 0 r e) : EReal) = entry (fun k => x0 (ix2 r k)) (fun k => x1 (ix3 0 k e)) (x2 (ix3 0 0 e)) := by
  have z2 : (![0, 0] : Fin 2 → ℕ) = fun _ => 0 := by decide
  have z3 : (![0, 0, 0] : Fin 3 → ℕ) = fun _ => 0 := by decide
  unfold out0_3
  refine (congrFun (View.canon_unit_zero (S := S1x16x512) z3 inb_S1x16x512_S1x16x512_0_0_0 _) _).trans ?_
  unfold k0_pay1
  refine (shapeCast_ab_1ab_apply (a := 16) (b := 512) _ shapeCasts_S16x512_S1x16x512 0 r e).trans ?_
  have hx : ∀ k : Fin 1024, (shapeCast S16x1024 (View.ld (Val := Elt Ideal) (e' := .f32) x0 r0_0) shapeCasts_S16x1024_S16x1024 : FVec Ideal S16x1024 .f32) (ix2 r k) = x0 (ix2 r k) := fun k => by
    refine (congrFun (shapeCast_self _ shapeCasts_S16x1024_S16x1024) _).trans ?_
    rw [View.ld_unit]
    refine extractStridedSlice_apply _ _ _ _ _ fun a => ?_
    match a with
    | ⟨0, _⟩ => exact (Nat.zero_add _).symm
    | ⟨1, _⟩ => exact (Nat.zero_add _).symm
  have hw : ∀ k : Fin 1024, (shapeCast S1024x512 (View.ld (Val := Elt Ideal) (e' := .f32) x1 r0_1) shapeCasts_S1x1024x512_S1024x512 : FVec Ideal S1024x512 .f32) (ix2 k e) = x1 (ix3 0 k e) := fun k => by
    refine (shapeCast_1ab_ab_apply (a := 1024) (b := 512) _ shapeCasts_S1x1024x512_S1024x512 k e).trans ?_
    rw [View.ld_unit]
    refine extractStridedSlice_apply _ _ _ _ _ fun a => ?_
    match a with
    | ⟨0, _⟩ => rfl
    | ⟨1, _⟩ => exact (Nat.zero_add _).symm
    | ⟨2, _⟩ => exact (Nat.zero_add _).symm
  have hb : (shapeCast S1x512 (View.ld (Val := Elt Ideal) (e' := .f32) x2 r0_2) shapeCasts_S1x1x512_S1x512 : FVec Ideal S1x512 .f32) (ix2 0 e) = x2 (ix3 0 0 e) := by
    refine (shapeCast_1ab_ab_apply (a := 1) (b := 512) _ shapeCasts_S1x1x512_S1x512 0 e).trans ?_
    rw [View.ld_unit]
    refine extractStridedSlice_apply _ _ _ _ _ fun a => ?_
    match a with
    | ⟨0, _⟩ => rfl
    | ⟨1, _⟩ => rfl
    | ⟨2, _⟩ => exact (Nat.zero_add _).symm
  refine congrArg₂ (· + ·) ?_ ((broadcastTo_1b_ab_apply (a := 16) (b := 512) _ broadcasts_S1x512_S16x512 r e).trans hb)
  refine (Ideal.matmul_plain_apply (M := 16) (K := 1024) (N := 512) none _ _ _ r e).trans ?_
  rw [constant_apply, Ideal.ofBits_zero_f32, zero_add]
  refine sum_congr rfl fun k _ => congrArg₂ (· * ·) ?_ (hw k)
  exact congrArg (fun s : EReal => s * Ideal.logistic s) (hx k)

/-- The array after the call. -/
theorem final (c : Dev nD) : (dats m 0 c).arrAt 3 cfg0.N = result (V m c main_v4) (V m c main_arg2) (V m c main_v5) := by
  refine (dats m 0 c).arrAt_eq_of_covers 3 _ (by decide +kernel) fun t _ y => ?_
  blk_simp
  rw [after0_3]
  have hy : y = (ix3 (0 : Fin 1) (y 1) (y 2) : S1x16x512.Idx) := by
    funext a
    match a with
    | ⟨0, _⟩ => exact Subsingleton.elim (α := Fin 1) _ _
    | ⟨1, _⟩ => rfl
    | ⟨2, _⟩ => rfl
  rw [hy]
  refine Eq.trans ?_ (read3 (result (V m c main_v4) (V m c main_arg2) (V m c main_v5)) t (y 1) (y 2)).symm
  refine (block _ _ _ (y 1) (y 2)).trans ?_
  unfold result
  have e0 : (fun k : Fin 1024 => (iblk m c 0 t : FVec Ideal S16x1024 .f32) (ix2 (y 1) k)) = fun k => (V m c main_v4 : FVec Ideal S16x1024 .f32) (ix2 (y 1) k) :=
    funext fun k => read0 (V m c main_v4) t (y 1) k
  have e1 : (fun k : Fin 1024 => (iblk m c 1 t : FVec Ideal S1x1024x512 .f32) (ix3 0 k (y 2))) = fun k => (V m c main_arg2 : FVec Ideal S2x1024x3072 .f32) (ix3 (lay t) k (col t (y 2))) :=
    funext fun k => read1 (V m c main_arg2) t k (y 2)
  have e2 : (iblk m c 2 t : FVec Ideal S1x1x512 .f32) (ix3 0 0 (y 2)) = (V m c main_v5 : FVec Ideal S2x1x3072 .f32) (ix3 (lay t) 0 (col t (y 2))) :=
    read2 (V m c main_v5) t (y 2)
  exact (congrArg₂ (fun a b => entry a b _) e0 e1).trans (congrArg (entry _ _) e2)

/-! ## The host lines after the call -/

/-- The latent tokens' modulations, cut from the call's array. -/
def cutLat (x : FVec Ideal S2x16x3072 .f32) : FVec Ideal S2x8x3072 .f32 := extractStridedSlice S2x8x3072 ![0, 0, 0] x slices_S2x16x3072_S2x8x3072_0_0_0

/-- The context's modulation, cut from the call's array. -/
def cutCtx (x : FVec Ideal S2x16x3072 .f32) : FVec Ideal S2x3072 .f32 :=
  shapeCast S2x3072 (extractStridedSlice S2x1x3072 ![0, 8, 0] x slices_S2x16x3072_S2x1x3072_0_8_0) shapeCasts_S2x1x3072_S2x3072

theorem tailLat (c : Dev nD) : Pipeline.afterTail₀ cfgs (dats m) 0 (V0 m) [hostOps1] c main_v7 = cutLat ((dats m 0 c).arrAt 3 cfg0.N) := by
  unfold Pipeline.afterTail₀
  simp only [hostOps1, List.flatten_cons, List.flatten_nil, List.append_nil, List.cons_append, List.nil_append]
  after_results
  have h := Pipeline.withArrays_arr spec0 winFacts0.arr_inj c (V0 m c) (fun w => (dats m 0 c).arrAt w cfg0.N) 3
  exact congrArg cutLat h

theorem tailCtx (c : Dev nD) : Pipeline.afterTail₀ cfgs (dats m) 0 (V0 m) [hostOps1] c main_v9 = cutCtx ((dats m 0 c).arrAt 3 cfg0.N) := by
  unfold Pipeline.afterTail₀
  simp only [hostOps1, List.flatten_cons, List.flatten_nil, List.append_nil, List.cons_append, List.nil_append]
  after_results
  have h := Pipeline.withArrays_arr spec0 winFacts0.arr_inj c (V0 m c) (fun w => (dats m 0 c).arrAt w cfg0.N) 3
  exact congrArg cutCtx h

/-- The run: the two arrays returned, and the arguments as they were. -/
theorem run : θ_run defs (onTc (τ := τ) (main (F := Ideal))) ⟨m, fun _ => 0, ρ⟩ fun r => ∀ c : Dev nD,
      r.2.mem ((c : Thread nD τ).loc main_v7) = cutLat ((dats m 0 c).arrAt 3 cfg0.N)
      ∧ r.2.mem ((c : Thread nD τ).loc main_v9) = cutCtx ((dats m 0 c).arrAt 3 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).2 main_v7 (Pipeline.mem_restRefs_of main_v7 (by decide) (by decide))).trans (tailLat m c),
        ((h c).2 main_v9 (Pipeline.mem_restRefs_of main_v9 (by decide) (by decide))).trans (tailCtx m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 1).trans (((dats m 0 c).arrAt_in 1 rfl _).trans (V_main_arg2 m c)),
        ((h c).2 main_arg3 (Pipeline.mem_restRefs_of main_arg3 (by decide) (by decide))).trans (W_main_arg3 m (dats m) c)⟩)
    (run_main m ρ)

/-! ## What is returned -/

/-- The latent tokens' modulations. -/
def lat (x : FVec Ideal S8x1024 .f32) (w : FVec Ideal S2x1024x3072 .f32) (b : FVec Ideal S2x3072 .f32) : FVec Ideal S2x8x3072 .f32 := fun i =>
  entry (fun k => x (ix2 (i 1) k)) (fun k => w (ix3 (i 0) k (i 2))) (b (ix2 (i 0) (i 2)))

/-- The context's modulation. -/
def ctx (x : FVec Ideal S1024 .f32) (w : FVec Ideal S2x1024x3072 .f32) (b : FVec Ideal S2x3072 .f32) : FVec Ideal S2x3072 .f32 := fun i =>
  entry (fun k => x (ix1 k)) (fun k => w (ix3 (i 0) k (i 1))) (b (ix2 (i 0) (i 1)))

theorem lat_eq (c : Dev nD) : cutLat ((dats m 0 c).arrAt 3 cfg0.N) = lat (argC m c) (argW m c) (argB m c) := by
  rw [final]
  funext i
  have h1 : (i 1).val < 8 := (i 1).isLt
  refine (extractStridedSlice_apply _ _ slices_S2x16x3072_S2x8x3072_0_0_0 i (ix3 (i 0) (⟨(i 1).val, by omega⟩ : Fin 16) (i 2)) fun a => ?_).trans ?_
  · match a with
    | ⟨0, _⟩ => exact (Nat.zero_add _).symm
    | ⟨1, _⟩ => exact (Nat.zero_add _).symm
    | ⟨2, _⟩ => exact (Nat.zero_add _).symm
  · have e0 : (fun k : Fin 1024 => (V m c main_v4 : FVec Ideal S16x1024 .f32) (ix2 ⟨(i 1).val, by omega⟩ k)) = fun k => argC m c (ix2 (i 1) k) :=
      funext fun k => lat_entry m c (i 1) k
    have e1 : (fun k : Fin 1024 => (V m c main_arg2 : FVec Ideal S2x1024x3072 .f32) (ix3 (i 0) k (i 2))) = fun k => argW m c (ix3 (i 0) k (i 2)) :=
      funext fun k => congrFun (V_main_arg2 m c) _
    exact (congrArg₂ (fun a b => entry a b _) e0 e1).trans (congrArg (entry _ _) (b_entry m c (i 0) (i 2)))

theorem ctx_eq (c : Dev nD) : cutCtx ((dats m 0 c).arrAt 3 cfg0.N) = ctx (argX m c) (argW m c) (argB m c) := by
  rw [final]
  funext i
  refine (shapeCast_apply _ shapeCasts_S2x1x3072_S2x3072 i (ix3 (i 0) (0 : Fin 1) (i 1)) ?_).trans ?_
  · rw [Shape.rowMajor_val_two, Shape.rowMajor_val_three]
    show ((i 0).val * 1 + 0) * 3072 + (i 1).val = (i 0).val * 3072 + (i 1).val
    ring
  refine (extractStridedSlice_apply _ _ slices_S2x16x3072_S2x1x3072_0_8_0 _ (ix3 (i 0) (8 : Fin 16) (i 1)) fun a => ?_).trans ?_
  · match a with
    | ⟨0, _⟩ => exact (Nat.zero_add _).symm
    | ⟨1, _⟩ => rfl
    | ⟨2, _⟩ => exact (Nat.zero_add _).symm
  · have e0 : (fun k : Fin 1024 => (V m c main_v4 : FVec Ideal S16x1024 .f32) (ix2 8 k)) = fun k => argX m c (ix1 k) :=
      funext fun k => ctx_entry m c k
    have e1 : (fun k : Fin 1024 => (V m c main_arg2 : FVec Ideal S2x1024x3072 .f32) (ix3 (i 0) k (i 1))) = fun k => argW m c (ix3 (i 0) k (i 1)) :=
      funext fun k => congrFun (V_main_arg2 m c) _
    exact (congrArg₂ (fun a b => entry a b _) e0 e1).trans (congrArg (entry _ _) (b_entry m c (i 0) (i 1)))

end Cert.Kernel4Ideal.Mod

end
-- ==== Proof.ClaimE.lean ====
module

public import proofs.«01_k».proof.Defs
public import proofs.«01_k».proof.Proof.FinalE
public import proofs.«01_k».proof.Proof.Gen.Kernel4.Frame
public import proofs.«01_k».proof.Proof.Gen.Reference4Ideal.Read
public import proofs.«01_k».proof.Proof.Gen.Reference4Ideal.Run
public import Idealize.ShloMosaic.Lib.Quiescent

/-!
The claims about the modulation: the kernel and the reference end with equal results.
-/

@[expose] public section

set_option maxRecDepth 16384

noncomputable section

namespace Cert.ClaimE

open Idealize.ShloMosaic hiding ix0 ix1 ix2 ix3 ix4 ix5
open Idealize.ShloMosaic.ValueIdx Idealize.SL.Sem
open Cert.Reference4Ideal Cert.Reference4Ideal.Read
open Cert.Kernel4Ideal.Mod (entry lat ctx)

/-- The logistic by the exponential. -/
theorem logistic_eq (x : EReal) :
    Ideal.div (Ideal.ofBits .f32 0x3F800000#32) (Ideal.ofBits .f32 0x3F800000#32 + Ideal.exp (-x)) = Ideal.logistic x := by
  rw [Ideal.ofBits_one_f32]
  rfl

variable (x0 : FVec Ideal S8x1024 .f32) (x1 : FVec Ideal S1024 .f32) (x2 : FVec Ideal S2x1024x3072 .f32) (x3 : FVec Ideal S2x3072 .f32)

theorem silu_lat (i : S8x1024.Idx) : (val_main_v0 (F := Ideal) x0 i : EReal) = x0 i * Ideal.logistic (x0 i) :=
  congrArg ((x0 i : EReal) * ·) (by
    rw [val_main_call0_v5_apply, val_main_call0_v4_apply, val_main_call0_cst_0_apply, val_main_call0_v3_apply, val_main_call0_v2_apply, val_main_call0_cst_apply,
      val_main_call0_v1_apply, val_main_call0_v0_apply]
    exact logistic_eq (x0 i))

theorem silu_ctx (i : S1024.Idx) : (val_main_v6 (F := Ideal) x1 i : EReal) = x1 i * Ideal.logistic (x1 i) :=
  congrArg ((x1 i : EReal) * ·) (by
    rw [val_main_call1_v5_apply, val_main_call1_v4_apply, val_main_call1_cst_0_apply, val_main_call1_v3_apply, val_main_call1_v2_apply, val_main_call1_cst_apply,
      val_main_call1_v1_apply, val_main_call1_v0_apply]
    exact logistic_eq (x1 i))

/-- The reference's first result. -/
theorem ref_lat : val_main_v5 (F := Ideal) x0 x2 x3 = lat x0 x2 x3 := by
  funext i
  rw [val_main_v5_apply, val_main_v2_apply, val_main_v4_apply, val_main_v3_apply]
  refine congrArg₂ (fun a b : EReal => a + b) ((val_main_v1_apply x0 x2 _).trans (Finset.sum_congr rfl fun k _ => ?_)) (congrArg x3 (funext fun a => ?_))
  · rw [silu_lat]
    refine (mul_comm _ _).trans (congrArg₂ (fun a b : EReal => a * b) ?_ (congrArg x2 (funext fun a => ?_)))
    · refine congrArg (fun q : S8x1024.Idx => (x0 q : EReal) * Ideal.logistic (x0 q)) (funext fun a => ?_)
      match a with
      | ⟨0, _⟩ => rfl
      | ⟨1, _⟩ => rfl
    · match a with
      | ⟨0, _⟩ => rfl
      | ⟨1, _⟩ => rfl
      | ⟨2, _⟩ => rfl
  · match a with
    | ⟨0, _⟩ => rfl
    | ⟨1, _⟩ => rfl

/-- The reference's second result. -/
theorem ref_ctx : val_main_v8 (F := Ideal) x1 x2 x3 = ctx x1 x2 x3 := by
  funext i
  rw [val_main_v8_apply]
  refine congrArg₂ (fun a b : EReal => a + b) ((val_main_v7_apply x1 x2 _).trans (Finset.sum_congr rfl fun k _ => ?_)) (congrArg x3 (funext fun a => ?_))
  · rw [silu_ctx]
    refine congrArg₂ (fun a b : EReal => a * b) ?_ (congrArg x2 (funext fun a => ?_))
    · refine congrArg (fun q : S1024.Idx => (x1 q : EReal) * Ideal.logistic (x1 q)) (funext fun a => ?_)
      match a with
      | ⟨0, _⟩ => rfl
    · match a with
      | ⟨0, _⟩ => rfl
      | ⟨1, _⟩ => rfl
      | ⟨2, _⟩ => rfl
  · match a with
    | ⟨0, _⟩ => rfl
    | ⟨1, _⟩ => rfl

/-- The two programs' results are equal. -/
theorem algebraic : @algebraic_Kernel4Ideal_Reference4Ideal Kernel4Ideal.Gen.facts Reference4Ideal.Gen.facts := by
  intro m g m' g' _ hagree
  refine ⟨fun c => Kernel4Ideal.Mod.cutLat ((Kernel4Ideal.Gen.dats m 0 c).arrAt 3 Kernel4Ideal.cfg0.N),
    fun c => Kernel4Ideal.Mod.cutCtx ((Kernel4Ideal.Gen.dats m 0 c).arrAt 3 Kernel4Ideal.cfg0.N), Kernel4Ideal.Mod.run m g,
    (θ_run _ _ _).mono (fun r h c => ⟨(h c).1.trans ?_, (h c).2.1.trans ?_, (h c).2.2⟩) (Reference4Ideal.Value.run m' g')⟩
  · obtain ⟨h0, h1, h2, h3⟩ := hagree c
    rw [h0, h2, h3]
    exact (val_main_v5_eq _ _ _).trans ((ref_lat _ _ _).trans (Kernel4Ideal.Mod.lat_eq m c).symm)
  · obtain ⟨h0, h1, h2, h3⟩ := hagree c
    rw [h1, h2, h3]
    exact (val_main_v8_eq _ _ _).trans ((ref_ctx _ _ _).trans (Kernel4Ideal.Mod.ctx_eq m c).symm)

/-- The compiled kernel, its ideal reading and the reference leave their arguments and end with counters at zero. -/
theorem frameP : @quiescent_Kernel4 Kernel4.Gen.facts := fun m g _ => Kernel4.Gen.frame m g

theorem framePI : @quiescent_Kernel4Ideal Kernel4Ideal.Gen.facts := fun m g _ => Kernel4Ideal.Gen.frame m g

theorem frameRI : @quiescent_Reference4Ideal Reference4Ideal.Gen.facts := fun m g _ =>
  (θ_run _ _ _).mono (fun _ h => ⟨fun c => (h c).2.2, sem_eq_zero_of_no_sems (by decide) _⟩) (Reference4Ideal.Value.run m g)

end Cert.ClaimE

end
-- ==== Proof.FrameF.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-!
The projection kernel up to its body at a grid point: the host operations before the call, the windows, and what the body leaves in each window.
-/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1860000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

abbrev r0_0 : Rect S1x3x1024 := Rect.unit (s := S1x3x1024) ![0, 0, 0] S1x1x1024.size inb_S1x3x1024_S1x1x1024_0_0_0
abbrev r0_1 : Rect S1x3x1024 := Rect.unit (s := S1x3x1024) ![0, 1, 0] S1x1x1024.size inb_S1x3x1024_S1x1x1024_0_1_0
abbrev r0_2 : Rect S1x1024x1024 := Rect.unit (s := S1x1024x1024) ![0, 0, 0] S1x512x1024.size inb_S1x1024x1024_S1x512x1024_0_0_0
abbrev r0_3 : Rect S1024x2048 := Rect.unit (s := S1024x2048) ![0, 0] S1024x2048.size inb_S1024x2048_S1024x2048_0_0
abbrev r0_4 : Rect S1x1024x256 := Rect.unit (s := S1x1024x256) ![0, 0, 0] S1x512x256.size inb_S1x1024x256_S1x512x256_0_0_0
abbrev r0_5 : Rect S1x256x1024 := Rect.unit (s := S1x256x1024) ![0, 0, 0] S1x256x512.size inb_S1x256x1024_S1x256x512_0_0_0
abbrev r0_6 : Rect S1x256 := Rect.unit (s := S1x256) ![0, 0] S1x256.size inb_S1x256_S1x256_0_0
abbrev r0_7 : Rect S256x512 := Rect.unit (s := S256x512) ![0, 0] S256x512.size inb_S256x512_S256x512_0_0
abbrev r0_8 : Rect S1024x128 := Rect.unit (s := S1024x128) ![0, 0] S512x128.size inb_S1024x128_S512x128_0_0
abbrev r0_9 : Rect S1x1024x512 := Rect.unit (s := S1x1024x512) ![0, 0, 0] S1x512x128.size inb_S1x1024x512_S1x512x128_0_0_0
abbrev r0_10 : Rect S1x1024x512 := Rect.unit (s := S1x1024x512) ![0, 0, 128] S1x512x128.size inb_S1x1024x512_S1x512x128_0_0_128
abbrev r0_11 : Rect S1x1024x512 := Rect.unit (s := S1x1024x512) ![0, 0, 256] S1x512x128.size inb_S1x1024x512_S1x512x128_0_0_256
abbrev r0_12 : Rect S1x1024x512 := Rect.unit (s := S1x1024x512) ![0, 0, 384] S1x512x128.size inb_S1x1024x512_S1x512x128_0_0_384
abbrev r0_13 : Rect S1x128 := Rect.unit (s := S1x128) ![0, 0] S1x128.size inb_S1x128_S1x128_0_0
abbrev r0_14 : Rect S128x512 := Rect.unit (s := S128x512) ![0, 0] S128x512.size inb_S128x512_S128x512_0_0
abbrev r0_15 : Rect S1x1024x512 := Rect.unit (s := S1x1024x512) ![0, 0, 0] S1x512x512.size inb_S1x1024x512_S1x512x512_0_0_0
abbrev r0_16 : Rect S128x256 := Rect.unit (s := S128x256) ![0, 0] S128x256.size inb_S128x256_S128x256_0_0
abbrev r0_17 : Rect S256x256 := Rect.unit (s := S256x256) ![0, 0] S256x256.size inb_S256x256_S256x256_0_0
abbrev r0_18 : Rect S1x1024x256 := Rect.unit (s := S1x1024x256) ![0, 0, 0] S1x512x128.size inb_S1x1024x256_S1x512x128_0_0_0
abbrev r0_19 : Rect S1x1024x256 := Rect.unit (s := S1x1024x256) ![0, 0, 128] S1x512x128.size inb_S1x1024x256_S1x512x128_0_0_128
abbrev r0_20 : Rect S256x256 := Rect.unit (s := S256x256) ![0, 0] S128x128.size inb_S256x256_S128x128_0_0
abbrev r0_21 : Rect S1x1024x128 := Rect.unit (s := S1x1024x128) ![0, 0, 0] S1x512x128.size inb_S1x1024x128_S1x512x128_0_0_0
abbrev r0_22 : Rect S1x128x1024 := Rect.unit (s := S1x128x1024) ![0, 0, 0] S1x128x512.size inb_S1x128x1024_S1x128x512_0_0_0
abbrev r0_23 : Rect S1x1024x1024 := Rect.unit (s := S1x1024x1024) ![0, 512, 0] S1x512x1024.size inb_S1x1024x1024_S1x512x1024_0_512_0
abbrev r0_24 : Rect S1x1024x256 := Rect.unit (s := S1x1024x256) ![0, 512, 0] S1x512x256.size inb_S1x1024x256_S1x512x256_0_512_0
abbrev r0_25 : Rect S1x256x1024 := Rect.unit (s := S1x256x1024) ![0, 0, 512] S1x256x512.size inb_S1x256x1024_S1x256x512_0_0_512
abbrev r0_26 : Rect S1024x128 := Rect.unit (s := S1024x128) ![512, 0] S512x128.size inb_S1024x128_S512x128_512_0
abbrev r0_27 : Rect S1x1024x512 := Rect.unit (s := S1x1024x512) ![0, 512, 0] S1x512x128.size inb_S1x1024x512_S1x512x128_0_512_0
abbrev r0_28 : Rect S1x1024x512 := Rect.unit (s := S1x1024x512) ![0, 512, 128] S1x512x128.size inb_S1x1024x512_S1x512x128_0_512_128
abbrev r0_29 : Rect S1x1024x512 := Rect.unit (s := S1x1024x512) ![0, 512, 256] S1x512x128.size inb_S1x1024x512_S1x512x128_0_512_256
abbrev r0_30 : Rect S1x1024x512 := Rect.unit (s := S1x1024x512) ![0, 512, 384] S1x512x128.size inb_S1x1024x512_S1x512x128_0_512_384
abbrev r0_31 : Rect S1x1024x512 := Rect.unit (s := S1x1024x512) ![0, 512, 0] S1x512x512.size inb_S1x1024x512_S1x512x512_0_512_0
abbrev r0_32 : Rect S1x1024x256 := Rect.unit (s := S1x1024x256) ![0, 512, 0] S1x512x128.size inb_S1x1024x256_S1x512x128_0_512_0
abbrev r0_33 : Rect S1x1024x256 := Rect.unit (s := S1x1024x256) ![0, 512, 128] S1x512x128.size inb_S1x1024x256_S1x512x128_0_512_128
abbrev r0_34 : Rect S1x1024x128 := Rect.unit (s := S1x1024x128) ![0, 512, 0] S1x512x128.size inb_S1x1024x128_S1x512x128_0_512_0
abbrev r0_35 : Rect S1x128x1024 := Rect.unit (s := S1x128x1024) ![0, 0, 512] S1x128x512.size inb_S1x128x1024_S1x128x512_0_0_512

/-! ## What the body leaves in each output window's buffer -/

/-! ### Values of the body that the stores' payloads, spelt out, would write more than once

    Each is a vector the body binds (often a part call's result), stated over the input windows' blocks and
    numbered on from the skeleton's payload functions (`k0_pay79` …, after `k0_pay78`), so that
    `out0_W` and the values after it name it instead of spelling it out (`unfold_out out0_W` opens a canon
    with them, `unfold_payloads` opens them with the payloads); the comment after each is the printed function's
    name for the value (a count appended where that name is bound again). -/

def k0_pay79 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S1x1024 .f32 :=
  k0_pay2 (View.ld x1 r0_0) -- `v1`
def k0_pay80 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S1x1024 .f32 :=
  k0_pay3 (View.ld x1 r0_1) -- `v3`
def k0_pay81 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : IVec S512x128 1 :=
  k0_pay4 -- `v15`
def k0_pay82 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : IVec S512x128 1 :=
  k0_pay5 -- `v26`
def k0_pay83 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x1024 .f32 :=
  k0_pay6 (View.ld x0 r0_2) -- `v34`
def k0_pay84 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x1024 .f32 :=
  k0_pay7 (View.ld x0 r0_2) -- `v35`
def k0_pay85 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x2048 .f32 :=
  k0_pay8 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay83 x0 x1 x2 x3 x4 x5 x6 x7 x8 x9 x10 x11 x12 x13 x14 x15 x16 x17) (k0_pay84 x0 x1 x2 x3 x4 x5 x6 x7 x8 x9 x10 x11 x12 x13 x14 x15 x16 x17) (View.ld x2 r0_3) -- `v54`
def k0_pay86 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x512 .f32 :=
  k0_pay15 (k0_pay85 x0 x1 x2 x3 x4 x5 x6 x7 x8 x9 x10 x11 x12 x13 x14 x15 x16 x17) (View.ld x8 r0_6) (View.ld x3 r0_7) -- `v95`
def k0_pay87 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay16 (View.ld x14 r0_8) -- `v97`
def k0_pay88 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay17 (View.ld x15 r0_8) -- `v99`
def k0_pay89 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay23 (k0_pay85 x0 x1 x2 x3 x4 x5 x6 x7 x8 x9 x10 x11 x12 x13 x14 x15 x16 x17) -- `v152`
def k0_pay90 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .bf16 :=
  k0_pay24 (k0_pay89 x0 x1 x2 x3 x4 x5 x6 x7 x8 x9 x10 x11 x12 x13 x14 x15 x16 x17) (View.ld x9 r0_13) -- `v167`
def k0_pay91 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay30 (View.ld x12 r0_8) -- `v207`
def k0_pay92 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay31 (View.ld x13 r0_8) -- `v209`
def k0_pay93 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x256 .f32 :=
  k0_pay32 (k0_pay85 x0 x1 x2 x3 x4 x5 x6 x7 x8 x9 x10 x11 x12 x13 x14 x15 x16 x17) (View.ld x7 r0_17) -- `v225`
def k0_pay94 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x1024 .f32 :=
  k0_pay42 (View.ld x0 r0_23) -- `v303`
def k0_pay95 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x2048 .f32 :=
  k0_pay43 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay94 x0 x1 x2 x3 x4 x5 x6 x7 x8 x9 x10 x11 x12 x13 x14 x15 x16 x17) (View.ld x2 r0_3) -- `v323`
def k0_pay96 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x512 .f32 :=
  k0_pay50 (k0_pay95 x0 x1 x2 x3 x4 x5 x6 x7 x8 x9 x10 x11 x12 x13 x14 x15 x16 x17) (View.ld x8 r0_6) (View.ld x3 r0_7) -- `v364`
def k0_pay97 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay51 (View.ld x14 r0_26) -- `v366`
def k0_pay98 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay52 (View.ld x15 r0_26) -- `v368`
def k0_pay99 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .bf16 :=
  k0_pay57 (k0_pay95 x0 x1 x2 x3 x4 x5 x6 x7 x8 x9 x10 x11 x12 x13 x14 x15 x16 x17) (View.ld x9 r0_13) -- `v436`
def k0_pay100 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay63 (View.ld x12 r0_26) -- `v476`
def k0_pay101 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x128 .f32 :=
  k0_pay64 (View.ld x13 r0_26) -- `v478`
def k0_pay102 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x256 .f32 :=
  k0_pay65 (k0_pay95 x0 x1 x2 x3 x4 x5 x6 x7 x8 x9 x10 x11 x12 x13 x14 x15 x16 x17) -- `v479`
def k0_pay103 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : FVec F S512x256 .f32 :=
  k0_pay66 (k0_pay95 x0 x1 x2 x3 x4 x5 x6 x7 x8 x9 x10 x11 x12 x13 x14 x15 x16 x17) (View.ld x7 r0_17) -- `v493`

/-- Window 18's staging buffer after the body, from the input windows' blocks: its 2 stores as pieces, LAST
    FIRST (Lib/Pipeline/FrameBody.lean `View.canon`; the payloads are the skeleton's and the values stated above). -/
def out0_18 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x256 .bf16 :=
  View.canon [⟨r0_24, k0_pay44 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay94 x0 x1 x2 x3 x4 x5 x6 x7 x8 x9 x10 x11 x12 x13 x14 x15 x16 x17) (View.ld x2 r0_3)⟩,
    ⟨r0_4, k0_pay9 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay83 x0 x1 x2 x3 x4 x5 x6 x7 x8 x9 x10 x11 x12 x13 x14 x15 x16 x17) (k0_pay84 x0 x1 x2 x3 x4 x5 x6 x7 x8 x9 x10 x11 x12 x13 x14 x15 x16 x17) (View.ld x2 r0_3)⟩]

/-- Its stores tile the buffer (checked by evaluation), so they cover it. -/
theorem cover0_18 (p0 : Vec F S1x512x256 .bf16) (p1 : Vec F S1x512x256 .bf16) (y : S1x1024x256.Idx) :
    ∃ pc ∈ ([⟨r0_24, p0⟩, ⟨r0_4, p1⟩] : List (View.Piece (Elt F) S1x1024x256 .bf16)), y ∈ pc.1.set :=
  View.cover_of_tiled [⟨r0_24, p0⟩, ⟨r0_4, p1⟩] S1x512x256.size (by rfl) y

/-- Window 19's staging buffer after the body, from the input windows' blocks: its 2 stores as pieces, LAST
    FIRST (Lib/Pipeline/FrameBody.lean `View.canon`; the payloads are the skeleton's and the values stated above). -/
def out0_19 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x256 .bf16 :=
  View.canon [⟨r0_24, k0_pay45 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay94 x0 x1 x2 x3 x4 x5 x6 x7 x8 x9 x10 x11 x12 x13 x14 x15 x16 x17) (View.ld x2 r0_3)⟩,
    ⟨r0_4, k0_pay10 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay83 x0 x1 x2 x3 x4 x5 x6 x7 x8 x9 x10 x11 x12 x13 x14 x15 x16 x17) (k0_pay84 x0 x1 x2 x3 x4 x5 x6 x7 x8 x9 x10 x11 x12 x13 x14 x15 x16 x17) (View.ld x2 r0_3)⟩]

/-- Its stores tile the buffer (checked by evaluation), so they cover it. -/
theorem cover0_19 (p0 : Vec F S1x512x256 .bf16) (p1 : Vec F S1x512x256 .bf16) (y : S1x1024x256.Idx) :
    ∃ pc ∈ ([⟨r0_24, p0⟩, ⟨r0_4, p1⟩] : List (View.Piece (Elt F) S1x1024x256 .bf16)), y ∈ pc.1.set :=
  View.cover_of_tiled [⟨r0_24, p0⟩, ⟨r0_4, p1⟩] S1x512x256.size (by rfl) y

/-- Window 20's staging buffer after the body, from the input windows' blocks: its 2 stores as pieces, LAST
    FIRST (Lib/Pipeline/FrameBody.lean `View.canon`; the payloads are the skeleton's and the values stated above). -/
def out0_20 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x256 .bf16 :=
  View.canon [⟨r0_24, k0_pay47 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay94 x0 x1 x2 x3 x4 x5 x6 x7 x8 x9 x10 x11 x12 x13 x14 x15 x16 x17) (View.ld x2 r0_3)⟩,
    ⟨r0_4, k0_pay12 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay83 x0 x1 x2 x3 x4 x5 x6 x7 x8 x9 x10 x11 x12 x13 x14 x15 x16 x17) (k0_pay84 x0 x1 x2 x3 x4 x5 x6 x7 x8 x9 x10 x11 x12 x13 x14 x15 x16 x17) (View.ld x2 r0_3)⟩]

/-- Its stores tile the buffer (checked by evaluation), so they cover it. -/
theorem cover0_20 (p0 : Vec F S1x512x256 .bf16) (p1 : Vec F S1x512x256 .bf16) (y : S1x1024x256.Idx) :
    ∃ pc ∈ ([⟨r0_24, p0⟩, ⟨r0_4, p1⟩] : List (View.Piece (Elt F) S1x1024x256 .bf16)), y ∈ pc.1.set :=
  View.cover_of_tiled [⟨r0_24, p0⟩, ⟨r0_4, p1⟩] S1x512x256.size (by rfl) y

/-- Window 21's staging buffer after the body, from the input windows' blocks: its 8 stores as pieces, LAST
    FIRST (Lib/Pipeline/FrameBody.lean `View.canon`; the payloads are the skeleton's and the values stated above). -/
def out0_21 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x512 .bf16 :=
  View.canon [⟨r0_30, k0_pay56 (k0_pay82 x0 x1 x2 x3 x4 x5 x6 x7 x8 x9 x10 x11 x12 x13 x14 x15 x16 x17) (k0_pay96 x0 x1 x2 x3 x4 x5 x6 x7 x8 x9 x10 x11 x12 x13 x14 x15 x16 x17) (k0_pay97 x0 x1 x2 x3 x4 x5 x6 x7 x8 x9 x10 x11 x12 x13 x14 x15 x16 x17) (k0_pay98 x0 x1 x2 x3 x4 x5 x6 x7 x8 x9 x10 x11 x12 x13 x14 x15 x16 x17)⟩,
    ⟨r0_29, k0_pay55 (k0_pay82 x0 x1 x2 x3 x4 x5 x6 x7 x8 x9 x10 x11 x12 x13 x14 x15 x16 x17) (k0_pay96 x0 x1 x2 x3 x4 x5 x6 x7 x8 x9 x10 x11 x12 x13 x14 x15 x16 x17) (k0_pay97 x0 x1 x2 x3 x4 x5 x6 x7 x8 x9 x10 x11 x12 x13 x14 x15 x16 x17) (k0_pay98 x0 x1 x2 x3 x4 x5 x6 x7 x8 x9 x10 x11 x12 x13 x14 x15 x16 x17)⟩,
    ⟨r0_28, k0_pay54 (k0_pay82 x0 x1 x2 x3 x4 x5 x6 x7 x8 x9 x10 x11 x12 x13 x14 x15 x16 x17) (k0_pay96 x0 x1 x2 x3 x4 x5 x6 x7 x8 x9 x10 x11 x12 x13 x14 x15 x16 x17) (k0_pay97 x0 x1 x2 x3 x4 x5 x6 x7 x8 x9 x10 x11 x12 x13 x14 x15 x16 x17) (k0_pay98 x0 x1 x2 x3 x4 x5 x6 x7 x8 x9 x10 x11 x12 x13 x14 x15 x16 x17)⟩,
    ⟨r0_27, k0_pay53 (k0_pay82 x0 x1 x2 x3 x4 x5 x6 x7 x8 x9 x10 x11 x12 x13 x14 x15 x16 x17) (k0_pay95 x0 x1 x2 x3 x4 x5 x6 x7 x8 x9 x10 x11 x12 x13 x14 x15 x16 x17) (View.ld x8 r0_6) (View.ld x3 r0_7) (View.ld x14 r0_26) (View.ld x15 r0_26)⟩,
    ⟨r0_12, k0_pay22 (k0_pay82 x0 x1 x2 x3 x4 x5 x6 x7 x8 x9 x10 x11 x12 x13 x14 x15 x16 x17) (k0_pay86 x0 x1 x2 x3 x4 x5 x6 x7 x8 x9 x10 x11 x12 x13 x14 x15 x16 x17) (k0_pay87 x0 x1 x2 x3 x4 x5 x6 x7 x8 x9 x10 x11 x12 x13 x14 x15 x16 x17) (k0_pay88 x0 x1 x2 x3 x4 x5 x6 x7 x8 x9 x10 x11 x12 x13 x14 x15 x16 x17)⟩,
    ⟨r0_11, k0_pay21 (k0_pay82 x0 x1 x2 x3 x4 x5 x6 x7 x8 x9 x10 x11 x12 x13 x14 x15 x16 x17) (k0_pay86 x0 x1 x2 x3 x4 x5 x6 x7 x8 x9 x10 x11 x12 x13 x14 x15 x16 x17) (k0_pay87 x0 x1 x2 x3 x4 x5 x6 x7 x8 x9 x10 x11 x12 x13 x14 x15 x16 x17) (k0_pay88 x0 x1 x2 x3 x4 x5 x6 x7 x8 x9 x10 x11 x12 x13 x14 x15 x16 x17)⟩,
    ⟨r0_10, k0_pay20 (k0_pay82 x0 x1 x2 x3 x4 x5 x6 x7 x8 x9 x10 x11 x12 x13 x14 x15 x16 x17) (k0_pay87 x0 x1 x2 x3 x4 x5 x6 x7 x8 x9 x10 x11 x12 x13 x14 x15 x16 x17) (k0_pay88 x0 x1 x2 x3 x4 x5 x6 x7 x8 x9 x10 x11 x12 x13 x14 x15 x16 x17) (k0_pay19 (k0_pay85 x0 x1 x2 x3 x4 x5 x6 x7 x8 x9 x10 x11 x12 x13 x14 x15 x16 x17) (View.ld x8 r0_6) (View.ld x3 r0_7))⟩,
    ⟨r0_9, k0_pay18 (k0_pay82 x0 x1 x2 x3 x4 x5 x6 x7 x8 x9 x10 x11 x12 x13 x14 x15 x16 x17) (k0_pay85 x0 x1 x2 x3 x4 x5 x6 x7 x8 x9 x10 x11 x12 x13 x14 x15 x16 x17) (View.ld x8 r0_6) (View.ld x3 r0_7) (View.ld x14 r0_8) (View.ld x15 r0_8)⟩]

/-- Its stores tile the buffer (checked by evaluation), so they cover it. -/
theorem cover0_21 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x1024x512.Idx) :
    ∃ pc ∈ ([⟨r0_30, p0⟩, ⟨r0_29, p1⟩, ⟨r0_28, p2⟩, ⟨r0_27, p3⟩, ⟨r0_12, p4⟩, ⟨r0_11, p5⟩, ⟨r0_10, p6⟩, ⟨r0_9, p7⟩] : List (View.Piece (Elt F) S1x1024x512 .bf16)), y ∈ pc.1.set :=
  View.cover_of_tiled [⟨r0_30, p0⟩, ⟨r0_29, p1⟩, ⟨r0_28, p2⟩, ⟨r0_27, p3⟩, ⟨r0_12, p4⟩, ⟨r0_11, p5⟩, ⟨r0_10, p6⟩, ⟨r0_9, p7⟩] S1x512x128.size (by rfl) y

/-- Window 22's staging buffer after the body, from the input windows' blocks: its 2 stores as pieces, LAST
    FIRST (Lib/Pipeline/FrameBody.lean `View.canon`; the payloads are the skeleton's and the values stated above). -/
def out0_22 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x512 .bf16 :=
  View.canon [⟨r0_31, k0_pay58 (k0_pay82 x0 x1 x2 x3 x4 x5 x6 x7 x8 x9 x10 x11 x12 x13 x14 x15 x16 x17) (k0_pay95 x0 x1 x2 x3 x4 x5 x6 x7 x8 x9 x10 x11 x12 x13 x14 x15 x16 x17) (View.ld x9 r0_13) (View.ld x16 r0_26) (View.ld x17 r0_26) (View.ld x4 r0_14) (View.ld x6 r0_14)⟩,
    ⟨r0_15, k0_pay25 (k0_pay82 x0 x1 x2 x3 x4 x5 x6 x7 x8 x9 x10 x11 x12 x13 x14 x15 x16 x17) (k0_pay85 x0 x1 x2 x3 x4 x5 x6 x7 x8 x9 x10 x11 x12 x13 x14 x15 x16 x17) (k0_pay89 x0 x1 x2 x3 x4 x5 x6 x7 x8 x9 x10 x11 x12 x13 x14 x15 x16 x17) (View.ld x9 r0_13) (View.ld x16 r0_8) (View.ld x17 r0_8) (View.ld x4 r0_14) (View.ld x6 r0_14)⟩]

/-- Its stores tile the buffer (checked by evaluation), so they cover it. -/
theorem cover0_22 (p0 : Vec F S1x512x512 .bf16) (p1 : Vec F S1x512x512 .bf16) (y : S1x1024x512.Idx) :
    ∃ pc ∈ ([⟨r0_31, p0⟩, ⟨r0_15, p1⟩] : List (View.Piece (Elt F) S1x1024x512 .bf16)), y ∈ pc.1.set :=
  View.cover_of_tiled [⟨r0_31, p0⟩, ⟨r0_15, p1⟩] S1x512x512.size (by rfl) y

/-- Window 23's staging buffer after the body, from the input windows' blocks: its 2 stores as pieces, LAST
    FIRST (Lib/Pipeline/FrameBody.lean `View.canon`; the payloads are the skeleton's and the values stated above). -/
def out0_23 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x256 .bf16 :=
  View.canon [⟨r0_24, k0_pay60 (k0_pay99 x0 x1 x2 x3 x4 x5 x6 x7 x8 x9 x10 x11 x12 x13 x14 x15 x16 x17) (View.ld x5 r0_16)⟩,
    ⟨r0_4, k0_pay27 (k0_pay90 x0 x1 x2 x3 x4 x5 x6 x7 x8 x9 x10 x11 x12 x13 x14 x15 x16 x17) (View.ld x5 r0_16)⟩]

/-- Its stores tile the buffer (checked by evaluation), so they cover it. -/
theorem cover0_23 (p0 : Vec F S1x512x256 .bf16) (p1 : Vec F S1x512x256 .bf16) (y : S1x1024x256.Idx) :
    ∃ pc ∈ ([⟨r0_24, p0⟩, ⟨r0_4, p1⟩] : List (View.Piece (Elt F) S1x1024x256 .bf16)), y ∈ pc.1.set :=
  View.cover_of_tiled [⟨r0_24, p0⟩, ⟨r0_4, p1⟩] S1x512x256.size (by rfl) y

/-- Window 24's staging buffer after the body, from the input windows' blocks: its 2 stores as pieces, LAST
    FIRST (Lib/Pipeline/FrameBody.lean `View.canon`; the payloads are the skeleton's and the values stated above). -/
def out0_24 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x256 .f32 :=
  View.canon [⟨r0_24, k0_pay62 (k0_pay95 x0 x1 x2 x3 x4 x5 x6 x7 x8 x9 x10 x11 x12 x13 x14 x15 x16 x17)⟩,
    ⟨r0_4, k0_pay29 (k0_pay85 x0 x1 x2 x3 x4 x5 x6 x7 x8 x9 x10 x11 x12 x13 x14 x15 x16 x17)⟩]

/-- Its stores tile the buffer (checked by evaluation), so they cover it. -/
theorem cover0_24 (p0 : Vec F S1x512x256 .f32) (p1 : Vec F S1x512x256 .f32) (y : S1x1024x256.Idx) :
    ∃ pc ∈ ([⟨r0_24, p0⟩, ⟨r0_4, p1⟩] : List (View.Piece (Elt F) S1x1024x256 .f32)), y ∈ pc.1.set :=
  View.cover_of_tiled [⟨r0_24, p0⟩, ⟨r0_4, p1⟩] S1x512x256.size (by rfl) y

/-- Window 25's staging buffer after the body, from the input windows' blocks: its 4 stores as pieces, LAST
    FIRST (Lib/Pipeline/FrameBody.lean `View.canon`; the payloads are the skeleton's and the values stated above). -/
def out0_25 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x256 .bf16 :=
  View.canon [⟨r0_33, k0_pay69 (k0_pay81 x0 x1 x2 x3 x4 x5 x6 x7 x8 x9 x10 x11 x12 x13 x14 x15 x16 x17) (k0_pay100 x0 x1 x2 x3 x4 x5 x6 x7 x8 x9 x10 x11 x12 x13 x14 x15 x16 x17) (k0_pay101 x0 x1 x2 x3 x4 x5 x6 x7 x8 x9 x10 x11 x12 x13 x14 x15 x16 x17) (k0_pay102 x0 x1 x2 x3 x4 x5 x6 x7 x8 x9 x10 x11 x12 x13 x14 x15 x16 x17) (k0_pay103 x0 x1 x2 x3 x4 x5 x6 x7 x8 x9 x10 x11 x12 x13 x14 x15 x16 x17) (View.ld x10 r0_6)⟩,
    ⟨r0_32, k0_pay68 (k0_pay81 x0 x1 x2 x3 x4 x5 x6 x7 x8 x9 x10 x11 x12 x13 x14 x15 x16 x17) (k0_pay100 x0 x1 x2 x3 x4 x5 x6 x7 x8 x9 x10 x11 x12 x13 x14 x15 x16 x17) (k0_pay101 x0 x1 x2 x3 x4 x5 x6 x7 x8 x9 x10 x11 x12 x13 x14 x15 x16 x17) (k0_pay102 x0 x1 x2 x3 x4 x5 x6 x7 x8 x9 x10 x11 x12 x13 x14 x15 x16 x17) (k0_pay103 x0 x1 x2 x3 x4 x5 x6 x7 x8 x9 x10 x11 x12 x13 x14 x15 x16 x17) (View.ld x10 r0_6)⟩,
    ⟨r0_19, k0_pay35 (k0_pay81 x0 x1 x2 x3 x4 x5 x6 x7 x8 x9 x10 x11 x12 x13 x14 x15 x16 x17) (k0_pay91 x0 x1 x2 x3 x4 x5 x6 x7 x8 x9 x10 x11 x12 x13 x14 x15 x16 x17) (k0_pay92 x0 x1 x2 x3 x4 x5 x6 x7 x8 x9 x10 x11 x12 x13 x14 x15 x16 x17) (k0_pay93 x0 x1 x2 x3 x4 x5 x6 x7 x8 x9 x10 x11 x12 x13 x14 x15 x16 x17) (View.ld x10 r0_6)⟩,
    ⟨r0_18, k0_pay34 (k0_pay81 x0 x1 x2 x3 x4 x5 x6 x7 x8 x9 x10 x11 x12 x13 x14 x15 x16 x17) (k0_pay91 x0 x1 x2 x3 x4 x5 x6 x7 x8 x9 x10 x11 x12 x13 x14 x15 x16 x17) (k0_pay92 x0 x1 x2 x3 x4 x5 x6 x7 x8 x9 x10 x11 x12 x13 x14 x15 x16 x17) (k0_pay93 x0 x1 x2 x3 x4 x5 x6 x7 x8 x9 x10 x11 x12 x13 x14 x15 x16 x17) (View.ld x10 r0_6)⟩]

/-- Its stores tile the buffer (checked by evaluation), so they cover it. -/
theorem cover0_25 (p0 : Vec F S1x512x128 .bf16) (p1 : Vec F S1x512x128 .bf16) (p2 : Vec F S1x512x128 .bf16) (p3 : Vec F S1x512x128 .bf16) (y : S1x1024x256.Idx) :
    ∃ pc ∈ ([⟨r0_33, p0⟩, ⟨r0_32, p1⟩, ⟨r0_19, p2⟩, ⟨r0_18, p3⟩] : List (View.Piece (Elt F) S1x1024x256 .bf16)), y ∈ pc.1.set :=
  View.cover_of_tiled [⟨r0_33, p0⟩, ⟨r0_32, p1⟩, ⟨r0_19, p2⟩, ⟨r0_18, p3⟩] S1x512x128.size (by rfl) y

/-- Window 26's staging buffer after the body, from the input windows' blocks: its 2 stores as pieces, LAST
    FIRST (Lib/Pipeline/FrameBody.lean `View.canon`; the payloads are the skeleton's and the values stated above). -/
def out0_26 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x128 .bf16 :=
  View.canon [⟨r0_34, k0_pay75 (k0_pay81 x0 x1 x2 x3 x4 x5 x6 x7 x8 x9 x10 x11 x12 x13 x14 x15 x16 x17) (k0_pay100 x0 x1 x2 x3 x4 x5 x6 x7 x8 x9 x10 x11 x12 x13 x14 x15 x16 x17) (k0_pay101 x0 x1 x2 x3 x4 x5 x6 x7 x8 x9 x10 x11 x12 x13 x14 x15 x16 x17) (k0_pay70 (k0_pay95 x0 x1 x2 x3 x4 x5 x6 x7 x8 x9 x10 x11 x12 x13 x14 x15 x16 x17)) (k0_pay73 (k0_pay95 x0 x1 x2 x3 x4 x5 x6 x7 x8 x9 x10 x11 x12 x13 x14 x15 x16 x17) (View.ld x7 r0_20)) (k0_pay74 (k0_pay95 x0 x1 x2 x3 x4 x5 x6 x7 x8 x9 x10 x11 x12 x13 x14 x15 x16 x17) (View.ld x7 r0_20)) (View.ld x11 r0_13)⟩,
    ⟨r0_21, k0_pay38 (k0_pay81 x0 x1 x2 x3 x4 x5 x6 x7 x8 x9 x10 x11 x12 x13 x14 x15 x16 x17) (k0_pay91 x0 x1 x2 x3 x4 x5 x6 x7 x8 x9 x10 x11 x12 x13 x14 x15 x16 x17) (k0_pay92 x0 x1 x2 x3 x4 x5 x6 x7 x8 x9 x10 x11 x12 x13 x14 x15 x16 x17) (k0_pay36 (k0_pay85 x0 x1 x2 x3 x4 x5 x6 x7 x8 x9 x10 x11 x12 x13 x14 x15 x16 x17)) (k0_pay37 (k0_pay85 x0 x1 x2 x3 x4 x5 x6 x7 x8 x9 x10 x11 x12 x13 x14 x15 x16 x17) (View.ld x7 r0_20)) (Scalar.ofBits .f32 0x3C800000#32) (View.ld x11 r0_13)⟩]

/-- Its stores tile the buffer (checked by evaluation), so they cover it. -/
theorem cover0_26 (p0 : Vec F S1x512x128 .bf16) (p1 : Vec F S1x512x128 .bf16) (y : S1x1024x128.Idx) :
    ∃ pc ∈ ([⟨r0_34, p0⟩, ⟨r0_21, p1⟩] : List (View.Piece (Elt F) S1x1024x128 .bf16)), y ∈ pc.1.set :=
  View.cover_of_tiled [⟨r0_34, p0⟩, ⟨r0_21, p1⟩] S1x512x128.size (by rfl) y

/-- Window 27's staging buffer after the body, from the input windows' blocks: its 2 stores as pieces, LAST
    FIRST (Lib/Pipeline/FrameBody.lean `View.canon`; the payloads are the skeleton's and the values stated above). -/
def out0_27 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x1024x128 .bf16 :=
  View.canon [⟨r0_34, k0_pay77 (k0_pay95 x0 x1 x2 x3 x4 x5 x6 x7 x8 x9 x10 x11 x12 x13 x14 x15 x16 x17)⟩,
    ⟨r0_21, k0_pay40 (k0_pay85 x0 x1 x2 x3 x4 x5 x6 x7 x8 x9 x10 x11 x12 x13 x14 x15 x16 x17)⟩]

/-- Its stores tile the buffer (checked by evaluation), so they cover it. -/
theorem cover0_27 (p0 : Vec F S1x512x128 .bf16) (p1 : Vec F S1x512x128 .bf16) (y : S1x1024x128.Idx) :
    ∃ pc ∈ ([⟨r0_34, p0⟩, ⟨r0_21, p1⟩] : List (View.Piece (Elt F) S1x1024x128 .bf16)), y ∈ pc.1.set :=
  View.cover_of_tiled [⟨r0_34, p0⟩, ⟨r0_21, p1⟩] S1x512x128.size (by rfl) y

/-- Window 28's staging buffer after the body, from the input windows' blocks: its 2 stores as pieces, LAST
    FIRST (Lib/Pipeline/FrameBody.lean `View.canon`; the payloads are the skeleton's and the values stated above). -/
def out0_28 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x256x1024 .bf16 :=
  View.canon [⟨r0_25, k0_pay49 (k0_pay48 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay94 x0 x1 x2 x3 x4 x5 x6 x7 x8 x9 x10 x11 x12 x13 x14 x15 x16 x17) (View.ld x2 r0_3))⟩,
    ⟨r0_5, k0_pay14 (k0_pay13 (k0_pay79 x0 x1 x2 x3 x4 x5 x6 x7 x8 x9 x10 x11 x12 x13 x14 x15 x16 x17) (k0_pay80 x0 x1 x2 x3 x4 x5 x6 x7 x8 x9 x10 x11 x12 x13 x14 x15 x16 x17) (k0_pay83 x0 x1 x2 x3 x4 x5 x6 x7 x8 x9 x10 x11 x12 x13 x14 x15 x16 x17) (k0_pay84 x0 x1 x2 x3 x4 x5 x6 x7 x8 x9 x10 x11 x12 x13 x14 x15 x16 x17) (View.ld x2 r0_3))⟩]

/-- Its stores tile the buffer (checked by evaluation), so they cover it. -/
theorem cover0_28 (p0 : Vec F S1x256x512 .bf16) (p1 : Vec F S1x256x512 .bf16) (y : S1x256x1024.Idx) :
    ∃ pc ∈ ([⟨r0_25, p0⟩, ⟨r0_5, p1⟩] : List (View.Piece (Elt F) S1x256x1024 .bf16)), y ∈ pc.1.set :=
  View.cover_of_tiled [⟨r0_25, p0⟩, ⟨r0_5, p1⟩] S1x256x512.size (by rfl) y

/-- Window 29's staging buffer after the body, from the input windows' blocks: its 2 stores as pieces, LAST
    FIRST (Lib/Pipeline/FrameBody.lean `View.canon`; the payloads are the skeleton's and the values stated above). -/
def out0_29 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x256x1024 .bf16 :=
  View.canon [⟨r0_25, k0_pay61 (k0_pay99 x0 x1 x2 x3 x4 x5 x6 x7 x8 x9 x10 x11 x12 x13 x14 x15 x16 x17) (View.ld x5 r0_16)⟩,
    ⟨r0_5, k0_pay28 (k0_pay90 x0 x1 x2 x3 x4 x5 x6 x7 x8 x9 x10 x11 x12 x13 x14 x15 x16 x17) (View.ld x5 r0_16)⟩]

/-- Its stores tile the buffer (checked by evaluation), so they cover it. -/
theorem cover0_29 (p0 : Vec F S1x256x512 .bf16) (p1 : Vec F S1x256x512 .bf16) (y : S1x256x1024.Idx) :
    ∃ pc ∈ ([⟨r0_25, p0⟩, ⟨r0_5, p1⟩] : List (View.Piece (Elt F) S1x256x1024 .bf16)), y ∈ pc.1.set :=
  View.cover_of_tiled [⟨r0_25, p0⟩, ⟨r0_5, p1⟩] S1x256x512.size (by rfl) y

/-- Window 30's staging buffer after the body, from the input windows' blocks: its 2 stores as pieces, LAST
    FIRST (Lib/Pipeline/FrameBody.lean `View.canon`; the payloads are the skeleton's and the values stated above). -/
def out0_30 (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) : Vec F S1x128x1024 .bf16 :=
  View.canon [⟨r0_35, k0_pay1 (k0_pay78 (k0_pay95 x0 x1 x2 x3 x4 x5 x6 x7 x8 x9 x10 x11 x12 x13 x14 x15 x16 x17))⟩,
    ⟨r0_22, k0_pay41 (k0_pay85 x0 x1 x2 x3 x4 x5 x6 x7 x8 x9 x10 x11 x12 x13 x14 x15 x16 x17)⟩]

/-- Its stores tile the buffer (checked by evaluation), so they cover it. -/
theorem cover0_30 (p0 : Vec F S1x128x512 .bf16) (p1 : Vec F S1x128x512 .bf16) (y : S1x128x1024.Idx) :
    ∃ pc ∈ ([⟨r0_35, p0⟩, ⟨r0_22, p1⟩] : List (View.Piece (Elt F) S1x128x1024 .bf16)), y ∈ pc.1.set :=
  View.cover_of_tiled [⟨r0_35, p0⟩, ⟨r0_22, p1⟩] S1x128x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x1024x1024 .f32) (harg2 : arg2.IsWhole) (arg3 : Memref sig .tc .vmem S1x3x1024 .f32) (harg3 : arg3.IsWhole) (arg4 : Memref sig .tc .vmem S1024x2048 .bf16) (harg4 : arg4.IsWhole) (arg5 : Memref sig .tc .vmem S256x512 .bf16) (harg5 : arg5.IsWhole) (arg6 : Memref sig .tc .vmem S128x512 .bf16) (harg6 : arg6.IsWhole) (arg7 : Memref sig .tc .vmem S128x256 .bf16) (harg7 : arg7.IsWhole) (arg8 : Memref sig .tc .vmem S128x512 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x128 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1x1024x256 .bf16) (harg20 : arg20.IsWhole) (arg21 : Memref sig .tc .vmem S1x1024x256 .bf16) (harg21 : arg21.IsWhole) (arg22 : Memref sig .tc .vmem S1x1024x256 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x256 .bf16) (harg25 : arg25.IsWhole) (arg26 : Memref sig .tc .vmem S1x1024x256 .f32) (harg26 : arg26.IsWhole) (arg27 : Memref sig .tc .vmem S1x1024x256 .bf16) (harg27 : arg27.IsWhole) (arg28 : Memref sig .tc .vmem S1x1024x128 .bf16) (harg28 : arg28.IsWhole) (arg29 : Memref sig .tc .vmem S1x1024x128 .bf16) (harg29 : arg29.IsWhole) (arg30 : Memref sig .tc .vmem S1x256x1024 .bf16) (harg30 : arg30.IsWhole) (arg31 : Memref sig .tc .vmem S1x256x1024 .bf16) (harg31 : arg31.IsWhole) (arg32 : Memref sig .tc .vmem S1x128x1024 .bf16) (harg32 : arg32.IsWhole)
    (x0 : Vec F S1x1024x1024 .f32) (x1 : Vec F S1x3x1024 .f32) (x2 : Vec F S1024x2048 .bf16) (x3 : Vec F S256x512 .bf16) (x4 : Vec F S128x512 .bf16) (x5 : Vec F S128x256 .bf16) (x6 : Vec F S128x512 .bf16) (x7 : Vec F S256x256 .bf16) (x8 : Vec F S1x256 .f32) (x9 : Vec F S1x128 .f32) (x10 : Vec F S1x256 .f32) (x11 : Vec F S1x128 .f32) (x12 : Vec F S1024x128 .f32) (x13 : Vec F S1024x128 .f32) (x14 : Vec F S1024x128 .f32) (x15 : Vec F S1024x128 .f32) (x16 : Vec F S1024x128 .f32) (x17 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare (out0_18 x0 x1 x2 x3 x4 x5 x6 x7 x8 x9 x10 x11 x12 x13 x14 x15 x16 x17) ∗ owns (c : Thread nD τ) arg21 fullShare (out0_19 x0 x1 x2 x3 x4 x5 x6 x7 x8 x9 x10 x11 x12 x13 x14 x15 x16 x17) ∗ owns (c : Thread nD τ) arg22 fullShare (out0_20 x0 x1 x2 x3 x4 x5 x6 x7 x8 x9 x10 x11 x12 x13 x14 x15 x16 x17) ∗ owns (c : Thread nD τ) arg23 fullShare (out0_21 x0 x1 x2 x3 x4 x5 x6 x7 x8 x9 x10 x11 x12 x13 x14 x15 x16 x17) ∗ owns (c : Thread nD τ) arg24 fullShare (out0_22 x0 x1 x2 x3 x4 x5 x6 x7 x8 x9 x10 x11 x12 x13 x14 x15 x16 x17) ∗ owns (c : Thread nD τ) arg25 fullShare (out0_23 x0 x1 x2 x3 x4 x5 x6 x7 x8 x9 x10 x11 x12 x13 x14 x15 x16 x17) ∗ owns (c : Thread nD τ) arg26 fullShare (out0_24 x0 x1 x2 x3 x4 x5 x6 x7 x8 x9 x10 x11 x12 x13 x14 x15 x16 x17) ∗ owns (c : Thread nD τ) arg27 fullShare (out0_25 x0 x1 x2 x3 x4 x5 x6 x7 x8 x9 x10 x11 x12 x13 x14 x15 x16 x17) ∗ owns (c : Thread nD τ) arg28 fullShare (out0_26 x0 x1 x2 x3 x4 x5 x6 x7 x8 x9 x10 x11 x12 x13 x14 x15 x16 x17) ∗ owns (c : Thread nD τ) arg29 fullShare (out0_27 x0 x1 x2 x3 x4 x5 x6 x7 x8 x9 x10 x11 x12 x13 x14 x15 x16 x17) ∗ owns (c : Thread nD τ) arg30 fullShare (out0_28 x0 x1 x2 x3 x4 x5 x6 x7 x8 x9 x10 x11 x12 x13 x14 x15 x16 x17) ∗ owns (c : Thread nD τ) arg31 fullShare (out0_29 x0 x1 x2 x3 x4 x5 x6 x7 x8 x9 x10 x11 x12 x13 x14 x15 x16 x17) ∗ owns (c : Thread nD τ) arg32 fullShare (out0_30 x0 x1 x2 x3 x4 x5 x6 x7 x8 x9 x10 x11 x12 x13 x14 x15 x16 x17)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_inproj_eq_skeleton]; unfold cc0_inproj_skel
  simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _ _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _ _)).trans ?_
    rfl
  isplitl [H23]
  · iexists _; isplitr
    swap; · iexact H23
    ipureintro
    refine (View.read_writes_eq_canon _ _ _ (cover0_23 _ _)).trans ?_
    rfl
  isplitl [H24]
  · iexists _; isplitr
    swap; · iexact H24
    ipureintro
    refine (View.read_writes_eq_canon _ _ _ (cover0_24 _ _)).trans ?_
    rfl
  isplitl [H25]
  · iexists _; isplitr
    swap; · iexact H25
    ipureintro
    refine (View.read_writes_eq_canon _ _ _ (cover0_25 _ _ _ _)).trans ?_
    rfl
  isplitl [H26]
  · iexists _; isplitr
    swap; · iexact H26
    ipureintro
    refine (View.read_writes_eq_canon _ _ _ (cover0_26 _ _)).trans ?_
    rfl
  isplitl [H27]
  · iexists _; isplitr
    swap; · iexact H27
    ipureintro
    refine (View.read_writes_eq_canon _ _ _ (cover0_27 _ _)).trans ?_
    rfl
  isplitl [H28]
  · iexists _; isplitr
    swap; · iexact H28
    ipureintro
    refine (View.read_writes_eq_canon _ _ _ (cover0_28 _ _)).trans ?_
    rfl
  isplitl [H29]
  · iexists _; isplitr
    swap; · iexact H29
    ipureintro
    refine (View.read_writes_eq_canon _ _ _ (cover0_29 _ _)).trans ?_
    rfl
  iexists _; isplitr
  swap; · iexact H30
  ipureintro
  refine (View.read_writes_eq_canon _ _ _ (cover0_30 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

end Cert.Kernel5Ideal.Gen

end
-- ==== Proof.RunF.lean ====
module

public import proofs.«01_k».proof.Proof.FrameF
public import Idealize.ShloMosaic.Lib.Pipeline.Value

/-!
The run of the projection kernel: from every memory it ends, with its arguments unchanged and its result arrays named.
-/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

theorem post19 (r : PUnit × MemSt nD τ sig (Elt F)) (h : Pipeline.FramePost cfgs (dats m) 0 (V m) r) (c : Dev nD) :
    r.2.mem ((c : Thread nD τ).loc main_v95_1) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v95_2) = (dats m 0 c).arrAt 20 cfg0.N :=
  (h c).1 20

theorem post23 (r : PUnit × MemSt nD τ sig (Elt F)) (h : Pipeline.FramePost cfgs (dats m) 0 (V m) r) (c : Dev nD) :
    r.2.mem ((c : Thread nD τ).loc main_v95_5) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v95_6) = (dats m 0 c).arrAt 24 cfg0.N :=
  (h c).1 24

theorem post27 (r : PUnit × MemSt nD τ sig (Elt F)) (h : Pipeline.FramePost cfgs (dats m) 0 (V m) r) (c : Dev nD) :
    r.2.mem ((c : Thread nD τ).loc main_v95_9) = (dats m 0 c).arrAt 27 cfg0.N :=
  (h c).1 27

theorem post28 (r : PUnit × MemSt nD τ sig (Elt F)) (h : Pipeline.FramePost cfgs (dats m) 0 (V m) r) (c : Dev nD) :
    r.2.mem ((c : Thread nD τ).loc main_v95_10) = (dats m 0 c).arrAt 28 cfg0.N :=
  (h c).1 28

theorem post29 (r : PUnit × MemSt nD τ sig (Elt F)) (h : Pipeline.FramePost cfgs (dats m) 0 (V m) r) (c : Dev nD) :
    r.2.mem ((c : Thread nD τ).loc main_v95_11) = (dats m 0 c).arrAt 29 cfg0.N :=
  (h c).1 29

theorem post30 (r : PUnit × MemSt nD τ sig (Elt F)) (h : Pipeline.FramePost cfgs (dats m) 0 (V m) r) (c : Dev nD) :
    r.2.mem ((c : Thread nD τ).loc main_v95_12) = (dats m 0 c).arrAt 30 cfg0.N :=
  (h c).1 30

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

set_option maxHeartbeats 510700 in
/-- The run, with the arrays of the eight results named and the arguments unchanged. -/
theorem run_blocks : θ_run defs (onTc (τ := τ) (main (F := F))) ⟨m, fun _ => 0, ρ⟩ fun r => ∀ c : Dev nD,
      r.2.mem ((c : Thread nD τ).loc main_v95_1) = (dats m 0 c).arrAt 19 cfg0.N
      ∧ r.2.mem ((c : Thread nD τ).loc main_v95_2) = (dats m 0 c).arrAt 20 cfg0.N
      ∧ r.2.mem ((c : Thread nD τ).loc main_v95_5) = (dats m 0 c).arrAt 23 cfg0.N
      ∧ r.2.mem ((c : Thread nD τ).loc main_v95_6) = (dats m 0 c).arrAt 24 cfg0.N
      ∧ r.2.mem ((c : Thread nD τ).loc main_v95_9) = (dats m 0 c).arrAt 27 cfg0.N
      ∧ r.2.mem ((c : Thread nD τ).loc main_v95_10) = (dats m 0 c).arrAt 28 cfg0.N
      ∧ r.2.mem ((c : Thread nD τ).loc main_v95_11) = (dats m 0 c).arrAt 29 cfg0.N
      ∧ r.2.mem ((c : Thread nD τ).loc main_v95_12) = (dats m 0 c).arrAt 30 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post19 m r h c,
      post20 m r h c,
      post23 m r h c,
      post24 m r h c,
      post27 m r h c,
      post28 m r h c,
      post29 m r h c,
      post30 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel5Ideal.Gen

end
-- ==== Proof.RunK.lean ====
module

public import proofs.«01_k».proof.Proof.FrameK
public import Idealize.ShloMosaic.Lib.Pipeline.Value

/-!
The run of the compiled projection kernel: from every memory it ends, with its arguments unchanged.
-/

@[expose] public section

set_option maxRecDepth 16384

noncomputable section

namespace Cert.Kernel5.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel5.Gen

end
-- ==== Proof.ProjSpec.lean ====
/-
  The projections of the input, one row at a time, on the extended reals.
-/
module

public import proofs.«01_k».proof.Proof.MergeSpec
public import Idealize.ShloMosaic.Lib.Pipeline.ValueKit

@[expose] public section

set_option maxRecDepth 16384

noncomputable section

namespace Cert.Proj

open Idealize.ShloMosaic hiding ix0 ix1 ix2 ix3 ix4 ix5
open Idealize.ShloMosaic.ValueIdx Finset
open Cert.Merge (modu)

/-- A row divided by the root of the mean of its squares, with a gain. -/
def rms (f g : Fin 128 → EReal) (j : Fin 128) : EReal :=
  f j * Ideal.rsqrt (Ideal.div (∑ k, f k * f k) (Ideal.ofBits .f32 0x43000000#32) + Ideal.ofBits .f32 0x358637BD#32) * g j

/-- The column of the second weights from which a value's column `d` comes. -/
abbrev valCol (d : Fin 256) : Fin 512 := ⟨128 * (d.val / 64) + (64 + d.val % 64), by omega⟩

/-- An array by its batch entry, its line and its column. -/
def ofRows {n : ℕ} (f : Fin 8 → Fin 4096 → Fin n → EReal) : (⟨3, ![8, 4096, n]⟩ : Shape).Idx → EReal := fun i => f (i 0) (i 1) (i 2)

/-- The same with lines and columns exchanged. -/
def ofCols {n : ℕ} (f : Fin 8 → Fin 4096 → Fin n → EReal) : (⟨3, ![8, n, 4096]⟩ : Shape).Idx → EReal := fun i => f (i 0) (i 2) (i 1)

variable (x : FVec Ideal ⟨3, ![8, 4096, 1024]⟩ .f32) (md : FVec Ideal ⟨2, ![8, 3072]⟩ .f32) (win : FVec Ideal ⟨2, ![1024, 7072]⟩ .f32)

/-- The modulated row. -/
def xm (b : Fin 8) (t : Fin 4096) : Fin 1024 → EReal :=
  modu (fun k => md (ix2 b ⟨k.val, by omega⟩)) (fun k => md (ix2 b ⟨1024 + k.val, by omega⟩)) (fun k => x (ix3 b t k))

/-- One entry of the projection. -/
def proj (b : Fin 8) (t : Fin 4096) (e : Fin 7072) : EReal := ∑ k, xm x md b t k * win (ix2 k e)

/-- Columns of the projection. -/
def cut (n o : ℕ) (h : o + n ≤ 7072) (b : Fin 8) (t : Fin 4096) (j : Fin n) : EReal := proj x md win b t ⟨o + j.val, by omega⟩

/-- The values of the branch with latent keys and values. -/
def up (g : FVec Ideal ⟨1, ![128]⟩ .f32) (u : FVec Ideal ⟨2, ![128, 512]⟩ .f32) (b : Fin 8) (t : Fin 4096) (d : Fin 256) : EReal :=
  ∑ j : Fin 128, rms (cut x md win 128 1024 (by omega) b t) (fun j => g (ix1 j)) j * u (ix2 j (valCol d))

end Cert.Proj

end
-- ==== Proof.ProjRow.lean ====
module

public import proofs.«01_k».proof.Proof.ProjSpec
public import proofs.«01_k».proof.Proof.FrameF
public import Idealize.ShloMosaic.Lib.Pipeline.ValueKit
public import Idealize.ShloMosaic.Lib.Claim
public import Idealize.ShloMosaic.Lib.IdealHost
public import Idealize.ShloMosaic.Lib.ValueLayout
public import Idealize.ShloMosaic.Lib.ValueLayoutCasts
public import Idealize.ShloMosaic.Lib.MatmulPlain

/-!
The projection kernel's body in vector operations, one sub-block of 512 rows, and those operations read row by row.
-/

@[expose] public section

set_option maxRecDepth 16384

noncomputable section

namespace Cert.Kernel5Ideal.Proj

open Cert.Kernel5Ideal Cert.Kernel5Ideal.Gen Cert.Proj
open Cert.Merge (mean cen norm modu)
open Idealize.ShloMosaic hiding ix0 ix1 ix2 ix3 ix4 ix5
open Idealize.ShloMosaic.ValueIdx Finset

section Vec

variable {F : FTy → Type} [FloatOps F]

/-- The mean of every row. -/
def vMean (x : FVec F S512x1024 .f32) : FVec F S512x1 .f32 :=
  divf (shapeCast S512x1 (multiReduction .add [1] S512 x 0x00000000#32 reduces_S512x1024_S512 (.inl rfl) rfl) shapeCasts_S512_S512x1)
    (broadcast S512x1 (Scalar.ofBits .f32 0x44800000#32))

/-- Every row less its mean. -/
def vCen (x : FVec F S512x1024 .f32) : FVec F S512x1024 .f32 := subf x (broadcastTo S512x1024 (vMean x) broadcasts_S512x1_S512x1024)

/-- Every row normalised. -/
def vNorm (x : FVec F S512x1024 .f32) : FVec F S512x1024 .f32 :=
  mulf (vCen x) (broadcastTo S512x1024 (rsqrt (addf (vMean (mulf (vCen x) (vCen x))) (broadcast S512x1 (Scalar.ofBits .f32 0x358637BD#32)))) broadcasts_S512x1_S512x1024)

/-- The modulated rows. -/
def vMod (sh sc : FVec F S1x1024 .f32) (x : FVec F S512x1024 .f32) : FVec F S512x1024 .bf16 :=
  truncf .bf16 (addf (mulf (vNorm x) (broadcastTo S512x1024 (addf (broadcast S1x1024 (Scalar.ofBits .f32 0x3F800000#32)) sc) broadcasts_S1x1024_S512x1024))
    (broadcastTo S512x1024 sh broadcasts_S1x1024_S512x1024)) bitsLt_bf16_f32

/-- The projection of the modulated rows. -/
def vProj (sh sc : FVec F S1x1024 .f32) (x : FVec F S512x1024 .f32) (w : Vec F S1024x2048 .bf16) : FVec F S512x2048 .f32 :=
  matmul dot_S512x1024_S1024x2048_S512x2048_1_0_0_1_n_n none (vMod sh sc x) (shapeCast S1024x2048 w shapeCasts_S1024x2048_S1024x2048)
    (constant S512x2048 .f32 0x00000000#32)

/-- The mean of every row of squares. -/
def vSq (x : FVec F S512x128 .f32) : FVec F S512x1 .f32 :=
  divf (shapeCast S512x1 (multiReduction .add [1] S512 (mulf x x) 0x00000000#32 reduces_S512x128_S512 (.inl rfl) rfl) shapeCasts_S512_S512x1)
    (broadcast S512x1 (Scalar.ofBits .f32 0x43000000#32))

/-- Every row divided by the root of the mean of its squares, with a gain. -/
def vRms (x : FVec F S512x128 .f32) (g : Vec F S1x128 .f32) : FVec F S512x128 .bf16 :=
  truncf .bf16 (mulf (mulf x (broadcastTo S512x128 (rsqrt (addf (vSq x) (broadcast S512x1 (Scalar.ofBits .f32 0x358637BD#32)))) broadcasts_S512x1_S512x128))
    (broadcastTo S512x128 (shapeCast S1x128 g shapeCasts_S1x128_S1x128) broadcasts_S1x128_S512x128)) bitsLt_bf16_f32

/-- The values by their own weights. -/
def vUp (p : FVec F S512x2048 .f32) (g : Vec F S1x128 .f32) (u : Vec F S128x256 .bf16) : FVec F S512x256 .f32 :=
  matmul dot_S512x128_S128x256_S512x256_1_0_0_1_n_n none (vRms (extractStridedSlice S512x128 ![0, 1024] p slices_S512x2048_o0_1024_S512x128) g)
    (shapeCast S128x256 u shapeCasts_S128x256_S128x256) (constant S512x256 .f32 0x00000000#32)

end Vec

theorem col_apply (v : FVec Ideal S512x1 .f32) (r : Fin 512) (j : Fin 1024) :
    broadcastTo S512x1024 v broadcasts_S512x1_S512x1024 (ix2 r j) = v (ix2 r 0) := by
  refine broadcastTo_apply v _ (ix2 r j) (ix2 r (0 : Fin 1)) fun ax => ?_
  match ax with
  | ⟨0, _⟩ => rfl
  | ⟨1, _⟩ => rfl

theorem row_apply (v : FVec Ideal S1x1024 .f32) (r : Fin 512) (j : Fin 1024) :
    broadcastTo S512x1024 v broadcasts_S1x1024_S512x1024 (ix2 r j) = v (ix2 0 j) :=
  broadcastTo_1b_ab_apply (a := 512) (b := 1024) v broadcasts_S1x1024_S512x1024 r j

theorem vMean_apply (x : FVec Ideal S512x1024 .f32) (r : Fin 512) : (vMean x (ix2 r 0) : EReal) = mean fun k => x (ix2 r k) := by
  refine congrArg (Ideal.div · (Ideal.ofBits .f32 0x44800000#32)) ?_
  refine (shapeCast_a_a1_apply (a := 512) _ shapeCasts_S512_S512x1 r 0).trans ?_
  refine (Ideal.multiReduction_add_single x _ reduces_S512x1024_S512 _ _ _).trans ?_
  refine sum_congr rfl fun k _ => congrArg x (funext fun a => Fin.ext ?_)
  match a with
  | ⟨0, _⟩ => rfl
  | ⟨1, _⟩ => rfl

theorem vCen_apply (x : FVec Ideal S512x1024 .f32) (r : Fin 512) (j : Fin 1024) :
    (vCen x (ix2 r j) : EReal) = cen (fun k => x (ix2 r k)) j := by
  show (x (ix2 r j) : EReal) - broadcastTo S512x1024 (vMean x) broadcasts_S512x1_S512x1024 (ix2 r j) = _
  rw [col_apply, vMean_apply]
  rfl

theorem vNorm_apply (x : FVec Ideal S512x1024 .f32) (r : Fin 512) (j : Fin 1024) :
    (vNorm x (ix2 r j) : EReal) = norm (fun k => x (ix2 r k)) j := by
  refine congrArg₂ (· * ·) (vCen_apply x r j) ?_
  refine (col_apply _ r j).trans ?_
  refine congrArg (fun e => Ideal.rsqrt (e + Ideal.ofBits .f32 0x358637BD#32)) ?_
  refine (vMean_apply _ r).trans (congrArg mean (funext fun k => ?_))
  exact congrArg₂ (· * ·) (vCen_apply x r k) (vCen_apply x r k)

theorem vMod_apply (sh sc : FVec Ideal S1x1024 .f32) (x : FVec Ideal S512x1024 .f32) (r : Fin 512) (j : Fin 1024) :
    (vMod sh sc x (ix2 r j) : EReal) = modu (fun k => sh (ix2 0 k)) (fun k => sc (ix2 0 k)) (fun k => x (ix2 r k)) j :=
  congrArg₂ (· + ·) (congrArg₂ (· * ·) (vNorm_apply x r j) (row_apply _ r j)) (row_apply sh r j)

theorem vProj_apply (sh sc : FVec Ideal S1x1024 .f32) (x : FVec Ideal S512x1024 .f32) (w : FVec Ideal S1024x2048 .bf16) (r : Fin 512) (e : Fin 2048) :
    (vProj (F := Ideal) sh sc x w (ix2 r e) : EReal)
      = ∑ k, modu (fun k => sh (ix2 0 k)) (fun k => sc (ix2 0 k)) (fun k => x (ix2 r k)) k * w (ix2 k e) := by
  refine (Ideal.matmul_plain_apply (M := 512) (K := 1024) (N := 2048) none _ _ _ r e).trans ?_
  rw [constant_apply, Ideal.ofBits_zero_f32, zero_add, shapeCast_self]
  exact sum_congr rfl fun k _ => congrArg (fun p : EReal => p * w (ix2 k e)) (vMod_apply sh sc x r k)

theorem vSq_apply (x : FVec Ideal S512x128 .f32) (r : Fin 512) :
    (vSq x (ix2 r 0) : EReal) = Ideal.div (∑ k, x (ix2 r k) * x (ix2 r k)) (Ideal.ofBits .f32 0x43000000#32) := by
  refine congrArg (Ideal.div · (Ideal.ofBits .f32 0x43000000#32)) ?_
  refine (shapeCast_a_a1_apply (a := 512) _ shapeCasts_S512_S512x1 r 0).trans ?_
  refine (Ideal.multiReduction_add_single (mulf x x) _ reduces_S512x128_S512 _ _ _).trans ?_
  refine sum_congr rfl fun k _ => congrArg (mulf x x) (funext fun a => Fin.ext ?_)
  match a with
  | ⟨0, _⟩ => rfl
  | ⟨1, _⟩ => rfl

theorem vRms_apply (x : FVec Ideal S512x128 .f32) (g : FVec Ideal S1x128 .f32) (r : Fin 512) (j : Fin 128) :
    (vRms (F := Ideal) x g (ix2 r j) : EReal) = rms (fun k => x (ix2 r k)) (fun k => g (ix2 0 k)) j := by
  refine congrArg₂ (fun p q : EReal => p * q) (congrArg (fun p : EReal => x (ix2 r j) * p) ?_) ?_
  · refine (broadcastTo_apply _ broadcasts_S512x1_S512x128 (ix2 r j) (ix2 r (0 : Fin 1)) fun ax => ?_).trans ?_
    · match ax with
      | ⟨0, _⟩ => rfl
      | ⟨1, _⟩ => rfl
    · exact congrArg (fun e => Ideal.rsqrt (e + Ideal.ofBits .f32 0x358637BD#32)) (vSq_apply x r)
  · refine (broadcastTo_1b_ab_apply (a := 512) (b := 128) _ broadcasts_S1x128_S512x128 r j).trans ?_
    rw [shapeCast_self]

theorem vUp_apply (p : FVec Ideal S512x2048 .f32) (g : FVec Ideal S1x128 .f32) (u : FVec Ideal S128x256 .bf16) (r : Fin 512) (d : Fin 256) :
    (vUp (F := Ideal) p g u (ix2 r d) : EReal)
      = ∑ j : Fin 128, rms (fun k : Fin 128 => p (ix2 r ⟨1024 + k.val, by omega⟩)) (fun k => g (ix2 0 k)) j * u (ix2 j d) := by
  refine (Ideal.matmul_plain_apply (M := 512) (K := 128) (N := 256) none _ _ _ r d).trans ?_
  rw [constant_apply, Ideal.ofBits_zero_f32, zero_add, shapeCast_self]
  refine sum_congr rfl fun j _ => congrArg (fun q : EReal => q * u (ix2 j d)) ((vRms_apply _ g r j).trans (congrArg (fun f => rms f _ j) (funext fun k => ?_)))
  exact slice2_axis1_apply (n0 := 512) (n1 := 2048) (m := 128) 1024 p slices_S512x2048_o0_1024_S512x128 r k ⟨1024 + k.val, by omega⟩ rfl

/-! ## What is stored -/

/-- Columns of a sub-block, stored as lines. -/
theorem lines_apply {n : ℕ} (o : ℕ) (ho : o + n ≤ 2048) (p : FVec Ideal S512x2048 .f32) (h : S512x2048.Slices ![0, o] ⟨2, ![512, n]⟩)
    (h' : (⟨2, ![512, n]⟩ : Shape).ShapeCasts ⟨3, ![1, 512, n]⟩) (r : Fin 512) (j : Fin n) :
    shapeCast ⟨3, ![1, 512, n]⟩ (extractStridedSlice ⟨2, ![512, n]⟩ ![0, o] p h) h' (ix3 0 r j) = p (ix2 r ⟨o + j.val, by omega⟩) :=
  (shapeCast_ab_1ab_apply (a := 512) (b := n) _ h' 0 r j).trans
    (slice2_axis1_apply (n0 := 512) (n1 := 2048) (m := n) o p h r j ⟨o + j.val, by omega⟩ rfl)

/-- A matrix stored with lines and columns exchanged. -/
theorem flip_apply {n : ℕ} (p : (⟨2, ![512, n]⟩ : Shape).Idx → EReal) (h : (⟨2, ![512, n]⟩ : Shape).Transposes [1, 0] ⟨2, ![n, 512]⟩)
    (h' : (⟨2, ![n, 512]⟩ : Shape).ShapeCasts ⟨3, ![1, n, 512]⟩) (r : Fin 512) (j : Fin n) :
    shapeCast ⟨3, ![1, n, 512]⟩ (transpose ⟨2, ![n, 512]⟩ [1, 0] p h) h' (ix3 0 j r) = p (ix2 r j) :=
  (shapeCast_ab_1ab_apply (a := n) (b := 512) _ h' 0 j r).trans
    (transpose_apply _ _ h _ (ix2 r j) fun a => match a with
      | ⟨0, _⟩ => rfl
      | ⟨1, _⟩ => rfl)

/-- Columns of a sub-block, stored with lines and columns exchanged. -/
theorem flipCut_apply {n : ℕ} (o : ℕ) (ho : o + n ≤ 2048) (p : FVec Ideal S512x2048 .f32) (hs : S512x2048.Slices ![0, o] ⟨2, ![512, n]⟩)
    (h : (⟨2, ![512, n]⟩ : Shape).Transposes [1, 0] ⟨2, ![n, 512]⟩) (h' : (⟨2, ![n, 512]⟩ : Shape).ShapeCasts ⟨3, ![1, n, 512]⟩) (r : Fin 512) (j : Fin n) :
    (shapeCast ⟨3, ![1, n, 512]⟩ (truncf .bf16 (transpose ⟨2, ![n, 512]⟩ [1, 0] (extractStridedSlice ⟨2, ![512, n]⟩ ![0, o] p hs) h : FVec Ideal ⟨2, ![n, 512]⟩ .f32) bitsLt_bf16_f32) h' (ix3 0 j r) : EReal)
      = p (ix2 r ⟨o + j.val, by omega⟩) :=
  (flip_apply (extractStridedSlice ⟨2, ![512, n]⟩ ![0, o] p hs) h h' r j).trans
    (slice2_axis1_apply (n0 := 512) (n1 := 2048) (m := n) o p hs r j ⟨o + j.val, by omega⟩ rfl)

end Cert.Kernel5Ideal.Proj

end
-- ==== Proof.BlockF.lean ====
module

public import proofs.«01_k».proof.Proof.ProjRow

/-!
A whole block of each result of the projection kernel, every row of it the row of the specification.
-/

@[expose] public section

set_option maxRecDepth 16384

noncomputable section

namespace Cert.Kernel5Ideal.Proj

open Cert.Kernel5Ideal Cert.Kernel5Ideal.Gen Cert.Proj
open Cert.Merge (modu)
open Idealize.ShloMosaic hiding ix0 ix1 ix2 ix3 ix4 ix5
open Idealize.ShloMosaic.ValueIdx Finset

/-- A load of some rows of a block. -/
theorem ld_rows {n : ℕ} {Val : EltTy → Type} {e : EltTy} (x : (⟨3, ![1, 1024, n]⟩ : Shape).Idx → Val e) (o : ℕ) (ho : o + 512 ≤ 1024)
    (inb : ∀ a, (![0, o, 0] : Fin 3 → ℕ) a + (![1, 512, n] : Fin 3 → ℕ) a ≤ (⟨3, ![1, 1024, n]⟩ : Shape).size a) (r : Fin 512) (k : Fin n) :
    View.ld x (Rect.unit (s := ⟨3, ![1, 1024, n]⟩) ![0, o, 0] ![1, 512, n] inb) (ix3 0 r k)
      = x (ix3 0 ⟨o + r.val, by omega⟩ k) := by
  rw [View.ld_unit]
  refine extractStridedSlice_apply _ _ _ _ _ fun a => ?_
  match a with
  | ⟨0, _⟩ => rfl
  | ⟨1, _⟩ => rfl
  | ⟨2, _⟩ => exact (Nat.zero_add _).symm

/-- A load of one row of the modulation. -/
theorem ld_mod {Val : EltTy → Type} {e : EltTy} (x : S1x3x1024.Idx → Val e) (o : ℕ) (ho : o < 3)
    (inb : ∀ i, (![0, o, 0] : Fin 3 → ℕ) i + S1x1x1024.size i ≤ S1x3x1024.size i) (k : Fin 1024) :
    View.ld x (Rect.unit (s := S1x3x1024) ![0, o, 0] S1x1x1024.size inb) (ix3 0 0 k)
      = x (ix3 0 ⟨o, ho⟩ k) := by
  rw [View.ld_unit]
  refine extractStridedSlice_apply _ _ _ _ _ fun a => ?_
  match a with
  | ⟨0, _⟩ => rfl
  | ⟨1, _⟩ => rfl
  | ⟨2, _⟩ => exact (Nat.zero_add _).symm

/-- A load of a whole matrix. -/
theorem ld_whole {R C : ℕ} {Val : EltTy → Type} {e : EltTy} (x : (⟨2, ![R, C]⟩ : Shape).Idx → Val e)
    (inb : ∀ i, (![0, 0] : Fin 2 → ℕ) i + (![R, C] : Fin 2 → ℕ) i ≤ (⟨2, ![R, C]⟩ : Shape).size i) (k : Fin R) (l : Fin C) :
    View.ld x (Rect.unit (s := ⟨2, ![R, C]⟩) ![0, 0] ![R, C] inb) (ix2 k l) = x (ix2 k l) := by
  rw [View.ld_unit]
  refine extractStridedSlice_apply _ _ _ _ _ fun a => ?_
  match a with
  | ⟨0, _⟩ => exact (Nat.zero_add _).symm
  | ⟨1, _⟩ => exact (Nat.zero_add _).symm

/-- A block stored as two halves of its lines. -/
theorem two_rows {n : ℕ} {e : EltTy} (f : Fin 1024 → Fin n → Elt Ideal e)
    (i1 : ∀ a, (![0, 512, 0] : Fin 3 → ℕ) a + (⟨3, ![1, 512, n]⟩ : Shape).size a ≤ (⟨3, ![1, 1024, n]⟩ : Shape).size a)
    (i0 : ∀ a, (![0, 0, 0] : Fin 3 → ℕ) a + (⟨3, ![1, 512, n]⟩ : Shape).size a ≤ (⟨3, ![1, 1024, n]⟩ : Shape).size a)
    (p1 p0 : (⟨3, ![1, 512, n]⟩ : Shape).Idx → Elt Ideal e)
    (h1 : ∀ (r : Fin 512) (k : Fin n), p1 (ix3 0 r k) = f ⟨512 + r.val, by omega⟩ k)
    (h0 : ∀ (r : Fin 512) (k : Fin n), p0 (ix3 0 r k) = f ⟨0 + r.val, by omega⟩ k)
    (cov : ∀ y, ∃ pc ∈ ([⟨Rect.unit (s := ⟨3, ![1, 1024, n]⟩) ![0, 512, 0] (⟨3, ![1, 512, n]⟩ : Shape).size i1, p1⟩,
      ⟨Rect.unit (s := ⟨3, ![1, 1024, n]⟩) ![0, 0, 0] (⟨3, ![1, 512, n]⟩ : Shape).size i0, p0⟩] : List (View.Piece (Elt Ideal) ⟨3, ![1, 1024, n]⟩ e)), y ∈ pc.1.set)
    (t : Fin 1024) (j : Fin n) :
    View.canon (Val := Elt Ideal) ([⟨Rect.unit (s := ⟨3, ![1, 1024, n]⟩) ![0, 512, 0] (⟨3, ![1, 512, n]⟩ : Shape).size i1, p1⟩,
      ⟨Rect.unit (s := ⟨3, ![1, 1024, n]⟩) ![0, 0, 0] (⟨3, ![1, 512, n]⟩ : Shape).size i0, p0⟩] : List (View.Piece (Elt Ideal) ⟨3, ![1, 1024, n]⟩ e)) (ix3 0 t j) = f t j := by
  refine View.canon_apply_of_pieces (Val := Elt Ideal) (S := ⟨3, ![1, 1024, n]⟩) (e := e) (fun i => f (i 1) (i 2)) _ (fun p hp => ?_) (ix3 0 t j) (cov _)
  have key : ∀ (o : ℕ) (ho : o + 512 ≤ 1024) (ix : ∀ a, (![0, o, 0] : Fin 3 → ℕ) a + (⟨3, ![1, 512, n]⟩ : Shape).size a ≤ (⟨3, ![1, 1024, n]⟩ : Shape).size a)
      (v : (⟨3, ![1, 512, n]⟩ : Shape).Idx → Elt Ideal e) (hv : ∀ (r : Fin 512) (k : Fin n), v (ix3 0 r k) = f ⟨o + r.val, by omega⟩ k) (y : (⟨3, ![1, 512, n]⟩ : Shape).Idx),
      v y = (fun i : (⟨3, ![1, 1024, n]⟩ : Shape).Idx => f (i 1) (i 2)) ((Rect.unit (s := ⟨3, ![1, 1024, n]⟩) ![0, o, 0] (⟨3, ![1, 512, n]⟩ : Shape).size ix).emb y) :=
    fun o ho ix v hv y => by
      have ey : y = ix3 (0 : Fin 1) (y 1) (y 2) := by
        funext a
        match a with
        | ⟨0, _⟩ => exact Subsingleton.elim (α := Fin 1) _ _
        | ⟨1, _⟩ => rfl
        | ⟨2, _⟩ => rfl
      have h1 : ((Rect.unit (s := ⟨3, ![1, 1024, n]⟩) ![0, o, 0] (⟨3, ![1, 512, n]⟩ : Shape).size ix).emb y) 1 = (⟨o + (y 1).val, by have : (y 1).val < 512 := (y 1).isLt; omega⟩ : Fin 1024) :=
        Fin.ext (by show o + 1 * (y 1).val = o + (y 1).val; omega)
      have h2 : ((Rect.unit (s := ⟨3, ![1, 1024, n]⟩) ![0, o, 0] (⟨3, ![1, 512, n]⟩ : Shape).size ix).emb y) 2 = (y 2 : Fin n) :=
        Fin.ext (by show 0 + 1 * (y 2).val = (y 2).val; omega)
      exact (congrArg v ey).trans ((hv (y 1) (y 2)).trans (congrArg₂ f h1 h2).symm)
  simp only [List.mem_cons, List.not_mem_nil, or_false] at hp
  rcases hp with rfl | rfl
  · exact key 512 (by omega) i1 p1 h1
  · exact key 0 (by omega) i0 p0 h0

/-- A block stored as two halves of its columns. -/
theorem two_cols {n : ℕ} {e : EltTy} (f : Fin 1024 → Fin n → Elt Ideal e)
    (i1 : ∀ a, (![0, 0, 512] : Fin 3 → ℕ) a + (⟨3, ![1, n, 512]⟩ : Shape).size a ≤ (⟨3, ![1, n, 1024]⟩ : Shape).size a)
    (i0 : ∀ a, (![0, 0, 0] : Fin 3 → ℕ) a + (⟨3, ![1, n, 512]⟩ : Shape).size a ≤ (⟨3, ![1, n, 1024]⟩ : Shape).size a)
    (p1 p0 : (⟨3, ![1, n, 512]⟩ : Shape).Idx → Elt Ideal e)
    (h1 : ∀ (r : Fin 512) (k : Fin n), p1 (ix3 0 k r) = f ⟨512 + r.val, by omega⟩ k)
    (h0 : ∀ (r : Fin 512) (k : Fin n), p0 (ix3 0 k r) = f ⟨0 + r.val, by omega⟩ k)
    (cov : ∀ y, ∃ pc ∈ ([⟨Rect.unit (s := ⟨3, ![1, n, 1024]⟩) ![0, 0, 512] (⟨3, ![1, n, 512]⟩ : Shape).size i1, p1⟩,
      ⟨Rect.unit (s := ⟨3, ![1, n, 1024]⟩) ![0, 0, 0] (⟨3, ![1, n, 512]⟩ : Shape).size i0, p0⟩] : List (View.Piece (Elt Ideal) ⟨3, ![1, n, 1024]⟩ e)), y ∈ pc.1.set)
    (t : Fin 1024) (j : Fin n) :
    View.canon (Val := Elt Ideal) ([⟨Rect.unit (s := ⟨3, ![1, n, 1024]⟩) ![0, 0, 512] (⟨3, ![1, n, 512]⟩ : Shape).size i1, p1⟩,
      ⟨Rect.unit (s := ⟨3, ![1, n, 1024]⟩) ![0, 0, 0] (⟨3, ![1, n, 512]⟩ : Shape).size i0, p0⟩] : List (View.Piece (Elt Ideal) ⟨3, ![1, n, 1024]⟩ e)) (ix3 0 j t) = f t j := by
  refine View.canon_apply_of_pieces (Val := Elt Ideal) (S := ⟨3, ![1, n, 1024]⟩) (e := e) (fun i => f (i 2) (i 1)) _ (fun p hp => ?_) (ix3 0 j t) (cov _)
  have key : ∀ (o : ℕ) (ho : o + 512 ≤ 1024) (ix : ∀ a, (![0, 0, o] : Fin 3 → ℕ) a + (⟨3, ![1, n, 512]⟩ : Shape).size a ≤ (⟨3, ![1, n, 1024]⟩ : Shape).size a)
      (v : (⟨3, ![1, n, 512]⟩ : Shape).Idx → Elt Ideal e) (hv : ∀ (r : Fin 512) (k : Fin n), v (ix3 0 k r) = f ⟨o + r.val, by omega⟩ k) (y : (⟨3, ![1, n, 512]⟩ : Shape).Idx),
      v y = (fun i : (⟨3, ![1, n, 1024]⟩ : Shape).Idx => f (i 2) (i 1)) ((Rect.unit (s := ⟨3, ![1, n, 1024]⟩) ![0, 0, o] (⟨3, ![1, n, 512]⟩ : Shape).size ix).emb y) :=
    fun o ho ix v hv y => by
      have ey : y = ix3 (0 : Fin 1) (y 1) (y 2) := by
        funext a
        match a with
        | ⟨0, _⟩ => exact Subsingleton.elim (α := Fin 1) _ _
        | ⟨1, _⟩ => rfl
        | ⟨2, _⟩ => rfl
      have h1 : ((Rect.unit (s := ⟨3, ![1, n, 1024]⟩) ![0, 0, o] (⟨3, ![1, n, 512]⟩ : Shape).size ix).emb y) 2 = (⟨o + (y 2).val, by have : (y 2).val < 512 := (y 2).isLt; omega⟩ : Fin 1024) :=
        Fin.ext (by show o + 1 * (y 2).val = o + (y 2).val; omega)
      have h2 : ((Rect.unit (s := ⟨3, ![1, n, 1024]⟩) ![0, 0, o] (⟨3, ![1, n, 512]⟩ : Shape).size ix).emb y) 1 = (y 1 : Fin n) :=
        Fin.ext (by show 0 + 1 * (y 1).val = (y 1).val; omega)
      exact (congrArg v ey).trans ((hv (y 2) (y 1)).trans (congrArg₂ f h1 h2).symm)
  simp only [List.mem_cons, List.not_mem_nil, or_false] at hp
  rcases hp with rfl | rfl
  · exact key 512 (by omega) i1 p1 h1
  · exact key 0 (by omega) i0 p0 h0

section Block

variable (x0 : FVec Ideal S1x1024x1024 .f32) (x1 : FVec Ideal S1x3x1024 .f32) (x2 : FVec Ideal S1024x2048 .bf16) (x3 : FVec Ideal S256x512 .bf16)
  (x4 : FVec Ideal S128x512 .bf16) (x5 : FVec Ideal S128x256 .bf16) (x6 : FVec Ideal S128x512 .bf16) (x7 : FVec Ideal S256x256 .bf16) (x8 : FVec Ideal S1x256 .f32)
  (x9 : FVec Ideal S1x128 .f32) (x10 : FVec Ideal S1x256 .f32) (x11 : FVec Ideal S1x128 .f32) (x12 x13 x14 x15 x16 x17 : FVec Ideal S1024x128 .f32)

/-- An entry of a block's projection. -/
def bProj (t : Fin 1024) (e : Fin 2048) : EReal :=
  ∑ k, modu (fun k => x1 (ix3 0 0 k)) (fun k => x1 (ix3 0 1 k)) (fun k => x0 (ix3 0 t k)) k * x2 (ix2 k e)

/-- An entry of a block's values. -/
def bUp (t : Fin 1024) (d : Fin 256) : EReal :=
  ∑ j : Fin 128, rms (fun k : Fin 128 => bProj x0 x1 x2 t ⟨1024 + k.val, by omega⟩) (fun k => x9 (ix2 0 k)) j * x5 (ix2 j d)

/-- The projection of the 512 rows from `o` on. -/
def vP (o : ℕ) (inb : ∀ a, (![0, o, 0] : Fin 3 → ℕ) a + S1x512x1024.size a ≤ S1x1024x1024.size a) : FVec Ideal S512x2048 .f32 :=
  vProj (F := Ideal) (shapeCast S1x1024 (View.ld (Val := Elt Ideal) (e' := .f32) x1 r0_0) shapeCasts_S1x1x1024_S1x1024)
    (shapeCast S1x1024 (View.ld (Val := Elt Ideal) (e' := .f32) x1 r0_1) shapeCasts_S1x1x1024_S1x1024)
    (shapeCast S512x1024 (View.ld (Val := Elt Ideal) (e' := .f32) x0 (Rect.unit (s := S1x1024x1024) ![0, o, 0] S1x512x1024.size inb)) shapeCasts_S1x512x1024_S512x1024)
    (View.ld (Val := Elt Ideal) (e' := .bf16) x2 r0_3)

theorem vP_apply (o : ℕ) (ho : o + 512 ≤ 1024) (inb : ∀ a, (![0, o, 0] : Fin 3 → ℕ) a + S1x512x1024.size a ≤ S1x1024x1024.size a) (r : Fin 512) (e : Fin 2048) :
    (vP x0 x1 x2 o inb (ix2 r e) : EReal) = bProj x0 x1 x2 ⟨o + r.val, by omega⟩ e := by
  unfold vP bProj
  rw [vProj_apply]
  have hm : ∀ (n : Fin 3) (i : ∀ i, (![0, n.val, 0] : Fin 3 → ℕ) i + S1x1x1024.size i ≤ S1x3x1024.size i) (k : Fin 1024),
      (shapeCast S1x1024 (View.ld (Val := Elt Ideal) (e' := .f32) x1 (Rect.unit (s := S1x3x1024) ![0, n.val, 0] S1x1x1024.size i)) shapeCasts_S1x1x1024_S1x1024 : FVec Ideal S1x1024 .f32) (ix2 0 k)
        = x1 (ix3 0 n k) := fun n i k =>
    (shapeCast_1ab_ab_apply (a := 1) (b := 1024) _ shapeCasts_S1x1x1024_S1x1024 0 k).trans (ld_mod (Val := Elt Ideal) (e := .f32) x1 n.val n.isLt i k)
  have hx : ∀ k : Fin 1024,
      (shapeCast S512x1024 (View.ld (Val := Elt Ideal) (e' := .f32) x0 (Rect.unit (s := S1x1024x1024) ![0, o, 0] S1x512x1024.size inb)) shapeCasts_S1x512x1024_S512x1024 : FVec Ideal S512x1024 .f32) (ix2 r k)
        = x0 (ix3 0 ⟨o + r.val, by omega⟩ k) := fun k =>
    (shapeCast_1ab_ab_apply (a := 512) (b := 1024) _ shapeCasts_S1x512x1024_S512x1024 r k).trans (ld_rows (Val := Elt Ideal) (e := .f32) (n := 1024) x0 o ho inb r k)
  have hw : ∀ k : Fin 1024, (View.ld (Val := Elt Ideal) (e' := .bf16) x2 r0_3 : FVec Ideal S1024x2048 .bf16) (ix2 k e) = x2 (ix2 k e) := fun k =>
    ld_whole (Val := Elt Ideal) (e := .bf16) (R := 1024) (C := 2048) x2 _ k e
  refine sum_congr rfl fun k _ => congrArg₂ (fun p q : EReal => p * q) ?_ (hw k)
  refine congrFun (?_ : modu _ _ _ = modu _ _ _) k
  rw [show (fun k : Fin 1024 => (shapeCast S1x1024 (View.ld (Val := Elt Ideal) (e' := .f32) x1 r0_0) shapeCasts_S1x1x1024_S1x1024 : FVec Ideal S1x1024 .f32) (ix2 0 k)) = fun k => x1 (ix3 0 0 k) from funext (hm 0 _),
    show (fun k : Fin 1024 => (shapeCast S1x1024 (View.ld (Val := Elt Ideal) (e' := .f32) x1 r0_1) shapeCasts_S1x1x1024_S1x1024 : FVec Ideal S1x1024 .f32) (ix2 0 k)) = fun k => x1 (ix3 0 1 k) from funext (hm 1 _),
    funext hx]

/-- The values of the 512 rows from `o` on. -/
theorem vU_apply (o : ℕ) (ho : o + 512 ≤ 1024) (inb : ∀ a, (![0, o, 0] : Fin 3 → ℕ) a + S1x512x1024.size a ≤ S1x1024x1024.size a) (r : Fin 512) (d : Fin 256) :
    (vUp (F := Ideal) (vP x0 x1 x2 o inb) (View.ld (Val := Elt Ideal) (e' := .f32) x9 r0_13) (View.ld (Val := Elt Ideal) (e' := .bf16) x5 r0_16) (ix2 r d) : EReal)
      = bUp x0 x1 x2 x5 x9 ⟨o + r.val, by omega⟩ d := by
  have hg : ∀ k : Fin 128, (View.ld (Val := Elt Ideal) (e' := .f32) x9 r0_13 : FVec Ideal S1x128 .f32) (ix2 0 k) = x9 (ix2 0 k) := fun k =>
    ld_whole (Val := Elt Ideal) (e := .f32) (R := 1) (C := 128) x9 _ 0 k
  have hu : ∀ k : Fin 128, (View.ld (Val := Elt Ideal) (e' := .bf16) x5 r0_16 : FVec Ideal S128x256 .bf16) (ix2 k d) = x5 (ix2 k d) := fun k =>
    ld_whole (Val := Elt Ideal) (e := .bf16) (R := 128) (C := 256) x5 _ k d
  rw [vUp_apply]
  unfold bUp
  simp only [vP_apply x0 x1 x2 o ho inb, hg, hu]

/-- A block of window 19. -/
theorem block19 (t : Fin 1024) (j : Fin 256) : (out0_19 (F := Ideal) x0 x1 x2 x3 x4 x5 x6 x7 x8 x9 x10 x11 x12 x13 x14 x15 x16 x17 (ix3 0 t j) : EReal) = bProj x0 x1 x2 t ⟨256 + j.val, by omega⟩ := by
  unfold out0_19 k0_pay94 k0_pay84 k0_pay83 k0_pay80 k0_pay79
  refine two_rows (n := 256) (e := .bf16) (fun t j => bProj x0 x1 x2 t ⟨256 + j.val, by omega⟩) _ _ _ _ ?_ ?_ (cover0_19 (F := Ideal) _ _) t j
  · intro r k
    exact (lines_apply (n := 256) 256 (by omega) (vP x0 x1 x2 512 inb_S1x1024x1024_S1x512x1024_0_512_0) slices_S512x2048_o0_256_S512x256 shapeCasts_S512x256_S1x512x256 r k).trans (vP_apply x0 x1 x2 512 (by omega) _ r _)
  · intro r k
    exact (lines_apply (n := 256) 256 (by omega) (vP x0 x1 x2 0 inb_S1x1024x1024_S1x512x1024_0_0_0) slices_S512x2048_o0_256_S512x256 shapeCasts_S512x256_S1x512x256 r k).trans (vP_apply x0 x1 x2 0 (by omega) _ r _)

/-- A block of window 20. -/
theorem block20 (t : Fin 1024) (j : Fin 256) : (out0_20 (F := Ideal) x0 x1 x2 x3 x4 x5 x6 x7 x8 x9 x10 x11 x12 x13 x14 x15 x16 x17 (ix3 0 t j) : EReal) = bProj x0 x1 x2 t ⟨512 + j.val, by omega⟩ := by
  unfold out0_20 k0_pay94 k0_pay84 k0_pay83 k0_pay80 k0_pay79
  refine two_rows (n := 256) (e := .bf16) (fun t j => bProj x0 x1 x2 t ⟨512 + j.val, by omega⟩) _ _ _ _ ?_ ?_ (cover0_20 (F := Ideal) _ _) t j
  · intro r k
    exact (lines_apply (n := 256) 512 (by omega) (vP x0 x1 x2 512 inb_S1x1024x1024_S1x512x1024_0_512_0) slices_S512x2048_o0_512_S512x256 shapeCasts_S512x256_S1x512x256 r k).trans (vP_apply x0 x1 x2 512 (by omega) _ r _)
  · intro r k
    exact (lines_apply (n := 256) 512 (by omega) (vP x0 x1 x2 0 inb_S1x1024x1024_S1x512x1024_0_0_0) slices_S512x2048_o0_512_S512x256 shapeCasts_S512x256_S1x512x256 r k).trans (vP_apply x0 x1 x2 0 (by omega) _ r _)

/-- A block of window 24. -/
theorem block24 (t : Fin 1024) (j : Fin 256) : (out0_24 (F := Ideal) x0 x1 x2 x3 x4 x5 x6 x7 x8 x9 x10 x11 x12 x13 x14 x15 x16 x17 (ix3 0 t j) : EReal) = bProj x0 x1 x2 t ⟨1152 + j.val, by omega⟩ := by
  unfold out0_24 k0_pay95 k0_pay94 k0_pay85 k0_pay84 k0_pay83 k0_pay80 k0_pay79
  refine two_rows (n := 256) (e := .f32) (fun t j => bProj x0 x1 x2 t ⟨1152 + j.val, by omega⟩) _ _ _ _ ?_ ?_ (cover0_24 (F := Ideal) _ _) t j
  · intro r k
    exact (lines_apply (n := 256) 1152 (by omega) (vP x0 x1 x2 512 inb_S1x1024x1024_S1x512x1024_0_512_0) slices_S512x2048_o0_1152_S512x256 shapeCasts_S512x256_S1x512x256 r k).trans (vP_apply x0 x1 x2 512 (by omega) _ r _)
  · intro r k
    exact (lines_apply (n := 256) 1152 (by omega) (vP x0 x1 x2 0 inb_S1x1024x1024_S1x512x1024_0_0_0) slices_S512x2048_o0_1152_S512x256 shapeCasts_S512x256_S1x512x256 r k).trans (vP_apply x0 x1 x2 0 (by omega) _ r _)

/-- A block of window 27. -/
theorem block27 (t : Fin 1024) (j : Fin 128) : (out0_27 (F := Ideal) x0 x1 x2 x3 x4 x5 x6 x7 x8 x9 x10 x11 x12 x13 x14 x15 x16 x17 (ix3 0 t j) : EReal) = bProj x0 x1 x2 t ⟨1792 + j.val, by omega⟩ := by
  unfold out0_27 k0_pay95 k0_pay94 k0_pay85 k0_pay84 k0_pay83 k0_pay80 k0_pay79
  refine two_rows (n := 128) (e := .bf16) (fun t j => bProj x0 x1 x2 t ⟨1792 + j.val, by omega⟩) _ _ _ _ ?_ ?_ (cover0_27 (F := Ideal) _ _) t j
  · intro r k
    exact (lines_apply (n := 128) 1792 (by omega) (vP x0 x1 x2 512 inb_S1x1024x1024_S1x512x1024_0_512_0) slices_S512x2048_o0_1792_S512x128 shapeCasts_S512x128_S1x512x128 r k).trans (vP_apply x0 x1 x2 512 (by omega) _ r _)
  · intro r k
    exact (lines_apply (n := 128) 1792 (by omega) (vP x0 x1 x2 0 inb_S1x1024x1024_S1x512x1024_0_0_0) slices_S512x2048_o0_1792_S512x128 shapeCasts_S512x128_S1x512x128 r k).trans (vP_apply x0 x1 x2 0 (by omega) _ r _)

/-- A block of window 28. -/
theorem block28 (t : Fin 1024) (j : Fin 256) : (out0_28 (F := Ideal) x0 x1 x2 x3 x4 x5 x6 x7 x8 x9 x10 x11 x12 x13 x14 x15 x16 x17 (ix3 0 j t) : EReal) = bProj x0 x1 x2 t ⟨512 + j.val, by omega⟩ := by
  unfold out0_28 k0_pay94 k0_pay84 k0_pay83 k0_pay80 k0_pay79
  refine two_cols (n := 256) (e := .bf16) (fun t j => bProj x0 x1 x2 t ⟨512 + j.val, by omega⟩) _ _ _ _ ?_ ?_ (cover0_28 (F := Ideal) _ _) t j
  · intro r k
    exact (flipCut_apply (n := 256) 512 (by omega) (vP x0 x1 x2 512 inb_S1x1024x1024_S1x512x1024_0_512_0) slices_S512x2048_o0_512_S512x256 transposes_S512x256_p1_0_S256x512 shapeCasts_S256x512_S1x256x512 r k).trans (vP_apply x0 x1 x2 512 (by omega) _ r _)
  · intro r k
    exact (flipCut_apply (n := 256) 512 (by omega) (vP x0 x1 x2 0 inb_S1x1024x1024_S1x512x1024_0_0_0) slices_S512x2048_o0_512_S512x256 transposes_S512x256_p1_0_S256x512 shapeCasts_S256x512_S1x256x512 r k).trans (vP_apply x0 x1 x2 0 (by omega) _ r _)

/-- A block of window 30. -/
theorem block30 (t : Fin 1024) (j : Fin 128) : (out0_30 (F := Ideal) x0 x1 x2 x3 x4 x5 x6 x7 x8 x9 x10 x11 x12 x13 x14 x15 x16 x17 (ix3 0 j t) : EReal) = bProj x0 x1 x2 t ⟨1792 + j.val, by omega⟩ := by
  unfold out0_30 k0_pay95 k0_pay94 k0_pay85 k0_pay84 k0_pay83 k0_pay80 k0_pay79
  refine two_cols (n := 128) (e := .bf16) (fun t j => bProj x0 x1 x2 t ⟨1792 + j.val, by omega⟩) _ _ _ _ ?_ ?_ (cover0_30 (F := Ideal) _ _) t j
  · intro r k
    exact (flipCut_apply (n := 128) 1792 (by omega) (vP x0 x1 x2 512 inb_S1x1024x1024_S1x512x1024_0_512_0) slices_S512x2048_o0_1792_S512x128 transposes_S512x128_p1_0_S128x512 shapeCasts_S128x512_S1x128x512 r k).trans (vP_apply x0 x1 x2 512 (by omega) _ r _)
  · intro r k
    exact (flipCut_apply (n := 128) 1792 (by omega) (vP x0 x1 x2 0 inb_S1x1024x1024_S1x512x1024_0_0_0) slices_S512x2048_o0_1792_S512x128 transposes_S512x128_p1_0_S128x512 shapeCasts_S128x512_S1x128x512 r k).trans (vP_apply x0 x1 x2 0 (by omega) _ r _)

/-- A block of window 23. -/
theorem block23 (t : Fin 1024) (j : Fin 256) : (out0_23 (F := Ideal) x0 x1 x2 x3 x4 x5 x6 x7 x8 x9 x10 x11 x12 x13 x14 x15 x16 x17 (ix3 0 t j) : EReal) = bUp x0 x1 x2 x5 x9 t j := by
  unfold out0_23 k0_pay99 k0_pay95 k0_pay94 k0_pay90 k0_pay89 k0_pay85 k0_pay84 k0_pay83 k0_pay80 k0_pay79
  refine two_rows (n := 256) (e := .bf16) (fun t j => bUp x0 x1 x2 x5 x9 t j) _ _ _ _ ?_ ?_ (cover0_23 (F := Ideal) _ _) t j
  · intro r k
    exact (shapeCast_ab_1ab_apply (a := 512) (b := 256) (vUp (F := Ideal) (vP x0 x1 x2 512 inb_S1x1024x1024_S1x512x1024_0_512_0) (View.ld (Val := Elt Ideal) (e' := .f32) x9 r0_13) (View.ld (Val := Elt Ideal) (e' := .bf16) x5 r0_16)) shapeCasts_S512x256_S1x512x256 0 r k).trans (vU_apply x0 x1 x2 x5 x9 512 (by omega) _ r k)
  · intro r k
    exact (shapeCast_ab_1ab_apply (a := 512) (b := 256) (vUp (F := Ideal) (vP x0 x1 x2 0 inb_S1x1024x1024_S1x512x1024_0_0_0) (View.ld (Val := Elt Ideal) (e' := .f32) x9 r0_13) (View.ld (Val := Elt Ideal) (e' := .bf16) x5 r0_16)) shapeCasts_S512x256_S1x512x256 0 r k).trans (vU_apply x0 x1 x2 x5 x9 0 (by omega) _ r k)

/-- A block of window 29. -/
theorem block29 (t : Fin 1024) (j : Fin 256) : (out0_29 (F := Ideal) x0 x1 x2 x3 x4 x5 x6 x7 x8 x9 x10 x11 x12 x13 x14 x15 x16 x17 (ix3 0 j t) : EReal) = bUp x0 x1 x2 x5 x9 t j := by
  unfold out0_29 k0_pay99 k0_pay95 k0_pay94 k0_pay90 k0_pay89 k0_pay85 k0_pay84 k0_pay83 k0_pay80 k0_pay79
  refine two_cols (n := 256) (e := .bf16) (fun t j => bUp x0 x1 x2 x5 x9 t j) _ _ _ _ ?_ ?_ (cover0_29 (F := Ideal) _ _) t j
  · intro r k
    exact (flip_apply (n := 256) (vUp (F := Ideal) (vP x0 x1 x2 512 inb_S1x1024x1024_S1x512x1024_0_512_0) (View.ld (Val := Elt Ideal) (e' := .f32) x9 r0_13) (View.ld (Val := Elt Ideal) (e' := .bf16) x5 r0_16)) transposes_S512x256_p1_0_S256x512 shapeCasts_S256x512_S1x256x512 r k).trans (vU_apply x0 x1 x2 x5 x9 512 (by omega) _ r k)
  · intro r k
    exact (flip_apply (n := 256) (vUp (F := Ideal) (vP x0 x1 x2 0 inb_S1x1024x1024_S1x512x1024_0_0_0) (View.ld (Val := Elt Ideal) (e' := .f32) x9 r0_13) (View.ld (Val := Elt Ideal) (e' := .bf16) x5 r0_16)) transposes_S512x256_p1_0_S256x512 shapeCasts_S256x512_S1x256x512 r k).trans (vU_apply x0 x1 x2 x5 x9 0 (by omega) _ r k)

end Block

end Cert.Kernel5Ideal.Proj

end
-- ==== Proof.HostF.lean ====
module

public import proofs.«01_k».proof.Proof.FrameF
public import Idealize.ShloMosaic.Lib.Pipeline.ValueKit
public import Idealize.ShloMosaic.Lib.Pipeline.Value
public import Idealize.ShloMosaic.Lib.Claim
public import Idealize.ShloMosaic.Lib.IdealHost
public import Idealize.ShloMosaic.Lib.KernelVsHost
public import Idealize.ShloMosaic.Lib.ValueLayout
public import Idealize.ShloMosaic.Lib.ValueLayoutCasts
public import proofs.«01_k».proof.Proof.ProjSpec

/-!
What the host hands to the projection kernel, entry by entry.
-/

@[expose] public section

set_option maxRecDepth 16384

noncomputable section

namespace Cert.Kernel5Ideal.Proj

open Cert.Kernel5Ideal Cert.Kernel5Ideal.Gen Cert.Proj
open Idealize.ShloMosaic hiding ix0 ix1 ix2 ix3 ix4 ix5
open Idealize.ShloMosaic.ValueIdx Idealize.ShloMosaic.TcCoe Finset

variable (m : (ℓ : Loc nD τ sig) → Buf (Elt Ideal) ℓ)

/-- An argument of the kernel. -/
abbrev argX (c : Dev nD) : FVec Ideal S8x4096x1024 .f32 := m ((c : Thread nD τ).loc main_arg0)
@[inherit_doc argX] abbrev argMod (c : Dev nD) : FVec Ideal S8x3072 .f32 := m ((c : Thread nD τ).loc main_arg1)
@[inherit_doc argX] abbrev argWin (c : Dev nD) : FVec Ideal S1024x7072 .f32 := m ((c : Thread nD τ).loc main_arg2)
@[inherit_doc argX] abbrev argG (c : Dev nD) : FVec Ideal S128 .f32 := m ((c : Thread nD τ).loc main_arg5)
@[inherit_doc argX] abbrev argU (c : Dev nD) : FVec Ideal S128x512 .f32 := m ((c : Thread nD τ).loc main_arg6)

/-- The modulation's three parts. -/
theorem mod_entry (c : Dev nD) (b : Fin 8) (i : Fin 3) (k : Fin 1024) :
    ((V m c main_v54 : FVec Ideal S8x3x1024 .f32) (ix3 b i k) : EReal) = argMod m c (ix2 b ⟨1024 * i.val + k.val, by omega⟩) := by
  simp only [V, List.flatten_cons, List.flatten_nil, List.append_nil, List.cons_append, List.nil_append]
  after_results
  refine Eq.trans ?_ (shapeCast_apply (argMod m c) shapeCasts_S8x3072_S8x3x1024 (ix3 b i k) (ix2 b ⟨1024 * i.val + k.val, by omega⟩) ?_)
  · rfl
  · rw [Shape.rowMajor_val_three, Shape.rowMajor_val_two]
    show b.val * 3072 + (1024 * i.val + k.val) = (b.val * 3 + i.val) * 1024 + k.val
    omega

/-- The gain. -/
theorem g_entry (c : Dev nD) (k : Fin 128) :
    ((V m c main_v45 : FVec Ideal S1x128 .f32) (ix2 0 k) : EReal) = argG m c (ix1 k) := by
  simp only [V, List.flatten_cons, List.flatten_nil, List.append_nil, List.cons_append, List.nil_append]
  after_results
  refine Eq.trans ?_ (shapeCast_a_1a_apply (a := 128) (argG m c) shapeCasts_S128_S1x128 0 k)
  rfl

/-- The second halves of the heads' columns. -/
def halves (u : FVec Ideal S128x512 .f32) : FVec Ideal S128x256 .f32 :=
  shapeCast S128x256 (extractStridedSlice S128x4x64 ![0, 0, 64] (shapeCast S128x4x128 u shapeCasts_S128x512_S128x4x128) slices_S128x4x128_S128x4x64_0_0_64) shapeCasts_S128x4x64_S128x256

theorem halves_apply (u : FVec Ideal S128x512 .f32) (j : Fin 128) (d : Fin 256) : halves u (ix2 j d) = u (ix2 j (valCol d)) := by
  unfold halves
  refine (shapeCast_apply _ shapeCasts_S128x4x64_S128x256 (ix2 j d) (ix3 j (⟨d.val / 64, by omega⟩ : Fin 4) (⟨d.val % 64, by omega⟩ : Fin 64)) ?_).trans ?_
  · rw [Shape.rowMajor_val_three, Shape.rowMajor_val_two]
    show (j.val * 4 + d.val / 64) * 64 + d.val % 64 = j.val * 256 + d.val
    omega
  · refine (extractStridedSlice_apply _ _ slices_S128x4x128_S128x4x64_0_0_64 _ (ix3 j (⟨d.val / 64, by omega⟩ : Fin 4) (⟨64 + d.val % 64, by omega⟩ : Fin 128)) fun a => ?_).trans ?_
    · match a with
      | ⟨0, _⟩ => exact (Nat.zero_add _).symm
      | ⟨1, _⟩ => exact (Nat.zero_add _).symm
      | ⟨2, _⟩ => rfl
    · refine shapeCast_apply u shapeCasts_S128x512_S128x4x128 _ (ix2 j (valCol d)) ?_
      rw [Shape.rowMajor_val_three, Shape.rowMajor_val_two]
      show j.val * 512 + (128 * (d.val / 64) + (64 + d.val % 64)) = (j.val * 4 + d.val / 64) * 128 + (64 + d.val % 64)
      omega

/-- The values' weights. -/
theorem u_entry (c : Dev nD) (j : Fin 128) (d : Fin 256) :
    ((V m c main_v43 : FVec Ideal S128x256 .bf16) (ix2 j d) : EReal) = argU m c (ix2 j (valCol d)) := by
  simp only [V, List.flatten_cons, List.flatten_nil, List.append_nil, List.cons_append, List.nil_append]
  after_results
  refine Eq.trans ?_ (halves_apply (argU m c) j d)
  rfl

/-- The first columns of the projection's weights. -/
def front (w : FVec Ideal S1024x7072 .f32) : FVec Ideal S1024x1952 .bf16 :=
  extractStridedSlice S1024x1952 ![0, 0] (truncf .bf16 w bitsLt_bf16_f32) slices_S1024x7072_S1024x1952_0_0

/-- Columns of them. -/
theorem front_apply {n : ℕ} (o : ℕ) (ho : o + n ≤ 1952) (w : FVec Ideal S1024x7072 .f32) (h : S1024x1952.Slices ![0, o] ⟨2, ![1024, n]⟩) (k : Fin 1024) (j : Fin n) :
    (extractStridedSlice ⟨2, ![1024, n]⟩ ![0, o] (front w) h (ix2 k j) : EReal) = w (ix2 k ⟨o + j.val, by omega⟩) :=
  (slice2_axis1_apply (n0 := 1024) (n1 := 1952) (m := n) o (front w) h k j ⟨o + j.val, by omega⟩ rfl).trans
    (slice2_axis1_apply (n0 := 1024) (n1 := 7072) (m := 1952) 0 (truncf .bf16 w bitsLt_bf16_f32 : FVec Ideal S1024x7072 .bf16) slices_S1024x7072_S1024x1952_0_0 k _ ⟨o + j.val, by omega⟩
      (Nat.zero_add _).symm)

/-- The pieces the weights are put together from. -/
def parts (w : FVec Ideal S1024x7072 .f32) (z0 z3 z6 : FVec Ideal S1024x256 .bf16) (z7 : FVec Ideal S1024x128 .bf16) (z9 : FVec Ideal S1024x32 .bf16) (z10 : FVec Ideal S1024x96 .bf16) :
    List ((s : Shape) × (s.Idx → Ideal .bf16)) :=
  [⟨S1024x256, z0⟩, ⟨S1024x256, extractStridedSlice S1024x256 ![0, 256] (front w) slices_S1024x1952_S1024x256_0_256⟩,
    ⟨S1024x256, extractStridedSlice S1024x256 ![0, 512] (front w) slices_S1024x1952_S1024x256_0_512⟩, ⟨S1024x256, z3⟩,
    ⟨S1024x128, extractStridedSlice S1024x128 ![0, 1024] (front w) slices_S1024x1952_S1024x128_0_1024⟩,
    ⟨S1024x256, extractStridedSlice S1024x256 ![0, 1184] (front w) slices_S1024x1952_S1024x256_0_1184⟩, ⟨S1024x256, z6⟩, ⟨S1024x128, z7⟩,
    ⟨S1024x128, extractStridedSlice S1024x128 ![0, 1824] (front w) slices_S1024x1952_S1024x128_0_1824⟩, ⟨S1024x32, z9⟩, ⟨S1024x96, z10⟩]

/-- The projection's weights as the kernel receives them. -/
theorem w_parts (c : Dev nD) : ∃ z0 z3 z6 z7 z9 z10, (V m c main_v31 : FVec Ideal S1024x2048 .bf16)
    = concatenate S1024x2048 1 (parts (argWin m c) z0 z3 z6 z7 z9 z10)
      concatenates_S1024x256_S1024x256_S1024x256_S1024x256_S1024x128_S1024x256_S1024x256_S1024x128_S1024x128_S1024x32_S1024x96_S1024x2048_d1 := by
  simp only [V, List.flatten_cons, List.flatten_nil, List.append_nil, List.cons_append, List.nil_append]
  after_results
  exact ⟨_, _, _, _, _, _, rfl⟩

/-- Columns of the weights. -/
theorem w_entry1 (c : Dev nD) (k : Fin 1024) (j : Fin 256) :
    ((V m c main_v31 : FVec Ideal S1024x2048 .bf16) (ix2 k ⟨256 + j.val, by omega⟩) : EReal) = argWin m c (ix2 k ⟨256 + j.val, by omega⟩) := by
  obtain ⟨z0, z3, z6, z7, z9, z10, e⟩ := w_parts m c
  rw [e]
  refine (concatenate_apply_piece 1 (parts (argWin m c) z0 z3 z6 z7 z9 z10) concatenates_S1024x256_S1024x256_S1024x256_S1024x256_S1024x128_S1024x256_S1024x256_S1024x128_S1024x128_S1024x32_S1024x96_S1024x2048_d1 (ix2 k ⟨256 + j.val, by omega⟩) 1 (by decide : 1 < 11) S1024x256 _ rfl rfl 256 rfl
    (ix2 k j) (fun b hb => ?_) rfl).trans (front_apply 256 (by omega) (argWin m c) slices_S1024x1952_S1024x256_0_256 k j)
  match b with
  | ⟨0, _⟩ => rfl
  | ⟨1, _⟩ => exact absurd rfl hb

/-- Columns of the weights. -/
theorem w_entry2 (c : Dev nD) (k : Fin 1024) (j : Fin 256) :
    ((V m c main_v31 : FVec Ideal S1024x2048 .bf16) (ix2 k ⟨512 + j.val, by omega⟩) : EReal) = argWin m c (ix2 k ⟨512 + j.val, by omega⟩) := by
  obtain ⟨z0, z3, z6, z7, z9, z10, e⟩ := w_parts m c
  rw [e]
  refine (concatenate_apply_piece 1 (parts (argWin m c) z0 z3 z6 z7 z9 z10) concatenates_S1024x256_S1024x256_S1024x256_S1024x256_S1024x128_S1024x256_S1024x256_S1024x128_S1024x128_S1024x32_S1024x96_S1024x2048_d1 (ix2 k ⟨512 + j.val, by omega⟩) 2 (by decide : 2 < 11) S1024x256 _ rfl rfl 512 rfl
    (ix2 k j) (fun b hb => ?_) rfl).trans (front_apply 512 (by omega) (argWin m c) slices_S1024x1952_S1024x256_0_512 k j)
  match b with
  | ⟨0, _⟩ => rfl
  | ⟨1, _⟩ => exact absurd rfl hb

/-- Columns of the weights. -/
theorem w_entry4 (c : Dev nD) (k : Fin 1024) (j : Fin 128) :
    ((V m c main_v31 : FVec Ideal S1024x2048 .bf16) (ix2 k ⟨1024 + j.val, by omega⟩) : EReal) = argWin m c (ix2 k ⟨1024 + j.val, by omega⟩) := by
  obtain ⟨z0, z3, z6, z7, z9, z10, e⟩ := w_parts m c
  rw [e]
  refine (concatenate_apply_piece 1 (parts (argWin m c) z0 z3 z6 z7 z9 z10) concatenates_S1024x256_S1024x256_S1024x256_S1024x256_S1024x128_S1024x256_S1024x256_S1024x128_S1024x128_S1024x32_S1024x96_S1024x2048_d1 (ix2 k ⟨1024 + j.val, by omega⟩) 4 (by decide : 4 < 11) S1024x128 _ rfl rfl 1024 rfl
    (ix2 k j) (fun b hb => ?_) rfl).trans (front_apply 1024 (by omega) (argWin m c) slices_S1024x1952_S1024x128_0_1024 k j)
  match b with
  | ⟨0, _⟩ => rfl
  | ⟨1, _⟩ => exact absurd rfl hb

/-- Columns of the weights. -/
theorem w_entry5 (c : Dev nD) (k : Fin 1024) (j : Fin 256) :
    ((V m c main_v31 : FVec Ideal S1024x2048 .bf16) (ix2 k ⟨1152 + j.val, by omega⟩) : EReal) = argWin m c (ix2 k ⟨1184 + j.val, by omega⟩) := by
  obtain ⟨z0, z3, z6, z7, z9, z10, e⟩ := w_parts m c
  rw [e]
  refine (concatenate_apply_piece 1 (parts (argWin m c) z0 z3 z6 z7 z9 z10) concatenates_S1024x256_S1024x256_S1024x256_S1024x256_S1024x128_S1024x256_S1024x256_S1024x128_S1024x128_S1024x32_S1024x96_S1024x2048_d1 (ix2 k ⟨1152 + j.val, by omega⟩) 5 (by decide : 5 < 11) S1024x256 _ rfl rfl 1152 rfl
    (ix2 k j) (fun b hb => ?_) rfl).trans (front_apply 1184 (by omega) (argWin m c) slices_S1024x1952_S1024x256_0_1184 k j)
  match b with
  | ⟨0, _⟩ => rfl
  | ⟨1, _⟩ => exact absurd rfl hb

/-- Columns of the weights. -/
theorem w_entry8 (c : Dev nD) (k : Fin 1024) (j : Fin 128) :
    ((V m c main_v31 : FVec Ideal S1024x2048 .bf16) (ix2 k ⟨1792 + j.val, by omega⟩) : EReal) = argWin m c (ix2 k ⟨1824 + j.val, by omega⟩) := by
  obtain ⟨z0, z3, z6, z7, z9, z10, e⟩ := w_parts m c
  rw [e]
  refine (concatenate_apply_piece 1 (parts (argWin m c) z0 z3 z6 z7 z9 z10) concatenates_S1024x256_S1024x256_S1024x256_S1024x256_S1024x128_S1024x256_S1024x256_S1024x128_S1024x128_S1024x32_S1024x96_S1024x2048_d1 (ix2 k ⟨1792 + j.val, by omega⟩) 8 (by decide : 8 < 11) S1024x128 _ rfl rfl 1792 rfl
    (ix2 k j) (fun b hb => ?_) rfl).trans (front_apply 1824 (by omega) (argWin m c) slices_S1024x1952_S1024x128_0_1824 k j)
  match b with
  | ⟨0, _⟩ => rfl
  | ⟨1, _⟩ => exact absurd rfl hb

end Cert.Kernel5Ideal.Proj

end
-- ==== Proof.FinalF.lean ====
module

public import proofs.«01_k».proof.Proof.BlockF
public import proofs.«01_k».proof.Proof.HostF
public import Idealize.ShloMosaic.Lib.Pipeline.Value

/-!
The arrays the projection kernel leaves.
-/

@[expose] public section

set_option maxRecDepth 16384

noncomputable section

namespace Cert.Kernel5Ideal.Proj

open Cert.Kernel5Ideal Cert.Kernel5Ideal.Gen Cert.Proj
open Cert.Merge (modu)
open Idealize.ShloMosaic hiding ix0 ix1 ix2 ix3 ix4 ix5
open Idealize.ShloMosaic.ValueIdx Idealize.ShloMosaic.TcCoe Finset

variable (m : (ℓ : Loc nD τ sig) → Buf (Elt Ideal) ℓ)

/-- Where the windows of a grid point lie. -/
theorem idx : ∀ t : Fin cfg0.N,
    win0_0.index t = ![t.val % 8, t.val / 8, 0]
    ∧ win0_1.index t = ![t.val % 8, 0, 0]
    ∧ win0_2.index t = ![0, 0]
    ∧ win0_5.index t = ![0, 0]
    ∧ win0_9.index t = ![0, 0]
    ∧ win0_19.index t = ![t.val % 8, t.val / 8, 0]
    ∧ win0_20.index t = ![t.val % 8, t.val / 8, 0]
    ∧ win0_23.index t = ![t.val % 8, t.val / 8, 0]
    ∧ win0_24.index t = ![t.val % 8, t.val / 8, 0]
    ∧ win0_27.index t = ![t.val % 8, t.val / 8, 0]
    ∧ win0_28.index t = ![t.val % 8, 0, t.val / 8]
    ∧ win0_29.index t = ![t.val % 8, 0, t.val / 8]
    ∧ win0_30.index t = ![t.val % 8, 0, t.val / 8] :=
  (by decide +kernel : ∀ t : Fin grid0.N, _)

theorem lt_N (t : Fin cfg0.N) : t.val < 32 := t.isLt

/-- The batch entry of a grid point, and the lines of its block. -/
abbrev bat (t : Fin cfg0.N) : Fin 8 := ⟨t.val % 8, by omega⟩
@[inherit_doc bat] abbrev line (t : Fin cfg0.N) (r : Fin 1024) : Fin 4096 := ⟨1024 * (t.val / 8) + r.val, by have := lt_N t; omega⟩

/-! The blocks of a grid point, named. -/

def B0 (c : Dev nD) (t : Fin cfg0.N) : FVec Ideal S1x1024x1024 .f32 := iblk m c 0 t
def B1 (c : Dev nD) (t : Fin cfg0.N) : FVec Ideal S1x3x1024 .f32 := iblk m c 1 t
def B2 (c : Dev nD) (t : Fin cfg0.N) : FVec Ideal S1024x2048 .bf16 := iblk m c 2 t
def B3 (c : Dev nD) (t : Fin cfg0.N) : FVec Ideal S256x512 .bf16 := iblk m c 3 t
def B4 (c : Dev nD) (t : Fin cfg0.N) : FVec Ideal S128x512 .bf16 := iblk m c 4 t
def B5 (c : Dev nD) (t : Fin cfg0.N) : FVec Ideal S128x256 .bf16 := iblk m c 5 t
def B6 (c : Dev nD) (t : Fin cfg0.N) : FVec Ideal S128x512 .bf16 := iblk m c 6 t
def B7 (c : Dev nD) (t : Fin cfg0.N) : FVec Ideal S256x256 .bf16 := iblk m c 7 t
def B8 (c : Dev nD) (t : Fin cfg0.N) : FVec Ideal S1x256 .f32 := iblk m c 8 t
def B9 (c : Dev nD) (t : Fin cfg0.N) : FVec Ideal S1x128 .f32 := iblk m c 9 t
def B10 (c : Dev nD) (t : Fin cfg0.N) : FVec Ideal S1x256 .f32 := iblk m c 10 t
def B11 (c : Dev nD) (t : Fin cfg0.N) : FVec Ideal S1x128 .f32 := iblk m c 11 t
def B12 (c : Dev nD) (t : Fin cfg0.N) : FVec Ideal S1024x128 .f32 := iblk m c 12 t
def B13 (c : Dev nD) (t : Fin cfg0.N) : FVec Ideal S1024x128 .f32 := iblk m c 13 t
def B14 (c : Dev nD) (t : Fin cfg0.N) : FVec Ideal S1024x128 .f32 := iblk m c 14 t
def B15 (c : Dev nD) (t : Fin cfg0.N) : FVec Ideal S1024x128 .f32 := iblk m c 15 t
def B16 (c : Dev nD) (t : Fin cfg0.N) : FVec Ideal S1024x128 .f32 := iblk m c 16 t
def B17 (c : Dev nD) (t : Fin cfg0.N) : FVec Ideal S1024x128 .f32 := iblk m c 17 t

/-! An entry of a block is an entry of the array it is cut from. -/

theorem read0 (X : FVec Ideal S8x4096x1024 .f32) (t : Fin cfg0.N) (r : Fin 1024) (e : Fin 1024) :
    (((cfg0.win 0).blk t).view.read (Elt Ideal) X : FVec Ideal S1x1024x1024 .f32) (ix3 0 r e) = X (ix3 (bat t) (line t r) e) := by
  blk_ext [idx t]
  · show _ * 1024 + r.val = _
    omega

theorem blk0 (c : Dev nD) (t : Fin cfg0.N) (r : Fin 1024) (e : Fin 1024) :
    B0 m c t (ix3 0 r e) = (V m c main_arg0 : FVec Ideal S8x4096x1024 .f32) (ix3 (bat t) (line t r) e) :=
  read0 (V m c main_arg0) t r e

theorem read1 (X : FVec Ideal S8x3x1024 .f32) (t : Fin cfg0.N) (r : Fin 3) (e : Fin 1024) :
    (((cfg0.win 1).blk t).view.read (Elt Ideal) X : FVec Ideal S1x3x1024 .f32) (ix3 0 r e) = X (ix3 (bat t) r e) := by
  blk_ext [idx t]

theorem blk1 (c : Dev nD) (t : Fin cfg0.N) (r : Fin 3) (e : Fin 1024) :
    B1 m c t (ix3 0 r e) = (V m c main_v54 : FVec Ideal S8x3x1024 .f32) (ix3 (bat t) r e) :=
  read1 (V m c main_v54) t r e

theorem read2 (X : FVec Ideal S1024x2048 .bf16) (t : Fin cfg0.N) (r : Fin 1024) (e : Fin 2048) :
    (((cfg0.win 2).blk t).view.read (Elt Ideal) X : FVec Ideal S1024x2048 .bf16) (ix2 r e) = X (ix2 r e) := by
  blk_ext [idx t]

theorem blk2 (c : Dev nD) (t : Fin cfg0.N) (r : Fin 1024) (e : Fin 2048) :
    B2 m c t (ix2 r e) = (V m c main_v31 : FVec Ideal S1024x2048 .bf16) (ix2 r e) :=
  read2 (V m c main_v31) t r e

theorem read5 (X : FVec Ideal S128x256 .bf16) (t : Fin cfg0.N) (r : Fin 128) (e : Fin 256) :
    (((cfg0.win 5).blk t).view.read (Elt Ideal) X : FVec Ideal S128x256 .bf16) (ix2 r e) = X (ix2 r e) := by
  blk_ext [idx t]

theorem blk5 (c : Dev nD) (t : Fin cfg0.N) (r : Fin 128) (e : Fin 256) :
    B5 m c t (ix2 r e) = (V m c main_v43 : FVec Ideal S128x256 .bf16) (ix2 r e) :=
  read5 (V m c main_v43) t r e

theorem read9 (X : FVec Ideal S1x128 .f32) (t : Fin cfg0.N) (r : Fin 1) (e : Fin 128) :
    (((cfg0.win 9).blk t).view.read (Elt Ideal) X : FVec Ideal S1x128 .f32) (ix2 r e) = X (ix2 r e) := by
  blk_ext [idx t]

theorem blk9 (c : Dev nD) (t : Fin cfg0.N) (r : Fin 1) (e : Fin 128) :
    B9 m c t (ix2 r e) = (V m c main_v45 : FVec Ideal S1x128 .f32) (ix2 r e) :=
  read9 (V m c main_v45) t r e

theorem read19 (X : FVec Ideal S8x4096x256 .bf16) (t : Fin cfg0.N) (r : Fin 1024) (j : Fin 256) :
    X ((win0_19.blk t).view.emb (ix3 0 r j)) = X (ix3 (bat t) (line t r) j) := by
  blk_ext [idx t]
  · show _ * 1024 + r.val = _
    omega

theorem read20 (X : FVec Ideal S8x4096x256 .bf16) (t : Fin cfg0.N) (r : Fin 1024) (j : Fin 256) :
    X ((win0_20.blk t).view.emb (ix3 0 r j)) = X (ix3 (bat t) (line t r) j) := by
  blk_ext [idx t]
  · show _ * 1024 + r.val = _
    omega

theorem read23 (X : FVec Ideal S8x4096x256 .bf16) (t : Fin cfg0.N) (r : Fin 1024) (j : Fin 256) :
    X ((win0_23.blk t).view.emb (ix3 0 r j)) = X (ix3 (bat t) (line t r) j) := by
  blk_ext [idx t]
  · show _ * 1024 + r.val = _
    omega

theorem read24 (X : FVec Ideal S8x4096x256 .f32) (t : Fin cfg0.N) (r : Fin 1024) (j : Fin 256) :
    X ((win0_24.blk t).view.emb (ix3 0 r j)) = X (ix3 (bat t) (line t r) j) := by
  blk_ext [idx t]
  · show _ * 1024 + r.val = _
    omega

theorem read27 (X : FVec Ideal S8x4096x128 .bf16) (t : Fin cfg0.N) (r : Fin 1024) (j : Fin 128) :
    X ((win0_27.blk t).view.emb (ix3 0 r j)) = X (ix3 (bat t) (line t r) j) := by
  blk_ext [idx t]
  · show _ * 1024 + r.val = _
    omega

theorem read28 (X : FVec Ideal S8x256x4096 .bf16) (t : Fin cfg0.N) (r : Fin 1024) (j : Fin 256) :
    X ((win0_28.blk t).view.emb (ix3 0 j r)) = X (ix3 (bat t) j (line t r)) := by
  blk_ext [idx t]
  · show _ * 1024 + r.val = _
    omega

theorem read29 (X : FVec Ideal S8x256x4096 .bf16) (t : Fin cfg0.N) (r : Fin 1024) (j : Fin 256) :
    X ((win0_29.blk t).view.emb (ix3 0 j r)) = X (ix3 (bat t) j (line t r)) := by
  blk_ext [idx t]
  · show _ * 1024 + r.val = _
    omega

theorem read30 (X : FVec Ideal S8x128x4096 .bf16) (t : Fin cfg0.N) (r : Fin 1024) (j : Fin 128) :
    X ((win0_30.blk t).view.emb (ix3 0 j r)) = X (ix3 (bat t) j (line t r)) := by
  blk_ext [idx t]
  · show _ * 1024 + r.val = _
    omega

/-- A projection of a block's row is the projection of the row it is cut from. -/
theorem proj_point (c : Dev nD) (t : Fin cfg0.N) (r : Fin 1024) (e : Fin 2048) (e' : Fin 7072)
    (h : ∀ k, ((V m c main_v31 : FVec Ideal S1024x2048 .bf16) (ix2 k e) : EReal) = argWin m c (ix2 k e')) :
    bProj (B0 m c t) (B1 m c t) (B2 m c t) r e = proj (argX m c) (argMod m c) (argWin m c) (bat t) (line t r) e' := by
  unfold bProj proj xm
  have h0 : ∀ k : Fin 1024, B1 m c t (ix3 0 0 k) = argMod m c (ix2 (bat t) ⟨k.val, by omega⟩) := fun k =>
    (blk1 m c t 0 k).trans ((mod_entry m c (bat t) 0 k).trans (congrArg (argMod m c) (congrArg (ix2 (bat t)) (Fin.ext (by show 1024 * 0 + k.val = k.val; omega)))))
  have h1 : ∀ k : Fin 1024, B1 m c t (ix3 0 1 k) = argMod m c (ix2 (bat t) ⟨1024 + k.val, by omega⟩) := fun k =>
    (blk1 m c t 1 k).trans ((mod_entry m c (bat t) 1 k).trans (congrArg (argMod m c) (congrArg (ix2 (bat t)) (Fin.ext (by show 1024 * 1 + k.val = 1024 + k.val; omega)))))
  have hx : ∀ k, B0 m c t (ix3 0 r k) = argX m c (ix3 (bat t) (line t r) k) := fun k =>
    (blk0 m c t r k).trans (congrFun (V_main_arg0 m c) _)
  have hw : ∀ k, (B2 m c t (ix2 k e) : EReal) = argWin m c (ix2 k e') := fun k => (blk2 m c t k e).trans (h k)
  simp only [h0, h1, hx, hw]

/-- The values of a block's row. -/
theorem up_point (c : Dev nD) (t : Fin cfg0.N) (r : Fin 1024) (d : Fin 256) :
    bUp (B0 m c t) (B1 m c t) (B2 m c t) (B5 m c t) (B9 m c t) r d = up (argX m c) (argMod m c) (argWin m c) (argG m c) (argU m c) (bat t) (line t r) d := by
  unfold bUp up cut
  have hp : ∀ k : Fin 128, bProj (B0 m c t) (B1 m c t) (B2 m c t) r ⟨1024 + k.val, by omega⟩
      = proj (argX m c) (argMod m c) (argWin m c) (bat t) (line t r) ⟨1024 + k.val, by omega⟩ := fun k => proj_point m c t r _ _ fun l => w_entry4 m c l k
  have hg : ∀ k, B9 m c t (ix2 0 k) = argG m c (ix1 k) := fun k => (blk9 m c t 0 k).trans (g_entry m c k)
  have hu : ∀ j, (B5 m c t (ix2 j d) : EReal) = argU m c (ix2 j (valCol d)) := fun j => (blk5 m c t j d).trans (u_entry m c j d)
  simp only [hp, hg, hu]

/-- The array of window 19 after the run. -/
theorem final19 (c : Dev nD) : ((dats m 0 c).arrAt 19 cfg0.N : S8x4096x256.Idx → EReal) = ofRows (cut (argX m c) (argMod m c) (argWin m c) 256 256 (by omega)) := by
  refine (dats m 0 c).arrAt_eq_of_covers 19 _ (by decide +kernel) fun t _ y => ?_
  blk_simp
  rw [after0_19]
  have hy : y = (ix3 (0 : Fin 1) (y 1) (y 2) : S1x1024x256.Idx) := by
    funext a
    match a with
    | ⟨0, _⟩ => exact Subsingleton.elim (α := Fin 1) _ _
    | ⟨1, _⟩ => rfl
    | ⟨2, _⟩ => rfl
  rw [hy]
  exact (block19 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 1) (y 2)).trans ((proj_point m c t (y 1) _ _ fun k => w_entry1 m c k (y 2)).trans (read19 (ofRows (cut (argX m c) (argMod m c) (argWin m c) 256 256 (by omega))) t (y 1) (y 2)).symm)

/-- The array of window 20 after the run. -/
theorem final20 (c : Dev nD) : ((dats m 0 c).arrAt 20 cfg0.N : S8x4096x256.Idx → EReal) = ofRows (cut (argX m c) (argMod m c) (argWin m c) 256 512 (by omega)) := by
  refine (dats m 0 c).arrAt_eq_of_covers 20 _ (by decide +kernel) fun t _ y => ?_
  blk_simp
  rw [after0_20]
  have hy : y = (ix3 (0 : Fin 1) (y 1) (y 2) : S1x1024x256.Idx) := by
    funext a
    match a with
    | ⟨0, _⟩ => exact Subsingleton.elim (α := Fin 1) _ _
    | ⟨1, _⟩ => rfl
    | ⟨2, _⟩ => rfl
  rw [hy]
  exact (block20 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 1) (y 2)).trans ((proj_point m c t (y 1) _ _ fun k => w_entry2 m c k (y 2)).trans (read20 (ofRows (cut (argX m c) (argMod m c) (argWin m c) 256 512 (by omega))) t (y 1) (y 2)).symm)

/-- The array of window 23 after the run. -/
theorem final23 (c : Dev nD) : ((dats m 0 c).arrAt 23 cfg0.N : S8x4096x256.Idx → EReal) = ofRows (up (argX m c) (argMod m c) (argWin m c) (argG m c) (argU m c)) := by
  refine (dats m 0 c).arrAt_eq_of_covers 23 _ (by decide +kernel) fun t _ y => ?_
  blk_simp
  rw [after0_23]
  have hy : y = (ix3 (0 : Fin 1) (y 1) (y 2) : S1x1024x256.Idx) := by
    funext a
    match a with
    | ⟨0, _⟩ => exact Subsingleton.elim (α := Fin 1) _ _
    | ⟨1, _⟩ => rfl
    | ⟨2, _⟩ => rfl
  rw [hy]
  exact (block23 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 1) (y 2)).trans ((up_point m c t (y 1) (y 2)).trans (read23 (ofRows (up (argX m c) (argMod m c) (argWin m c) (argG m c) (argU m c))) t (y 1) (y 2)).symm)

/-- The array of window 24 after the run. -/
theorem final24 (c : Dev nD) : ((dats m 0 c).arrAt 24 cfg0.N : S8x4096x256.Idx → EReal) = ofRows (cut (argX m c) (argMod m c) (argWin m c) 256 1184 (by omega)) := by
  refine (dats m 0 c).arrAt_eq_of_covers 24 _ (by decide +kernel) fun t _ y => ?_
  blk_simp
  rw [after0_24]
  have hy : y = (ix3 (0 : Fin 1) (y 1) (y 2) : S1x1024x256.Idx) := by
    funext a
    match a with
    | ⟨0, _⟩ => exact Subsingleton.elim (α := Fin 1) _ _
    | ⟨1, _⟩ => rfl
    | ⟨2, _⟩ => rfl
  rw [hy]
  exact (block24 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 1) (y 2)).trans ((proj_point m c t (y 1) _ _ fun k => w_entry5 m c k (y 2)).trans (read24 (ofRows (cut (argX m c) (argMod m c) (argWin m c) 256 1184 (by omega))) t (y 1) (y 2)).symm)

/-- The array of window 27 after the run. -/
theorem final27 (c : Dev nD) : ((dats m 0 c).arrAt 27 cfg0.N : S8x4096x128.Idx → EReal) = ofRows (cut (argX m c) (argMod m c) (argWin m c) 128 1824 (by omega)) := by
  refine (dats m 0 c).arrAt_eq_of_covers 27 _ (by decide +kernel) fun t _ y => ?_
  blk_simp
  rw [after0_27]
  have hy : y = (ix3 (0 : Fin 1) (y 1) (y 2) : S1x1024x128.Idx) := by
    funext a
    match a with
    | ⟨0, _⟩ => exact Subsingleton.elim (α := Fin 1) _ _
    | ⟨1, _⟩ => rfl
    | ⟨2, _⟩ => rfl
  rw [hy]
  exact (block27 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 1) (y 2)).trans ((proj_point m c t (y 1) _ _ fun k => w_entry8 m c k (y 2)).trans (read27 (ofRows (cut (argX m c) (argMod m c) (argWin m c) 128 1824 (by omega))) t (y 1) (y 2)).symm)

/-- The array of window 28 after the run. -/
theorem final28 (c : Dev nD) : ((dats m 0 c).arrAt 28 cfg0.N : S8x256x4096.Idx → EReal) = ofCols (cut (argX m c) (argMod m c) (argWin m c) 256 512 (by omega)) := by
  refine (dats m 0 c).arrAt_eq_of_covers 28 _ (by decide +kernel) fun t _ y => ?_
  blk_simp
  rw [after0_28]
  have hy : y = (ix3 (0 : Fin 1) (y 1) (y 2) : S1x256x1024.Idx) := by
    funext a
    match a with
    | ⟨0, _⟩ => exact Subsingleton.elim (α := Fin 1) _ _
    | ⟨1, _⟩ => rfl
    | ⟨2, _⟩ => rfl
  rw [hy]
  exact (block28 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 2) (y 1)).trans ((proj_point m c t (y 2) _ _ fun k => w_entry2 m c k (y 1)).trans (read28 (ofCols (cut (argX m c) (argMod m c) (argWin m c) 256 512 (by omega))) t (y 2) (y 1)).symm)

/-- The array of window 29 after the run. -/
theorem final29 (c : Dev nD) : ((dats m 0 c).arrAt 29 cfg0.N : S8x256x4096.Idx → EReal) = ofCols (up (argX m c) (argMod m c) (argWin m c) (argG m c) (argU m c)) := by
  refine (dats m 0 c).arrAt_eq_of_covers 29 _ (by decide +kernel) fun t _ y => ?_
  blk_simp
  rw [after0_29]
  have hy : y = (ix3 (0 : Fin 1) (y 1) (y 2) : S1x256x1024.Idx) := by
    funext a
    match a with
    | ⟨0, _⟩ => exact Subsingleton.elim (α := Fin 1) _ _
    | ⟨1, _⟩ => rfl
    | ⟨2, _⟩ => rfl
  rw [hy]
  exact (block29 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 2) (y 1)).trans ((up_point m c t (y 2) (y 1)).trans (read29 (ofCols (up (argX m c) (argMod m c) (argWin m c) (argG m c) (argU m c))) t (y 2) (y 1)).symm)

/-- The array of window 30 after the run. -/
theorem final30 (c : Dev nD) : ((dats m 0 c).arrAt 30 cfg0.N : S8x128x4096.Idx → EReal) = ofCols (cut (argX m c) (argMod m c) (argWin m c) 128 1824 (by omega)) := by
  refine (dats m 0 c).arrAt_eq_of_covers 30 _ (by decide +kernel) fun t _ y => ?_
  blk_simp
  rw [after0_30]
  have hy : y = (ix3 (0 : Fin 1) (y 1) (y 2) : S1x128x1024.Idx) := by
    funext a
    match a with
    | ⟨0, _⟩ => exact Subsingleton.elim (α := Fin 1) _ _
    | ⟨1, _⟩ => rfl
    | ⟨2, _⟩ => rfl
  rw [hy]
  exact (block30 (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (y 2) (y 1)).trans ((proj_point m c t (y 2) _ _ fun k => w_entry8 m c k (y 1)).trans (read30 (ofCols (cut (argX m c) (argMod m c) (argWin m c) 128 1824 (by omega))) t (y 2) (y 1)).symm)

end Cert.Kernel5Ideal.Proj

end
-- ==== Proof.RefF.lean ====
module

public import proofs.«01_k».proof.Proof.ProjSpec
public import proofs.«01_k».proof.Proof.RefM
public import proofs.«01_k».proof.Proof.Gen.Reference5Ideal.Read

/-!
The reference of the projections, read entry by entry.
-/

@[expose] public section

set_option maxRecDepth 16384

noncomputable section

namespace Cert.Reference5Ideal.Plain

open Cert.Reference5Ideal Cert.Reference5Ideal.Gen Cert.Reference5Ideal.Read Cert.Proj
open Cert.Merge (mean cen norm modu)
open Cert.Reference3Ideal.Plain (at1 at2 at3 ext3)
open Idealize.ShloMosaic hiding ix0 ix1 ix2 ix3 ix4 ix5
open Idealize.ShloMosaic.ValueIdx Finset

variable (x0 : FVec Ideal S8x4096x1024 .f32) (x1 : FVec Ideal S8x3072 .f32) (x2 : FVec Ideal S1024x7072 .f32) (x5 : FVec Ideal S128 .f32) (x6 : FVec Ideal S128x512 .f32)

attribute [local irreducible] val_main_v0 val_main_v1 val_main_v2 val_main_v3 val_main_cst val_main_v4 val_main_v5 val_main_cst_0 val_main_v6 val_main_v7 val_main_v8 val_main_v9 val_main_v10 val_main_cst_1 val_main_v11 val_main_v12 val_main_cst_2 val_main_v13 val_main_v14 val_main_v15 val_main_v16 val_main_cst_3 val_main_v17 val_main_v18 val_main_v19 val_main_v20 val_main_v21 val_main_cst_4 val_main_v22 val_main_v23 val_main_v24 val_main_v25 val_main_v26 val_main_v27 val_main_v28 val_main_v29 val_main_v30 val_main_v31 val_main_v32 val_main_v33 val_main_v34 val_main_cst_5 val_main_v35 val_main_v36 val_main_cst_6 val_main_v37 val_main_v38 val_main_cst_7 val_main_v39 val_main_v40 val_main_v41 val_main_v42 val_main_v43 val_main_v44 val_main_v45 val_main_v46 val_main_v47 val_main_v48 val_main_v49 val_main_v50 val_main_v51 val_main_v52 val_main_v53 val_main_v54 val_main_v55 val_main_v56 val_main_v57 val_main_v58 val_main_v59 val_main_v60

/-- The mean of a row of the input. -/
theorem mean1 (b : Fin 8) (t : Fin 4096) :
    (val_main_v7 (F := Ideal) x0 (ix3 b t 0) : EReal) = mean (fun k => x0 (ix3 b t k)) := by
  rw [val_main_v7_apply, val_main_v5_apply, val_main_v6_apply, val_main_cst_0_apply, val_main_v4_apply, val_main_cst_apply]
  refine congrArg (fun p : EReal => Ideal.div p (Ideal.ofBits .f32 0x44800000#32)) ?_
  show (Ideal.ofBits .f32 0x00000000#32 : EReal) + _ = _
  rw [Ideal.ofBits_zero_f32, zero_add]
  exact sum_congr rfl fun k _ => at3 (x0) _ b t k rfl rfl rfl

/-- A centred entry of the input. -/
theorem cen1 (b : Fin 8) (t : Fin 4096) (j : Fin 1024) :
    (val_main_v9 (F := Ideal) x0 (ix3 b t j) : EReal) = cen (fun k => x0 (ix3 b t k)) j := by
  rw [val_main_v9_apply, val_main_v8_apply]
  exact congrArg (fun p : EReal => x0 (ix3 b t j) - p) ((at3 (val_main_v7 (F := Ideal) x0) _ b t 0 rfl rfl rfl).trans (mean1 x0 b t))

@[inherit_doc cen1] theorem cen'1 (b : Fin 8) (t : Fin 4096) (j : Fin 1024) :
    (val_main_v16 (F := Ideal) x0 (ix3 b t j) : EReal) = cen (fun k => x0 (ix3 b t k)) j := by
  rw [val_main_v16_apply, val_main_v15_apply]
  exact congrArg (fun p : EReal => x0 (ix3 b t j) - p) ((at3 (val_main_v7 (F := Ideal) x0) _ b t 0 rfl rfl rfl).trans (mean1 x0 b t))

/-- The mean of the squares of the input. -/
theorem var1 (b : Fin 8) (t : Fin 4096) :
    (val_main_v14 (F := Ideal) x0 (ix3 b t 0) : EReal) = mean (fun k => cen (fun k => x0 (ix3 b t k)) k * cen (fun k => x0 (ix3 b t k)) k) := by
  rw [val_main_v14_apply, val_main_v12_apply, val_main_v13_apply, val_main_cst_2_apply, val_main_v11_apply, val_main_cst_1_apply]
  refine congrArg (fun p : EReal => Ideal.div p (Ideal.ofBits .f32 0x44800000#32)) ?_
  show (Ideal.ofBits .f32 0x00000000#32 : EReal) + _ = _
  rw [Ideal.ofBits_zero_f32, zero_add]
  refine sum_congr rfl fun k _ => ?_
  refine (at3 (val_main_v10 (F := Ideal) x0) _ b t k rfl rfl rfl).trans ?_
  rw [val_main_v10_apply]
  exact congrArg₂ (fun p q : EReal => p * q) (cen1 x0 b t k) (cen1 x0 b t k)

/-- A normalized entry of the input. -/
theorem norm1 (b : Fin 8) (t : Fin 4096) (j : Fin 1024) :
    (val_main_v21 (F := Ideal) x0 (ix3 b t j) : EReal) = norm (fun k => x0 (ix3 b t k)) j := by
  rw [val_main_v21_apply, val_main_v20_apply]
  refine congrArg₂ (fun p q : EReal => p * q) (cen'1 x0 b t j) ?_
  refine (at3 (val_main_v19 (F := Ideal) x0) _ b t 0 rfl rfl rfl).trans ?_
  rw [val_main_v19_apply, val_main_v18_apply, val_main_v17_apply, val_main_cst_3_apply]
  exact congrArg (fun p : EReal => Ideal.rsqrt (p + Ideal.ofBits .f32 0x358637BD#32)) (var1 x0 b t)

/-! The row of the input after the modulation, and its products with the first weights. -/

theorem shift (b : Fin 8) (t : Fin 4096) (j : Fin 1024) : (val_main_v26 (F := Ideal) x1 (ix3 b t j) : EReal) = x1 (ix2 b ⟨j.val, by omega⟩) := by
  rw [val_main_v26_apply, val_main_v1_apply, val_main_v0_apply]
  exact at2 x1 _ b ⟨j.val, by omega⟩ rfl rfl

theorem scale (b : Fin 8) (t : Fin 4096) (j : Fin 1024) :
    (val_main_v24 (F := Ideal) x1 (ix3 b t j) : EReal) = Ideal.ofBits .f32 0x3F800000#32 + x1 (ix2 b ⟨1024 + j.val, by omega⟩) := by
  rw [val_main_v24_apply, val_main_v23_apply, val_main_v22_apply, val_main_cst_4_apply, val_main_v2_apply, val_main_v0_apply]
  exact congrArg (fun p : EReal => Ideal.ofBits .f32 0x3F800000#32 + p) (at2 x1 _ b ⟨1024 + j.val, by omega⟩ rfl rfl)

theorem modulated (b : Fin 8) (t : Fin 4096) (j : Fin 1024) : (val_main_v27 (F := Ideal) x0 x1 (ix3 b t j) : EReal) = xm x0 x1 b t j := by
  rw [val_main_v27_apply, val_main_v25_apply]
  exact congrArg₂ (fun p q : EReal => p + q) (congrArg₂ (fun p q : EReal => p * q) (norm1 x0 b t j) (scale x1 b t j)) (shift x1 b t j)

theorem wide (b : Fin 8) (t : Fin 4096) (e : Fin 7072) : (val_main_v28 (F := Ideal) x0 x1 x2 (ix3 b t e) : EReal) = proj x0 x1 x2 b t e := by
  rw [val_main_v28_apply]
  unfold proj
  refine sum_congr rfl fun k _ => congrArg₂ (fun p q : EReal => p * q) ?_ (at2 x2 _ k e rfl rfl)
  exact (at3 (val_main_v27 (F := Ideal) x0 x1) _ b t k rfl rfl rfl).trans (modulated x0 x1 b t k)

/-! The columns of the projection. -/

theorem cut29 (b : Fin 8) (t : Fin 4096) (j : Fin 256) : (val_main_v29 (F := Ideal) x0 x1 x2 (ix3 b t j) : EReal) = cut x0 x1 x2 256 256 (by omega) b t j := by
  rw [val_main_v29_apply]
  exact (at3 (val_main_v28 (F := Ideal) x0 x1 x2) _ b t ⟨256 + j.val, by omega⟩ rfl rfl rfl).trans (wide x0 x1 x2 b t _)

theorem cut30 (b : Fin 8) (t : Fin 4096) (j : Fin 256) : (val_main_v30 (F := Ideal) x0 x1 x2 (ix3 b t j) : EReal) = cut x0 x1 x2 256 512 (by omega) b t j := by
  rw [val_main_v30_apply]
  exact (at3 (val_main_v28 (F := Ideal) x0 x1 x2) _ b t ⟨512 + j.val, by omega⟩ rfl rfl rfl).trans (wide x0 x1 x2 b t _)

theorem cut31 (b : Fin 8) (t : Fin 4096) (j : Fin 128) : (val_main_v31 (F := Ideal) x0 x1 x2 (ix3 b t j) : EReal) = cut x0 x1 x2 128 1024 (by omega) b t j := by
  rw [val_main_v31_apply]
  exact (at3 (val_main_v28 (F := Ideal) x0 x1 x2) _ b t ⟨1024 + j.val, by omega⟩ rfl rfl rfl).trans (wide x0 x1 x2 b t _)

theorem cut32 (b : Fin 8) (t : Fin 4096) (j : Fin 256) : (val_main_v32 (F := Ideal) x0 x1 x2 (ix3 b t j) : EReal) = cut x0 x1 x2 256 1184 (by omega) b t j := by
  rw [val_main_v32_apply]
  exact (at3 (val_main_v28 (F := Ideal) x0 x1 x2) _ b t ⟨1184 + j.val, by omega⟩ rfl rfl rfl).trans (wide x0 x1 x2 b t _)

theorem cut33 (b : Fin 8) (t : Fin 4096) (j : Fin 128) : (val_main_v33 (F := Ideal) x0 x1 x2 (ix3 b t j) : EReal) = cut x0 x1 x2 128 1824 (by omega) b t j := by
  rw [val_main_v33_apply]
  exact (at3 (val_main_v28 (F := Ideal) x0 x1 x2) _ b t ⟨1824 + j.val, by omega⟩ rfl rfl rfl).trans (wide x0 x1 x2 b t _)

/-! The values of the branch with latent keys and values. -/

/-- The mean of the squares of the latent row. -/
theorem sq (b : Fin 8) (t : Fin 4096) :
    (val_main_v38 (F := Ideal) x0 x1 x2 (ix3 b t 0) : EReal)
      = Ideal.div (∑ k, cut x0 x1 x2 128 1024 (by omega) b t k * cut x0 x1 x2 128 1024 (by omega) b t k) (Ideal.ofBits .f32 0x43000000#32) := by
  rw [val_main_v38_apply, val_main_v36_apply, val_main_v37_apply, val_main_cst_6_apply, val_main_v35_apply, val_main_cst_5_apply]
  refine congrArg (fun p : EReal => Ideal.div p (Ideal.ofBits .f32 0x43000000#32)) ?_
  show (Ideal.ofBits .f32 0x00000000#32 : EReal) + _ = _
  rw [Ideal.ofBits_zero_f32, zero_add]
  refine sum_congr rfl fun k _ => ?_
  refine (at3 (val_main_v34 (F := Ideal) x0 x1 x2) _ b t k rfl rfl rfl).trans ?_
  rw [val_main_v34_apply]
  exact congrArg₂ (fun p q : EReal => p * q) (cut31 x0 x1 x2 b t k) (cut31 x0 x1 x2 b t k)

theorem latent (b : Fin 8) (t : Fin 4096) (j : Fin 128) :
    (val_main_v46 (F := Ideal) x0 x1 x2 x5 (ix3 b t j) : EReal) = rms (cut x0 x1 x2 128 1024 (by omega) b t) (fun j => x5 (ix1 j)) j := by
  rw [val_main_v46_apply, val_main_v43_apply, val_main_v42_apply, val_main_v45_apply, val_main_v44_apply]
  refine congrArg₂ (fun p q : EReal => p * q) (congrArg₂ (fun p q : EReal => p * q) (cut31 x0 x1 x2 b t j) ?_) (at1 x5 _ j rfl)
  refine (at3 (val_main_v41 (F := Ideal) x0 x1 x2) _ b t 0 rfl rfl rfl).trans ?_
  rw [val_main_v41_apply, val_main_v40_apply, val_main_v39_apply, val_main_cst_7_apply]
  exact congrArg (fun p : EReal => Ideal.rsqrt (p + Ideal.ofBits .f32 0x358637BD#32)) (sq x0 x1 x2 b t)

theorem wideUp (b : Fin 8) (t : Fin 4096) (e : Fin 512) : (val_main_v47 (F := Ideal) x0 x1 x2 x5 x6 (ix3 b t e) : EReal)
    = ∑ j : Fin 128, rms (cut x0 x1 x2 128 1024 (by omega) b t) (fun j => x5 (ix1 j)) j * x6 (ix2 j e) := by
  rw [val_main_v47_apply]
  refine sum_congr rfl fun k _ => congrArg₂ (fun p q : EReal => p * q) ?_ (at2 x6 _ k e rfl rfl)
  exact (at3 (val_main_v46 (F := Ideal) x0 x1 x2 x5) _ b t k rfl rfl rfl).trans (latent x0 x1 x2 x5 b t k)

theorem values (b : Fin 8) (t : Fin 4096) (d : Fin 256) : (val_main_v50 (F := Ideal) x0 x1 x2 x5 x6 (ix3 b t d) : EReal) = up x0 x1 x2 x5 x6 b t d := by
  rw [val_main_v50_apply, val_main_v49_apply, val_main_v48_apply]
  have e1 : ((b.val * 4096 + t.val) * 256 + d.val) / 1048576 = b.val := by omega
  have e2 : ((b.val * 4096 + t.val) * 256 + d.val) / 256 % 4096 = t.val := by omega
  have e3 : ((b.val * 4096 + t.val) * 256 + d.val) / 64 % 4 = d.val / 64 := by omega
  have e4 : ((b.val * 4096 + t.val) * 256 + d.val) % 64 = d.val % 64 := by omega
  refine (at3 (val_main_v47 (F := Ideal) x0 x1 x2 x5 x6) _ b t (valCol d) ?_ ?_ ?_).trans (wideUp x0 x1 x2 x5 x6 b t _)
  · show (((((b.val * 4096 + t.val) * 256 + d.val) / 1048576 * 4096 + ((b.val * 4096 + t.val) * 256 + d.val) / 256 % 4096) * 4 + ((b.val * 4096 + t.val) * 256 + d.val) / 64 % 4) * 128 + (64 + ((b.val * 4096 + t.val) * 256 + d.val) % 64)) / 2097152 = b.val
    rw [e1, e2, e3, e4]
    omega
  · show (((((b.val * 4096 + t.val) * 256 + d.val) / 1048576 * 4096 + ((b.val * 4096 + t.val) * 256 + d.val) / 256 % 4096) * 4 + ((b.val * 4096 + t.val) * 256 + d.val) / 64 % 4) * 128 + (64 + ((b.val * 4096 + t.val) * 256 + d.val) % 64)) / 512 % 4096 = t.val
    rw [e1, e2, e3, e4]
    omega
  · show (((((b.val * 4096 + t.val) * 256 + d.val) / 1048576 * 4096 + ((b.val * 4096 + t.val) * 256 + d.val) / 256 % 4096) * 4 + ((b.val * 4096 + t.val) * 256 + d.val) / 64 % 4) * 128 + (64 + ((b.val * 4096 + t.val) * 256 + d.val) % 64)) % 512 = 128 * (d.val / 64) + (64 + d.val % 64)
    rw [e1, e2, e3, e4]
    omega

/-! The results. -/

theorem rows_eq {n : ℕ} (v : (⟨3, ![8, 4096, n]⟩ : Shape).Idx → EReal) (f : Fin 8 → Fin 4096 → Fin n → EReal) (h : ∀ b t j, v (ix3 b t j) = f b t j) : v = ofRows f :=
  funext fun i => (congrArg v (ext3 i (ix3 (i 0) (i 1) (i 2)) rfl rfl rfl)).trans (h (i 0) (i 1) (i 2))

theorem cols_eq {n : ℕ} (v : (⟨3, ![8, n, 4096]⟩ : Shape).Idx → EReal) (f : Fin 8 → Fin 4096 → Fin n → EReal) (h : ∀ b t j, v (ix3 b j t) = f b t j) : v = ofCols f :=
  funext fun i => (congrArg v (ext3 i (ix3 (i 0) (i 1) (i 2)) rfl rfl rfl)).trans (h (i 0) (i 2) (i 1))

theorem res51 : (val_main_v51 (F := Ideal) x0 x1 x2 : S8x4096x256.Idx → EReal) = ofRows (cut x0 x1 x2 256 256 (by omega)) :=
  rows_eq _ _ fun b t j => by
    rw [val_main_v51_apply]
    exact cut29 x0 x1 x2 b t j

theorem res52 : (val_main_v52 (F := Ideal) x0 x1 x2 : S8x4096x256.Idx → EReal) = ofRows (cut x0 x1 x2 256 512 (by omega)) :=
  rows_eq _ _ fun b t j => by
    rw [val_main_v52_apply]
    exact cut30 x0 x1 x2 b t j

theorem res54 : (val_main_v54 (F := Ideal) x0 x1 x2 : S8x4096x128.Idx → EReal) = ofRows (cut x0 x1 x2 128 1824 (by omega)) :=
  rows_eq _ _ fun b t j => by
    rw [val_main_v54_apply]
    exact cut33 x0 x1 x2 b t j

theorem res32 : (val_main_v32 (F := Ideal) x0 x1 x2 : S8x4096x256.Idx → EReal) = ofRows (cut x0 x1 x2 256 1184 (by omega)) :=
  rows_eq _ _ fun b t j => cut32 x0 x1 x2 b t j

theorem res53 : (val_main_v53 (F := Ideal) x0 x1 x2 x5 x6 : S8x4096x256.Idx → EReal) = ofRows (up x0 x1 x2 x5 x6) :=
  rows_eq _ _ fun b t j => by
    rw [val_main_v53_apply]
    exact values x0 x1 x2 x5 x6 b t j

theorem res58 : (val_main_v58 (F := Ideal) x0 x1 x2 x5 x6 : S8x256x4096.Idx → EReal) = ofCols (up x0 x1 x2 x5 x6) :=
  cols_eq _ _ fun b t j => by
    rw [val_main_v58_apply, val_main_v57_apply]
    exact (at3 (val_main_v50 (F := Ideal) x0 x1 x2 x5 x6) _ b t j rfl rfl rfl).trans (values x0 x1 x2 x5 x6 b t j)

theorem res56 : (val_main_v56 (F := Ideal) x0 x1 x2 : S8x256x4096.Idx → EReal) = ofCols (cut x0 x1 x2 256 512 (by omega)) :=
  cols_eq _ _ fun b t j => by
    rw [val_main_v56_apply, val_main_v55_apply]
    exact (at3 (val_main_v30 (F := Ideal) x0 x1 x2) _ b t j rfl rfl rfl).trans (cut30 x0 x1 x2 b t j)

theorem res60 : (val_main_v60 (F := Ideal) x0 x1 x2 : S8x128x4096.Idx → EReal) = ofCols (cut x0 x1 x2 128 1824 (by omega)) :=
  cols_eq _ _ fun b t j => by
    rw [val_main_v60_apply, val_main_v59_apply]
    exact (at3 (val_main_v33 (F := Ideal) x0 x1 x2) _ b t j rfl rfl rfl).trans (cut33 x0 x1 x2 b t j)

end Cert.Reference5Ideal.Plain

end
-- ==== Proof.ClaimF.lean ====
module

public import proofs.«01_k».proof.Defs
public import proofs.«01_k».proof.Proof.RunF
public import proofs.«01_k».proof.Proof.RunK
public import proofs.«01_k».proof.Proof.FinalF
public import proofs.«01_k».proof.Proof.RefF
public import proofs.«01_k».proof.Proof.Gen.Kernel5.Launch
public import proofs.«01_k».proof.Proof.Gen.Reference5Ideal.Run
public import Idealize.ShloMosaic.Lib.Quiescent

/-!
The claims about the projection: the kernel and the reference end with equal results.
-/

@[expose] public section

set_option maxRecDepth 16384

noncomputable section

namespace Cert.ClaimF

open Idealize.ShloMosaic Idealize.SL.Sem
open Cert.Reference5Ideal.Read Cert.Reference5Ideal.Plain Cert.Kernel5Ideal.Proj

set_option maxHeartbeats 8000000 in
/-- The two programs' results are equal. -/
theorem algebraic : @algebraic_Kernel5Ideal_Reference5Ideal Kernel5Ideal.Gen.facts Reference5Ideal.Gen.facts := by
  intro m g m' g' _ hagree
  refine ⟨fun c => (Kernel5Ideal.Gen.dats m 0 c).arrAt 19 Kernel5Ideal.cfg0.N, fun c => (Kernel5Ideal.Gen.dats m 0 c).arrAt 20 Kernel5Ideal.cfg0.N,
    fun c => (Kernel5Ideal.Gen.dats m 0 c).arrAt 23 Kernel5Ideal.cfg0.N, fun c => (Kernel5Ideal.Gen.dats m 0 c).arrAt 24 Kernel5Ideal.cfg0.N,
    fun c => (Kernel5Ideal.Gen.dats m 0 c).arrAt 27 Kernel5Ideal.cfg0.N, fun c => (Kernel5Ideal.Gen.dats m 0 c).arrAt 28 Kernel5Ideal.cfg0.N,
    fun c => (Kernel5Ideal.Gen.dats m 0 c).arrAt 29 Kernel5Ideal.cfg0.N, fun c => (Kernel5Ideal.Gen.dats m 0 c).arrAt 30 Kernel5Ideal.cfg0.N,
    Kernel5Ideal.Gen.run_blocks m g, ?_⟩
  refine (θ_run _ _ _).mono (fun r h c => ?_) (Reference5Ideal.Value.run m' g')
  obtain ⟨h0, h1, h2, -, -, h5, h6, -, -⟩ := hagree c
  obtain ⟨e0, e1, e2, e3, e4, e5, e6, e7, e8⟩ := h c
  refine ⟨e0.trans ?_, e1.trans ?_, e2.trans ?_, e3.trans ?_, e4.trans ?_, e5.trans ?_, e6.trans ?_, e7.trans ?_, e8⟩
  · refine (val_main_v51_eq _ _ _).trans ((res51 _ _ _).trans ?_)
    rw [h0, h1, h2]
    exact (final19 m c).symm
  · refine (val_main_v52_eq _ _ _).trans ((res52 _ _ _).trans ?_)
    rw [h0, h1, h2]
    exact (final20 m c).symm
  · refine (val_main_v53_eq m' c).trans ((res53 _ _ _ _ _).trans ?_)
    rw [h0, h1, h2, h5, h6]
    exact (final23 m c).symm
  · refine (val_main_v32_eq _ _ _).trans ((res32 _ _ _).trans ?_)
    rw [h0, h1, h2]
    exact (final24 m c).symm
  · refine (val_main_v54_eq _ _ _).trans ((res54 _ _ _).trans ?_)
    rw [h0, h1, h2]
    exact (final27 m c).symm
  · refine (val_main_v56_eq _ _ _).trans ((res56 _ _ _).trans ?_)
    rw [h0, h1, h2]
    exact (final28 m c).symm
  · refine (val_main_v58_eq m' c).trans ((res58 _ _ _ _ _).trans ?_)
    rw [h0, h1, h2, h5, h6]
    exact (final29 m c).symm
  · refine (val_main_v60_eq _ _ _).trans ((res60 _ _ _).trans ?_)
    rw [h0, h1, h2]
    exact (final30 m c).symm

/-- The compiled kernel, its ideal reading and the reference leave their arguments and end with counters at zero. -/
theorem frameP : @quiescent_Kernel5 Kernel5.Gen.facts := fun m g _ => Kernel5.Gen.frame m g

theorem framePI : @quiescent_Kernel5Ideal Kernel5Ideal.Gen.facts := fun m g _ => Kernel5Ideal.Gen.frame m g

theorem frameRI : @quiescent_Reference5Ideal Reference5Ideal.Gen.facts := fun m g _ =>
  (θ_run _ _ _).mono (fun _ h => ⟨fun c => (h c).2.2.2.2.2.2.2.2, sem_eq_zero_of_no_sems (by decide) _⟩) (Reference5Ideal.Value.run m g)

end Cert.ClaimF

end
-- ==== Proof.lean ====
module

public import proofs.«01_k».proof.Proof.ClaimB
public import proofs.«01_k».proof.Proof.ClaimD
public import proofs.«01_k».proof.Proof.ClaimM
public import proofs.«01_k».proof.Proof.ClaimE
public import proofs.«01_k».proof.Proof.ClaimF

/-!
The claims of the certificate, put together.
-/

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite2.Gen.facts,
    ClaimB.frameP, ClaimB.framePI, ClaimB.framePI_pre, ClaimB.frameRI, ClaimB.frameRI_pre,
    ClaimD.frameP, ClaimD.framePI, ClaimD.framePI_pre, ClaimD.frameRI, ClaimD.frameRI_pre, ClaimM.frameP, ClaimM.framePI, ClaimM.frameRI,
    ClaimE.frameP, ClaimE.framePI, ClaimE.frameRI, ClaimF.frameP, ClaimF.framePI, ClaimF.frameRI,
    trivial, ClaimB.algebraic, trivial, ClaimD.algebraic, trivial, ClaimM.algebraic, trivial, ClaimE.algebraic, trivial, ClaimF.algebraic⟩

end Cert.Proof

end
